-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Select (m : (ℓ : Loc Cert.Select.nD Cert.Select.τ Cert.Select.sig) → Buf (Elt Bits) ℓ) : Prop :=
  True

def Pre_SelectIdeal (m : (ℓ : Loc Cert.SelectIdeal.nD Cert.SelectIdeal.τ Cert.SelectIdeal.sig) → Buf (Elt Ideal) ℓ) : Prop :=
  True

def Pre_DistancesIdeal (m : (ℓ : Loc Cert.DistancesIdeal.nD Cert.DistancesIdeal.τ Cert.DistancesIdeal.sig) → Buf (Elt Ideal) ℓ) : Prop :=
  True

def Pre_SelectB (m : (ℓ : Loc Cert.SelectB.nD Cert.SelectB.τ Cert.SelectB.sig) → Buf (Elt Bits) ℓ) : Prop :=
  True

def Pre_SelectBIdeal (m : (ℓ : Loc Cert.SelectBIdeal.nD Cert.SelectBIdeal.τ Cert.SelectBIdeal.sig) → Buf (Elt Ideal) ℓ) : Prop :=
  True

def Pre_DistancesBIdeal (m : (ℓ : Loc Cert.DistancesBIdeal.nD Cert.DistancesBIdeal.τ Cert.DistancesBIdeal.sig) → Buf (Elt Ideal) ℓ) : Prop :=
  True

def Pre_SelectC (m : (ℓ : Loc Cert.SelectC.nD Cert.SelectC.τ Cert.SelectC.sig) → Buf (Elt Bits) ℓ) : Prop :=
  True

def Pre_SelectCIdeal (m : (ℓ : Loc Cert.SelectCIdeal.nD Cert.SelectCIdeal.τ Cert.SelectCIdeal.sig) → Buf (Elt Ideal) ℓ) : Prop :=
  True

def Pre_DistancesCIdeal (m : (ℓ : Loc Cert.DistancesCIdeal.nD Cert.DistancesCIdeal.τ Cert.DistancesCIdeal.sig) → Buf (Elt Ideal) ℓ) : Prop :=
  True

def Pre_KernelB (m : (ℓ : Loc Cert.KernelB.nD Cert.KernelB.τ Cert.KernelB.sig) → Buf (Elt Bits) ℓ) : Prop :=
  True

def Pre_KernelBIdeal (m : (ℓ : Loc Cert.KernelBIdeal.nD Cert.KernelBIdeal.τ Cert.KernelBIdeal.sig) → Buf (Elt Ideal) ℓ) : Prop :=
  True

def Pre_KernelBIdeal_tame [hPre_tame : Cert.Pre_tame.Facts] (m : (ℓ : Loc Cert.KernelBIdeal.nD Cert.KernelBIdeal.τ Cert.KernelBIdeal.sig) → Buf (Elt Ideal) ℓ) : Prop :=
  ∀ c : Dev Cert.KernelBIdeal.nD,
    (Cert.Pre_tame.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1)) (m ((c.tc : Thread Cert.KernelBIdeal.nD Cert.KernelBIdeal.τ).loc Cert.KernelBIdeal.main_arg2)) (m ((c.tc : Thread Cert.KernelBIdeal.nD Cert.KernelBIdeal.τ).loc Cert.KernelBIdeal.main_arg3))) = (fun _ => 1#1)

def Pre_ReferenceBIdeal (m : (ℓ : Loc Cert.ReferenceBIdeal.nD Cert.ReferenceBIdeal.τ Cert.ReferenceBIdeal.sig) → Buf (Elt Ideal) ℓ) : Prop :=
  True

def Pre_ReferenceBIdeal_tame [hPre_tame : Cert.Pre_tame.Facts] (m : (ℓ : Loc Cert.ReferenceBIdeal.nD Cert.ReferenceBIdeal.τ Cert.ReferenceBIdeal.sig) → Buf (Elt Ideal) ℓ) : Prop :=
  ∀ c : Dev Cert.ReferenceBIdeal.nD,
    (Cert.Pre_tame.fn (F := Ideal) (m ((c.tc : Thread Cert.ReferenceBIdeal.nD Cert.ReferenceBIdeal.τ).loc Cert.ReferenceBIdeal.main_arg0)) (m ((c.tc : Thread Cert.ReferenceBIdeal.nD Cert.ReferenceBIdeal.τ).loc Cert.ReferenceBIdeal.main_arg1)) (m ((c.tc : Thread Cert.ReferenceBIdeal.nD Cert.ReferenceBIdeal.τ).loc Cert.ReferenceBIdeal.main_arg2)) (m ((c.tc : Thread Cert.ReferenceBIdeal.nD Cert.ReferenceBIdeal.τ).loc Cert.ReferenceBIdeal.main_arg3))) = (fun _ => 1#1)

def Pre_KernelC (m : (ℓ : Loc Cert.KernelC.nD Cert.KernelC.τ Cert.KernelC.sig) → Buf (Elt Bits) ℓ) : Prop :=
  True

def Pre_KernelCIdeal (m : (ℓ : Loc Cert.KernelCIdeal.nD Cert.KernelCIdeal.τ Cert.KernelCIdeal.sig) → Buf (Elt Ideal) ℓ) : Prop :=
  True

def Pre_KernelCIdeal_tame [hPre_tame : Cert.Pre_tame.Facts] (m : (ℓ : Loc Cert.KernelCIdeal.nD Cert.KernelCIdeal.τ Cert.KernelCIdeal.sig) → Buf (Elt Ideal) ℓ) : Prop :=
  ∀ c : Dev Cert.KernelCIdeal.nD,
    (Cert.Pre_tame.fn (F := Ideal) (m ((c.tc : Thread Cert.KernelCIdeal.nD Cert.KernelCIdeal.τ).loc Cert.KernelCIdeal.main_arg0)) (m ((c.tc : Thread Cert.KernelCIdeal.nD Cert.KernelCIdeal.τ).loc Cert.KernelCIdeal.main_arg1)) (m ((c.tc : Thread Cert.KernelCIdeal.nD Cert.KernelCIdeal.τ).loc Cert.KernelCIdeal.main_arg2)) (m ((c.tc : Thread Cert.KernelCIdeal.nD Cert.KernelCIdeal.τ).loc Cert.KernelCIdeal.main_arg3))) = (fun _ => 1#1)

def Pre_ReferenceCIdeal (m : (ℓ : Loc Cert.ReferenceCIdeal.nD Cert.ReferenceCIdeal.τ Cert.ReferenceCIdeal.sig) → Buf (Elt Ideal) ℓ) : Prop :=
  True

def Pre_ReferenceCIdeal_tame [hPre_tame : Cert.Pre_tame.Facts] (m : (ℓ : Loc Cert.ReferenceCIdeal.nD Cert.ReferenceCIdeal.τ Cert.ReferenceCIdeal.sig) → Buf (Elt Ideal) ℓ) : Prop :=
  ∀ c : Dev Cert.ReferenceCIdeal.nD,
    (Cert.Pre_tame.fn (F := Ideal) (m ((c.tc : Thread Cert.ReferenceCIdeal.nD Cert.ReferenceCIdeal.τ).loc Cert.ReferenceCIdeal.main_arg0)) (m ((c.tc : Thread Cert.ReferenceCIdeal.nD Cert.ReferenceCIdeal.τ).loc Cert.ReferenceCIdeal.main_arg1)) (m ((c.tc : Thread Cert.ReferenceCIdeal.nD Cert.ReferenceCIdeal.τ).loc Cert.ReferenceCIdeal.main_arg2)) (m ((c.tc : Thread Cert.ReferenceCIdeal.nD Cert.ReferenceCIdeal.τ).loc Cert.ReferenceCIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Select [hSelect : Cert.Select.Facts] : Prop :=
  ∀ (m : (ℓ : Loc Cert.Select.nD Cert.Select.τ Cert.Select.sig) → Buf (Elt Bits) ℓ) (g : Dev Cert.Select.nD → PrngReg), Pre_Select m →
    θ_run (Cert.Select.defs (F := Bits)) (onTc (τ := Cert.Select.τ) (Cert.Select.main (F := Bits))) ⟨m, fun _ => 0, g⟩ (fun r => (∀ c : Dev Cert.Select.nD,
      r.2.mem ((c.tc : Thread Cert.Select.nD Cert.Select.τ).loc Cert.Select.main_arg0) = m ((c.tc : Thread Cert.Select.nD Cert.Select.τ).loc Cert.Select.main_arg0)
      ∧ r.2.mem ((c.tc : Thread Cert.Select.nD Cert.Select.τ).loc Cert.Select.main_arg1) = m ((c.tc : Thread Cert.Select.nD Cert.Select.τ).loc Cert.Select.main_arg1)
      ∧ r.2.mem ((c.tc : Thread Cert.Select.nD Cert.Select.τ).loc Cert.Select.main_arg2) = m ((c.tc : Thread Cert.Select.nD Cert.Select.τ).loc Cert.Select.main_arg2))
      ∧ r.2.sem = fun _ => 0)

def quiescent_SelectIdeal [hSelectIdeal : Cert.SelectIdeal.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
      ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1)
      ∧ r.2.mem ((c.tc : Thread Cert.SelectIdeal.nD Cert.SelectIdeal.τ).loc Cert.SelectIdeal.main_arg2) = m ((c.tc : Thread Cert.SelectIdeal.nD Cert.SelectIdeal.τ).loc Cert.SelectIdeal.main_arg2))
      ∧ r.2.sem = fun _ => 0)

def quiescent_DistancesIdeal [hDistancesIdeal : Cert.DistancesIdeal.Facts] : Prop :=
  ∀ (m : (ℓ : Loc Cert.DistancesIdeal.nD Cert.DistancesIdeal.τ Cert.DistancesIdeal.sig) → Buf (Elt Ideal) ℓ) (g : Dev Cert.DistancesIdeal.nD → PrngReg), Pre_DistancesIdeal m →
    θ_run (Cert.DistancesIdeal.defs (F := Ideal)) (onTc (τ := Cert.DistancesIdeal.τ) (Cert.DistancesIdeal.main (F := Ideal))) ⟨m, fun _ => 0, g⟩ (fun r => (∀ c : Dev Cert.DistancesIdeal.nD,
      r.2.mem ((c.tc : Thread Cert.DistancesIdeal.nD Cert.DistancesIdeal.τ).loc Cert.DistancesIdeal.main_arg0) = m ((c.tc : Thread Cert.DistancesIdeal.nD Cert.DistancesIdeal.τ).loc Cert.DistancesIdeal.main_arg0)
      ∧ r.2.mem ((c.tc : Thread Cert.DistancesIdeal.nD Cert.DistancesIdeal.τ).loc Cert.DistancesIdeal.main_arg1) = m ((c.tc : Thread Cert.DistancesIdeal.nD Cert.DistancesIdeal.τ).loc Cert.DistancesIdeal.main_arg1)
      ∧ r.2.mem ((c.tc : Thread Cert.DistancesIdeal.nD Cert.DistancesIdeal.τ).loc Cert.DistancesIdeal.main_arg2) = m ((c.tc : Thread Cert.DistancesIdeal.nD Cert.DistancesIdeal.τ).loc Cert.DistancesIdeal.main_arg2))
      ∧ r.2.sem = fun _ => 0)

def quiescent_SelectB [hSelectB : Cert.SelectB.Facts] : Prop :=
  ∀ (m : (ℓ : Loc Cert.SelectB.nD Cert.SelectB.τ Cert.SelectB.sig) → Buf (Elt Bits) ℓ) (g : Dev Cert.SelectB.nD → PrngReg), Pre_SelectB m →
    θ_run (Cert.SelectB.defs (F := Bits)) (onTc (τ := Cert.SelectB.τ) (Cert.SelectB.main (F := Bits))) ⟨m, fun _ => 0, g⟩ (fun r => (∀ c : Dev Cert.SelectB.nD,
      r.2.mem ((c.tc : Thread Cert.SelectB.nD Cert.SelectB.τ).loc Cert.SelectB.main_arg0) = m ((c.tc : Thread Cert.SelectB.nD Cert.SelectB.τ).loc Cert.SelectB.main_arg0)
      ∧ r.2.mem ((c.tc : Thread Cert.SelectB.nD Cert.SelectB.τ).loc Cert.SelectB.main_arg1) = m ((c.tc : Thread Cert.SelectB.nD Cert.SelectB.τ).loc Cert.SelectB.main_arg1)
      ∧ r.2.mem ((c.tc : Thread Cert.SelectB.nD Cert.SelectB.τ).loc Cert.SelectB.main_arg2) = m ((c.tc : Thread Cert.SelectB.nD Cert.SelectB.τ).loc Cert.SelectB.main_arg2))
      ∧ r.2.sem = fun _ => 0)

def quiescent_SelectBIdeal [hSelectBIdeal : Cert.SelectBIdeal.Facts] : Prop :=
  ∀ (m : (ℓ : Loc Cert.SelectBIdeal.nD Cert.SelectBIdeal.τ Cert.SelectBIdeal.sig) → Buf (Elt Ideal) ℓ) (g : Dev Cert.SelectBIdeal.nD → PrngReg), Pre_SelectBIdeal m →
    θ_run (Cert.SelectBIdeal.defs (F := Ideal)) (onTc (τ := Cert.SelectBIdeal.τ) (Cert.SelectBIdeal.main (F := Ideal))) ⟨m, fun _ => 0, g⟩ (fun r => (∀ c : Dev Cert.SelectBIdeal.nD,
      r.2.mem ((c.tc : Thread Cert.SelectBIdeal.nD Cert.SelectBIdeal.τ).loc Cert.SelectBIdeal.main_arg0) = m ((c.tc : Thread Cert.SelectBIdeal.nD Cert.SelectBIdeal.τ).loc Cert.SelectBIdeal.main_arg0)
      ∧ r.2.mem ((c.tc : Thread Cert.SelectBIdeal.nD Cert.SelectBIdeal.τ).loc Cert.SelectBIdeal.main_arg1) = m ((c.tc : Thread Cert.SelectBIdeal.nD Cert.SelectBIdeal.τ).loc Cert.SelectBIdeal.main_arg1)
      ∧ r.2.mem ((c.tc : Thread Cert.SelectBIdeal.nD Cert.SelectBIdeal.τ).loc Cert.SelectBIdeal.main_arg2) = m ((c.tc : Thread Cert.SelectBIdeal.nD Cert.SelectBIdeal.τ).loc Cert.SelectBIdeal.main_arg2))
      ∧ r.2.sem = fun _ => 0)

def quiescent_DistancesBIdeal [hDistancesBIdeal : Cert.DistancesBIdeal.Facts] : Prop :=
  ∀ (m : (ℓ : Loc Cert.DistancesBIdeal.nD Cert.DistancesBIdeal.τ Cert.DistancesBIdeal.sig) → Buf (Elt Ideal) ℓ) (g : Dev Cert.DistancesBIdeal.nD → PrngReg), Pre_DistancesBIdeal m →
    θ_run (Cert.DistancesBIdeal.defs (F := Ideal)) (onTc (τ := Cert.DistancesBIdeal.τ) (Cert.DistancesBIdeal.main (F := Ideal))) ⟨m, fun _ => 0, g⟩ (fun r => (∀ c : Dev Cert.DistancesBIdeal.nD,
      r.2.mem ((c.tc : Thread Cert.DistancesBIdeal.nD Cert.DistancesBIdeal.τ).loc Cert.DistancesBIdeal.main_arg0) = m ((c.tc : Thread Cert.DistancesBIdeal.nD Cert.DistancesBIdeal.τ).loc Cert.DistancesBIdeal.main_arg0)
      ∧ r.2.mem ((c.tc : Thread Cert.DistancesBIdeal.nD Cert.DistancesBIdeal.τ).loc Cert.DistancesBIdeal.main_arg1) = m ((c.tc : Thread Cert.DistancesBIdeal.nD Cert.DistancesBIdeal.τ).loc Cert.DistancesBIdeal.main_arg1)
      ∧ r.2.mem ((c.tc : Thread Cert.DistancesBIdeal.nD Cert.DistancesBIdeal.τ).loc Cert.DistancesBIdeal.main_arg2) = m ((c.tc : Thread Cert.DistancesBIdeal.nD Cert.DistancesBIdeal.τ).loc Cert.DistancesBIdeal.main_arg2))
      ∧ r.2.sem = fun _ => 0)

def quiescent_SelectC [hSelectC : Cert.SelectC.Facts] : Prop :=
  ∀ (m : (ℓ : Loc Cert.SelectC.nD Cert.SelectC.τ Cert.SelectC.sig) → Buf (Elt Bits) ℓ) (g : Dev Cert.SelectC.nD → PrngReg), Pre_SelectC m →
    θ_run (Cert.SelectC.defs (F := Bits)) (onTc (τ := Cert.SelectC.τ) (Cert.SelectC.main (F := Bits))) ⟨m, fun _ => 0, g⟩ (fun r => (∀ c : Dev Cert.SelectC.nD,
      r.2.mem ((c.tc : Thread Cert.SelectC.nD Cert.SelectC.τ).loc Cert.SelectC.main_arg0) = m ((c.tc : Thread Cert.SelectC.nD Cert.SelectC.τ).loc Cert.SelectC.main_arg0)
      ∧ r.2.mem ((c.tc : Thread Cert.SelectC.nD Cert.SelectC.τ).loc Cert.SelectC.main_arg1) = m ((c.tc : Thread Cert.SelectC.nD Cert.SelectC.τ).loc Cert.SelectC.main_arg1)
      ∧ r.2.mem ((c.tc : Thread Cert.SelectC.nD Cert.SelectC.τ).loc Cert.SelectC.main_arg2) = m ((c.tc : Thread Cert.SelectC.nD Cert.SelectC.τ).loc Cert.SelectC.main_arg2))
      ∧ r.2.sem = fun _ => 0)

def quiescent_SelectCIdeal [hSelectCIdeal : Cert.SelectCIdeal.Facts] : Prop :=
  ∀ (m : (ℓ : Loc Cert.SelectCIdeal.nD Cert.SelectCIdeal.τ Cert.SelectCIdeal.sig) → Buf (Elt Ideal) ℓ) (g : Dev Cert.SelectCIdeal.nD → PrngReg), Pre_SelectCIdeal m →
    θ_run (Cert.SelectCIdeal.defs (F := Ideal)) (onTc (τ := Cert.SelectCIdeal.τ) (Cert.SelectCIdeal.main (F := Ideal))) ⟨m, fun _ => 0, g⟩ (fun r => (∀ c : Dev Cert.SelectCIdeal.nD,
      r.2.mem ((c.tc : Thread Cert.SelectCIdeal.nD Cert.SelectCIdeal.τ).loc Cert.SelectCIdeal.main_arg0) = m ((c.tc : Thread Cert.SelectCIdeal.nD Cert.SelectCIdeal.τ).loc Cert.SelectCIdeal.main_arg0)
      ∧ r.2.mem ((c.tc : Thread Cert.SelectCIdeal.nD Cert.SelectCIdeal.τ).loc Cert.SelectCIdeal.main_arg1) = m ((c.tc : Thread Cert.SelectCIdeal.nD Cert.SelectCIdeal.τ).loc Cert.SelectCIdeal.main_arg1)
      ∧ r.2.mem ((c.tc : Thread Cert.SelectCIdeal.nD Cert.SelectCIdeal.τ).loc Cert.SelectCIdeal.main_arg2) = m ((c.tc : Thread Cert.SelectCIdeal.nD Cert.SelectCIdeal.τ).loc Cert.SelectCIdeal.main_arg2))
      ∧ r.2.sem = fun _ => 0)

def quiescent_DistancesCIdeal [hDistancesCIdeal : Cert.DistancesCIdeal.Facts] : Prop :=
  ∀ (m : (ℓ : Loc Cert.DistancesCIdeal.nD Cert.DistancesCIdeal.τ Cert.DistancesCIdeal.sig) → Buf (Elt Ideal) ℓ) (g : Dev Cert.DistancesCIdeal.nD → PrngReg), Pre_DistancesCIdeal m →
    θ_run (Cert.DistancesCIdeal.defs (F := Ideal)) (onTc (τ := Cert.DistancesCIdeal.τ) (Cert.DistancesCIdeal.main (F := Ideal))) ⟨m, fun _ => 0, g⟩ (fun r => (∀ c : Dev Cert.DistancesCIdeal.nD,
      r.2.mem ((c.tc : Thread Cert.DistancesCIdeal.nD Cert.DistancesCIdeal.τ).loc Cert.DistancesCIdeal.main_arg0) = m ((c.tc : Thread Cert.DistancesCIdeal.nD Cert.DistancesCIdeal.τ).loc Cert.DistancesCIdeal.main_arg0)
      ∧ r.2.mem ((c.tc : Thread Cert.DistancesCIdeal.nD Cert.DistancesCIdeal.τ).loc Cert.DistancesCIdeal.main_arg1) = m ((c.tc : Thread Cert.DistancesCIdeal.nD Cert.DistancesCIdeal.τ).loc Cert.DistancesCIdeal.main_arg1)
      ∧ r.2.mem ((c.tc : Thread Cert.DistancesCIdeal.nD Cert.DistancesCIdeal.τ).loc Cert.DistancesCIdeal.main_arg2) = m ((c.tc : Thread Cert.DistancesCIdeal.nD Cert.DistancesCIdeal.τ).loc Cert.DistancesCIdeal.main_arg2))
      ∧ r.2.sem = fun _ => 0)

def quiescent_KernelB [hKernelB : Cert.KernelB.Facts] : Prop :=
  ∀ (m : (ℓ : Loc Cert.KernelB.nD Cert.KernelB.τ Cert.KernelB.sig) → Buf (Elt Bits) ℓ) (g : Dev Cert.KernelB.nD → PrngReg), Pre_KernelB m →
    θ_run (Cert.KernelB.defs (F := Bits)) (onTc (τ := Cert.KernelB.τ) (Cert.KernelB.main (F := Bits))) ⟨m, fun _ => 0, g⟩ (fun r => (∀ c : Dev Cert.KernelB.nD,
      r.2.mem ((c.tc : Thread Cert.KernelB.nD Cert.KernelB.τ).loc Cert.KernelB.main_arg0) = m ((c.tc : Thread Cert.KernelB.nD Cert.KernelB.τ).loc Cert.KernelB.main_arg0)
      ∧ r.2.mem ((c.tc : Thread Cert.KernelB.nD Cert.KernelB.τ).loc Cert.KernelB.main_arg1) = m ((c.tc : Thread Cert.KernelB.nD Cert.KernelB.τ).loc Cert.KernelB.main_arg1)
      ∧ r.2.mem ((c.tc : Thread Cert.KernelB.nD Cert.KernelB.τ).loc Cert.KernelB.main_arg2) = m ((c.tc : Thread Cert.KernelB.nD Cert.KernelB.τ).loc Cert.KernelB.main_arg2)
      ∧ r.2.mem ((c.tc : Thread Cert.KernelB.nD Cert.KernelB.τ).loc Cert.KernelB.main_arg3) = m ((c.tc : Thread Cert.KernelB.nD Cert.KernelB.τ).loc Cert.KernelB.main_arg3))
      ∧ r.2.sem = fun _ => 0)

def quiescent_KernelBIdeal [hKernelBIdeal : Cert.KernelBIdeal.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
      ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
      ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3))
      ∧ r.2.sem = fun _ => 0)

def quiescent_KernelBIdeal_pre_tame [hKernelBIdeal : Cert.KernelBIdeal.Facts] [hPre_tame : Cert.Pre_tame.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal_tame m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
      ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
      ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3))
      ∧ r.2.sem = fun _ => 0)

def quiescent_ReferenceBIdeal [hReferenceBIdeal : Cert.ReferenceBIdeal.Facts] : Prop :=
  ∀ (m : (ℓ : Loc Cert.ReferenceBIdeal.nD Cert.ReferenceBIdeal.τ Cert.ReferenceBIdeal.sig) → Buf (Elt Ideal) ℓ) (g : Dev Cert.ReferenceBIdeal.nD → PrngReg), Pre_ReferenceBIdeal m →
    θ_run (Cert.ReferenceBIdeal.defs (F := Ideal)) (onTc (τ := Cert.ReferenceBIdeal.τ) (Cert.ReferenceBIdeal.main (F := Ideal))) ⟨m, fun _ => 0, g⟩ (fun r => (∀ c : Dev Cert.ReferenceBIdeal.nD,
      r.2.mem ((c.tc : Thread Cert.ReferenceBIdeal.nD Cert.ReferenceBIdeal.τ).loc Cert.ReferenceBIdeal.main_arg0) = m ((c.tc : Thread Cert.ReferenceBIdeal.nD Cert.ReferenceBIdeal.τ).loc Cert.ReferenceBIdeal.main_arg0)
      ∧ r.2.mem ((c.tc : Thread Cert.ReferenceBIdeal.nD Cert.ReferenceBIdeal.τ).loc Cert.ReferenceBIdeal.main_arg1) = m ((c.tc : Thread Cert.ReferenceBIdeal.nD Cert.ReferenceBIdeal.τ).loc Cert.ReferenceBIdeal.main_arg1)
      ∧ r.2.mem ((c.tc : Thread Cert.ReferenceBIdeal.nD Cert.ReferenceBIdeal.τ).loc Cert.ReferenceBIdeal.main_arg2) = m ((c.tc : Thread Cert.ReferenceBIdeal.nD Cert.ReferenceBIdeal.τ).loc Cert.ReferenceBIdeal.main_arg2)
      ∧ r.2.mem ((c.tc : Thread Cert.ReferenceBIdeal.nD Cert.ReferenceBIdeal.τ).loc Cert.ReferenceBIdeal.main_arg3) = m ((c.tc : Thread Cert.ReferenceBIdeal.nD Cert.ReferenceBIdeal.τ).loc Cert.ReferenceBIdeal.main_arg3))
      ∧ r.2.sem = fun _ => 0)

def quiescent_ReferenceBIdeal_pre_tame [hReferenceBIdeal : Cert.ReferenceBIdeal.Facts] [hPre_tame : Cert.Pre_tame.Facts] : Prop :=
  ∀ (m : (ℓ : Loc Cert.ReferenceBIdeal.nD Cert.ReferenceBIdeal.τ Cert.ReferenceBIdeal.sig) → Buf (Elt Ideal) ℓ) (g : Dev Cert.ReferenceBIdeal.nD → PrngReg), Pre_ReferenceBIdeal_tame m →
    θ_run (Cert.ReferenceBIdeal.defs (F := Ideal)) (onTc (τ := Cert.ReferenceBIdeal.τ) (Cert.ReferenceBIdeal.main (F := Ideal))) ⟨m, fun _ => 0, g⟩ (fun r => (∀ c : Dev Cert.ReferenceBIdeal.nD,
      r.2.mem ((c.tc : Thread Cert.ReferenceBIdeal.nD Cert.ReferenceBIdeal.τ).loc Cert.ReferenceBIdeal.main_arg0) = m ((c.tc : Thread Cert.ReferenceBIdeal.nD Cert.ReferenceBIdeal.τ).loc Cert.ReferenceBIdeal.main_arg0)
      ∧ r.2.mem ((c.tc : Thread Cert.ReferenceBIdeal.nD Cert.ReferenceBIdeal.τ).loc Cert.ReferenceBIdeal.main_arg1) = m ((c.tc : Thread Cert.ReferenceBIdeal.nD Cert.ReferenceBIdeal.τ).loc Cert.ReferenceBIdeal.main_arg1)
      ∧ r.2.mem ((c.tc : Thread Cert.ReferenceBIdeal.nD Cert.ReferenceBIdeal.τ).loc Cert.ReferenceBIdeal.main_arg2) = m ((c.tc : Thread Cert.ReferenceBIdeal.nD Cert.ReferenceBIdeal.τ).loc Cert.ReferenceBIdeal.main_arg2)
      ∧ r.2.mem ((c.tc : Thread Cert.ReferenceBIdeal.nD Cert.ReferenceBIdeal.τ).loc Cert.ReferenceBIdeal.main_arg3) = m ((c.tc : Thread Cert.ReferenceBIdeal.nD Cert.ReferenceBIdeal.τ).loc Cert.ReferenceBIdeal.main_arg3))
      ∧ r.2.sem = fun _ => 0)

def quiescent_KernelC [hKernelC : Cert.KernelC.Facts] : Prop :=
  ∀ (m : (ℓ : Loc Cert.KernelC.nD Cert.KernelC.τ Cert.KernelC.sig) → Buf (Elt Bits) ℓ) (g : Dev Cert.KernelC.nD → PrngReg), Pre_KernelC m →
    θ_run (Cert.KernelC.defs (F := Bits)) (onTc (τ := Cert.KernelC.τ) (Cert.KernelC.main (F := Bits))) ⟨m, fun _ => 0, g⟩ (fun r => (∀ c : Dev Cert.KernelC.nD,
      r.2.mem ((c.tc : Thread Cert.KernelC.nD Cert.KernelC.τ).loc Cert.KernelC.main_arg0) = m ((c.tc : Thread Cert.KernelC.nD Cert.KernelC.τ).loc Cert.KernelC.main_arg0)
      ∧ r.2.mem ((c.tc : Thread Cert.KernelC.nD Cert.KernelC.τ).loc Cert.KernelC.main_arg1) = m ((c.tc : Thread Cert.KernelC.nD Cert.KernelC.τ).loc Cert.KernelC.main_arg1)
      ∧ r.2.mem ((c.tc : Thread Cert.KernelC.nD Cert.KernelC.τ).loc Cert.KernelC.main_arg2) = m ((c.tc : Thread Cert.KernelC.nD Cert.KernelC.τ).loc Cert.KernelC.main_arg2)
      ∧ r.2.mem ((c.tc : Thread Cert.KernelC.nD Cert.KernelC.τ).loc Cert.KernelC.main_arg3) = m ((c.tc : Thread Cert.KernelC.nD Cert.KernelC.τ).loc Cert.KernelC.main_arg3))
      ∧ r.2.sem = fun _ => 0)

def quiescent_KernelCIdeal [hKernelCIdeal : Cert.KernelCIdeal.Facts] : Prop :=
  ∀ (m : (ℓ : Loc Cert.KernelCIdeal.nD Cert.KernelCIdeal.τ Cert.KernelCIdeal.sig) → Buf (Elt Ideal) ℓ) (g : Dev Cert.KernelCIdeal.nD → PrngReg), Pre_KernelCIdeal m →
    θ_run (Cert.KernelCIdeal.defs (F := Ideal)) (onTc (τ := Cert.KernelCIdeal.τ) (Cert.KernelCIdeal.main (F := Ideal))) ⟨m, fun _ => 0, g⟩ (fun r => (∀ c : Dev Cert.KernelCIdeal.nD,
      r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
      ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
      ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2)
      ∧ r.2.mem ((c.tc : Thread Cert.KernelCIdeal.nD Cert.KernelCIdeal.τ).loc Cert.KernelCIdeal.main_arg3) = m ((c.tc : Thread Cert.KernelCIdeal.nD Cert.KernelCIdeal.τ).loc Cert.KernelCIdeal.main_arg3))
      ∧ r.2.sem = fun _ => 0)

def quiescent_KernelCIdeal_pre_tame [hKernelCIdeal : Cert.KernelCIdeal.Facts] [hPre_tame : Cert.Pre_tame.Facts] : Prop :=
  ∀ (m : (ℓ : Loc Cert.KernelCIdeal.nD Cert.KernelCIdeal.τ Cert.KernelCIdeal.sig) → Buf (Elt Ideal) ℓ) (g : Dev Cert.KernelCIdeal.nD → PrngReg), Pre_KernelCIdeal_tame m →
    θ_run (Cert.KernelCIdeal.defs (F := Ideal)) (onTc (τ := Cert.KernelCIdeal.τ) (Cert.KernelCIdeal.main (F := Ideal))) ⟨m, fun _ => 0, g⟩ (fun r => (∀ c : Dev Cert.KernelCIdeal.nD,
      r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
      ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
      ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2)
      ∧ r.2.mem ((c.tc : Thread Cert.KernelCIdeal.nD Cert.KernelCIdeal.τ).loc Cert.KernelCIdeal.main_arg3) = m ((c.tc : Thread Cert.KernelCIdeal.nD Cert.KernelCIdeal.τ).loc Cert.KernelCIdeal.main_arg3))
      ∧ r.2.sem = fun _ => 0)

def quiescent_ReferenceCIdeal [hReferenceCIdeal : Cert.ReferenceCIdeal.Facts] : Prop :=
  ∀ (m : (ℓ : Loc Cert.ReferenceCIdeal.nD Cert.ReferenceCIdeal.τ Cert.ReferenceCIdeal.sig) → Buf (Elt Ideal) ℓ) (g : Dev Cert.ReferenceCIdeal.nD → PrngReg), Pre_ReferenceCIdeal m →
    θ_run (Cert.ReferenceCIdeal.defs (F := Ideal)) (onTc (τ := Cert.ReferenceCIdeal.τ) (Cert.ReferenceCIdeal.main (F := Ideal))) ⟨m, fun _ => 0, g⟩ (fun r => (∀ c : Dev Cert.ReferenceCIdeal.nD,
      r.2.mem ((c.tc : Thread Cert.ReferenceCIdeal.nD Cert.ReferenceCIdeal.τ).loc Cert.ReferenceCIdeal.main_arg0) = m ((c.tc : Thread Cert.ReferenceCIdeal.nD Cert.ReferenceCIdeal.τ).loc Cert.ReferenceCIdeal.main_arg0)
      ∧ r.2.mem ((c.tc : Thread Cert.ReferenceCIdeal.nD Cert.ReferenceCIdeal.τ).loc Cert.ReferenceCIdeal.main_arg1) = m ((c.tc : Thread Cert.ReferenceCIdeal.nD Cert.ReferenceCIdeal.τ).loc Cert.ReferenceCIdeal.main_arg1)
      ∧ r.2.mem ((c.tc : Thread Cert.ReferenceCIdeal.nD Cert.ReferenceCIdeal.τ).loc Cert.ReferenceCIdeal.main_arg2) = m ((c.tc : Thread Cert.ReferenceCIdeal.nD Cert.ReferenceCIdeal.τ).loc Cert.ReferenceCIdeal.main_arg2)
      ∧ r.2.mem ((c.tc : Thread Cert.ReferenceCIdeal.nD Cert.ReferenceCIdeal.τ).loc Cert.ReferenceCIdeal.main_arg3) = m ((c.tc : Thread Cert.ReferenceCIdeal.nD Cert.ReferenceCIdeal.τ).loc Cert.ReferenceCIdeal.main_arg3))
      ∧ r.2.sem = fun _ => 0)

def quiescent_ReferenceCIdeal_pre_tame [hReferenceCIdeal : Cert.ReferenceCIdeal.Facts] [hPre_tame : Cert.Pre_tame.Facts] : Prop :=
  ∀ (m : (ℓ : Loc Cert.ReferenceCIdeal.nD Cert.ReferenceCIdeal.τ Cert.ReferenceCIdeal.sig) → Buf (Elt Ideal) ℓ) (g : Dev Cert.ReferenceCIdeal.nD → PrngReg), Pre_ReferenceCIdeal_tame m →
    θ_run (Cert.ReferenceCIdeal.defs (F := Ideal)) (onTc (τ := Cert.ReferenceCIdeal.τ) (Cert.ReferenceCIdeal.main (F := Ideal))) ⟨m, fun _ => 0, g⟩ (fun r => (∀ c : Dev Cert.ReferenceCIdeal.nD,
      r.2.mem ((c.tc : Thread Cert.ReferenceCIdeal.nD Cert.ReferenceCIdeal.τ).loc Cert.ReferenceCIdeal.main_arg0) = m ((c.tc : Thread Cert.ReferenceCIdeal.nD Cert.ReferenceCIdeal.τ).loc Cert.ReferenceCIdeal.main_arg0)
      ∧ r.2.mem ((c.tc : Thread Cert.ReferenceCIdeal.nD Cert.ReferenceCIdeal.τ).loc Cert.ReferenceCIdeal.main_arg1) = m ((c.tc : Thread Cert.ReferenceCIdeal.nD Cert.ReferenceCIdeal.τ).loc Cert.ReferenceCIdeal.main_arg1)
      ∧ r.2.mem ((c.tc : Thread Cert.ReferenceCIdeal.nD Cert.ReferenceCIdeal.τ).loc Cert.ReferenceCIdeal.main_arg2) = m ((c.tc : Thread Cert.ReferenceCIdeal.nD Cert.ReferenceCIdeal.τ).loc Cert.ReferenceCIdeal.main_arg2)
      ∧ r.2.mem ((c.tc : Thread Cert.ReferenceCIdeal.nD Cert.ReferenceCIdeal.τ).loc Cert.ReferenceCIdeal.main_arg3) = m ((c.tc : Thread Cert.ReferenceCIdeal.nD Cert.ReferenceCIdeal.τ).loc Cert.ReferenceCIdeal.main_arg3))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Select_SelectIdeal : Prop :=
  True

def algebraic_SelectIdeal_DistancesIdeal [hSelectIdeal : Cert.SelectIdeal.Facts] [hDistancesIdeal : Cert.DistancesIdeal.Facts] : Prop :=
  ∀ (m : (ℓ : Loc Cert.SelectIdeal.nD Cert.SelectIdeal.τ Cert.SelectIdeal.sig) → Buf (Elt Ideal) ℓ) (g : Dev Cert.SelectIdeal.nD → PrngReg)
    (m' : (ℓ : Loc Cert.DistancesIdeal.nD Cert.DistancesIdeal.τ Cert.DistancesIdeal.sig) → Buf (Elt Ideal) ℓ) (g' : Dev Cert.DistancesIdeal.nD → PrngReg), Pre_SelectIdeal m →
    (∀ c : Dev Cert.SelectIdeal.nD,
      m' ((c.tc : Thread Cert.DistancesIdeal.nD Cert.DistancesIdeal.τ).loc Cert.DistancesIdeal.main_arg0) = m ((c.tc : Thread Cert.SelectIdeal.nD Cert.SelectIdeal.τ).loc Cert.SelectIdeal.main_arg0)
      ∧ m' ((c.tc : Thread Cert.DistancesIdeal.nD Cert.DistancesIdeal.τ).loc Cert.DistancesIdeal.main_arg1) = m ((c.tc : Thread Cert.SelectIdeal.nD Cert.SelectIdeal.τ).loc Cert.SelectIdeal.main_arg1)
      ∧ m' ((c.tc : Thread Cert.DistancesIdeal.nD Cert.DistancesIdeal.τ).loc Cert.DistancesIdeal.main_arg2) = m ((c.tc : Thread Cert.SelectIdeal.nD Cert.SelectIdeal.τ).loc Cert.SelectIdeal.main_arg2)) →
    ∃ (v0 : (c : Dev Cert.SelectIdeal.nD) → Buf (Elt Ideal) ((c.tc : Thread Cert.SelectIdeal.nD Cert.SelectIdeal.τ).loc Cert.SelectIdeal.main_v6_0)),
      θ_run (Cert.SelectIdeal.defs (F := Ideal)) (onTc (τ := Cert.SelectIdeal.τ) (Cert.SelectIdeal.main (F := Ideal))) ⟨m, fun _ => 0, g⟩ (fun r => ∀ c : Dev Cert.SelectIdeal.nD,
          r.2.mem ((c.tc : Thread Cert.SelectIdeal.nD Cert.SelectIdeal.τ).loc Cert.SelectIdeal.main_v6_0) = v0 c
          ∧ r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
          ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1)
          ∧ r.2.mem ((c.tc : Thread Cert.SelectIdeal.nD Cert.SelectIdeal.τ).loc Cert.SelectIdeal.main_arg2) = m ((c.tc : Thread Cert.SelectIdeal.nD Cert.SelectIdeal.τ).loc Cert.SelectIdeal.main_arg2))
      ∧ θ_run (Cert.DistancesIdeal.defs (F := Ideal)) (onTc (τ := Cert.DistancesIdeal.τ) (Cert.DistancesIdeal.main (F := Ideal))) ⟨m', fun _ => 0, g'⟩ (fun r => ∀ c : Dev Cert.DistancesIdeal.nD,
          r.2.mem ((c.tc : Thread Cert.DistancesIdeal.nD Cert.DistancesIdeal.τ).loc Cert.DistancesIdeal.main_v8) = v0 c
          ∧ r.2.mem ((c.tc : Thread Cert.DistancesIdeal.nD Cert.DistancesIdeal.τ).loc Cert.DistancesIdeal.main_arg0) = m' ((c.tc : Thread Cert.DistancesIdeal.nD Cert.DistancesIdeal.τ).loc Cert.DistancesIdeal.main_arg0)
          ∧ r.2.mem ((c.tc : Thread Cert.DistancesIdeal.nD Cert.DistancesIdeal.τ).loc Cert.DistancesIdeal.main_arg1) = m' ((c.tc : Thread Cert.DistancesIdeal.nD Cert.DistancesIdeal.τ).loc Cert.DistancesIdeal.main_arg1)
          ∧ r.2.mem ((c.tc : Thread Cert.DistancesIdeal.nD Cert.DistancesIdeal.τ).loc Cert.DistancesIdeal.main_arg2) = m' ((c.tc : Thread Cert.DistancesIdeal.nD Cert.DistancesIdeal.τ).loc Cert.DistancesIdeal.main_arg2))

def preserves_SelectB_SelectBIdeal : Prop :=
  True

def algebraic_SelectBIdeal_DistancesBIdeal [hSelectBIdeal : Cert.SelectBIdeal.Facts] [hDistancesBIdeal : Cert.DistancesBIdeal.Facts] : Prop :=
  ∀ (m : (ℓ : Loc Cert.SelectBIdeal.nD Cert.SelectBIdeal.τ Cert.SelectBIdeal.sig) → Buf (Elt Ideal) ℓ) (g : Dev Cert.SelectBIdeal.nD → PrngReg)
    (m' : (ℓ : Loc Cert.DistancesBIdeal.nD Cert.DistancesBIdeal.τ Cert.DistancesBIdeal.sig) → Buf (Elt Ideal) ℓ) (g' : Dev Cert.DistancesBIdeal.nD → PrngReg), Pre_SelectBIdeal m →
    (∀ c : Dev Cert.SelectBIdeal.nD,
      m' ((c.tc : Thread Cert.DistancesBIdeal.nD Cert.DistancesBIdeal.τ).loc Cert.DistancesBIdeal.main_arg0) = m ((c.tc : Thread Cert.SelectBIdeal.nD Cert.SelectBIdeal.τ).loc Cert.SelectBIdeal.main_arg0)
      ∧ m' ((c.tc : Thread Cert.DistancesBIdeal.nD Cert.DistancesBIdeal.τ).loc Cert.DistancesBIdeal.main_arg1) = m ((c.tc : Thread Cert.SelectBIdeal.nD Cert.SelectBIdeal.τ).loc Cert.SelectBIdeal.main_arg1)
      ∧ m' ((c.tc : Thread Cert.DistancesBIdeal.nD Cert.DistancesBIdeal.τ).loc Cert.DistancesBIdeal.main_arg2) = m ((c.tc : Thread Cert.SelectBIdeal.nD Cert.SelectBIdeal.τ).loc Cert.SelectBIdeal.main_arg2)) →
    ∃ (v0 : (c : Dev Cert.SelectBIdeal.nD) → Buf (Elt Ideal) ((c.tc : Thread Cert.SelectBIdeal.nD Cert.SelectBIdeal.τ).loc Cert.SelectBIdeal.main_v6_0)),
      θ_run (Cert.SelectBIdeal.defs (F := Ideal)) (onTc (τ := Cert.SelectBIdeal.τ) (Cert.SelectBIdeal.main (F := Ideal))) ⟨m, fun _ => 0, g⟩ (fun r => ∀ c : Dev Cert.SelectBIdeal.nD,
          r.2.mem ((c.tc : Thread Cert.SelectBIdeal.nD Cert.SelectBIdeal.τ).loc Cert.SelectBIdeal.main_v6_0) = v0 c
          ∧ r.2.mem ((c.tc : Thread Cert.SelectBIdeal.nD Cert.SelectBIdeal.τ).loc Cert.SelectBIdeal.main_arg0) = m ((c.tc : Thread Cert.SelectBIdeal.nD Cert.SelectBIdeal.τ).loc Cert.SelectBIdeal.main_arg0)
          ∧ r.2.mem ((c.tc : Thread Cert.SelectBIdeal.nD Cert.SelectBIdeal.τ).loc Cert.SelectBIdeal.main_arg1) = m ((c.tc : Thread Cert.SelectBIdeal.nD Cert.SelectBIdeal.τ).loc Cert.SelectBIdeal.main_arg1)
          ∧ r.2.mem ((c.tc : Thread Cert.SelectBIdeal.nD Cert.SelectBIdeal.τ).loc Cert.SelectBIdeal.main_arg2) = m ((c.tc : Thread Cert.SelectBIdeal.nD Cert.SelectBIdeal.τ).loc Cert.SelectBIdeal.main_arg2))
      ∧ θ_run (Cert.DistancesBIdeal.defs (F := Ideal)) (onTc (τ := Cert.DistancesBIdeal.τ) (Cert.DistancesBIdeal.main (F := Ideal))) ⟨m', fun _ => 0, g'⟩ (fun r => ∀ c : Dev Cert.DistancesBIdeal.nD,
          r.2.mem ((c.tc : Thread Cert.DistancesBIdeal.nD Cert.DistancesBIdeal.τ).loc Cert.DistancesBIdeal.main_v8) = v0 c
          ∧ r.2.mem ((c.tc : Thread Cert.DistancesBIdeal.nD Cert.DistancesBIdeal.τ).loc Cert.DistancesBIdeal.main_arg0) = m' ((c.tc : Thread Cert.DistancesBIdeal.nD Cert.DistancesBIdeal.τ).loc Cert.DistancesBIdeal.main_arg0)
          ∧ r.2.mem ((c.tc : Thread Cert.DistancesBIdeal.nD Cert.DistancesBIdeal.τ).loc Cert.DistancesBIdeal.main_arg1) = m' ((c.tc : Thread Cert.DistancesBIdeal.nD Cert.DistancesBIdeal.τ).loc Cert.DistancesBIdeal.main_arg1)
          ∧ r.2.mem ((c.tc : Thread Cert.DistancesBIdeal.nD Cert.DistancesBIdeal.τ).loc Cert.DistancesBIdeal.main_arg2) = m' ((c.tc : Thread Cert.DistancesBIdeal.nD Cert.DistancesBIdeal.τ).loc Cert.DistancesBIdeal.main_arg2))

def preserves_SelectC_SelectCIdeal : Prop :=
  True

def algebraic_SelectCIdeal_DistancesCIdeal [hSelectCIdeal : Cert.SelectCIdeal.Facts] [hDistancesCIdeal : Cert.DistancesCIdeal.Facts] : Prop :=
  ∀ (m : (ℓ : Loc Cert.SelectCIdeal.nD Cert.SelectCIdeal.τ Cert.SelectCIdeal.sig) → Buf (Elt Ideal) ℓ) (g : Dev Cert.SelectCIdeal.nD → PrngReg)
    (m' : (ℓ : Loc Cert.DistancesCIdeal.nD Cert.DistancesCIdeal.τ Cert.DistancesCIdeal.sig) → Buf (Elt Ideal) ℓ) (g' : Dev Cert.DistancesCIdeal.nD → PrngReg), Pre_SelectCIdeal m →
    (∀ c : Dev Cert.SelectCIdeal.nD,
      m' ((c.tc : Thread Cert.DistancesCIdeal.nD Cert.DistancesCIdeal.τ).loc Cert.DistancesCIdeal.main_arg0) = m ((c.tc : Thread Cert.SelectCIdeal.nD Cert.SelectCIdeal.τ).loc Cert.SelectCIdeal.main_arg0)
      ∧ m' ((c.tc : Thread Cert.DistancesCIdeal.nD Cert.DistancesCIdeal.τ).loc Cert.DistancesCIdeal.main_arg1) = m ((c.tc : Thread Cert.SelectCIdeal.nD Cert.SelectCIdeal.τ).loc Cert.SelectCIdeal.main_arg1)
      ∧ m' ((c.tc : Thread Cert.DistancesCIdeal.nD Cert.DistancesCIdeal.τ).loc Cert.DistancesCIdeal.main_arg2) = m ((c.tc : Thread Cert.SelectCIdeal.nD Cert.SelectCIdeal.τ).loc Cert.SelectCIdeal.main_arg2)) →
    ∃ (v0 : (c : Dev Cert.SelectCIdeal.nD) → Buf (Elt Ideal) ((c.tc : Thread Cert.SelectCIdeal.nD Cert.SelectCIdeal.τ).loc Cert.SelectCIdeal.main_v6_0)),
      θ_run (Cert.SelectCIdeal.defs (F := Ideal)) (onTc (τ := Cert.SelectCIdeal.τ) (Cert.SelectCIdeal.main (F := Ideal))) ⟨m, fun _ => 0, g⟩ (fun r => ∀ c : Dev Cert.SelectCIdeal.nD,
          r.2.mem ((c.tc : Thread Cert.SelectCIdeal.nD Cert.SelectCIdeal.τ).loc Cert.SelectCIdeal.main_v6_0) = v0 c
          ∧ r.2.mem ((c.tc : Thread Cert.SelectCIdeal.nD Cert.SelectCIdeal.τ).loc Cert.SelectCIdeal.main_arg0) = m ((c.tc : Thread Cert.SelectCIdeal.nD Cert.SelectCIdeal.τ).loc Cert.SelectCIdeal.main_arg0)
          ∧ r.2.mem ((c.tc : Thread Cert.SelectCIdeal.nD Cert.SelectCIdeal.τ).loc Cert.SelectCIdeal.main_arg1) = m ((c.tc : Thread Cert.SelectCIdeal.nD Cert.SelectCIdeal.τ).loc Cert.SelectCIdeal.main_arg1)
          ∧ r.2.mem ((c.tc : Thread Cert.SelectCIdeal.nD Cert.SelectCIdeal.τ).loc Cert.SelectCIdeal.main_arg2) = m ((c.tc : Thread Cert.SelectCIdeal.nD Cert.SelectCIdeal.τ).loc Cert.SelectCIdeal.main_arg2))
      ∧ θ_run (Cert.DistancesCIdeal.defs (F := Ideal)) (onTc (τ := Cert.DistancesCIdeal.τ) (Cert.DistancesCIdeal.main (F := Ideal))) ⟨m', fun _ => 0, g'⟩ (fun r => ∀ c : Dev Cert.DistancesCIdeal.nD,
          r.2.mem ((c.tc : Thread Cert.DistancesCIdeal.nD Cert.DistancesCIdeal.τ).loc Cert.DistancesCIdeal.main_v8) = v0 c
          ∧ r.2.mem ((c.tc : Thread Cert.DistancesCIdeal.nD Cert.DistancesCIdeal.τ).loc Cert.DistancesCIdeal.main_arg0) = m' ((c.tc : Thread Cert.DistancesCIdeal.nD Cert.DistancesCIdeal.τ).loc Cert.DistancesCIdeal.main_arg0)
          ∧ r.2.mem ((c.tc : Thread Cert.DistancesCIdeal.nD Cert.DistancesCIdeal.τ).loc Cert.DistancesCIdeal.main_arg1) = m' ((c.tc : Thread Cert.DistancesCIdeal.nD Cert.DistancesCIdeal.τ).loc Cert.DistancesCIdeal.main_arg1)
          ∧ r.2.mem ((c.tc : Thread Cert.DistancesCIdeal.nD Cert.DistancesCIdeal.τ).loc Cert.DistancesCIdeal.main_arg2) = m' ((c.tc : Thread Cert.DistancesCIdeal.nD Cert.DistancesCIdeal.τ).loc Cert.DistancesCIdeal.main_arg2))

def preserves_KernelB_KernelBIdeal : Prop :=
  True

def algebraic_KernelBIdeal_ReferenceBIdeal_pre_tame [hKernelBIdeal : Cert.KernelBIdeal.Facts] [hReferenceBIdeal : Cert.ReferenceBIdeal.Facts] [hPre_tame : Cert.Pre_tame.Facts] : Prop :=
  ∀ (m : (ℓ : Loc Cert.KernelBIdeal.nD Cert.KernelBIdeal.τ Cert.KernelBIdeal.sig) → Buf (Elt Ideal) ℓ) (g : Dev Cert.KernelBIdeal.nD → PrngReg)
    (m' : (ℓ : Loc Cert.ReferenceBIdeal.nD Cert.ReferenceBIdeal.τ Cert.ReferenceBIdeal.sig) → Buf (Elt Ideal) ℓ) (g' : Dev Cert.ReferenceBIdeal.nD → PrngReg), Pre_KernelBIdeal_tame m →
    (∀ c : Dev Cert.KernelBIdeal.nD,
      m' ((c.tc : Thread Cert.ReferenceBIdeal.nD Cert.ReferenceBIdeal.τ).loc Cert.ReferenceBIdeal.main_arg0) = m ((c.tc : Thread Cert.KernelBIdeal.nD Cert.KernelBIdeal.τ).loc Cert.KernelBIdeal.main_arg0)
      ∧ m' ((c.tc : Thread Cert.ReferenceBIdeal.nD Cert.ReferenceBIdeal.τ).loc Cert.ReferenceBIdeal.main_arg1) = m ((c.tc : Thread Cert.KernelBIdeal.nD Cert.KernelBIdeal.τ).loc Cert.KernelBIdeal.main_arg1)
      ∧ m' ((c.tc : Thread Cert.ReferenceBIdeal.nD Cert.ReferenceBIdeal.τ).loc Cert.ReferenceBIdeal.main_arg2) = m ((c.tc : Thread Cert.KernelBIdeal.nD Cert.KernelBIdeal.τ).loc Cert.KernelBIdeal.main_arg2)
      ∧ m' ((c.tc : Thread Cert.ReferenceBIdeal.nD Cert.ReferenceBIdeal.τ).loc Cert.ReferenceBIdeal.main_arg3) = m ((c.tc : Thread Cert.KernelBIdeal.nD Cert.KernelBIdeal.τ).loc Cert.KernelBIdeal.main_arg3)) →
    ∃ (v0 : (c : Dev Cert.KernelBIdeal.nD) → Buf (Elt Ideal) ((c.tc : Thread Cert.KernelBIdeal.nD Cert.KernelBIdeal.τ).loc Cert.KernelBIdeal.main_v2_0)) (v1 : (c : Dev Cert.KernelBIdeal.nD) → Buf (Elt Ideal) ((c.tc : Thread Cert.KernelBIdeal.nD Cert.KernelBIdeal.τ).loc Cert.KernelBIdeal.main_v2_1)) (v2 : (c : Dev Cert.KernelBIdeal.nD) → Buf (Elt Ideal) ((c.tc : Thread Cert.KernelBIdeal.nD Cert.KernelBIdeal.τ).loc Cert.KernelBIdeal.main_v2_2)),
      θ_run (Cert.KernelBIdeal.defs (F := Ideal)) (onTc (τ := Cert.KernelBIdeal.τ) (Cert.KernelBIdeal.main (F := Ideal))) ⟨m, fun _ => 0, g⟩ (fun r => ∀ c : Dev Cert.KernelBIdeal.nD,
          r.2.mem ((c.tc : Thread Cert.KernelBIdeal.nD Cert.KernelBIdeal.τ).loc Cert.KernelBIdeal.main_v2_0) = v0 c
          ∧ r.2.mem ((c.tc : Thread Cert.KernelBIdeal.nD Cert.KernelBIdeal.τ).loc Cert.KernelBIdeal.main_v2_1) = v1 c
          ∧ r.2.mem ((c.tc : Thread Cert.KernelBIdeal.nD Cert.KernelBIdeal.τ).loc Cert.KernelBIdeal.main_v2_2) = v2 c
          ∧ r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
          ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
          ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
          ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3))
      ∧ θ_run (Cert.ReferenceBIdeal.defs (F := Ideal)) (onTc (τ := Cert.ReferenceBIdeal.τ) (Cert.ReferenceBIdeal.main (F := Ideal))) ⟨m', fun _ => 0, g'⟩ (fun r => ∀ c : Dev Cert.ReferenceBIdeal.nD,
          r.2.mem ((c.tc : Thread Cert.ReferenceBIdeal.nD Cert.ReferenceBIdeal.τ).loc Cert.ReferenceBIdeal.main_v3_0) = v0 c
          ∧ r.2.mem ((c.tc : Thread Cert.ReferenceBIdeal.nD Cert.ReferenceBIdeal.τ).loc Cert.ReferenceBIdeal.main_v3_1) = v1 c
          ∧ r.2.mem ((c.tc : Thread Cert.ReferenceBIdeal.nD Cert.ReferenceBIdeal.τ).loc Cert.ReferenceBIdeal.main_v3_2) = v2 c
          ∧ r.2.mem ((c.tc : Thread Cert.ReferenceBIdeal.nD Cert.ReferenceBIdeal.τ).loc Cert.ReferenceBIdeal.main_arg0) = m' ((c.tc : Thread Cert.ReferenceBIdeal.nD Cert.ReferenceBIdeal.τ).loc Cert.ReferenceBIdeal.main_arg0)
          ∧ r.2.mem ((c.tc : Thread Cert.ReferenceBIdeal.nD Cert.ReferenceBIdeal.τ).loc Cert.ReferenceBIdeal.main_arg1) = m' ((c.tc : Thread Cert.ReferenceBIdeal.nD Cert.ReferenceBIdeal.τ).loc Cert.ReferenceBIdeal.main_arg1)
          ∧ r.2.mem ((c.tc : Thread Cert.ReferenceBIdeal.nD Cert.ReferenceBIdeal.τ).loc Cert.ReferenceBIdeal.main_arg2) = m' ((c.tc : Thread Cert.ReferenceBIdeal.nD Cert.ReferenceBIdeal.τ).loc Cert.ReferenceBIdeal.main_arg2)
          ∧ r.2.mem ((c.tc : Thread Cert.ReferenceBIdeal.nD Cert.ReferenceBIdeal.τ).loc Cert.ReferenceBIdeal.main_arg3) = m' ((c.tc : Thread Cert.ReferenceBIdeal.nD Cert.ReferenceBIdeal.τ).loc Cert.ReferenceBIdeal.main_arg3))

def preserves_KernelC_KernelCIdeal : Prop :=
  True

def algebraic_KernelCIdeal_ReferenceCIdeal_pre_tame [hKernelCIdeal : Cert.KernelCIdeal.Facts] [hReferenceCIdeal : Cert.ReferenceCIdeal.Facts] [hPre_tame : Cert.Pre_tame.Facts] : Prop :=
  ∀ (m : (ℓ : Loc Cert.KernelCIdeal.nD Cert.KernelCIdeal.τ Cert.KernelCIdeal.sig) → Buf (Elt Ideal) ℓ) (g : Dev Cert.KernelCIdeal.nD → PrngReg)
    (m' : (ℓ : Loc Cert.ReferenceCIdeal.nD Cert.ReferenceCIdeal.τ Cert.ReferenceCIdeal.sig) → Buf (Elt Ideal) ℓ) (g' : Dev Cert.ReferenceCIdeal.nD → PrngReg), Pre_KernelCIdeal_tame m →
    (∀ c : Dev Cert.KernelCIdeal.nD,
      m' ((c.tc : Thread Cert.ReferenceCIdeal.nD Cert.ReferenceCIdeal.τ).loc Cert.ReferenceCIdeal.main_arg0) = m ((c.tc : Thread Cert.KernelCIdeal.nD Cert.KernelCIdeal.τ).loc Cert.KernelCIdeal.main_arg0)
      ∧ m' ((c.tc : Thread Cert.ReferenceCIdeal.nD Cert.ReferenceCIdeal.τ).loc Cert.ReferenceCIdeal.main_arg1) = m ((c.tc : Thread Cert.KernelCIdeal.nD Cert.KernelCIdeal.τ).loc Cert.KernelCIdeal.main_arg1)
      ∧ m' ((c.tc : Thread Cert.ReferenceCIdeal.nD Cert.ReferenceCIdeal.τ).loc Cert.ReferenceCIdeal.main_arg2) = m ((c.tc : Thread Cert.KernelCIdeal.nD Cert.KernelCIdeal.τ).loc Cert.KernelCIdeal.main_arg2)
      ∧ m' ((c.tc : Thread Cert.ReferenceCIdeal.nD Cert.ReferenceCIdeal.τ).loc Cert.ReferenceCIdeal.main_arg3) = m ((c.tc : Thread Cert.KernelCIdeal.nD Cert.KernelCIdeal.τ).loc Cert.KernelCIdeal.main_arg3)) →
    ∃ (v0 : (c : Dev Cert.KernelCIdeal.nD) → Buf (Elt Ideal) ((c.tc : Thread Cert.KernelCIdeal.nD Cert.KernelCIdeal.τ).loc Cert.KernelCIdeal.main_v2_0)) (v1 : (c : Dev Cert.KernelCIdeal.nD) → Buf (Elt Ideal) ((c.tc : Thread Cert.KernelCIdeal.nD Cert.KernelCIdeal.τ).loc Cert.KernelCIdeal.main_v2_1)) (v2 : (c : Dev Cert.KernelCIdeal.nD) → Buf (Elt Ideal) ((c.tc : Thread Cert.KernelCIdeal.nD Cert.KernelCIdeal.τ).loc Cert.KernelCIdeal.main_v2_2)),
      θ_run (Cert.KernelCIdeal.defs (F := Ideal)) (onTc (τ := Cert.KernelCIdeal.τ) (Cert.KernelCIdeal.main (F := Ideal))) ⟨m, fun _ => 0, g⟩ (fun r => ∀ c : Dev Cert.KernelCIdeal.nD,
          r.2.mem ((c.tc : Thread Cert.KernelCIdeal.nD Cert.KernelCIdeal.τ).loc Cert.KernelCIdeal.main_v2_0) = v0 c
          ∧ r.2.mem ((c.tc : Thread Cert.KernelCIdeal.nD Cert.KernelCIdeal.τ).loc Cert.KernelCIdeal.main_v2_1) = v1 c
          ∧ r.2.mem ((c.tc : Thread Cert.KernelCIdeal.nD Cert.KernelCIdeal.τ).loc Cert.KernelCIdeal.main_v2_2) = v2 c
          ∧ r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
          ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
          ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2)
          ∧ r.2.mem ((c.tc : Thread Cert.KernelCIdeal.nD Cert.KernelCIdeal.τ).loc Cert.KernelCIdeal.main_arg3) = m ((c.tc : Thread Cert.KernelCIdeal.nD Cert.KernelCIdeal.τ).loc Cert.KernelCIdeal.main_arg3))
      ∧ θ_run (Cert.ReferenceCIdeal.defs (F := Ideal)) (onTc (τ := Cert.ReferenceCIdeal.τ) (Cert.ReferenceCIdeal.main (F := Ideal))) ⟨m', fun _ => 0, g'⟩ (fun r => ∀ c : Dev Cert.ReferenceCIdeal.nD,
          r.2.mem ((c.tc : Thread Cert.ReferenceCIdeal.nD Cert.ReferenceCIdeal.τ).loc Cert.ReferenceCIdeal.main_v3_0) = v0 c
          ∧ r.2.mem ((c.tc : Thread Cert.ReferenceCIdeal.nD Cert.ReferenceCIdeal.τ).loc Cert.ReferenceCIdeal.main_v3_1) = v1 c
          ∧ r.2.mem ((c.tc : Thread Cert.ReferenceCIdeal.nD Cert.ReferenceCIdeal.τ).loc Cert.ReferenceCIdeal.main_v3_2) = v2 c
          ∧ r.2.mem ((c.tc : Thread Cert.ReferenceCIdeal.nD Cert.ReferenceCIdeal.τ).loc Cert.ReferenceCIdeal.main_arg0) = m' ((c.tc : Thread Cert.ReferenceCIdeal.nD Cert.ReferenceCIdeal.τ).loc Cert.ReferenceCIdeal.main_arg0)
          ∧ r.2.mem ((c.tc : Thread Cert.ReferenceCIdeal.nD Cert.ReferenceCIdeal.τ).loc Cert.ReferenceCIdeal.main_arg1) = m' ((c.tc : Thread Cert.ReferenceCIdeal.nD Cert.ReferenceCIdeal.τ).loc Cert.ReferenceCIdeal.main_arg1)
          ∧ r.2.mem ((c.tc : Thread Cert.ReferenceCIdeal.nD Cert.ReferenceCIdeal.τ).loc Cert.ReferenceCIdeal.main_arg2) = m' ((c.tc : Thread Cert.ReferenceCIdeal.nD Cert.ReferenceCIdeal.τ).loc Cert.ReferenceCIdeal.main_arg2)
          ∧ r.2.mem ((c.tc : Thread Cert.ReferenceCIdeal.nD Cert.ReferenceCIdeal.τ).loc Cert.ReferenceCIdeal.main_arg3) = m' ((c.tc : Thread Cert.ReferenceCIdeal.nD Cert.ReferenceCIdeal.τ).loc Cert.ReferenceCIdeal.main_arg3))

def Claim : Prop :=
  ∃ (hKernel : Cert.Kernel.Facts) (hKernelIdeal : Cert.KernelIdeal.Facts) (hReferenceIdeal : Cert.ReferenceIdeal.Facts) (hSelect : Cert.Select.Facts) (hSelectIdeal : Cert.SelectIdeal.Facts) (hDistancesIdeal : Cert.DistancesIdeal.Facts) (hSelectB : Cert.SelectB.Facts) (hSelectBIdeal : Cert.SelectBIdeal.Facts) (hDistancesBIdeal : Cert.DistancesBIdeal.Facts) (hSelectC : Cert.SelectC.Facts) (hSelectCIdeal : Cert.SelectCIdeal.Facts) (hDistancesCIdeal : Cert.DistancesCIdeal.Facts) (hKernelB : Cert.KernelB.Facts) (hKernelBIdeal : Cert.KernelBIdeal.Facts) (hReferenceBIdeal : Cert.ReferenceBIdeal.Facts) (hKernelC : Cert.KernelC.Facts) (hKernelCIdeal : Cert.KernelCIdeal.Facts) (hReferenceCIdeal : Cert.ReferenceCIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ quiescent_Select (hSelect := hSelect)
    ∧ quiescent_SelectIdeal (hSelectIdeal := hSelectIdeal)
    ∧ quiescent_DistancesIdeal (hDistancesIdeal := hDistancesIdeal)
    ∧ quiescent_SelectB (hSelectB := hSelectB)
    ∧ quiescent_SelectBIdeal (hSelectBIdeal := hSelectBIdeal)
    ∧ quiescent_DistancesBIdeal (hDistancesBIdeal := hDistancesBIdeal)
    ∧ quiescent_SelectC (hSelectC := hSelectC)
    ∧ quiescent_SelectCIdeal (hSelectCIdeal := hSelectCIdeal)
    ∧ quiescent_DistancesCIdeal (hDistancesCIdeal := hDistancesCIdeal)
    ∧ quiescent_KernelB (hKernelB := hKernelB)
    ∧ quiescent_KernelBIdeal (hKernelBIdeal := hKernelBIdeal)
    ∧ quiescent_KernelBIdeal_pre_tame (hKernelBIdeal := hKernelBIdeal) (hPre_tame := hPre_tame)
    ∧ quiescent_ReferenceBIdeal (hReferenceBIdeal := hReferenceBIdeal)
    ∧ quiescent_ReferenceBIdeal_pre_tame (hReferenceBIdeal := hReferenceBIdeal) (hPre_tame := hPre_tame)
    ∧ quiescent_KernelC (hKernelC := hKernelC)
    ∧ quiescent_KernelCIdeal (hKernelCIdeal := hKernelCIdeal)
    ∧ quiescent_KernelCIdeal_pre_tame (hKernelCIdeal := hKernelCIdeal) (hPre_tame := hPre_tame)
    ∧ quiescent_ReferenceCIdeal (hReferenceCIdeal := hReferenceCIdeal)
    ∧ quiescent_ReferenceCIdeal_pre_tame (hReferenceCIdeal := hReferenceCIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
    ∧ preserves_Select_SelectIdeal
    ∧ algebraic_SelectIdeal_DistancesIdeal (hSelectIdeal := hSelectIdeal) (hDistancesIdeal := hDistancesIdeal)
    ∧ preserves_SelectB_SelectBIdeal
    ∧ algebraic_SelectBIdeal_DistancesBIdeal (hSelectBIdeal := hSelectBIdeal) (hDistancesBIdeal := hDistancesBIdeal)
    ∧ preserves_SelectC_SelectCIdeal
    ∧ algebraic_SelectCIdeal_DistancesCIdeal (hSelectCIdeal := hSelectCIdeal) (hDistancesCIdeal := hDistancesCIdeal)
    ∧ preserves_KernelB_KernelBIdeal
    ∧ algebraic_KernelBIdeal_ReferenceBIdeal_pre_tame (hKernelBIdeal := hKernelBIdeal) (hReferenceBIdeal := hReferenceBIdeal) (hPre_tame := hPre_tame)
    ∧ preserves_KernelC_KernelCIdeal
    ∧ algebraic_KernelCIdeal_ReferenceCIdeal_pre_tame (hKernelCIdeal := hKernelCIdeal) (hReferenceCIdeal := hReferenceCIdeal) (hPre_tame := hPre_tame)
-- ==== Pre_tame.lean ====
abbrev S1536x256 : Shape := ⟨2, ![1536, 256]⟩
abbrev S32768 : Shape := ⟨1, ![32768]⟩
abbrev S8192x256 : Shape := ⟨2, ![8192, 256]⟩
abbrev S_ : Shape := ⟨0, ![]⟩

class Facts : Prop where
  bcast_S_S1536x256 : S_.BroadcastsInDim S1536x256 (![] : Fin 0 → Fin S1536x256.rank)
  reducesTo_S1536x256_S_d0_1 : S1536x256.ReducesTo [0, 1] S_
  h_S_ : 0 < S_.numel
  bcast_S_S32768 : S_.BroadcastsInDim S32768 (![] : Fin 0 → Fin S32768.rank)
  reducesTo_S32768_S_d0 : S32768.ReducesTo [0] S_
  bcast_S_S8192x256 : S_.BroadcastsInDim S8192x256 (![] : Fin 0 → Fin S8192x256.rank)
  reducesTo_S8192x256_S_d0_1 : S8192x256.ReducesTo [0, 1] S_

variable [Facts]

def fn_part2 {F : FTy → Type} [FloatOps F] (main_v26 : IVec S_ 1) (main_v31 : IVec S_ 1) : IVec S_ 1 :=
  let main_v32 : IVec S_ 1 := andi main_v26 main_v31
  main_v32

def fn_part1 {F : FTy → Type} [FloatOps F] (main_arg3 : IVec S8192x256 32) (main_v14 : IVec S_ 1) (main_v15 : IVec S8192x256 32) : IVec S_ 1 :=
  let main_v16 : IVec S8192x256 32 := andi main_arg3 main_v15
  let main_c_6 : IVec S_ 32 := constantI S_ 32 32512#32
  let main_v17 : IVec S8192x256 32 := broadcastInDim S8192x256 ![] bcast_S_S8192x256 main_c_6
  let main_v18 : IVec S8192x256 1 := cmpi .ne main_v16 main_v17
  let main_c_7 : IVec S_ 1 := constantI S_ 1 1#1
  let main_v19 : IVec S_ 1 := (fun x v => Host.reduce IntOp.andi x v reducesTo_S8192x256_S_d0_1 h_S_) main_v18 main_c_7
  let main_v20 : IVec S_ 1 := andi main_v14 main_v19
  let main_c_8 : IVec S_ 32 := constantI S_ 32 8323072#32
  let main_v21 : IVec S8192x256 32 := broadcastInDim S8192x256 ![] bcast_S_S8192x256 main_c_8
  let main_v22 : IVec S8192x256 32 := andi main_arg3 main_v21
  let main_c_9 : IVec S_ 32 := constantI S_ 32 8323072#32
  let main_v23 : IVec S8192x256 32 := broadcastInDim S8192x256 ![] bcast_S_S8192x256 main_c_9
  let main_v24 : IVec S8192x256 1 := cmpi .ne main_v22 main_v23
  let main_c_10 : IVec S_ 1 := constantI S_ 1 1#1
  let main_v25 : IVec S_ 1 := (fun x v => Host.reduce IntOp.andi x v reducesTo_S8192x256_S_d0_1 h_S_) main_v24 main_c_10
  let main_v26 : IVec S_ 1 := andi main_v20 main_v25
  let main_c_11 : IVec S_ 32 := constantI S_ 32 2130706432#32
  let main_v27 : IVec S8192x256 32 := broadcastInDim S8192x256 ![] bcast_S_S8192x256 main_c_11
  let main_v28 : IVec S8192x256 32 := andi main_arg3 main_v27
  let main_c_12 : IVec S_ 32 := constantI S_ 32 2130706432#32
  let main_v29 : IVec S8192x256 32 := broadcastInDim S8192x256 ![] bcast_S_S8192x256 main_c_12
  let main_v30 : IVec S8192x256 1 := cmpi .ne main_v28 main_v29
  let main_c_13 : IVec S_ 1 := constantI S_ 1 1#1
  let main_v31 : IVec S_ 1 := (fun x v => Host.reduce IntOp.andi x v reducesTo_S8192x256_S_d0_1 h_S_) main_v30 main_c_13
  fn_part2 (F := F) main_v26 main_v31

def fn {F : FTy → Type} [FloatOps F] (main_arg0 : FVec F S1536x256 .bf16) (main_arg1 : IVec S32768 32) (main_arg2 : FVec F S32768 .f32) (main_arg3 : IVec S8192x256 32) : IVec S_ 1 :=
  let main_v0 : FVec F S1536x256 .bf16 := Host.absf main_arg0
  let main_cst : FVec F S_ .bf16 := constant S_ .bf16 0x7F80#16
  let main_v1 : FVec F S1536x256 .bf16 := broadcastInDim S1536x256 ![] bcast_S_S1536x256 main_cst
  let main_v2 : IVec S1536x256 1 := cmpf .olt main_v0 main_v1
  let main_c : IVec S_ 1 := constantI S_ 1 1#1
  let main_v3 : IVec S_ 1 := (fun x v => Host.reduce IntOp.andi x v reducesTo_S1536x256_S_d0_1 h_S_) main_v2 main_c
  let main_v4 : FVec F S32768 .f32 := Host.absf main_arg2
  let main_cst_0 : FVec F S_ .f32 := constant S_ .f32 0x7F800000#32
  let main_v5 : FVec F S32768 .f32 := broadcastInDim S32768 ![] bcast_S_S32768 main_cst_0
  let main_v6 : IVec S32768 1 := cmpf .olt main_v4 main_v5
  let main_c_1 : IVec S_ 1 := constantI S_ 1 1#1
  let main_v7 : IVec S_ 1 := (fun x v => Host.reduce IntOp.andi x v reducesTo_S32768_S_d0 h_S_) main_v6 main_c_1
  let main_v8 : IVec S_ 1 := andi main_v3 main_v7
  let main_c_2 : IVec S_ 32 := constantI S_ 32 127#32
  let main_v9 : IVec S8192x256 32 := broadcastInDim S8192x256 ![] bcast_S_S8192x256 main_c_2
  let main_v10 : IVec S8192x256 32 := andi main_arg3 main_v9
  let main_c_3 : IVec S_ 32 := constantI S_ 32 127#32
  let main_v11 : IVec S8192x256 32 := broadcastInDim S8192x256 ![] bcast_S_S8192x256 main_c_3
  let main_v12 : IVec S8192x256 1 := cmpi .ne main_v10 main_v11
  let main_c_4 : IVec S_ 1 := constantI S_ 1 1#1
  let main_v13 : IVec S_ 1 := (fun x v => Host.reduce IntOp.andi x v reducesTo_S8192x256_S_d0_1 h_S_) main_v12 main_c_4
  let main_v14 : IVec S_ 1 := andi main_v8 main_v13
  let main_c_5 : IVec S_ 32 := constantI S_ 32 32512#32
  let main_v15 : IVec S8192x256 32 := broadcastInDim S8192x256 ![] bcast_S_S8192x256 main_c_5
  fn_part1 (F := F) main_arg3 main_v14 main_v15
-- ==== Kernel.lean ====
abbrev S1536x256 : Shape := ⟨2, ![1536, 256]⟩
abbrev S32768 : Shape := ⟨1, ![32768]⟩
abbrev S8192x256 : Shape := ⟨2, ![8192, 256]⟩
abbrev S512x64 : Shape := ⟨2, ![512, 64]⟩
abbrev S256x128 : Shape := ⟨2, ![256, 128]⟩
abbrev S512x256 : Shape := ⟨2, ![512, 256]⟩
abbrev S64x512 : Shape := ⟨2, ![64, 512]⟩
abbrev S128x256 : Shape := ⟨2, ![128, 256]⟩
abbrev S128x64 : Shape := ⟨2, ![128, 64]⟩
abbrev S64x128 : Shape := ⟨2, ![64, 128]⟩
abbrev S2048x256 : Shape := ⟨2, ![2048, 256]⟩
abbrev S128x128 : Shape := ⟨2, ![128, 128]⟩
abbrev S8x128 : Shape := ⟨2, ![8, 128]⟩
abbrev S8x256 : Shape := ⟨2, ![8, 256]⟩
abbrev S8x512 : Shape := ⟨2, ![8, 512]⟩
abbrev S1x128 : Shape := ⟨2, ![1, 128]⟩
abbrev S8 : Shape := ⟨1, ![8]⟩
abbrev S8x1 : Shape := ⟨2, ![8, 1]⟩

abbrev nBuf : Space → Nat
  | .hbm => 9
  | .vmem => 15
  | .smem => 0
  | _ => 0

abbrev bufTy : (tb : Table) → Fin (tcTables nBuf tb) → BufTy
  | .hbm, ⟨0, _⟩ => ⟨S1536x256, .bf16⟩
  | .hbm, ⟨1, _⟩ => ⟨S32768, .i32⟩
  | .hbm, ⟨2, _⟩ => ⟨S32768, .f32⟩
  | .hbm, ⟨3, _⟩ => ⟨S8192x256, .i32⟩
  | .hbm, ⟨4, _⟩ => ⟨S512x64, .i32⟩
  | .hbm, ⟨5, _⟩ => ⟨S256x128, .f32⟩
  | .hbm, ⟨6, _⟩ => ⟨S512x256, .bf16⟩
  | .hbm, ⟨7, _⟩ => ⟨S64x512, .i32⟩
  | .hbm, ⟨8, _⟩ => ⟨S64x512, .f32⟩
  | .local _ .vmem, ⟨0, _⟩ => ⟨S128x256, .bf16⟩
  | .local _ .vmem, ⟨1, _⟩ => ⟨S128x256, .bf16⟩
  | .local _ .vmem, ⟨2, _⟩ => ⟨S128x64, .i32⟩
  | .local _ .vmem, ⟨3, _⟩ => ⟨S128x64, .i32⟩
  | .local _ .vmem, ⟨4, _⟩ => ⟨S64x128, .f32⟩
  | .local _ .vmem, ⟨5, _⟩ => ⟨S64x128, .f32⟩
  | .local _ .vmem, ⟨6, _⟩ => ⟨S2048x256, .i32⟩
  | .local _ .vmem, ⟨7, _⟩ => ⟨S2048x256, .i32⟩
  | .local _ .vmem, ⟨8, _⟩ => ⟨S128x256, .bf16⟩
  | .local _ .vmem, ⟨9, _⟩ => ⟨S128x256, .bf16⟩
  | .local _ .vmem, ⟨10, _⟩ => ⟨S64x128, .i32⟩
  | .local _ .vmem, ⟨11, _⟩ => ⟨S64x128, .i32⟩
  | .local _ .vmem, ⟨12, _⟩ => ⟨S64x128, .f32⟩
  | .local _ .vmem, ⟨13, _⟩ => ⟨S64x128, .f32⟩
  | .local _ .vmem, ⟨14, _⟩ => ⟨S128x128, .f32⟩
  | _, _ => ⟨S1536x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_4 : BitVec 32 := 0#32
  let c16_i32 : BitVec 32 := 16#32
  let v26 : BitVec 32 := Scalar.addi c0_i32_4 c16_i32
  let c1_i32_5 : BitVec 32 := 1#32
  ⟨c0_i32_4, v26, c1_i32_5⟩
def k0_mult1 (k0_t1 : Fin k0_t1_loop.trips) : BitVec 32 :=
  let c0_i32_4 : BitVec 32 := 0#32
  let c1_i32_5 : BitVec 32 := 1#32
  let arg9 : BitVec 32 := Scf.iv c0_i32_4 c1_i32_5 k0_t1
  let c8_i32 : BitVec 32 := 8#32
  let v35 : BitVec 32 := Scalar.muli arg9 c8_i32
  v35
def k0_mult2 (k0_t1 : Fin k0_t1_loop.trips) : BitVec 32 :=
  let c0_i32_4 : BitVec 32 := 0#32
  let c1_i32_5 : BitVec 32 := 1#32
  let arg9 : BitVec 32 := Scf.iv c0_i32_4 c1_i32_5 k0_t1
  let c128_i32 : BitVec 32 := 128#32
  let v37 : BitVec 32 := Scalar.muli arg9 c128_i32
  v37
def k0_off1 (k0_t1 : Fin k0_t1_loop.trips) : Fin 2 → Nat :=
  let c0_i32_4 : BitVec 32 := 0#32
  let c1_i32_5 : BitVec 32 := 1#32
  let arg9 : BitVec 32 := Scf.iv c0_i32_4 c1_i32_5 k0_t1
  let c8_i32 : BitVec 32 := 8#32
  let v35 : BitVec 32 := Scalar.muli arg9 c8_i32
  let v36 : BitVec 32 := v35
  let v39 : Index := Scalar.indexCast v36
  let c0_14 : Index := 0#32
  ![v39.toNat, 0]
def k0_off2 (k0_t1 : Fin k0_t1_loop.trips) : Fin 2 → Nat :=
  let c0_i32_4 : BitVec 32 := 0#32
  let c1_i32_5 : BitVec 32 := 1#32
  let arg9 : BitVec 32 := Scf.iv c0_i32_4 c1_i32_5 k0_t1
  let c128_i32 : BitVec 32 := 128#32
  let v37 : BitVec 32 := Scalar.muli arg9 c128_i32
  let v38 : BitVec 32 := v37
  let v41 : Index := Scalar.indexCast v38
  let c0_15 : Index := 0#32
  ![v41.toNat, 0]
def k0_off3 (k0_t1 : Fin k0_t1_loop.trips) (c0_i32_16 : BitVec 32) : Fin 2 → Nat :=
  let c0_i32_4 : BitVec 32 := 0#32
  let c1_i32_5 : BitVec 32 := 1#32
  let arg9 : BitVec 32 := Scf.iv c0_i32_4 c1_i32_5 k0_t1
  let c4_i32 : BitVec 32 := 4#32
  let v46 : BitVec 32 := Scalar.muli arg9 c4_i32
  let v47 : BitVec 32 := Scalar.addi v46 c0_i32_16
  let v48 : Index := Scalar.indexCast v47
  let c0_17 : Index := 0#32
  ![v48.toNat, 0]
def k0_off4 (k0_t1 : Fin k0_t1_loop.trips) : Fin 2 → Nat :=
  let c0_i32_4 : BitVec 32 := 0#32
  let c1_i32_5 : BitVec 32 := 1#32
  let arg9 : BitVec 32 := Scf.iv c0_i32_4 c1_i32_5 k0_t1
  let c8_i32 : BitVec 32 := 8#32
  let v35 : BitVec 32 := Scalar.muli arg9 c8_i32
  let v36 : BitVec 32 := v35
  let v158 : Index := Scalar.indexCast v36
  let c0_41 : Index := 0#32
  ![v158.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1536x256 : Shape := ⟨2, ![1536, 256]⟩
abbrev S32768 : Shape := ⟨1, ![32768]⟩
abbrev S8192x256 : Shape := ⟨2, ![8192, 256]⟩
abbrev S512x256 : Shape := ⟨2, ![512, 256]⟩
abbrev S512x64 : Shape := ⟨2, ![512, 64]⟩
abbrev S64x512 : Shape := ⟨2, ![64, 512]⟩
abbrev S32768x256 : Shape := ⟨2, ![32768, 256]⟩
abbrev S512x64x256 : Shape := ⟨3, ![512, 64, 256]⟩
abbrev S512x1x256 : Shape := ⟨3, ![512, 1, 256]⟩
abbrev S512x1x64 : Shape := ⟨3, ![512, 1, 64]⟩
abbrev S512 : Shape := ⟨1, ![512]⟩
abbrev S512x1 : Shape := ⟨2, ![512, 1]⟩

abbrev nBuf : Space → Nat
  | .hbm => 10
  | .vmem => 7
  | .smem => 0
  | _ => 0

abbrev bufTy : (tb : Table) → Fin (tcTables nBuf tb) → BufTy
  | .hbm, ⟨0, _⟩ => ⟨S1536x256, .bf16⟩
  | .hbm, ⟨1, _⟩ => ⟨S32768, .i32⟩
  | .hbm, ⟨2, _⟩ => ⟨S32768, .f32⟩
  | .hbm, ⟨3, _⟩ => ⟨S8192x256, .i32⟩
  | .hbm, ⟨4, _⟩ => ⟨S512x256, .bf16⟩
  | .hbm, ⟨5, _⟩ => ⟨S512x64, .i32⟩
  | .hbm, ⟨6, _⟩ => ⟨S512x64, .f32⟩
  | .hbm, ⟨7, _⟩ => ⟨S512x256, .bf16⟩
  | .hbm, ⟨8, _⟩ => ⟨S64x512, .i32⟩
  | .hbm, ⟨9, _⟩ => ⟨S64x512, .f32⟩
  | .local _ .vmem, ⟨0, _⟩ => ⟨S512x256, .bf16⟩
  | .local _ .vmem, ⟨1, _⟩ => ⟨S512x64, .i32⟩
  | .local _ .vmem, ⟨2, _⟩ => ⟨S512x64, .f32⟩
  | .local _ .vmem, ⟨3, _⟩ => ⟨S8192x256, .i32⟩
  | .local _ .vmem, ⟨4, _⟩ => ⟨S512x256, .bf16⟩
  | .local _ .vmem, ⟨5, _⟩ => ⟨S64x512, .i32⟩
  | .local _ .vmem, ⟨6, _⟩ => ⟨S64x512, .f32⟩
  | _, _ => ⟨S1536x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x64 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x256 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x512 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Select.lean ====
abbrev S1536x2 : Shape := ⟨2, ![1536, 2]⟩
abbrev S1536x4096x2 : Shape := ⟨3, ![1536, 4096, 2]⟩
abbrev S1536 : Shape := ⟨1, ![1536]⟩
abbrev S1536x32x128x2 : Shape := ⟨4, ![1536, 32, 128, 2]⟩
abbrev S1536x32x2x128 : Shape := ⟨4, ![1536, 32, 2, 128]⟩
abbrev S1536x64x128 : Shape := ⟨3, ![1536, 64, 128]⟩
abbrev S2x1536 : Shape := ⟨2, ![2, 1536]⟩
abbrev S1x1536 : Shape := ⟨2, ![1, 1536]⟩
abbrev S512x8x128 : Shape := ⟨3, ![512, 8, 128]⟩
abbrev S512x128 : Shape := ⟨2, ![512, 128]⟩
abbrev S2x128 : Shape := ⟨2, ![2, 128]⟩
abbrev S1x128 : Shape := ⟨2, ![1, 128]⟩
abbrev S128x64x128 : Shape := ⟨3, ![128, 64, 128]⟩
abbrev S128x8x128 : Shape := ⟨3, ![128, 8, 128]⟩
abbrev S128x128 : Shape := ⟨2, ![128, 128]⟩
abbrev S8x128x128 : Shape := ⟨3, ![8, 128, 128]⟩
abbrev S8x128 : Shape := ⟨2, ![8, 128]⟩
abbrev S1x1 : Shape := ⟨2, ![1, 1]⟩
abbrev S1x8x128 : Shape := ⟨3, ![1, 8, 128]⟩
abbrev S128x1x128 : Shape := ⟨3, ![128, 1, 128]⟩
abbrev S128 : Shape := ⟨1, ![128]⟩

abbrev nBuf : Space → Nat
  | .hbm => 11
  | .vmem => 9
  | .smem => 2
  | _ => 0

abbrev bufTy : (tb : Table) → Fin (tcTables nBuf tb) → BufTy
  | .hbm, ⟨0, _⟩ => ⟨S1536x2, .i32⟩
  | .hbm, ⟨1, _⟩ => ⟨S1536x4096x2, .i32⟩
  | .hbm, ⟨2, _⟩ => ⟨S1536, .i32⟩
  | .hbm, ⟨3, _⟩ => ⟨S1536x32x128x2, .i32⟩
  | .hbm, ⟨4, _⟩ => ⟨S1536x32x2x128, .i32⟩
  | .hbm, ⟨5, _⟩ => ⟨S1536x64x128, .i32⟩
  | .hbm, ⟨6, _⟩ => ⟨S1536x2, .i32⟩
  | .hbm, ⟨7, _⟩ => ⟨S2x1536, .i32⟩
  | .hbm, ⟨8, _⟩ => ⟨S1x1536, .i32⟩
  | .hbm, ⟨9, _⟩ => ⟨S512x8x128, .i32⟩
  | .hbm, ⟨10, _⟩ => ⟨S512x128, .i32⟩
  | .local _ .vmem, ⟨0, _⟩ => ⟨S1x128, .i32⟩
  | .local _ .vmem, ⟨1, _⟩ => ⟨S1x128, .i32⟩
  | .local _ .vmem, ⟨2, _⟩ => ⟨S128x64x128, .i32⟩
  | .local _ .vmem, ⟨3, _⟩ => ⟨S128x64x128, .i32⟩
  | .local _ .vmem, ⟨4, _⟩ => ⟨S128x8x128, .i32⟩
  | .local _ .vmem, ⟨5, _⟩ => ⟨S128x8x128, .i32⟩
  | .local _ .vmem, ⟨6, _⟩ => ⟨S128x128, .i32⟩
  | .local _ .vmem, ⟨7, _⟩ => ⟨S128x128, .i32⟩
  | .local _ .vmem, ⟨8, _⟩ => ⟨S8x128x128, .i32⟩
  | .local _ .smem, ⟨0, _⟩ => ⟨S2x128, .i32⟩
  | .local _ .smem, ⟨1, _⟩ => ⟨S2x128, .i32⟩
  | _, _ => ⟨S1536x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_4 : BitVec 32 := 0#32
  let c128_i32 : BitVec 32 := 128#32
  let v19 : BitVec 32 := Scalar.addi c0_i32_4 c128_i32
  let c1_i32_5 : BitVec 32 := 1#32
  ⟨c0_i32_4, v19, c1_i32_5⟩
def k0_off1 (k0_t1 : Fin k0_t1_loop.trips) : Fin 2 → Nat :=
  let c0_2623 : Index := 0#32
  let c0_i32_4 : BitVec 32 := 0#32
  let c1_i32_5 : BitVec 32 := 1#32
  let arg7 : BitVec 32 := Scf.iv c0_i32_4 c1_i32_5 k0_t1
  let v6124 : Index := Scalar.indexCast arg7
  ![0, v6124.toNat]
def k0_off2 (k0_t1 : Fin k0_t1_loop.trips) : Fin 2 → Nat :=
  let c1_2624 : Index := 1#32
  let c0_i32_4 : BitVec 32 := 0#32
  let c1_i32_5 : BitVec 32 := 1#32
  let arg7 : BitVec 32 := Scf.iv c0_i32_4 c1_i32_5 k0_t1
  let v6126 : Index := Scalar.indexCast arg7
  ![1, v6126.toNat]
def k0_off3 (k0_t1 : Fin k0_t1_loop.trips) : Fin 3 → Nat :=
  let c0_i32_4 : BitVec 32 := 0#32
  let c1_i32_5 : BitVec 32 := 1#32
  let arg7 : BitVec 32 := Scf.iv c0_i32_4 c1_i32_5 k0_t1
  let v6131 : Index := Scalar.indexCast arg7
  let c0_2625 : Index := 0#32
  let c0_2626 : Index := 0#32
  ![v6131.toNat, 0, 0]
def k0_off4 (k0_t1 : Fin k0_t1_loop.trips) : Fin 3 → Nat :=
  let c0_i32_4 : BitVec 32 := 0#32
  let c1_i32_5 : BitVec 32 := 1#32
  let arg7 : BitVec 32 := Scf.iv c0_i32_4 c1_i32_5 k0_t1
  let v6136 : Index := Scalar.indexCast arg7
  let c16_2627 : Index := 16#32
  let c0_2628 : Index := 0#32
  ![v6136.toNat, 16, 0]
def k0_off5 (k0_t1 : Fin k0_t1_loop.trips) : Fin 3 → Nat :=
  let c0_i32_4 : BitVec 32 := 0#32
  let c1_i32_5 : BitVec 32 := 1#32
  let arg7 : BitVec 32 := Scf.iv c0_i32_4 c1_i32_5 k0_t1
  let v6144 : Index := Scalar.indexCast arg7
  let c32_2630 : Index := 32#32
  let c0_2631 : Index := 0#32
  ![v6144.toNat, 32, 0]
def k0_off6 (k0_t1 : Fin k0_t1_loop.trips) : Fin 3 → Nat :=
  let c0_i32_4 : BitVec 32 := 0#32
  let c1_i32_5 : BitVec 32 := 1#32
  let arg7 : BitVec 32 := Scf.iv c0_i32_4 c1_i32_5 k0_t1
  let v6152 : Index := Scalar.indexCast arg7
  let c48_2633 : Index := 48#32
  let c0_2634 : Index := 0#32
  ![v6152.toNat, 48, 0]
def k0_off7 (k0_t1 : Fin k0_t1_loop.trips) : Fin 3 → Nat :=
  let c0_i32_4 : BitVec 32 := 0#32
  let c1_i32_5 : BitVec 32 := 1#32
  let arg7 : BitVec 32 := Scf.iv c0_i32_4 c1_i32_5 k0_t1
  let v6160 : Index := Scalar.indexCast arg7
  let c8_2636 : Index := 8#32
  let c0_2637 : Index := 0#32
  ![v6160.toNat, 8, 0]
def k0_off8 (k0_t1 : Fin k0_t1_loop.trips) : Fin 3 → Nat :=
  let c0_i32_4 : BitVec 32 := 0#32
  let c1_i32_5 : BitVec 32 := 1#32
  let arg7 : BitVec 32 := Scf.iv c0_i32_4 c1_i32_5 k0_t1
  let v6165 : Index := Scalar.indexCast arg7
  let c24_2638 : Index := 24#32
  let c0_2639 : Index := 0#32
  ![v6165.toNat, 24, 0]
def k0_off9 (k0_t1 : Fin k0_t1_loop.trips) : Fin 3 → Nat :=
  let c0_i32_4 : BitVec 32 := 0#32
  let c1_i32_5 : BitVec 32 := 1#32
  let arg7 : BitVec 32 := Scf.iv c0_i32_4 c1_i32_5 k0_t1
  let v6173 : Index := Scalar.indexCast arg7
  let c40_2641 : Index := 40#32
  let c0_2642 : Index := 0#32
  ![v6173.toNat, 40, 0]
def k0_off10 (k0_t1 : Fin k0_t1_loop.trips) : Fin 3 → Nat :=
  let c0_i32_4 : BitVec 32 := 0#32
  let c1_i32_5 : BitVec 32 := 1#32
  let arg7 : BitVec 32 := Scf.iv c0_i32_4 c1_i32_5 k0_t1
  let v6181 : Index := Scalar.indexCast arg7
  let c56_2644 : Index := 56#32
  let c0_2645 : Index := 0#32
  ![v6181.toNat, 56, 0]
def k0_off11 (k0_t1 : Fin k0_t1_loop.trips) : Fin 3 → Nat :=
  let c0_i32_4 : BitVec 32 := 0#32
  let c1_i32_5 : BitVec 32 := 1#32
  let arg7 : BitVec 32 := Scf.iv c0_i32_4 c1_i32_5 k0_t1
  let v6194 : Index := Scalar.indexCast arg7
  let c0_2649 : Index := 0#32
  let c0_2650 : Index := 0#32
  ![v6194.toNat, 0, 0]
@[reducible] def k0_t2_loop : Scf.Loop 32 :=
  let c0_i32_1019 : BitVec 32 := 0#32
  let c8_i32_1020 : BitVec 32 := 8#32
  let v2376 : BitVec 32 := Scalar.addi c0_i32_1019 c8_i32_1020
  let c1_i32_1021 : BitVec 32 := 1#32
  ⟨c0_i32_1019, v2376, c1_i32_1021⟩
def k0_off12 (k0_t2 : Fin k0_t2_loop.trips) : Fin 3 → Nat :=
  let c0_i32_1019 : BitVec 32 := 0#32
  let c1_i32_1021 : BitVec 32 := 1#32
  let arg7 : BitVec 32 := Scf.iv c0_i32_1019 c1_i32_1021 k0_t2
  let v6124 : Index := Scalar.indexCast arg7
  let c0_2623 : Index := 0#32
  let c0_2624 : Index := 0#32
  ![v6124.toNat, 0, 0]
def k0_off13 (k0_t2 : Fin k0_t2_loop.trips) : Fin 3 → Nat :=
  let c0_i32_1019 : BitVec 32 := 0#32
  let c1_i32_1021 : BitVec 32 := 1#32
  let arg7 : BitVec 32 := Scf.iv c0_i32_1019 c1_i32_1021 k0_t2
  let v6132 : Index := Scalar.indexCast arg7
  let c8_2626 : Index := 8#32
  let c0_2627 : Index := 0#32
  ![v6132.toNat, 8, 0]
def k0_off14 (k0_t2 : Fin k0_t2_loop.trips) : Fin 3 → Nat :=
  let c0_i32_1019 : BitVec 32 := 0#32
  let c1_i32_1021 : BitVec 32 := 1#32
  let arg7 : BitVec 32 := Scf.iv c0_i32_1019 c1_i32_1021 k0_t2
  let v6140 : Index := Scalar.indexCast arg7
  let c16_2629 : Index := 16#32
  let c0_2630 : Index := 0#32
  ![v6140.toNat, 16, 0]
def k0_off15 (k0_t2 : Fin k0_t2_loop.trips) : Fin 3 → Nat :=
  let c0_i32_1019 : BitVec 32 := 0#32
  let c1_i32_1021 : BitVec 32 := 1#32
  let arg7 : BitVec 32 := Scf.iv c0_i32_1019 c1_i32_1021 k0_t2
  let v6148 : Index := Scalar.indexCast arg7
  let c24_2632 : Index := 24#32
  let c0_2633 : Index := 0#32
  ![v6148.toNat, 24, 0]
def k0_off16 (k0_t2 : Fin k0_t2_loop.trips) : Fin 3 → Nat :=
  let c0_i32_1019 : BitVec 32 := 0#32
  let c1_i32_1021 : BitVec 32 := 1#32
  let arg7 : BitVec 32 := Scf.iv c0_i32_1019 c1_i32_1021 k0_t2
  let v6156 : Index := Scalar.indexCast arg7
  let c32_2635 : Index := 32#32
  let c0_2636 : Index := 0#32
  ![v6156.toNat, 32, 0]
def k0_off17 (k0_t2 : Fin k0_t2_loop.trips) : Fin 3 → Nat :=
  let c0_i32_1019 : BitVec 32 := 0#32
  let c1_i32_1021 : BitVec 32 := 1#32
  let arg7 : BitVec 32 := Scf.iv c0_i32_1019 c1_i32_1021 k0_t2
  let v6164 : Index := Scalar.indexCast arg7
  let c40_2638 : Index := 40#32
  let c0_2639 : Index := 0#32
  ![v6164.toNat, 40, 0]
def k0_off18 (k0_t2 : Fin k0_t2_loop.trips) : Fin 3 → Nat :=
  let c0_i32_1019 : BitVec 32 := 0#32
  let c1_i32_1021 : BitVec 32 := 1#32
  let arg7 : BitVec 32 := Scf.iv c0_i32_1019 c1_i32_1021 k0_t2
  let v6172 : Index := Scalar.indexCast arg7
  let c48_2641 : Index := 48#32
  let c0_2642 : Index := 0#32
  ![v6172.toNat, 48, 0]
def k0_off19 (k0_t2 : Fin k0_t2_loop.trips) : Fin 3 → Nat :=
  let c0_i32_1019 : BitVec 32 := 0#32
  let c1_i32_1021 : BitVec 32 := 1#32
  let arg7 : BitVec 32 := Scf.iv c0_i32_1019 c1_i32_1021 k0_t2
  let v6180 : Index := Scalar.indexCast arg7
  let c56_2644 : Index := 56#32
  let c0_2645 : Index := 0#32
  ![v6180.toNat, 56, 0]
def k0_off20 (k0_t2 : Fin k0_t2_loop.trips) : Fin 3 → Nat :=
  let c0_i32_1019 : BitVec 32 := 0#32
  let c1_i32_1021 : BitVec 32 := 1#32
  let arg7 : BitVec 32 := Scf.iv c0_i32_1019 c1_i32_1021 k0_t2
  let v6188 : Index := Scalar.indexCast arg7
  let c64_2647 : Index := 64#32
  let c0_2648 : Index := 0#32
  ![v6188.toNat, 64, 0]
def k0_off21 (k0_t2 : Fin k0_t2_loop.trips) : Fin 3 → Nat :=
  let c0_i32_1019 : BitVec 32 := 0#32
  let c1_i32_1021 : BitVec 32 := 1#32
  let arg7 : BitVec 32 := Scf.iv c0_i32_1019 c1_i32_1021 k0_t2
  let v6196 : Index := Scalar.indexCast arg7
  let c72_2650 : Index := 72#32
  let c0_2651 : Index := 0#32
  ![v6196.toNat, 72, 0]
def k0_off22 (k0_t2 : Fin k0_t2_loop.trips) : Fin 3 → Nat :=
  let c0_i32_1019 : BitVec 32 := 0#32
  let c1_i32_1021 : BitVec 32 := 1#32
  let arg7 : BitVec 32 := Scf.iv c0_i32_1019 c1_i32_1021 k0_t2
  let v6204 : Index := Scalar.indexCast arg7
  let c80_2653 : Index := 80#32
  let c0_2654 : Index := 0#32
  ![v6204.toNat, 80, 0]
def k0_off23 (k0_t2 : Fin k0_t2_loop.trips) : Fin 3 → Nat :=
  let c0_i32_1019 : BitVec 32 := 0#32
  let c1_i32_1021 : BitVec 32 := 1#32
  let arg7 : BitVec 32 := Scf.iv c0_i32_1019 c1_i32_1021 k0_t2
  let v6212 : Index := Scalar.indexCast arg7
  let c88_2656 : Index := 88#32
  let c0_2657 : Index := 0#32
  ![v6212.toNat, 88, 0]
def k0_off24 (k0_t2 : Fin k0_t2_loop.trips) : Fin 3 → Nat :=
  let c0_i32_1019 : BitVec 32 := 0#32
  let c1_i32_1021 : BitVec 32 := 1#32
  let arg7 : BitVec 32 := Scf.iv c0_i32_1019 c1_i32_1021 k0_t2
  let v6220 : Index := Scalar.indexCast arg7
  let c96_2659 : Index := 96#32
  let c0_2660 : Index := 0#32
  ![v6220.toNat, 96, 0]
def k0_off25 (k0_t2 : Fin k0_t2_loop.trips) : Fin 3 → Nat :=
  let c0_i32_1019 : BitVec 32 := 0#32
  let c1_i32_1021 : BitVec 32 := 1#32
  let arg7 : BitVec 32 := Scf.iv c0_i32_1019 c1_i32_1021 k0_t2
  let v6228 : Index := Scalar.indexCast arg7
  let c104_2662 : Index := 104#32
  let c0_2663 : Index := 0#32
  ![v6228.toNat, 104, 0]
def k0_off26 (k0_t2 : Fin k0_t2_loop.trips) : Fin 3 → Nat :=
  let c0_i32_1019 : BitVec 32 := 0#32
  let c1_i32_1021 : BitVec 32 := 1#32
  let arg7 : BitVec 32 := Scf.iv c0_i32_1019 c1_i32_1021 k0_t2
  let v6236 : Index := Scalar.indexCast arg7
  let c112_2665 : Index := 112#32
  let c0_2666 : Index := 0#32
  ![v6236.toNat, 112, 0]
def k0_off27 (k0_t2 : Fin k0_t2_loop.trips) : Fin 3 → Nat :=
  let c0_i32_1019 : BitVec 32 := 0#32
  let c1_i32_1021 : BitVec 32 := 1#32
  let arg7 : BitVec 32 := Scf.iv c0_i32_1019 c1_i32_1021 k0_t2
  let v6244 : Index := Scalar.indexCast arg7
  let c120_2668 : Index := 120#32
  let c0_2669 : Index := 0#32
  ![v6244.toNat, 120, 0]
@[reducible] def k0_t3_loop : Scf.Loop 32 :=
  let c0_i32_1030 : BitVec 32 := 0#32
  let c8_i32_1031 : BitVec 32 := 8#32
  let v2395 : BitVec 32 := Scalar.addi c0_i32_1030 c8_i32_1031
  let c1_i32_1032 : BitVec 32 := 1#32
  ⟨c0_i32_1030, v2395, c1_i32_1032⟩
def k0_off28 (k0_t3 : Fin k0_t3_loop.trips) : Fin 3 → Nat :=
  let c0_i32_1030 : BitVec 32 := 0#32
  let c1_i32_1032 : BitVec 32 := 1#32
  let arg7 : BitVec 32 := Scf.iv c0_i32_1030 c1_i32_1032 k0_t3
  let v6124 : Index := Scalar.indexCast arg7
  let c0_2623 : Index := 0#32
  let c0_2624 : Index := 0#32
  ![v6124.toNat, 0, 0]
def k0_off29 (k0_t3 : Fin k0_t3_loop.trips) : Fin 3 → Nat :=
  let c0_i32_1030 : BitVec 32 := 0#32
  let c1_i32_1032 : BitVec 32 := 1#32
  let arg7 : BitVec 32 := Scf.iv c0_i32_1030 c1_i32_1032 k0_t3
  let v6132 : Index := Scalar.indexCast arg7
  let c8_2626 : Index := 8#32
  let c0_2627 : Index := 0#32
  ![v6132.toNat, 8, 0]
def k0_off30 (k0_t3 : Fin k0_t3_loop.trips) : Fin 3 → Nat :=
  let c0_i32_1030 : BitVec 32 := 0#32
  let c1_i32_1032 : BitVec 32 := 1#32
  let arg7 : BitVec 32 := Scf.iv c0_i32_1030 c1_i32_1032 k0_t3
  let v6140 : Index := Scalar.indexCast arg7
  let c16_2629 : Index := 16#32
  let c0_2630 : Index := 0#32
  ![v6140.toNat, 16, 0]
def k0_off31 (k0_t3 : Fin k0_t3_loop.trips) : Fin 3 → Nat :=
  let c0_i32_1030 : BitVec 32 := 0#32
  let c1_i32_1032 : BitVec 32 := 1#32
  let arg7 : BitVec 32 := Scf.iv c0_i32_1030 c1_i32_1032 k0_t3
  let v6148 : Index := Scalar.indexCast arg7
  let c24_2632 : Index := 24#32
  let c0_2633 : Index := 0#32
  ![v6148.toNat, 24, 0]
def k0_off32 (k0_t3 : Fin k0_t3_loop.trips) : Fin 3 → Nat :=
  let c0_i32_1030 : BitVec 32 := 0#32
  let c1_i32_1032 : BitVec 32 := 1#32
  let arg7 : BitVec 32 := Scf.iv c0_i32_1030 c1_i32_1032 k0_t3
  let v6156 : Index := Scalar.indexCast arg7
  let c32_2635 : Index := 32#32
  let c0_2636 : Index := 0#32
  ![v6156.toNat, 32, 0]
def k0_off33 (k0_t3 : Fin k0_t3_loop.trips) : Fin 3 → Nat :=
  let c0_i32_1030 : BitVec 32 := 0#32
  let c1_i32_1032 : BitVec 32 := 1#32
  let arg7 : BitVec 32 := Scf.iv c0_i32_1030 c1_i32_1032 k0_t3
  let v6164 : Index := Scalar.indexCast arg7
  let c40_2638 : Index := 40#32
  let c0_2639 : Index := 0#32
  ![v6164.toNat, 40, 0]
def k0_off34 (k0_t3 : Fin k0_t3_loop.trips) : Fin 3 → Nat :=
  let c0_i32_1030 : BitVec 32 := 0#32
  let c1_i32_1032 : BitVec 32 := 1#32
  let arg7 : BitVec 32 := Scf.iv c0_i32_1030 c1_i32_1032 k0_t3
  let v6172 : Index := Scalar.indexCast arg7
  let c48_2641 : Index := 48#32
  let c0_2642 : Index := 0#32
  ![v6172.toNat, 48, 0]
def k0_off35 (k0_t3 : Fin k0_t3_loop.trips) : Fin 3 → Nat :=
  let c0_i32_1030 : BitVec 32 := 0#32
  let c1_i32_1032 : BitVec 32 := 1#32
  let arg7 : BitVec 32 := Scf.iv c0_i32_1030 c1_i32_1032 k0_t3
  let v6180 : Index := Scalar.indexCast arg7
  let c56_2644 : Index := 56#32
  let c0_2645 : Index := 0#32
  ![v6180.toNat, 56, 0]
def k0_off36 (k0_t3 : Fin k0_t3_loop.trips) : Fin 3 → Nat :=
  let c0_i32_1030 : BitVec 32 := 0#32
  let c1_i32_1032 : BitVec 32 := 1#32
  let arg7 : BitVec 32 := Scf.iv c0_i32_1030 c1_i32_1032 k0_t3
  let v6188 : Index := Scalar.indexCast arg7
  let c64_2647 : Index := 64#32
  let c0_2648 : Index := 0#32
  ![v6188.toNat, 64, 0]
def k0_off37 (k0_t3 : Fin k0_t3_loop.trips) : Fin 3 → Nat :=
  let c0_i32_1030 : BitVec 32 := 0#32
  let c1_i32_1032 : BitVec 32 := 1#32
  let arg7 : BitVec 32 := Scf.iv c0_i32_1030 c1_i32_1032 k0_t3
  let v6196 : Index := Scalar.indexCast arg7
  let c72_2650 : Index := 72#32
  let c0_2651 : Index := 0#32
  ![v6196.toNat, 72, 0]
def k0_off38 (k0_t3 : Fin k0_t3_loop.trips) : Fin 3 → Nat :=
  let c0_i32_1030 : BitVec 32 := 0#32
  let c1_i32_1032 : BitVec 32 := 1#32
  let arg7 : BitVec 32 := Scf.iv c0_i32_1030 c1_i32_1032 k0_t3
  let v6204 : Index := Scalar.indexCast arg7
  let c80_2653 : Index := 80#32
  let c0_2654 : Index := 0#32
  ![v6204.toNat, 80, 0]
def k0_off39 (k0_t3 : Fin k0_t3_loop.trips) : Fin 3 → Nat :=
  let c0_i32_1030 : BitVec 32 := 0#32
  let c1_i32_1032 : BitVec 32 := 1#32
  let arg7 : BitVec 32 := Scf.iv c0_i32_1030 c1_i32_1032 k0_t3
  let v6212 : Index := Scalar.indexCast arg7
  let c88_2656 : Index := 88#32
  let c0_2657 : Index := 0#32
  ![v6212.toNat, 88, 0]
def k0_off40 (k0_t3 : Fin k0_t3_loop.trips) : Fin 3 → Nat :=
  let c0_i32_1030 : BitVec 32 := 0#32
  let c1_i32_1032 : BitVec 32 := 1#32
  let arg7 : BitVec 32 := Scf.iv c0_i32_1030 c1_i32_1032 k0_t3
  let v6220 : Index := Scalar.indexCast arg7
  let c96_2659 : Index := 96#32
  let c0_2660 : Index := 0#32
  ![v6220.toNat, 96, 0]
def k0_off41 (k0_t3 : Fin k0_t3_loop.trips) : Fin 3 → Nat :=
  let c0_i32_1030 : BitVec 32 := 0#32
  let c1_i32_1032 : BitVec 32 := 1#32
  let arg7 : BitVec 32 := Scf.iv c0_i32_1030 c1_i32_1032 k0_t3
  let v6228 : Index := Scalar.indexCast arg7
  let c104_2662 : Index := 104#32
  let c0_2663 : Index := 0#32
  ![v6228.toNat, 104, 0]
def k0_off42 (k0_t3 : Fin k0_t3_loop.trips) : Fin 3 → Nat :=
  let c0_i32_1030 : BitVec 32 := 0#32
  let c1_i32_1032 : BitVec 32 := 1#32
  let arg7 : BitVec 32 := Scf.iv c0_i32_1030 c1_i32_1032 k0_t3
  let v6236 : Index := Scalar.indexCast arg7
  let c112_2665 : Index := 112#32
  let c0_2666 : Index := 0#32
  ![v6236.toNat, 112, 0]
def k0_off43 (k0_t3 : Fin k0_t3_loop.trips) : Fin 3 → Nat :=
  let c0_i32_1030 : BitVec 32 := 0#32
  let c1_i32_1032 : BitVec 32 := 1#32
  let arg7 : BitVec 32 := Scf.iv c0_i32_1030 c1_i32_1032 k0_t3
  let v6244 : Index := Scalar.indexCast arg7
  let c120_2668 : Index := 120#32
  let c0_2669 : Index := 0#32
  ![v6244.toNat, 120, 0]
@[reducible] def k0_t4_loop : Scf.Loop 32 :=
  let c0_i32_1041 : BitVec 32 := 0#32
  let c8_i32_1042 : BitVec 32 := 8#32
  let v2414 : BitVec 32 := Scalar.addi c0_i32_1041 c8_i32_1042
  let c1_i32_1043 : BitVec 32 := 1#32
  ⟨c0_i32_1041, v2414, c1_i32_1043⟩
def k0_off44 (k0_t4 : Fin k0_t4_loop.trips) : Fin 3 → Nat :=
  let c0_i32_1041 : BitVec 32 := 0#32
  let c1_i32_1043 : BitVec 32 := 1#32
  let arg7 : BitVec 32 := Scf.iv c0_i32_1041 c1_i32_1043 k0_t4
  let v6124 : Index := Scalar.indexCast arg7
  let c0_2623 : Index := 0#32
  let c0_2624 : Index := 0#32
  ![v6124.toNat, 0, 0]
def k0_off45 (k0_t4 : Fin k0_t4_loop.trips) : Fin 3 → Nat :=
  let c0_i32_1041 : BitVec 32 := 0#32
  let c1_i32_1043 : BitVec 32 := 1#32
  let arg7 : BitVec 32 := Scf.iv c0_i32_1041 c1_i32_1043 k0_t4
  let v6132 : Index := Scalar.indexCast arg7
  let c8_2626 : Index := 8#32
  let c0_2627 : Index := 0#32
  ![v6132.toNat, 8, 0]
def k0_off46 (k0_t4 : Fin k0_t4_loop.trips) : Fin 3 → Nat :=
  let c0_i32_1041 : BitVec 32 := 0#32
  let c1_i32_1043 : BitVec 32 := 1#32
  let arg7 : BitVec 32 := Scf.iv c0_i32_1041 c1_i32_1043 k0_t4
  let v6140 : Index := Scalar.indexCast arg7
  let c16_2629 : Index := 16#32
  let c0_2630 : Index := 0#32
  ![v6140.toNat, 16, 0]
def k0_off47 (k0_t4 : Fin k0_t4_loop.trips) : Fin 3 → Nat :=
  let c0_i32_1041 : BitVec 32 := 0#32
  let c1_i32_1043 : BitVec 32 := 1#32
  let arg7 : BitVec 32 := Scf.iv c0_i32_1041 c1_i32_1043 k0_t4
  let v6148 : Index := Scalar.indexCast arg7
  let c24_2632 : Index := 24#32
  let c0_2633 : Index := 0#32
  ![v6148.toNat, 24, 0]
def k0_off48 (k0_t4 : Fin k0_t4_loop.trips) : Fin 3 → Nat :=
  let c0_i32_1041 : BitVec 32 := 0#32
  let c1_i32_1043 : BitVec 32 := 1#32
  let arg7 : BitVec 32 := Scf.iv c0_i32_1041 c1_i32_1043 k0_t4
  let v6156 : Index := Scalar.indexCast arg7
  let c32_2635 : Index := 32#32
  let c0_2636 : Index := 0#32
  ![v6156.toNat, 32, 0]
def k0_off49 (k0_t4 : Fin k0_t4_loop.trips) : Fin 3 → Nat :=
  let c0_i32_1041 : BitVec 32 := 0#32
  let c1_i32_1043 : BitVec 32 := 1#32
  let arg7 : BitVec 32 := Scf.iv c0_i32_1041 c1_i32_1043 k0_t4
  let v6164 : Index := Scalar.indexCast arg7
  let c40_2638 : Index := 40#32
  let c0_2639 : Index := 0#32
  ![v6164.toNat, 40, 0]
def k0_off50 (k0_t4 : Fin k0_t4_loop.trips) : Fin 3 → Nat :=
  let c0_i32_1041 : BitVec 32 := 0#32
  let c1_i32_1043 : BitVec 32 := 1#32
  let arg7 : BitVec 32 := Scf.iv c0_i32_1041 c1_i32_1043 k0_t4
  let v6172 : Index := Scalar.indexCast arg7
  let c48_2641 : Index := 48#32
  let c0_2642 : Index := 0#32
  ![v6172.toNat, 48, 0]
def k0_off51 (k0_t4 : Fin k0_t4_loop.trips) : Fin 3 → Nat :=
  let c0_i32_1041 : BitVec 32 := 0#32
  let c1_i32_1043 : BitVec 32 := 1#32
  let arg7 : BitVec 32 := Scf.iv c0_i32_1041 c1_i32_1043 k0_t4
  let v6180 : Index := Scalar.indexCast arg7
  let c56_2644 : Index := 56#32
  let c0_2645 : Index := 0#32
  ![v6180.toNat, 56, 0]
def k0_off52 (k0_t4 : Fin k0_t4_loop.trips) : Fin 3 → Nat :=
  let c0_i32_1041 : BitVec 32 := 0#32
  let c1_i32_1043 : BitVec 32 := 1#32
  let arg7 : BitVec 32 := Scf.iv c0_i32_1041 c1_i32_1043 k0_t4
  let v6188 : Index := Scalar.indexCast arg7
  let c64_2647 : Index := 64#32
  let c0_2648 : Index := 0#32
  ![v6188.toNat, 64, 0]
def k0_off53 (k0_t4 : Fin k0_t4_loop.trips) : Fin 3 → Nat :=
  let c0_i32_1041 : BitVec 32 := 0#32
  let c1_i32_1043 : BitVec 32 := 1#32
  let arg7 : BitVec 32 := Scf.iv c0_i32_1041 c1_i32_1043 k0_t4
  let v6196 : Index := Scalar.indexCast arg7
  let c72_2650 : Index := 72#32
  let c0_2651 : Index := 0#32
  ![v6196.toNat, 72, 0]
def k0_off54 (k0_t4 : Fin k0_t4_loop.trips) : Fin 3 → Nat :=
  let c0_i32_1041 : BitVec 32 := 0#32
  let c1_i32_1043 : BitVec 32 := 1#32
  let arg7 : BitVec 32 := Scf.iv c0_i32_1041 c1_i32_1043 k0_t4
  let v6204 : Index := Scalar.indexCast arg7
  let c80_2653 : Index := 80#32
  let c0_2654 : Index := 0#32
  ![v6204.toNat, 80, 0]
def k0_off55 (k0_t4 : Fin k0_t4_loop.trips) : Fin 3 → Nat :=
  let c0_i32_1041 : BitVec 32 := 0#32
  let c1_i32_1043 : BitVec 32 := 1#32
  let arg7 : BitVec 32 := Scf.iv c0_i32_1041 c1_i32_1043 k0_t4
  let v6212 : Index := Scalar.indexCast arg7
  let c88_2656 : Index := 88#32
  let c0_2657 : Index := 0#32
  ![v6212.toNat, 88, 0]
def k0_off56 (k0_t4 : Fin k0_t4_loop.trips) : Fin 3 → Nat :=
  let c0_i32_1041 : BitVec 32 := 0#32
  let c1_i32_1043 : BitVec 32 := 1#32
  let arg7 : BitVec 32 := Scf.iv c0_i32_1041 c1_i32_1043 k0_t4
  let v6220 : Index := Scalar.indexCast arg7
  let c96_2659 : Index := 96#32
  let c0_2660 : Index := 0#32
  ![v6220.toNat, 96, 0]
def k0_off57 (k0_t4 : Fin k0_t4_loop.trips) : Fin 3 → Nat :=
  let c0_i32_1041 : BitVec 32 := 0#32
  let c1_i32_1043 : BitVec 32 := 1#32
  let arg7 : BitVec 32 := Scf.iv c0_i32_1041 c1_i32_1043 k0_t4
  let v6228 : Index := Scalar.indexCast arg7
  let c104_2662 : Index := 104#32
  let c0_2663 : Index := 0#32
  ![v6228.toNat, 104, 0]
def k0_off58 (k0_t4 : Fin k0_t4_loop.trips) : Fin 3 → Nat :=
  let c0_i32_1041 : BitVec 32 := 0#32
  let c1_i32_1043 : BitVec 32 := 1#32
  let arg7 : BitVec 32 := Scf.iv c0_i32_1041 c1_i32_1043 k0_t4
  let v6236 : Index := Scalar.indexCast arg7
  let c112_2665 : Index := 112#32
  let c0_2666 : Index := 0#32
  ![v6236.toNat, 112, 0]
def k0_off59 (k0_t4 : Fin k0_t4_loop.trips) : Fin 3 → Nat :=
  let c0_i32_1041 : BitVec 32 := 0#32
  let c1_i32_1043 : BitVec 32 := 1#32
  let arg7 : BitVec 32 := Scf.iv c0_i32_1041 c1_i32_1043 k0_t4
  let v6244 : Index := Scalar.indexCast arg7
  let c120_2668 : Index := 120#32
  let c0_2669 : Index := 0#32
  ![v6244.toNat, 120, 0]
@[reducible] def k0_t5_loop : Scf.Loop 32 :=
  let c0_i32_1052 : BitVec 32 := 0#32
  let c8_i32_1053 : BitVec 32 := 8#32
  let v2433 : BitVec 32 := Scalar.addi c0_i32_1052 c8_i32_1053
  let c1_i32_1054 : BitVec 32 := 1#32
  ⟨c0_i32_1052, v2433, c1_i32_1054⟩
def k0_off60 (k0_t5 : Fin k0_t5_loop.trips) : Fin 3 → Nat :=
  let c0_i32_1052 : BitVec 32 := 0#32
  let c1_i32_1054 : BitVec 32 := 1#32
  let arg7 : BitVec 32 := Scf.iv c0_i32_1052 c1_i32_1054 k0_t5
  let v6124 : Index := Scalar.indexCast arg7
  let c0_2623 : Index := 0#32
  let c0_2624 : Index := 0#32
  ![v6124.toNat, 0, 0]
def k0_off61 (k0_t5 : Fin k0_t5_loop.trips) : Fin 3 → Nat :=
  let c0_i32_1052 : BitVec 32 := 0#32
  let c1_i32_1054 : BitVec 32 := 1#32
  let arg7 : BitVec 32 := Scf.iv c0_i32_1052 c1_i32_1054 k0_t5
  let v6132 : Index := Scalar.indexCast arg7
  let c8_2626 : Index := 8#32
  let c0_2627 : Index := 0#32
  ![v6132.toNat, 8, 0]
def k0_off62 (k0_t5 : Fin k0_t5_loop.trips) : Fin 3 → Nat :=
  let c0_i32_1052 : BitVec 32 := 0#32
  let c1_i32_1054 : BitVec 32 := 1#32
  let arg7 : BitVec 32 := Scf.iv c0_i32_1052 c1_i32_1054 k0_t5
  let v6140 : Index := Scalar.indexCast arg7
  let c16_2629 : Index := 16#32
  let c0_2630 : Index := 0#32
  ![v6140.toNat, 16, 0]
def k0_off63 (k0_t5 : Fin k0_t5_loop.trips) : Fin 3 → Nat :=
  let c0_i32_1052 : BitVec 32 := 0#32
  let c1_i32_1054 : BitVec 32 := 1#32
  let arg7 : BitVec 32 := Scf.iv c0_i32_1052 c1_i32_1054 k0_t5
  let v6148 : Index := Scalar.indexCast arg7
  let c24_2632 : Index := 24#32
  let c0_2633 : Index := 0#32
  ![v6148.toNat, 24, 0]
def k0_off64 (k0_t5 : Fin k0_t5_loop.trips) : Fin 3 → Nat :=
  let c0_i32_1052 : BitVec 32 := 0#32
  let c1_i32_1054 : BitVec 32 := 1#32
  let arg7 : BitVec 32 := Scf.iv c0_i32_1052 c1_i32_1054 k0_t5
  let v6156 : Index := Scalar.indexCast arg7
  let c32_2635 : Index := 32#32
  let c0_2636 : Index := 0#32
  ![v6156.toNat, 32, 0]
def k0_off65 (k0_t5 : Fin k0_t5_loop.trips) : Fin 3 → Nat :=
  let c0_i32_1052 : BitVec 32 := 0#32
  let c1_i32_1054 : BitVec 32 := 1#32
  let arg7 : BitVec 32 := Scf.iv c0_i32_1052 c1_i32_1054 k0_t5
  let v6164 : Index := Scalar.indexCast arg7
  let c40_2638 : Index := 40#32
  let c0_2639 : Index := 0#32
  ![v6164.toNat, 40, 0]
def k0_off66 (k0_t5 : Fin k0_t5_loop.trips) : Fin 3 → Nat :=
  let c0_i32_1052 : BitVec 32 := 0#32
  let c1_i32_1054 : BitVec 32 := 1#32
  let arg7 : BitVec 32 := Scf.iv c0_i32_1052 c1_i32_1054 k0_t5
  let v6172 : Index := Scalar.indexCast arg7
  let c48_2641 : Index := 48#32
  let c0_2642 : Index := 0#32
  ![v6172.toNat, 48, 0]
def k0_off67 (k0_t5 : Fin k0_t5_loop.trips) : Fin 3 → Nat :=
  let c0_i32_1052 : BitVec 32 := 0#32
  let c1_i32_1054 : BitVec 32 := 1#32
  let arg7 : BitVec 32 := Scf.iv c0_i32_1052 c1_i32_1054 k0_t5
  let v6180 : Index := Scalar.indexCast arg7
  let c56_2644 : Index := 56#32
  let c0_2645 : Index := 0#32
  ![v6180.toNat, 56, 0]
def k0_off68 (k0_t5 : Fin k0_t5_loop.trips) : Fin 3 → Nat :=
  let c0_i32_1052 : BitVec 32 := 0#32
  let c1_i32_1054 : BitVec 32 := 1#32
  let arg7 : BitVec 32 := Scf.iv c0_i32_1052 c1_i32_1054 k0_t5
  let v6188 : Index := Scalar.indexCast arg7
  let c64_2647 : Index := 64#32
  let c0_2648 : Index := 0#32
  ![v6188.toNat, 64, 0]
def k0_off69 (k0_t5 : Fin k0_t5_loop.trips) : Fin 3 → Nat :=
  let c0_i32_1052 : BitVec 32 := 0#32
  let c1_i32_1054 : BitVec 32 := 1#32
  let arg7 : BitVec 32 := Scf.iv c0_i32_1052 c1_i32_1054 k0_t5
  let v6196 : Index := Scalar.indexCast arg7
  let c72_2650 : Index := 72#32
  let c0_2651 : Index := 0#32
  ![v6196.toNat, 72, 0]
def k0_off70 (k0_t5 : Fin k0_t5_loop.trips) : Fin 3 → Nat :=
  let c0_i32_1052 : BitVec 32 := 0#32
  let c1_i32_1054 : BitVec 32 := 1#32
  let arg7 : BitVec 32 := Scf.iv c0_i32_1052 c1_i32_1054 k0_t5
  let v6204 : Index := Scalar.indexCast arg7
  let c80_2653 : Index := 80#32
  let c0_2654 : Index := 0#32
  ![v6204.toNat, 80, 0]
def k0_off71 (k0_t5 : Fin k0_t5_loop.trips) : Fin 3 → Nat :=
  let c0_i32_1052 : BitVec 32 := 0#32
  let c1_i32_1054 : BitVec 32 := 1#32
  let arg7 : BitVec 32 := Scf.iv c0_i32_1052 c1_i32_1054 k0_t5
  let v6212 : Index := Scalar.indexCast arg7
  let c88_2656 : Index := 88#32
  let c0_2657 : Index := 0#32
  ![v6212.toNat, 88, 0]
def k0_off72 (k0_t5 : Fin k0_t5_loop.trips) : Fin 3 → Nat :=
  let c0_i32_1052 : BitVec 32 := 0#32
  let c1_i32_1054 : BitVec 32 := 1#32
  let arg7 : BitVec 32 := Scf.iv c0_i32_1052 c1_i32_1054 k0_t5
  let v6220 : Index := Scalar.indexCast arg7
  let c96_2659 : Index := 96#32
  let c0_2660 : Index := 0#32
  ![v6220.toNat, 96, 0]
def k0_off73 (k0_t5 : Fin k0_t5_loop.trips) : Fin 3 → Nat :=
  let c0_i32_1052 : BitVec 32 := 0#32
  let c1_i32_1054 : BitVec 32 := 1#32
  let arg7 : BitVec 32 := Scf.iv c0_i32_1052 c1_i32_1054 k0_t5
  let v6228 : Index := Scalar.indexCast arg7
  let c104_2662 : Index := 104#32
  let c0_2663 : Index := 0#32
  ![v6228.toNat, 104, 0]
def k0_off74 (k0_t5 : Fin k0_t5_loop.trips) : Fin 3 → Nat :=
  let c0_i32_1052 : BitVec 32 := 0#32
  let c1_i32_1054 : BitVec 32 := 1#32
  let arg7 : BitVec 32 := Scf.iv c0_i32_1052 c1_i32_1054 k0_t5
  let v6236 : Index := Scalar.indexCast arg7
  let c112_2665 : Index := 112#32
  let c0_2666 : Index := 0#32
  ![v6236.toNat, 112, 0]
def k0_off75 (k0_t5 : Fin k0_t5_loop.trips) : Fin 3 → Nat :=
  let c0_i32_1052 : BitVec 32 := 0#32
  let c1_i32_1054 : BitVec 32 := 1#32
  let arg7 : BitVec 32 := Scf.iv c0_i32_1052 c1_i32_1054 k0_t5
  let v6244 : Index := Scalar.indexCast arg7
  let c120_2668 : Index := 120#32
  let c0_2669 : Index := 0#32
  ![v6244.toNat, 120, 0]
@[reducible] def k0_t6_loop : Scf.Loop 32 :=
  let c0_i32_1062 : BitVec 32 := 0#32
  let c8_i32_1063 : BitVec 32 := 8#32
  let v2452 : BitVec 32 := Scalar.addi c0_i32_1062 c8_i32_1063
  let c1_i32_1064 : BitVec 32 := 1#32
  ⟨c0_i32_1062, v2452, c1_i32_1064⟩
def k0_off76 (k0_t6 : Fin k0_t6_loop.trips) : Fin 3 → Nat :=
  let c0_i32_1062 : BitVec 32 := 0#32
  let c1_i32_1064 : BitVec 32 := 1#32
  let arg7 : BitVec 32 := Scf.iv c0_i32_1062 c1_i32_1064 k0_t6
  let v6124 : Index := Scalar.indexCast arg7
  let c0_2623 : Index := 0#32
  let c0_2624 : Index := 0#32
  ![v6124.toNat, 0, 0]
def k0_off77 (k0_t6 : Fin k0_t6_loop.trips) : Fin 3 → Nat :=
  let c0_i32_1062 : BitVec 32 := 0#32
  let c1_i32_1064 : BitVec 32 := 1#32
  let arg7 : BitVec 32 := Scf.iv c0_i32_1062 c1_i32_1064 k0_t6
  let v6132 : Index := Scalar.indexCast arg7
  let c8_2626 : Index := 8#32
  let c0_2627 : Index := 0#32
  ![v6132.toNat, 8, 0]
def k0_off78 (k0_t6 : Fin k0_t6_loop.trips) : Fin 3 → Nat :=
  let c0_i32_1062 : BitVec 32 := 0#32
  let c1_i32_1064 : BitVec 32 := 1#32
  let arg7 : BitVec 32 := Scf.iv c0_i32_1062 c1_i32_1064 k0_t6
  let v6140 : Index := Scalar.indexCast arg7
  let c16_2629 : Index := 16#32
  let c0_2630 : Index := 0#32
  ![v6140.toNat, 16, 0]
def k0_off79 (k0_t6 : Fin k0_t6_loop.trips) : Fin 3 → Nat :=
  let c0_i32_1062 : BitVec 32 := 0#32
  let c1_i32_1064 : BitVec 32 := 1#32
  let arg7 : BitVec 32 := Scf.iv c0_i32_1062 c1_i32_1064 k0_t6
  let v6148 : Index := Scalar.indexCast arg7
  let c24_2632 : Index := 24#32
  let c0_2633 : Index := 0#32
  ![v6148.toNat, 24, 0]
def k0_off80 (k0_t6 : Fin k0_t6_loop.trips) : Fin 3 → Nat :=
  let c0_i32_1062 : BitVec 32 := 0#32
  let c1_i32_1064 : BitVec 32 := 1#32
  let arg7 : BitVec 32 := Scf.iv c0_i32_1062 c1_i32_1064 k0_t6
  let v6156 : Index := Scalar.indexCast arg7
  let c32_2635 : Index := 32#32
  let c0_2636 : Index := 0#32
  ![v6156.toNat, 32, 0]
def k0_off81 (k0_t6 : Fin k0_t6_loop.trips) : Fin 3 → Nat :=
  let c0_i32_1062 : BitVec 32 := 0#32
  let c1_i32_1064 : BitVec 32 := 1#32
  let arg7 : BitVec 32 := Scf.iv c0_i32_1062 c1_i32_1064 k0_t6
  let v6164 : Index := Scalar.indexCast arg7
  let c40_2638 : Index := 40#32
  let c0_2639 : Index := 0#32
  ![v6164.toNat, 40, 0]
def k0_off82 (k0_t6 : Fin k0_t6_loop.trips) : Fin 3 → Nat :=
  let c0_i32_1062 : BitVec 32 := 0#32
  let c1_i32_1064 : BitVec 32 := 1#32
  let arg7 : BitVec 32 := Scf.iv c0_i32_1062 c1_i32_1064 k0_t6
  let v6172 : Index := Scalar.indexCast arg7
  let c48_2641 : Index := 48#32
  let c0_2642 : Index := 0#32
  ![v6172.toNat, 48, 0]
def k0_off83 (k0_t6 : Fin k0_t6_loop.trips) : Fin 3 → Nat :=
  let c0_i32_1062 : BitVec 32 := 0#32
  let c1_i32_1064 : BitVec 32 := 1#32
  let arg7 : BitVec 32 := Scf.iv c0_i32_1062 c1_i32_1064 k0_t6
  let v6180 : Index := Scalar.indexCast arg7
  let c56_2644 : Index := 56#32
  let c0_2645 : Index := 0#32
  ![v6180.toNat, 56, 0]
def k0_off84 (k0_t6 : Fin k0_t6_loop.trips) : Fin 3 → Nat :=
  let c0_i32_1062 : BitVec 32 := 0#32
  let c1_i32_1064 : BitVec 32 := 1#32
  let arg7 : BitVec 32 := Scf.iv c0_i32_1062 c1_i32_1064 k0_t6
  let v6188 : Index := Scalar.indexCast arg7
  let c64_2647 : Index := 64#32
  let c0_2648 : Index := 0#32
  ![v6188.toNat, 64, 0]
def k0_off85 (k0_t6 : Fin k0_t6_loop.trips) : Fin 3 → Nat :=
  let c0_i32_1062 : BitVec 32 := 0#32
  let c1_i32_1064 : BitVec 32 := 1#32
  let arg7 : BitVec 32 := Scf.iv c0_i32_1062 c1_i32_1064 k0_t6
  let v6196 : Index := Scalar.indexCast arg7
  let c72_2650 : Index := 72#32
  let c0_2651 : Index := 0#32
  ![v6196.toNat, 72, 0]
def k0_off86 (k0_t6 : Fin k0_t6_loop.trips) : Fin 3 → Nat :=
  let c0_i32_1062 : BitVec 32 := 0#32
  let c1_i32_1064 : BitVec 32 := 1#32
  let arg7 : BitVec 32 := Scf.iv c0_i32_1062 c1_i32_1064 k0_t6
  let v6204 : Index := Scalar.indexCast arg7
  let c80_2653 : Index := 80#32
  let c0_2654 : Index := 0#32
  ![v6204.toNat, 80, 0]
def k0_off87 (k0_t6 : Fin k0_t6_loop.trips) : Fin 3 → Nat :=
  let c0_i32_1062 : BitVec 32 := 0#32
  let c1_i32_1064 : BitVec 32 := 1#32
  let arg7 : BitVec 32 := Scf.iv c0_i32_1062 c1_i32_1064 k0_t6
  let v6212 : Index := Scalar.indexCast arg7
  let c88_2656 : Index := 88#32
  let c0_2657 : Index := 0#32
  ![v6212.toNat, 88, 0]
def k0_off88 (k0_t6 : Fin k0_t6_loop.trips) : Fin 3 → Nat :=
  let c0_i32_1062 : BitVec 32 := 0#32
  let c1_i32_1064 : BitVec 32 := 1#32
  let arg7 : BitVec 32 := Scf.iv c0_i32_1062 c1_i32_1064 k0_t6
  let v6220 : Index := Scalar.indexCast arg7
  let c96_2659 : Index := 96#32
  let c0_2660 : Index := 0#32
  ![v6220.toNat, 96, 0]
def k0_off89 (k0_t6 : Fin k0_t6_loop.trips) : Fin 3 → Nat :=
  let c0_i32_1062 : BitVec 32 := 0#32
  let c1_i32_1064 : BitVec 32 := 1#32
  let arg7 : BitVec 32 := Scf.iv c0_i32_1062 c1_i32_1064 k0_t6
  let v6228 : Index := Scalar.indexCast arg7
  let c104_2662 : Index := 104#32
  let c0_2663 : Index := 0#32
  ![v6228.toNat, 104, 0]
def k0_off90 (k0_t6 : Fin k0_t6_loop.trips) : Fin 3 → Nat :=
  let c0_i32_1062 : BitVec 32 := 0#32
  let c1_i32_1064 : BitVec 32 := 1#32
  let arg7 : BitVec 32 := Scf.iv c0_i32_1062 c1_i32_1064 k0_t6
  let v6236 : Index := Scalar.indexCast arg7
  let c112_2665 : Index := 112#32
  let c0_2666 : Index := 0#32
  ![v6236.toNat, 112, 0]
def k0_off91 (k0_t6 : Fin k0_t6_loop.trips) : Fin 3 → Nat :=
  let c0_i32_1062 : BitVec 32 := 0#32
  let c1_i32_1064 : BitVec 32 := 1#32
  let arg7 : BitVec 32 := Scf.iv c0_i32_1062 c1_i32_1064 k0_t6
  let v6244 : Index := Scalar.indexCast arg7
  let c120_2668 : Index := 120#32
  let c0_2669 : Index := 0#32
  ![v6244.toNat, 120, 0]
@[reducible] def k0_t7_loop : Scf.Loop 32 :=
  let c0_i32_1073 : BitVec 32 := 0#32
  let c8_i32_1074 : BitVec 32 := 8#32
  let v2471 : BitVec 32 := Scalar.addi c0_i32_1073 c8_i32_1074
  let c1_i32_1075 : BitVec 32 := 1#32
  ⟨c0_i32_1073, v2471, c1_i32_1075⟩
def k0_off92 (k0_t7 : Fin k0_t7_loop.trips) : Fin 3 → Nat :=
  let c0_i32_1073 : BitVec 32 := 0#32
  let c1_i32_1075 : BitVec 32 := 1#32
  let arg7 : BitVec 32 := Scf.iv c0_i32_1073 c1_i32_1075 k0_t7
  let v6124 : Index := Scalar.indexCast arg7
  let c0_2623 : Index := 0#32
  let c0_2624 : Index := 0#32
  ![v6124.toNat, 0, 0]
def k0_off93 (k0_t7 : Fin k0_t7_loop.trips) : Fin 3 → Nat :=
  let c0_i32_1073 : BitVec 32 := 0#32
  let c1_i32_1075 : BitVec 32 := 1#32
  let arg7 : BitVec 32 := Scf.iv c0_i32_1073 c1_i32_1075 k0_t7
  let v6132 : Index := Scalar.indexCast arg7
  let c8_2626 : Index := 8#32
  let c0_2627 : Index := 0#32
  ![v6132.toNat, 8, 0]
def k0_off94 (k0_t7 : Fin k0_t7_loop.trips) : Fin 3 → Nat :=
  let c0_i32_1073 : BitVec 32 := 0#32
  let c1_i32_1075 : BitVec 32 := 1#32
  let arg7 : BitVec 32 := Scf.iv c0_i32_1073 c1_i32_1075 k0_t7
  let v6140 : Index := Scalar.indexCast arg7
  let c16_2629 : Index := 16#32
  let c0_2630 : Index := 0#32
  ![v6140.toNat, 16, 0]
def k0_off95 (k0_t7 : Fin k0_t7_loop.trips) : Fin 3 → Nat :=
  let c0_i32_1073 : BitVec 32 := 0#32
  let c1_i32_1075 : BitVec 32 := 1#32
  let arg7 : BitVec 32 := Scf.iv c0_i32_1073 c1_i32_1075 k0_t7
  let v6148 : Index := Scalar.indexCast arg7
  let c24_2632 : Index := 24#32
  let c0_2633 : Index := 0#32
  ![v6148.toNat, 24, 0]
def k0_off96 (k0_t7 : Fin k0_t7_loop.trips) : Fin 3 → Nat :=
  let c0_i32_1073 : BitVec 32 := 0#32
  let c1_i32_1075 : BitVec 32 := 1#32
  let arg7 : BitVec 32 := Scf.iv c0_i32_1073 c1_i32_1075 k0_t7
  let v6156 : Index := Scalar.indexCast arg7
  let c32_2635 : Index := 32#32
  let c0_2636 : Index := 0#32
  ![v6156.toNat, 32, 0]
def k0_off97 (k0_t7 : Fin k0_t7_loop.trips) : Fin 3 → Nat :=
  let c0_i32_1073 : BitVec 32 := 0#32
  let c1_i32_1075 : BitVec 32 := 1#32
  let arg7 : BitVec 32 := Scf.iv c0_i32_1073 c1_i32_1075 k0_t7
  let v6164 : Index := Scalar.indexCast arg7
  let c40_2638 : Index := 40#32
  let c0_2639 : Index := 0#32
  ![v6164.toNat, 40, 0]
def k0_off98 (k0_t7 : Fin k0_t7_loop.trips) : Fin 3 → Nat :=
  let c0_i32_1073 : BitVec 32 := 0#32
  let c1_i32_1075 : BitVec 32 := 1#32
  let arg7 : BitVec 32 := Scf.iv c0_i32_1073 c1_i32_1075 k0_t7
  let v6172 : Index := Scalar.indexCast arg7
  let c48_2641 : Index := 48#32
  let c0_2642 : Index := 0#32
  ![v6172.toNat, 48, 0]
def k0_off99 (k0_t7 : Fin k0_t7_loop.trips) : Fin 3 → Nat :=
  let c0_i32_1073 : BitVec 32 := 0#32
  let c1_i32_1075 : BitVec 32 := 1#32
  let arg7 : BitVec 32 := Scf.iv c0_i32_1073 c1_i32_1075 k0_t7
  let v6180 : Index := Scalar.indexCast arg7
  let c56_2644 : Index := 56#32
  let c0_2645 : Index := 0#32
  ![v6180.toNat, 56, 0]
def k0_off100 (k0_t7 : Fin k0_t7_loop.trips) : Fin 3 → Nat :=
  let c0_i32_1073 : BitVec 32 := 0#32
  let c1_i32_1075 : BitVec 32 := 1#32
  let arg7 : BitVec 32 := Scf.iv c0_i32_1073 c1_i32_1075 k0_t7
  let v6188 : Index := Scalar.indexCast arg7
  let c64_2647 : Index := 64#32
  let c0_2648 : Index := 0#32
  ![v6188.toNat, 64, 0]
def k0_off101 (k0_t7 : Fin k0_t7_loop.trips) : Fin 3 → Nat :=
  let c0_i32_1073 : BitVec 32 := 0#32
  let c1_i32_1075 : BitVec 32 := 1#32
  let arg7 : BitVec 32 := Scf.iv c0_i32_1073 c1_i32_1075 k0_t7
  let v6196 : Index := Scalar.indexCast arg7
  let c72_2650 : Index := 72#32
  let c0_2651 : Index := 0#32
  ![v6196.toNat, 72, 0]
def k0_off102 (k0_t7 : Fin k0_t7_loop.trips) : Fin 3 → Nat :=
  let c0_i32_1073 : BitVec 32 := 0#32
  let c1_i32_1075 : BitVec 32 := 1#32
  let arg7 : BitVec 32 := Scf.iv c0_i32_1073 c1_i32_1075 k0_t7
  let v6204 : Index := Scalar.indexCast arg7
  let c80_2653 : Index := 80#32
  let c0_2654 : Index := 0#32
  ![v6204.toNat, 80, 0]
def k0_off103 (k0_t7 : Fin k0_t7_loop.trips) : Fin 3 → Nat :=
  let c0_i32_1073 : BitVec 32 := 0#32
  let c1_i32_1075 : BitVec 32 := 1#32
  let arg7 : BitVec 32 := Scf.iv c0_i32_1073 c1_i32_1075 k0_t7
  let v6212 : Index := Scalar.indexCast arg7
  let c88_2656 : Index := 88#32
  let c0_2657 : Index := 0#32
  ![v6212.toNat, 88, 0]
def k0_off104 (k0_t7 : Fin k0_t7_loop.trips) : Fin 3 → Nat :=
  let c0_i32_1073 : BitVec 32 := 0#32
  let c1_i32_1075 : BitVec 32 := 1#32
  let arg7 : BitVec 32 := Scf.iv c0_i32_1073 c1_i32_1075 k0_t7
  let v6220 : Index := Scalar.indexCast arg7
  let c96_2659 : Index := 96#32
  let c0_2660 : Index := 0#32
  ![v6220.toNat, 96, 0]
def k0_off105 (k0_t7 : Fin k0_t7_loop.trips) : Fin 3 → Nat :=
  let c0_i32_1073 : BitVec 32 := 0#32
  let c1_i32_1075 : BitVec 32 := 1#32
  let arg7 : BitVec 32 := Scf.iv c0_i32_1073 c1_i32_1075 k0_t7
  let v6228 : Index := Scalar.indexCast arg7
  let c104_2662 : Index := 104#32
  let c0_2663 : Index := 0#32
  ![v6228.toNat, 104, 0]
def k0_off106 (k0_t7 : Fin k0_t7_loop.trips) : Fin 3 → Nat :=
  let c0_i32_1073 : BitVec 32 := 0#32
  let c1_i32_1075 : BitVec 32 := 1#32
  let arg7 : BitVec 32 := Scf.iv c0_i32_1073 c1_i32_1075 k0_t7
  let v6236 : Index := Scalar.indexCast arg7
  let c112_2665 : Index := 112#32
  let c0_2666 : Index := 0#32
  ![v6236.toNat, 112, 0]
def k0_off107 (k0_t7 : Fin k0_t7_loop.trips) : Fin 3 → Nat :=
  let c0_i32_1073 : BitVec 32 := 0#32
  let c1_i32_1075 : BitVec 32 := 1#32
  let arg7 : BitVec 32 := Scf.iv c0_i32_1073 c1_i32_1075 k0_t7
  let v6244 : Index := Scalar.indexCast arg7
  let c120_2668 : Index := 120#32
  let c0_2669 : Index := 0#32
  ![v6244.toNat, 120, 0]
@[reducible] def k0_t8_loop : Scf.Loop 32 :=
  let c0_i32_1084 : BitVec 32 := 0#32
  let c8_i32_1085 : BitVec 32 := 8#32
  let v2490 : BitVec 32 := Scalar.addi c0_i32_1084 c8_i32_1085
  let c1_i32_1086 : BitVec 32 := 1#32
  ⟨c0_i32_1084, v2490, c1_i32_1086⟩
def k0_off108 (k0_t8 : Fin k0_t8_loop.trips) : Fin 3 → Nat :=
  let c0_i32_1084 : BitVec 32 := 0#32
  let c1_i32_1086 : BitVec 32 := 1#32
  let arg7 : BitVec 32 := Scf.iv c0_i32_1084 c1_i32_1086 k0_t8
  let v6124 : Index := Scalar.indexCast arg7
  let c0_2623 : Index := 0#32
  let c0_2624 : Index := 0#32
  ![v6124.toNat, 0, 0]
def k0_off109 (k0_t8 : Fin k0_t8_loop.trips) : Fin 3 → Nat :=
  let c0_i32_1084 : BitVec 32 := 0#32
  let c1_i32_1086 : BitVec 32 := 1#32
  let arg7 : BitVec 32 := Scf.iv c0_i32_1084 c1_i32_1086 k0_t8
  let v6132 : Index := Scalar.indexCast arg7
  let c8_2626 : Index := 8#32
  let c0_2627 : Index := 0#32
  ![v6132.toNat, 8, 0]
def k0_off110 (k0_t8 : Fin k0_t8_loop.trips) : Fin 3 → Nat :=
  let c0_i32_1084 : BitVec 32 := 0#32
  let c1_i32_1086 : BitVec 32 := 1#32
  let arg7 : BitVec 32 := Scf.iv c0_i32_1084 c1_i32_1086 k0_t8
  let v6140 : Index := Scalar.indexCast arg7
  let c16_2629 : Index := 16#32
  let c0_2630 : Index := 0#32
  ![v6140.toNat, 16, 0]
def k0_off111 (k0_t8 : Fin k0_t8_loop.trips) : Fin 3 → Nat :=
  let c0_i32_1084 : BitVec 32 := 0#32
  let c1_i32_1086 : BitVec 32 := 1#32
  let arg7 : BitVec 32 := Scf.iv c0_i32_1084 c1_i32_1086 k0_t8
  let v6148 : Index := Scalar.indexCast arg7
  let c24_2632 : Index := 24#32
  let c0_2633 : Index := 0#32
  ![v6148.toNat, 24, 0]
def k0_off112 (k0_t8 : Fin k0_t8_loop.trips) : Fin 3 → Nat :=
  let c0_i32_1084 : BitVec 32 := 0#32
  let c1_i32_1086 : BitVec 32 := 1#32
  let arg7 : BitVec 32 := Scf.iv c0_i32_1084 c1_i32_1086 k0_t8
  let v6156 : Index := Scalar.indexCast arg7
  let c32_2635 : Index := 32#32
  let c0_2636 : Index := 0#32
  ![v6156.toNat, 32, 0]
def k0_off113 (k0_t8 : Fin k0_t8_loop.trips) : Fin 3 → Nat :=
  let c0_i32_1084 : BitVec 32 := 0#32
  let c1_i32_1086 : BitVec 32 := 1#32
  let arg7 : BitVec 32 := Scf.iv c0_i32_1084 c1_i32_1086 k0_t8
  let v6164 : Index := Scalar.indexCast arg7
  let c40_2638 : Index := 40#32
  let c0_2639 : Index := 0#32
  ![v6164.toNat, 40, 0]
def k0_off114 (k0_t8 : Fin k0_t8_loop.trips) : Fin 3 → Nat :=
  let c0_i32_1084 : BitVec 32 := 0#32
  let c1_i32_1086 : BitVec 32 := 1#32
  let arg7 : BitVec 32 := Scf.iv c0_i32_1084 c1_i32_1086 k0_t8
  let v6172 : Index := Scalar.indexCast arg7
  let c48_2641 : Index := 48#32
  let c0_2642 : Index := 0#32
  ![v6172.toNat, 48, 0]
def k0_off115 (k0_t8 : Fin k0_t8_loop.trips) : Fin 3 → Nat :=
  let c0_i32_1084 : BitVec 32 := 0#32
  let c1_i32_1086 : BitVec 32 := 1#32
  let arg7 : BitVec 32 := Scf.iv c0_i32_1084 c1_i32_1086 k0_t8
  let v6180 : Index := Scalar.indexCast arg7
  let c56_2644 : Index := 56#32
  let c0_2645 : Index := 0#32
  ![v6180.toNat, 56, 0]
def k0_off116 (k0_t8 : Fin k0_t8_loop.trips) : Fin 3 → Nat :=
  let c0_i32_1084 : BitVec 32 := 0#32
  let c1_i32_1086 : BitVec 32 := 1#32
  let arg7 : BitVec 32 := Scf.iv c0_i32_1084 c1_i32_1086 k0_t8
  let v6188 : Index := Scalar.indexCast arg7
  let c64_2647 : Index := 64#32
  let c0_2648 : Index := 0#32
  ![v6188.toNat, 64, 0]
def k0_off117 (k0_t8 : Fin k0_t8_loop.trips) : Fin 3 → Nat :=
  let c0_i32_1084 : BitVec 32 := 0#32
  let c1_i32_1086 : BitVec 32 := 1#32
  let arg7 : BitVec 32 := Scf.iv c0_i32_1084 c1_i32_1086 k0_t8
  let v6196 : Index := Scalar.indexCast arg7
  let c72_2650 : Index := 72#32
  let c0_2651 : Index := 0#32
  ![v6196.toNat, 72, 0]
def k0_off118 (k0_t8 : Fin k0_t8_loop.trips) : Fin 3 → Nat :=
  let c0_i32_1084 : BitVec 32 := 0#32
  let c1_i32_1086 : BitVec 32 := 1#32
  let arg7 : BitVec 32 := Scf.iv c0_i32_1084 c1_i32_1086 k0_t8
  let v6204 : Index := Scalar.indexCast arg7
  let c80_2653 : Index := 80#32
  let c0_2654 : Index := 0#32
  ![v6204.toNat, 80, 0]
def k0_off119 (k0_t8 : Fin k0_t8_loop.trips) : Fin 3 → Nat :=
  let c0_i32_1084 : BitVec 32 := 0#32
  let c1_i32_1086 : BitVec 32 := 1#32
  let arg7 : BitVec 32 := Scf.iv c0_i32_1084 c1_i32_1086 k0_t8
  let v6212 : Index := Scalar.indexCast arg7
  let c88_2656 : Index := 88#32
  let c0_2657 : Index := 0#32
  ![v6212.toNat, 88, 0]
def k0_off120 (k0_t8 : Fin k0_t8_loop.trips) : Fin 3 → Nat :=
  let c0_i32_1084 : BitVec 32 := 0#32
  let c1_i32_1086 : BitVec 32 := 1#32
  let arg7 : BitVec 32 := Scf.iv c0_i32_1084 c1_i32_1086 k0_t8
  let v6220 : Index := Scalar.indexCast arg7
  let c96_2659 : Index := 96#32
  let c0_2660 : Index := 0#32
  ![v6220.toNat, 96, 0]
def k0_off121 (k0_t8 : Fin k0_t8_loop.trips) : Fin 3 → Nat :=
  let c0_i32_1084 : BitVec 32 := 0#32
  let c1_i32_1086 : BitVec 32 := 1#32
  let arg7 : BitVec 32 := Scf.iv c0_i32_1084 c1_i32_1086 k0_t8
  let v6228 : Index := Scalar.indexCast arg7
  let c104_2662 : Index := 104#32
  let c0_2663 : Index := 0#32
  ![v6228.toNat, 104, 0]
def k0_off122 (k0_t8 : Fin k0_t8_loop.trips) : Fin 3 → Nat :=
  let c0_i32_1084 : BitVec 32 := 0#32
  let c1_i32_1086 : BitVec 32 := 1#32
  let arg7 : BitVec 32 := Scf.iv c0_i32_1084 c1_i32_1086 k0_t8
  let v6236 : Index := Scalar.indexCast arg7
  let c112_2665 : Index := 112#32
  let c0_2666 : Index := 0#32
  ![v6236.toNat, 112, 0]
def k0_off123 (k0_t8 : Fin k0_t8_loop.trips) : Fin 3 → Nat :=
  let c0_i32_1084 : BitVec 32 := 0#32
  let c1_i32_1086 : BitVec 32 := 1#32
  let arg7 : BitVec 32 := Scf.iv c0_i32_1084 c1_i32_1086 k0_t8
  let v6244 : Index := Scalar.indexCast arg7
  let c120_2668 : Index := 120#32
  let c0_2669 : Index := 0#32
  ![v6244.toNat, 120, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S2x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x64x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x8x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DistancesIdeal.lean ====
abbrev S1536x2 : Shape := ⟨2, ![1536, 2]⟩
abbrev S1536x4096x2 : Shape := ⟨3, ![1536, 4096, 2]⟩
abbrev S1536 : Shape := ⟨1, ![1536]⟩
abbrev S512x2 : Shape := ⟨2, ![512, 2]⟩
abbrev S2x512 : Shape := ⟨2, ![2, 512]⟩
abbrev S2x512x1x1 : Shape := ⟨4, ![2, 512, 1, 1]⟩
abbrev S2x512x8x128 : Shape := ⟨4, ![2, 512, 8, 128]⟩
abbrev S512x4096x2 : Shape := ⟨3, ![512, 4096, 2]⟩
abbrev S512x4x2x4x128x2 : Shape := ⟨6, ![512, 4, 2, 4, 128, 2]⟩
abbrev S2x4x512x4x2x128 : Shape := ⟨6, ![2, 4, 512, 4, 2, 128]⟩
abbrev S2x4x512x8x128 : Shape := ⟨5, ![2, 4, 512, 8, 128]⟩
abbrev S512x8x128 : Shape := ⟨3, ![512, 8, 128]⟩
abbrev S2x1x512x8x128 : Shape := ⟨5, ![2, 1, 512, 8, 128]⟩
abbrev S4x512x8x128 : Shape := ⟨4, ![4, 512, 8, 128]⟩
abbrev S1x512x8x128 : Shape := ⟨4, ![1, 512, 8, 128]⟩

abbrev nBuf : Space → Nat
  | .hbm => 12
  | .vmem => 3
  | .smem => 0
  | _ => 0

abbrev bufTy : (tb : Table) → Fin (tcTables nBuf tb) → BufTy
  | .hbm, ⟨0, _⟩ => ⟨S1536x2, .i32⟩
  | .hbm, ⟨1, _⟩ => ⟨S1536x4096x2, .i32⟩
  | .hbm, ⟨2, _⟩ => ⟨S1536, .i32⟩
  | .hbm, ⟨3, _⟩ => ⟨S512x2, .i32⟩
  | .hbm, ⟨4, _⟩ => ⟨S2x512, .i32⟩
  | .hbm, ⟨5, _⟩ => ⟨S2x512x1x1, .i32⟩
  | .hbm, ⟨6, _⟩ => ⟨S2x512x8x128, .i32⟩
  | .hbm, ⟨7, _⟩ => ⟨S512x4096x2, .i32⟩
  | .hbm, ⟨8, _⟩ => ⟨S512x4x2x4x128x2, .i32⟩
  | .hbm, ⟨9, _⟩ => ⟨S2x4x512x4x2x128, .i32⟩
  | .hbm, ⟨10, _⟩ => ⟨S2x4x512x8x128, .i32⟩
  | .hbm, ⟨11, _⟩ => ⟨S512x8x128, .i32⟩
  | .local _ .vmem, ⟨0, _⟩ => ⟨S2x512x8x128, .i32⟩
  | .local _ .vmem, ⟨1, _⟩ => ⟨S2x4x512x8x128, .i32⟩
  | .local _ .vmem, ⟨2, _⟩ => ⟨S512x8x128, .i32⟩
  | _, _ => ⟨S1536x2, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2x512x8x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4x512x8x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x8x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== SelectB.lean ====
abbrev S1536x2 : Shape := ⟨2, ![1536, 2]⟩
abbrev S1536x4096x2 : Shape := ⟨3, ![1536, 4096, 2]⟩
abbrev S1536 : Shape := ⟨1, ![1536]⟩
abbrev S1536x32x128x2 : Shape := ⟨4, ![1536, 32, 128, 2]⟩
abbrev S1536x32x2x128 : Shape := ⟨4, ![1536, 32, 2, 128]⟩
abbrev S1536x64x128 : Shape := ⟨3, ![1536, 64, 128]⟩
abbrev S2x1536 : Shape := ⟨2, ![2, 1536]⟩
abbrev S1x1536 : Shape := ⟨2, ![1, 1536]⟩
abbrev S512x8x128 : Shape := ⟨3, ![512, 8, 128]⟩
abbrev S512x128 : Shape := ⟨2, ![512, 128]⟩
abbrev S2x128 : Shape := ⟨2, ![2, 128]⟩
abbrev S1x128 : Shape := ⟨2, ![1, 128]⟩
abbrev S128x64x128 : Shape := ⟨3, ![128, 64, 128]⟩
abbrev S128x8x128 : Shape := ⟨3, ![128, 8, 128]⟩
abbrev S128x128 : Shape := ⟨2, ![128, 128]⟩
abbrev S8x128x128 : Shape := ⟨3, ![8, 128, 128]⟩
abbrev S8x128 : Shape := ⟨2, ![8, 128]⟩
abbrev S1x1 : Shape := ⟨2, ![1, 1]⟩
abbrev S1x8x128 : Shape := ⟨3, ![1, 8, 128]⟩
abbrev S128x1x128 : Shape := ⟨3, ![128, 1, 128]⟩
abbrev S128 : Shape := ⟨1, ![128]⟩

abbrev nBuf : Space → Nat
  | .hbm => 11
  | .vmem => 9
  | .smem => 2
  | _ => 0

abbrev bufTy : (tb : Table) → Fin (tcTables nBuf tb) → BufTy
  | .hbm, ⟨0, _⟩ => ⟨S1536x2, .i32⟩
  | .hbm, ⟨1, _⟩ => ⟨S1536x4096x2, .i32⟩
  | .hbm, ⟨2, _⟩ => ⟨S1536, .i32⟩
  | .hbm, ⟨3, _⟩ => ⟨S1536x32x128x2, .i32⟩
  | .hbm, ⟨4, _⟩ => ⟨S1536x32x2x128, .i32⟩
  | .hbm, ⟨5, _⟩ => ⟨S1536x64x128, .i32⟩
  | .hbm, ⟨6, _⟩ => ⟨S1536x2, .i32⟩
  | .hbm, ⟨7, _⟩ => ⟨S2x1536, .i32⟩
  | .hbm, ⟨8, _⟩ => ⟨S1x1536, .i32⟩
  | .hbm, ⟨9, _⟩ => ⟨S512x8x128, .i32⟩
  | .hbm, ⟨10, _⟩ => ⟨S512x128, .i32⟩
  | .local _ .vmem, ⟨0, _⟩ => ⟨S1x128, .i32⟩
  | .local _ .vmem, ⟨1, _⟩ => ⟨S1x128, .i32⟩
  | .local _ .vmem, ⟨2, _⟩ => ⟨S128x64x128, .i32⟩
  | .local _ .vmem, ⟨3, _⟩ => ⟨S128x64x128, .i32⟩
  | .local _ .vmem, ⟨4, _⟩ => ⟨S128x8x128, .i32⟩
  | .local _ .vmem, ⟨5, _⟩ => ⟨S128x8x128, .i32⟩
  | .local _ .vmem, ⟨6, _⟩ => ⟨S128x128, .i32⟩
  | .local _ .vmem, ⟨7, _⟩ => ⟨S128x128, .i32⟩
  | .local _ .vmem, ⟨8, _⟩ => ⟨S8x128x128, .i32⟩
  | .local _ .smem, ⟨0, _⟩ => ⟨S2x128, .i32⟩
  | .local _ .smem, ⟨1, _⟩ => ⟨S2x128, .i32⟩
  | _, _ => ⟨S1536x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_4 : BitVec 32 := 0#32
  let c128_i32 : BitVec 32 := 128#32
  let v19 : BitVec 32 := Scalar.addi c0_i32_4 c128_i32
  let c1_i32_5 : BitVec 32 := 1#32
  ⟨c0_i32_4, v19, c1_i32_5⟩
def k0_off1 (k0_t1 : Fin k0_t1_loop.trips) : Fin 2 → Nat :=
  let c0_2623 : Index := 0#32
  let c0_i32_4 : BitVec 32 := 0#32
  let c1_i32_5 : BitVec 32 := 1#32
  let arg7 : BitVec 32 := Scf.iv c0_i32_4 c1_i32_5 k0_t1
  let v6124 : Index := Scalar.indexCast arg7
  ![0, v6124.toNat]
def k0_off2 (k0_t1 : Fin k0_t1_loop.trips) : Fin 2 → Nat :=
  let c1_2624 : Index := 1#32
  let c0_i32_4 : BitVec 32 := 0#32
  let c1_i32_5 : BitVec 32 := 1#32
  let arg7 : BitVec 32 := Scf.iv c0_i32_4 c1_i32_5 k0_t1
  let v6126 : Index := Scalar.indexCast arg7
  ![1, v6126.toNat]
def k0_off3 (k0_t1 : Fin k0_t1_loop.trips) : Fin 3 → Nat :=
  let c0_i32_4 : BitVec 32 := 0#32
  let c1_i32_5 : BitVec 32 := 1#32
  let arg7 : BitVec 32 := Scf.iv c0_i32_4 c1_i32_5 k0_t1
  let v6131 : Index := Scalar.indexCast arg7
  let c0_2625 : Index := 0#32
  let c0_2626 : Index := 0#32
  ![v6131.toNat, 0, 0]
def k0_off4 (k0_t1 : Fin k0_t1_loop.trips) : Fin 3 → Nat :=
  let c0_i32_4 : BitVec 32 := 0#32
  let c1_i32_5 : BitVec 32 := 1#32
  let arg7 : BitVec 32 := Scf.iv c0_i32_4 c1_i32_5 k0_t1
  let v6136 : Index := Scalar.indexCast arg7
  let c16_2627 : Index := 16#32
  let c0_2628 : Index := 0#32
  ![v6136.toNat, 16, 0]
def k0_off5 (k0_t1 : Fin k0_t1_loop.trips) : Fin 3 → Nat :=
  let c0_i32_4 : BitVec 32 := 0#32
  let c1_i32_5 : BitVec 32 := 1#32
  let arg7 : BitVec 32 := Scf.iv c0_i32_4 c1_i32_5 k0_t1
  let v6144 : Index := Scalar.indexCast arg7
  let c32_2630 : Index := 32#32
  let c0_2631 : Index := 0#32
  ![v6144.toNat, 32, 0]
def k0_off6 (k0_t1 : Fin k0_t1_loop.trips) : Fin 3 → Nat :=
  let c0_i32_4 : BitVec 32 := 0#32
  let c1_i32_5 : BitVec 32 := 1#32
  let arg7 : BitVec 32 := Scf.iv c0_i32_4 c1_i32_5 k0_t1
  let v6152 : Index := Scalar.indexCast arg7
  let c48_2633 : Index := 48#32
  let c0_2634 : Index := 0#32
  ![v6152.toNat, 48, 0]
def k0_off7 (k0_t1 : Fin k0_t1_loop.trips) : Fin 3 → Nat :=
  let c0_i32_4 : BitVec 32 := 0#32
  let c1_i32_5 : BitVec 32 := 1#32
  let arg7 : BitVec 32 := Scf.iv c0_i32_4 c1_i32_5 k0_t1
  let v6160 : Index := Scalar.indexCast arg7
  let c8_2636 : Index := 8#32
  let c0_2637 : Index := 0#32
  ![v6160.toNat, 8, 0]
def k0_off8 (k0_t1 : Fin k0_t1_loop.trips) : Fin 3 → Nat :=
  let c0_i32_4 : BitVec 32 := 0#32
  let c1_i32_5 : BitVec 32 := 1#32
  let arg7 : BitVec 32 := Scf.iv c0_i32_4 c1_i32_5 k0_t1
  let v6165 : Index := Scalar.indexCast arg7
  let c24_2638 : Index := 24#32
  let c0_2639 : Index := 0#32
  ![v6165.toNat, 24, 0]
def k0_off9 (k0_t1 : Fin k0_t1_loop.trips) : Fin 3 → Nat :=
  let c0_i32_4 : BitVec 32 := 0#32
  let c1_i32_5 : BitVec 32 := 1#32
  let arg7 : BitVec 32 := Scf.iv c0_i32_4 c1_i32_5 k0_t1
  let v6173 : Index := Scalar.indexCast arg7
  let c40_2641 : Index := 40#32
  let c0_2642 : Index := 0#32
  ![v6173.toNat, 40, 0]
def k0_off10 (k0_t1 : Fin k0_t1_loop.trips) : Fin 3 → Nat :=
  let c0_i32_4 : BitVec 32 := 0#32
  let c1_i32_5 : BitVec 32 := 1#32
  let arg7 : BitVec 32 := Scf.iv c0_i32_4 c1_i32_5 k0_t1
  let v6181 : Index := Scalar.indexCast arg7
  let c56_2644 : Index := 56#32
  let c0_2645 : Index := 0#32
  ![v6181.toNat, 56, 0]
def k0_off11 (k0_t1 : Fin k0_t1_loop.trips) : Fin 3 → Nat :=
  let c0_i32_4 : BitVec 32 := 0#32
  let c1_i32_5 : BitVec 32 := 1#32
  let arg7 : BitVec 32 := Scf.iv c0_i32_4 c1_i32_5 k0_t1
  let v6194 : Index := Scalar.indexCast arg7
  let c0_2649 : Index := 0#32
  let c0_2650 : Index := 0#32
  ![v6194.toNat, 0, 0]
@[reducible] def k0_t2_loop : Scf.Loop 32 :=
  let c0_i32_1019 : BitVec 32 := 0#32
  let c8_i32_1020 : BitVec 32 := 8#32
  let v2376 : BitVec 32 := Scalar.addi c0_i32_1019 c8_i32_1020
  let c1_i32_1021 : BitVec 32 := 1#32
  ⟨c0_i32_1019, v2376, c1_i32_1021⟩
def k0_off12 (k0_t2 : Fin k0_t2_loop.trips) : Fin 3 → Nat :=
  let c0_i32_1019 : BitVec 32 := 0#32
  let c1_i32_1021 : BitVec 32 := 1#32
  let arg7 : BitVec 32 := Scf.iv c0_i32_1019 c1_i32_1021 k0_t2
  let v6124 : Index := Scalar.indexCast arg7
  let c0_2623 : Index := 0#32
  let c0_2624 : Index := 0#32
  ![v6124.toNat, 0, 0]
def k0_off13 (k0_t2 : Fin k0_t2_loop.trips) : Fin 3 → Nat :=
  let c0_i32_1019 : BitVec 32 := 0#32
  let c1_i32_1021 : BitVec 32 := 1#32
  let arg7 : BitVec 32 := Scf.iv c0_i32_1019 c1_i32_1021 k0_t2
  let v6132 : Index := Scalar.indexCast arg7
  let c8_2626 : Index := 8#32
  let c0_2627 : Index := 0#32
  ![v6132.toNat, 8, 0]
def k0_off14 (k0_t2 : Fin k0_t2_loop.trips) : Fin 3 → Nat :=
  let c0_i32_1019 : BitVec 32 := 0#32
  let c1_i32_1021 : BitVec 32 := 1#32
  let arg7 : BitVec 32 := Scf.iv c0_i32_1019 c1_i32_1021 k0_t2
  let v6140 : Index := Scalar.indexCast arg7
  let c16_2629 : Index := 16#32
  let c0_2630 : Index := 0#32
  ![v6140.toNat, 16, 0]
def k0_off15 (k0_t2 : Fin k0_t2_loop.trips) : Fin 3 → Nat :=
  let c0_i32_1019 : BitVec 32 := 0#32
  let c1_i32_1021 : BitVec 32 := 1#32
  let arg7 : BitVec 32 := Scf.iv c0_i32_1019 c1_i32_1021 k0_t2
  let v6148 : Index := Scalar.indexCast arg7
  let c24_2632 : Index := 24#32
  let c0_2633 : Index := 0#32
  ![v6148.toNat, 24, 0]
def k0_off16 (k0_t2 : Fin k0_t2_loop.trips) : Fin 3 → Nat :=
  let c0_i32_1019 : BitVec 32 := 0#32
  let c1_i32_1021 : BitVec 32 := 1#32
  let arg7 : BitVec 32 := Scf.iv c0_i32_1019 c1_i32_1021 k0_t2
  let v6156 : Index := Scalar.indexCast arg7
  let c32_2635 : Index := 32#32
  let c0_2636 : Index := 0#32
  ![v6156.toNat, 32, 0]
def k0_off17 (k0_t2 : Fin k0_t2_loop.trips) : Fin 3 → Nat :=
  let c0_i32_1019 : BitVec 32 := 0#32
  let c1_i32_1021 : BitVec 32 := 1#32
  let arg7 : BitVec 32 := Scf.iv c0_i32_1019 c1_i32_1021 k0_t2
  let v6164 : Index := Scalar.indexCast arg7
  let c40_2638 : Index := 40#32
  let c0_2639 : Index := 0#32
  ![v6164.toNat, 40, 0]
def k0_off18 (k0_t2 : Fin k0_t2_loop.trips) : Fin 3 → Nat :=
  let c0_i32_1019 : BitVec 32 := 0#32
  let c1_i32_1021 : BitVec 32 := 1#32
  let arg7 : BitVec 32 := Scf.iv c0_i32_1019 c1_i32_1021 k0_t2
  let v6172 : Index := Scalar.indexCast arg7
  let c48_2641 : Index := 48#32
  let c0_2642 : Index := 0#32
  ![v6172.toNat, 48, 0]
def k0_off19 (k0_t2 : Fin k0_t2_loop.trips) : Fin 3 → Nat :=
  let c0_i32_1019 : BitVec 32 := 0#32
  let c1_i32_1021 : BitVec 32 := 1#32
  let arg7 : BitVec 32 := Scf.iv c0_i32_1019 c1_i32_1021 k0_t2
  let v6180 : Index := Scalar.indexCast arg7
  let c56_2644 : Index := 56#32
  let c0_2645 : Index := 0#32
  ![v6180.toNat, 56, 0]
def k0_off20 (k0_t2 : Fin k0_t2_loop.trips) : Fin 3 → Nat :=
  let c0_i32_1019 : BitVec 32 := 0#32
  let c1_i32_1021 : BitVec 32 := 1#32
  let arg7 : BitVec 32 := Scf.iv c0_i32_1019 c1_i32_1021 k0_t2
  let v6188 : Index := Scalar.indexCast arg7
  let c64_2647 : Index := 64#32
  let c0_2648 : Index := 0#32
  ![v6188.toNat, 64, 0]
def k0_off21 (k0_t2 : Fin k0_t2_loop.trips) : Fin 3 → Nat :=
  let c0_i32_1019 : BitVec 32 := 0#32
  let c1_i32_1021 : BitVec 32 := 1#32
  let arg7 : BitVec 32 := Scf.iv c0_i32_1019 c1_i32_1021 k0_t2
  let v6196 : Index := Scalar.indexCast arg7
  let c72_2650 : Index := 72#32
  let c0_2651 : Index := 0#32
  ![v6196.toNat, 72, 0]
def k0_off22 (k0_t2 : Fin k0_t2_loop.trips) : Fin 3 → Nat :=
  let c0_i32_1019 : BitVec 32 := 0#32
  let c1_i32_1021 : BitVec 32 := 1#32
  let arg7 : BitVec 32 := Scf.iv c0_i32_1019 c1_i32_1021 k0_t2
  let v6204 : Index := Scalar.indexCast arg7
  let c80_2653 : Index := 80#32
  let c0_2654 : Index := 0#32
  ![v6204.toNat, 80, 0]
def k0_off23 (k0_t2 : Fin k0_t2_loop.trips) : Fin 3 → Nat :=
  let c0_i32_1019 : BitVec 32 := 0#32
  let c1_i32_1021 : BitVec 32 := 1#32
  let arg7 : BitVec 32 := Scf.iv c0_i32_1019 c1_i32_1021 k0_t2
  let v6212 : Index := Scalar.indexCast arg7
  let c88_2656 : Index := 88#32
  let c0_2657 : Index := 0#32
  ![v6212.toNat, 88, 0]
def k0_off24 (k0_t2 : Fin k0_t2_loop.trips) : Fin 3 → Nat :=
  let c0_i32_1019 : BitVec 32 := 0#32
  let c1_i32_1021 : BitVec 32 := 1#32
  let arg7 : BitVec 32 := Scf.iv c0_i32_1019 c1_i32_1021 k0_t2
  let v6220 : Index := Scalar.indexCast arg7
  let c96_2659 : Index := 96#32
  let c0_2660 : Index := 0#32
  ![v6220.toNat, 96, 0]
def k0_off25 (k0_t2 : Fin k0_t2_loop.trips) : Fin 3 → Nat :=
  let c0_i32_1019 : BitVec 32 := 0#32
  let c1_i32_1021 : BitVec 32 := 1#32
  let arg7 : BitVec 32 := Scf.iv c0_i32_1019 c1_i32_1021 k0_t2
  let v6228 : Index := Scalar.indexCast arg7
  let c104_2662 : Index := 104#32
  let c0_2663 : Index := 0#32
  ![v6228.toNat, 104, 0]
def k0_off26 (k0_t2 : Fin k0_t2_loop.trips) : Fin 3 → Nat :=
  let c0_i32_1019 : BitVec 32 := 0#32
  let c1_i32_1021 : BitVec 32 := 1#32
  let arg7 : BitVec 32 := Scf.iv c0_i32_1019 c1_i32_1021 k0_t2
  let v6236 : Index := Scalar.indexCast arg7
  let c112_2665 : Index := 112#32
  let c0_2666 : Index := 0#32
  ![v6236.toNat, 112, 0]
def k0_off27 (k0_t2 : Fin k0_t2_loop.trips) : Fin 3 → Nat :=
  let c0_i32_1019 : BitVec 32 := 0#32
  let c1_i32_1021 : BitVec 32 := 1#32
  let arg7 : BitVec 32 := Scf.iv c0_i32_1019 c1_i32_1021 k0_t2
  let v6244 : Index := Scalar.indexCast arg7
  let c120_2668 : Index := 120#32
  let c0_2669 : Index := 0#32
  ![v6244.toNat, 120, 0]
@[reducible] def k0_t3_loop : Scf.Loop 32 :=
  let c0_i32_1030 : BitVec 32 := 0#32
  let c8_i32_1031 : BitVec 32 := 8#32
  let v2395 : BitVec 32 := Scalar.addi c0_i32_1030 c8_i32_1031
  let c1_i32_1032 : BitVec 32 := 1#32
  ⟨c0_i32_1030, v2395, c1_i32_1032⟩
def k0_off28 (k0_t3 : Fin k0_t3_loop.trips) : Fin 3 → Nat :=
  let c0_i32_1030 : BitVec 32 := 0#32
  let c1_i32_1032 : BitVec 32 := 1#32
  let arg7 : BitVec 32 := Scf.iv c0_i32_1030 c1_i32_1032 k0_t3
  let v6124 : Index := Scalar.indexCast arg7
  let c0_2623 : Index := 0#32
  let c0_2624 : Index := 0#32
  ![v6124.toNat, 0, 0]
def k0_off29 (k0_t3 : Fin k0_t3_loop.trips) : Fin 3 → Nat :=
  let c0_i32_1030 : BitVec 32 := 0#32
  let c1_i32_1032 : BitVec 32 := 1#32
  let arg7 : BitVec 32 := Scf.iv c0_i32_1030 c1_i32_1032 k0_t3
  let v6132 : Index := Scalar.indexCast arg7
  let c8_2626 : Index := 8#32
  let c0_2627 : Index := 0#32
  ![v6132.toNat, 8, 0]
def k0_off30 (k0_t3 : Fin k0_t3_loop.trips) : Fin 3 → Nat :=
  let c0_i32_1030 : BitVec 32 := 0#32
  let c1_i32_1032 : BitVec 32 := 1#32
  let arg7 : BitVec 32 := Scf.iv c0_i32_1030 c1_i32_1032 k0_t3
  let v6140 : Index := Scalar.indexCast arg7
  let c16_2629 : Index := 16#32
  let c0_2630 : Index := 0#32
  ![v6140.toNat, 16, 0]
def k0_off31 (k0_t3 : Fin k0_t3_loop.trips) : Fin 3 → Nat :=
  let c0_i32_1030 : BitVec 32 := 0#32
  let c1_i32_1032 : BitVec 32 := 1#32
  let arg7 : BitVec 32 := Scf.iv c0_i32_1030 c1_i32_1032 k0_t3
  let v6148 : Index := Scalar.indexCast arg7
  let c24_2632 : Index := 24#32
  let c0_2633 : Index := 0#32
  ![v6148.toNat, 24, 0]
def k0_off32 (k0_t3 : Fin k0_t3_loop.trips) : Fin 3 → Nat :=
  let c0_i32_1030 : BitVec 32 := 0#32
  let c1_i32_1032 : BitVec 32 := 1#32
  let arg7 : BitVec 32 := Scf.iv c0_i32_1030 c1_i32_1032 k0_t3
  let v6156 : Index := Scalar.indexCast arg7
  let c32_2635 : Index := 32#32
  let c0_2636 : Index := 0#32
  ![v6156.toNat, 32, 0]
def k0_off33 (k0_t3 : Fin k0_t3_loop.trips) : Fin 3 → Nat :=
  let c0_i32_1030 : BitVec 32 := 0#32
  let c1_i32_1032 : BitVec 32 := 1#32
  let arg7 : BitVec 32 := Scf.iv c0_i32_1030 c1_i32_1032 k0_t3
  let v6164 : Index := Scalar.indexCast arg7
  let c40_2638 : Index := 40#32
  let c0_2639 : Index := 0#32
  ![v6164.toNat, 40, 0]
def k0_off34 (k0_t3 : Fin k0_t3_loop.trips) : Fin 3 → Nat :=
  let c0_i32_1030 : BitVec 32 := 0#32
  let c1_i32_1032 : BitVec 32 := 1#32
  let arg7 : BitVec 32 := Scf.iv c0_i32_1030 c1_i32_1032 k0_t3
  let v6172 : Index := Scalar.indexCast arg7
  let c48_2641 : Index := 48#32
  let c0_2642 : Index := 0#32
  ![v6172.toNat, 48, 0]
def k0_off35 (k0_t3 : Fin k0_t3_loop.trips) : Fin 3 → Nat :=
  let c0_i32_1030 : BitVec 32 := 0#32
  let c1_i32_1032 : BitVec 32 := 1#32
  let arg7 : BitVec 32 := Scf.iv c0_i32_1030 c1_i32_1032 k0_t3
  let v6180 : Index := Scalar.indexCast arg7
  let c56_2644 : Index := 56#32
  let c0_2645 : Index := 0#32
  ![v6180.toNat, 56, 0]
def k0_off36 (k0_t3 : Fin k0_t3_loop.trips) : Fin 3 → Nat :=
  let c0_i32_1030 : BitVec 32 := 0#32
  let c1_i32_1032 : BitVec 32 := 1#32
  let arg7 : BitVec 32 := Scf.iv c0_i32_1030 c1_i32_1032 k0_t3
  let v6188 : Index := Scalar.indexCast arg7
  let c64_2647 : Index := 64#32
  let c0_2648 : Index := 0#32
  ![v6188.toNat, 64, 0]
def k0_off37 (k0_t3 : Fin k0_t3_loop.trips) : Fin 3 → Nat :=
  let c0_i32_1030 : BitVec 32 := 0#32
  let c1_i32_1032 : BitVec 32 := 1#32
  let arg7 : BitVec 32 := Scf.iv c0_i32_1030 c1_i32_1032 k0_t3
  let v6196 : Index := Scalar.indexCast arg7
  let c72_2650 : Index := 72#32
  let c0_2651 : Index := 0#32
  ![v6196.toNat, 72, 0]
def k0_off38 (k0_t3 : Fin k0_t3_loop.trips) : Fin 3 → Nat :=
  let c0_i32_1030 : BitVec 32 := 0#32
  let c1_i32_1032 : BitVec 32 := 1#32
  let arg7 : BitVec 32 := Scf.iv c0_i32_1030 c1_i32_1032 k0_t3
  let v6204 : Index := Scalar.indexCast arg7
  let c80_2653 : Index := 80#32
  let c0_2654 : Index := 0#32
  ![v6204.toNat, 80, 0]
def k0_off39 (k0_t3 : Fin k0_t3_loop.trips) : Fin 3 → Nat :=
  let c0_i32_1030 : BitVec 32 := 0#32
  let c1_i32_1032 : BitVec 32 := 1#32
  let arg7 : BitVec 32 := Scf.iv c0_i32_1030 c1_i32_1032 k0_t3
  let v6212 : Index := Scalar.indexCast arg7
  let c88_2656 : Index := 88#32
  let c0_2657 : Index := 0#32
  ![v6212.toNat, 88, 0]
def k0_off40 (k0_t3 : Fin k0_t3_loop.trips) : Fin 3 → Nat :=
  let c0_i32_1030 : BitVec 32 := 0#32
  let c1_i32_1032 : BitVec 32 := 1#32
  let arg7 : BitVec 32 := Scf.iv c0_i32_1030 c1_i32_1032 k0_t3
  let v6220 : Index := Scalar.indexCast arg7
  let c96_2659 : Index := 96#32
  let c0_2660 : Index := 0#32
  ![v6220.toNat, 96, 0]
def k0_off41 (k0_t3 : Fin k0_t3_loop.trips) : Fin 3 → Nat :=
  let c0_i32_1030 : BitVec 32 := 0#32
  let c1_i32_1032 : BitVec 32 := 1#32
  let arg7 : BitVec 32 := Scf.iv c0_i32_1030 c1_i32_1032 k0_t3
  let v6228 : Index := Scalar.indexCast arg7
  let c104_2662 : Index := 104#32
  let c0_2663 : Index := 0#32
  ![v6228.toNat, 104, 0]
def k0_off42 (k0_t3 : Fin k0_t3_loop.trips) : Fin 3 → Nat :=
  let c0_i32_1030 : BitVec 32 := 0#32
  let c1_i32_1032 : BitVec 32 := 1#32
  let arg7 : BitVec 32 := Scf.iv c0_i32_1030 c1_i32_1032 k0_t3
  let v6236 : Index := Scalar.indexCast arg7
  let c112_2665 : Index := 112#32
  let c0_2666 : Index := 0#32
  ![v6236.toNat, 112, 0]
def k0_off43 (k0_t3 : Fin k0_t3_loop.trips) : Fin 3 → Nat :=
  let c0_i32_1030 : BitVec 32 := 0#32
  let c1_i32_1032 : BitVec 32 := 1#32
  let arg7 : BitVec 32 := Scf.iv c0_i32_1030 c1_i32_1032 k0_t3
  let v6244 : Index := Scalar.indexCast arg7
  let c120_2668 : Index := 120#32
  let c0_2669 : Index := 0#32
  ![v6244.toNat, 120, 0]
@[reducible] def k0_t4_loop : Scf.Loop 32 :=
  let c0_i32_1041 : BitVec 32 := 0#32
  let c8_i32_1042 : BitVec 32 := 8#32
  let v2414 : BitVec 32 := Scalar.addi c0_i32_1041 c8_i32_1042
  let c1_i32_1043 : BitVec 32 := 1#32
  ⟨c0_i32_1041, v2414, c1_i32_1043⟩
def k0_off44 (k0_t4 : Fin k0_t4_loop.trips) : Fin 3 → Nat :=
  let c0_i32_1041 : BitVec 32 := 0#32
  let c1_i32_1043 : BitVec 32 := 1#32
  let arg7 : BitVec 32 := Scf.iv c0_i32_1041 c1_i32_1043 k0_t4
  let v6124 : Index := Scalar.indexCast arg7
  let c0_2623 : Index := 0#32
  let c0_2624 : Index := 0#32
  ![v6124.toNat, 0, 0]
def k0_off45 (k0_t4 : Fin k0_t4_loop.trips) : Fin 3 → Nat :=
  let c0_i32_1041 : BitVec 32 := 0#32
  let c1_i32_1043 : BitVec 32 := 1#32
  let arg7 : BitVec 32 := Scf.iv c0_i32_1041 c1_i32_1043 k0_t4
  let v6132 : Index := Scalar.indexCast arg7
  let c8_2626 : Index := 8#32
  let c0_2627 : Index := 0#32
  ![v6132.toNat, 8, 0]
def k0_off46 (k0_t4 : Fin k0_t4_loop.trips) : Fin 3 → Nat :=
  let c0_i32_1041 : BitVec 32 := 0#32
  let c1_i32_1043 : BitVec 32 := 1#32
  let arg7 : BitVec 32 := Scf.iv c0_i32_1041 c1_i32_1043 k0_t4
  let v6140 : Index := Scalar.indexCast arg7
  let c16_2629 : Index := 16#32
  let c0_2630 : Index := 0#32
  ![v6140.toNat, 16, 0]
def k0_off47 (k0_t4 : Fin k0_t4_loop.trips) : Fin 3 → Nat :=
  let c0_i32_1041 : BitVec 32 := 0#32
  let c1_i32_1043 : BitVec 32 := 1#32
  let arg7 : BitVec 32 := Scf.iv c0_i32_1041 c1_i32_1043 k0_t4
  let v6148 : Index := Scalar.indexCast arg7
  let c24_2632 : Index := 24#32
  let c0_2633 : Index := 0#32
  ![v6148.toNat, 24, 0]
def k0_off48 (k0_t4 : Fin k0_t4_loop.trips) : Fin 3 → Nat :=
  let c0_i32_1041 : BitVec 32 := 0#32
  let c1_i32_1043 : BitVec 32 := 1#32
  let arg7 : BitVec 32 := Scf.iv c0_i32_1041 c1_i32_1043 k0_t4
  let v6156 : Index := Scalar.indexCast arg7
  let c32_2635 : Index := 32#32
  let c0_2636 : Index := 0#32
  ![v6156.toNat, 32, 0]
def k0_off49 (k0_t4 : Fin k0_t4_loop.trips) : Fin 3 → Nat :=
  let c0_i32_1041 : BitVec 32 := 0#32
  let c1_i32_1043 : BitVec 32 := 1#32
  let arg7 : BitVec 32 := Scf.iv c0_i32_1041 c1_i32_1043 k0_t4
  let v6164 : Index := Scalar.indexCast arg7
  let c40_2638 : Index := 40#32
  let c0_2639 : Index := 0#32
  ![v6164.toNat, 40, 0]
def k0_off50 (k0_t4 : Fin k0_t4_loop.trips) : Fin 3 → Nat :=
  let c0_i32_1041 : BitVec 32 := 0#32
  let c1_i32_1043 : BitVec 32 := 1#32
  let arg7 : BitVec 32 := Scf.iv c0_i32_1041 c1_i32_1043 k0_t4
  let v6172 : Index := Scalar.indexCast arg7
  let c48_2641 : Index := 48#32
  let c0_2642 : Index := 0#32
  ![v6172.toNat, 48, 0]
def k0_off51 (k0_t4 : Fin k0_t4_loop.trips) : Fin 3 → Nat :=
  let c0_i32_1041 : BitVec 32 := 0#32
  let c1_i32_1043 : BitVec 32 := 1#32
  let arg7 : BitVec 32 := Scf.iv c0_i32_1041 c1_i32_1043 k0_t4
  let v6180 : Index := Scalar.indexCast arg7
  let c56_2644 : Index := 56#32
  let c0_2645 : Index := 0#32
  ![v6180.toNat, 56, 0]
def k0_off52 (k0_t4 : Fin k0_t4_loop.trips) : Fin 3 → Nat :=
  let c0_i32_1041 : BitVec 32 := 0#32
  let c1_i32_1043 : BitVec 32 := 1#32
  let arg7 : BitVec 32 := Scf.iv c0_i32_1041 c1_i32_1043 k0_t4
  let v6188 : Index := Scalar.indexCast arg7
  let c64_2647 : Index := 64#32
  let c0_2648 : Index := 0#32
  ![v6188.toNat, 64, 0]
def k0_off53 (k0_t4 : Fin k0_t4_loop.trips) : Fin 3 → Nat :=
  let c0_i32_1041 : BitVec 32 := 0#32
  let c1_i32_1043 : BitVec 32 := 1#32
  let arg7 : BitVec 32 := Scf.iv c0_i32_1041 c1_i32_1043 k0_t4
  let v6196 : Index := Scalar.indexCast arg7
  let c72_2650 : Index := 72#32
  let c0_2651 : Index := 0#32
  ![v6196.toNat, 72, 0]
def k0_off54 (k0_t4 : Fin k0_t4_loop.trips) : Fin 3 → Nat :=
  let c0_i32_1041 : BitVec 32 := 0#32
  let c1_i32_1043 : BitVec 32 := 1#32
  let arg7 : BitVec 32 := Scf.iv c0_i32_1041 c1_i32_1043 k0_t4
  let v6204 : Index := Scalar.indexCast arg7
  let c80_2653 : Index := 80#32
  let c0_2654 : Index := 0#32
  ![v6204.toNat, 80, 0]
def k0_off55 (k0_t4 : Fin k0_t4_loop.trips) : Fin 3 → Nat :=
  let c0_i32_1041 : BitVec 32 := 0#32
  let c1_i32_1043 : BitVec 32 := 1#32
  let arg7 : BitVec 32 := Scf.iv c0_i32_1041 c1_i32_1043 k0_t4
  let v6212 : Index := Scalar.indexCast arg7
  let c88_2656 : Index := 88#32
  let c0_2657 : Index := 0#32
  ![v6212.toNat, 88, 0]
def k0_off56 (k0_t4 : Fin k0_t4_loop.trips) : Fin 3 → Nat :=
  let c0_i32_1041 : BitVec 32 := 0#32
  let c1_i32_1043 : BitVec 32 := 1#32
  let arg7 : BitVec 32 := Scf.iv c0_i32_1041 c1_i32_1043 k0_t4
  let v6220 : Index := Scalar.indexCast arg7
  let c96_2659 : Index := 96#32
  let c0_2660 : Index := 0#32
  ![v6220.toNat, 96, 0]
def k0_off57 (k0_t4 : Fin k0_t4_loop.trips) : Fin 3 → Nat :=
  let c0_i32_1041 : BitVec 32 := 0#32
  let c1_i32_1043 : BitVec 32 := 1#32
  let arg7 : BitVec 32 := Scf.iv c0_i32_1041 c1_i32_1043 k0_t4
  let v6228 : Index := Scalar.indexCast arg7
  let c104_2662 : Index := 104#32
  let c0_2663 : Index := 0#32
  ![v6228.toNat, 104, 0]
def k0_off58 (k0_t4 : Fin k0_t4_loop.trips) : Fin 3 → Nat :=
  let c0_i32_1041 : BitVec 32 := 0#32
  let c1_i32_1043 : BitVec 32 := 1#32
  let arg7 : BitVec 32 := Scf.iv c0_i32_1041 c1_i32_1043 k0_t4
  let v6236 : Index := Scalar.indexCast arg7
  let c112_2665 : Index := 112#32
  let c0_2666 : Index := 0#32
  ![v6236.toNat, 112, 0]
def k0_off59 (k0_t4 : Fin k0_t4_loop.trips) : Fin 3 → Nat :=
  let c0_i32_1041 : BitVec 32 := 0#32
  let c1_i32_1043 : BitVec 32 := 1#32
  let arg7 : BitVec 32 := Scf.iv c0_i32_1041 c1_i32_1043 k0_t4
  let v6244 : Index := Scalar.indexCast arg7
  let c120_2668 : Index := 120#32
  let c0_2669 : Index := 0#32
  ![v6244.toNat, 120, 0]
@[reducible] def k0_t5_loop : Scf.Loop 32 :=
  let c0_i32_1052 : BitVec 32 := 0#32
  let c8_i32_1053 : BitVec 32 := 8#32
  let v2433 : BitVec 32 := Scalar.addi c0_i32_1052 c8_i32_1053
  let c1_i32_1054 : BitVec 32 := 1#32
  ⟨c0_i32_1052, v2433, c1_i32_1054⟩
def k0_off60 (k0_t5 : Fin k0_t5_loop.trips) : Fin 3 → Nat :=
  let c0_i32_1052 : BitVec 32 := 0#32
  let c1_i32_1054 : BitVec 32 := 1#32
  let arg7 : BitVec 32 := Scf.iv c0_i32_1052 c1_i32_1054 k0_t5
  let v6124 : Index := Scalar.indexCast arg7
  let c0_2623 : Index := 0#32
  let c0_2624 : Index := 0#32
  ![v6124.toNat, 0, 0]
def k0_off61 (k0_t5 : Fin k0_t5_loop.trips) : Fin 3 → Nat :=
  let c0_i32_1052 : BitVec 32 := 0#32
  let c1_i32_1054 : BitVec 32 := 1#32
  let arg7 : BitVec 32 := Scf.iv c0_i32_1052 c1_i32_1054 k0_t5
  let v6132 : Index := Scalar.indexCast arg7
  let c8_2626 : Index := 8#32
  let c0_2627 : Index := 0#32
  ![v6132.toNat, 8, 0]
def k0_off62 (k0_t5 : Fin k0_t5_loop.trips) : Fin 3 → Nat :=
  let c0_i32_1052 : BitVec 32 := 0#32
  let c1_i32_1054 : BitVec 32 := 1#32
  let arg7 : BitVec 32 := Scf.iv c0_i32_1052 c1_i32_1054 k0_t5
  let v6140 : Index := Scalar.indexCast arg7
  let c16_2629 : Index := 16#32
  let c0_2630 : Index := 0#32
  ![v6140.toNat, 16, 0]
def k0_off63 (k0_t5 : Fin k0_t5_loop.trips) : Fin 3 → Nat :=
  let c0_i32_1052 : BitVec 32 := 0#32
  let c1_i32_1054 : BitVec 32 := 1#32
  let arg7 : BitVec 32 := Scf.iv c0_i32_1052 c1_i32_1054 k0_t5
  let v6148 : Index := Scalar.indexCast arg7
  let c24_2632 : Index := 24#32
  let c0_2633 : Index := 0#32
  ![v6148.toNat, 24, 0]
def k0_off64 (k0_t5 : Fin k0_t5_loop.trips) : Fin 3 → Nat :=
  let c0_i32_1052 : BitVec 32 := 0#32
  let c1_i32_1054 : BitVec 32 := 1#32
  let arg7 : BitVec 32 := Scf.iv c0_i32_1052 c1_i32_1054 k0_t5
  let v6156 : Index := Scalar.indexCast arg7
  let c32_2635 : Index := 32#32
  let c0_2636 : Index := 0#32
  ![v6156.toNat, 32, 0]
def k0_off65 (k0_t5 : Fin k0_t5_loop.trips) : Fin 3 → Nat :=
  let c0_i32_1052 : BitVec 32 := 0#32
  let c1_i32_1054 : BitVec 32 := 1#32
  let arg7 : BitVec 32 := Scf.iv c0_i32_1052 c1_i32_1054 k0_t5
  let v6164 : Index := Scalar.indexCast arg7
  let c40_2638 : Index := 40#32
  let c0_2639 : Index := 0#32
  ![v6164.toNat, 40, 0]
def k0_off66 (k0_t5 : Fin k0_t5_loop.trips) : Fin 3 → Nat :=
  let c0_i32_1052 : BitVec 32 := 0#32
  let c1_i32_1054 : BitVec 32 := 1#32
  let arg7 : BitVec 32 := Scf.iv c0_i32_1052 c1_i32_1054 k0_t5
  let v6172 : Index := Scalar.indexCast arg7
  let c48_2641 : Index := 48#32
  let c0_2642 : Index := 0#32
  ![v6172.toNat, 48, 0]
def k0_off67 (k0_t5 : Fin k0_t5_loop.trips) : Fin 3 → Nat :=
  let c0_i32_1052 : BitVec 32 := 0#32
  let c1_i32_1054 : BitVec 32 := 1#32
  let arg7 : BitVec 32 := Scf.iv c0_i32_1052 c1_i32_1054 k0_t5
  let v6180 : Index := Scalar.indexCast arg7
  let c56_2644 : Index := 56#32
  let c0_2645 : Index := 0#32
  ![v6180.toNat, 56, 0]
def k0_off68 (k0_t5 : Fin k0_t5_loop.trips) : Fin 3 → Nat :=
  let c0_i32_1052 : BitVec 32 := 0#32
  let c1_i32_1054 : BitVec 32 := 1#32
  let arg7 : BitVec 32 := Scf.iv c0_i32_1052 c1_i32_1054 k0_t5
  let v6188 : Index := Scalar.indexCast arg7
  let c64_2647 : Index := 64#32
  let c0_2648 : Index := 0#32
  ![v6188.toNat, 64, 0]
def k0_off69 (k0_t5 : Fin k0_t5_loop.trips) : Fin 3 → Nat :=
  let c0_i32_1052 : BitVec 32 := 0#32
  let c1_i32_1054 : BitVec 32 := 1#32
  let arg7 : BitVec 32 := Scf.iv c0_i32_1052 c1_i32_1054 k0_t5
  let v6196 : Index := Scalar.indexCast arg7
  let c72_2650 : Index := 72#32
  let c0_2651 : Index := 0#32
  ![v6196.toNat, 72, 0]
def k0_off70 (k0_t5 : Fin k0_t5_loop.trips) : Fin 3 → Nat :=
  let c0_i32_1052 : BitVec 32 := 0#32
  let c1_i32_1054 : BitVec 32 := 1#32
  let arg7 : BitVec 32 := Scf.iv c0_i32_1052 c1_i32_1054 k0_t5
  let v6204 : Index := Scalar.indexCast arg7
  let c80_2653 : Index := 80#32
  let c0_2654 : Index := 0#32
  ![v6204.toNat, 80, 0]
def k0_off71 (k0_t5 : Fin k0_t5_loop.trips) : Fin 3 → Nat :=
  let c0_i32_1052 : BitVec 32 := 0#32
  let c1_i32_1054 : BitVec 32 := 1#32
  let arg7 : BitVec 32 := Scf.iv c0_i32_1052 c1_i32_1054 k0_t5
  let v6212 : Index := Scalar.indexCast arg7
  let c88_2656 : Index := 88#32
  let c0_2657 : Index := 0#32
  ![v6212.toNat, 88, 0]
def k0_off72 (k0_t5 : Fin k0_t5_loop.trips) : Fin 3 → Nat :=
  let c0_i32_1052 : BitVec 32 := 0#32
  let c1_i32_1054 : BitVec 32 := 1#32
  let arg7 : BitVec 32 := Scf.iv c0_i32_1052 c1_i32_1054 k0_t5
  let v6220 : Index := Scalar.indexCast arg7
  let c96_2659 : Index := 96#32
  let c0_2660 : Index := 0#32
  ![v6220.toNat, 96, 0]
def k0_off73 (k0_t5 : Fin k0_t5_loop.trips) : Fin 3 → Nat :=
  let c0_i32_1052 : BitVec 32 := 0#32
  let c1_i32_1054 : BitVec 32 := 1#32
  let arg7 : BitVec 32 := Scf.iv c0_i32_1052 c1_i32_1054 k0_t5
  let v6228 : Index := Scalar.indexCast arg7
  let c104_2662 : Index := 104#32
  let c0_2663 : Index := 0#32
  ![v6228.toNat, 104, 0]
def k0_off74 (k0_t5 : Fin k0_t5_loop.trips) : Fin 3 → Nat :=
  let c0_i32_1052 : BitVec 32 := 0#32
  let c1_i32_1054 : BitVec 32 := 1#32
  let arg7 : BitVec 32 := Scf.iv c0_i32_1052 c1_i32_1054 k0_t5
  let v6236 : Index := Scalar.indexCast arg7
  let c112_2665 : Index := 112#32
  let c0_2666 : Index := 0#32
  ![v6236.toNat, 112, 0]
def k0_off75 (k0_t5 : Fin k0_t5_loop.trips) : Fin 3 → Nat :=
  let c0_i32_1052 : BitVec 32 := 0#32
  let c1_i32_1054 : BitVec 32 := 1#32
  let arg7 : BitVec 32 := Scf.iv c0_i32_1052 c1_i32_1054 k0_t5
  let v6244 : Index := Scalar.indexCast arg7
  let c120_2668 : Index := 120#32
  let c0_2669 : Index := 0#32
  ![v6244.toNat, 120, 0]
@[reducible] def k0_t6_loop : Scf.Loop 32 :=
  let c0_i32_1062 : BitVec 32 := 0#32
  let c8_i32_1063 : BitVec 32 := 8#32
  let v2452 : BitVec 32 := Scalar.addi c0_i32_1062 c8_i32_1063
  let c1_i32_1064 : BitVec 32 := 1#32
  ⟨c0_i32_1062, v2452, c1_i32_1064⟩
def k0_off76 (k0_t6 : Fin k0_t6_loop.trips) : Fin 3 → Nat :=
  let c0_i32_1062 : BitVec 32 := 0#32
  let c1_i32_1064 : BitVec 32 := 1#32
  let arg7 : BitVec 32 := Scf.iv c0_i32_1062 c1_i32_1064 k0_t6
  let v6124 : Index := Scalar.indexCast arg7
  let c0_2623 : Index := 0#32
  let c0_2624 : Index := 0#32
  ![v6124.toNat, 0, 0]
def k0_off77 (k0_t6 : Fin k0_t6_loop.trips) : Fin 3 → Nat :=
  let c0_i32_1062 : BitVec 32 := 0#32
  let c1_i32_1064 : BitVec 32 := 1#32
  let arg7 : BitVec 32 := Scf.iv c0_i32_1062 c1_i32_1064 k0_t6
  let v6132 : Index := Scalar.indexCast arg7
  let c8_2626 : Index := 8#32
  let c0_2627 : Index := 0#32
  ![v6132.toNat, 8, 0]
def k0_off78 (k0_t6 : Fin k0_t6_loop.trips) : Fin 3 → Nat :=
  let c0_i32_1062 : BitVec 32 := 0#32
  let c1_i32_1064 : BitVec 32 := 1#32
  let arg7 : BitVec 32 := Scf.iv c0_i32_1062 c1_i32_1064 k0_t6
  let v6140 : Index := Scalar.indexCast arg7
  let c16_2629 : Index := 16#32
  let c0_2630 : Index := 0#32
  ![v6140.toNat, 16, 0]
def k0_off79 (k0_t6 : Fin k0_t6_loop.trips) : Fin 3 → Nat :=
  let c0_i32_1062 : BitVec 32 := 0#32
  let c1_i32_1064 : BitVec 32 := 1#32
  let arg7 : BitVec 32 := Scf.iv c0_i32_1062 c1_i32_1064 k0_t6
  let v6148 : Index := Scalar.indexCast arg7
  let c24_2632 : Index := 24#32
  let c0_2633 : Index := 0#32
  ![v6148.toNat, 24, 0]
def k0_off80 (k0_t6 : Fin k0_t6_loop.trips) : Fin 3 → Nat :=
  let c0_i32_1062 : BitVec 32 := 0#32
  let c1_i32_1064 : BitVec 32 := 1#32
  let arg7 : BitVec 32 := Scf.iv c0_i32_1062 c1_i32_1064 k0_t6
  let v6156 : Index := Scalar.indexCast arg7
  let c32_2635 : Index := 32#32
  let c0_2636 : Index := 0#32
  ![v6156.toNat, 32, 0]
def k0_off81 (k0_t6 : Fin k0_t6_loop.trips) : Fin 3 → Nat :=
  let c0_i32_1062 : BitVec 32 := 0#32
  let c1_i32_1064 : BitVec 32 := 1#32
  let arg7 : BitVec 32 := Scf.iv c0_i32_1062 c1_i32_1064 k0_t6
  let v6164 : Index := Scalar.indexCast arg7
  let c40_2638 : Index := 40#32
  let c0_2639 : Index := 0#32
  ![v6164.toNat, 40, 0]
def k0_off82 (k0_t6 : Fin k0_t6_loop.trips) : Fin 3 → Nat :=
  let c0_i32_1062 : BitVec 32 := 0#32
  let c1_i32_1064 : BitVec 32 := 1#32
  let arg7 : BitVec 32 := Scf.iv c0_i32_1062 c1_i32_1064 k0_t6
  let v6172 : Index := Scalar.indexCast arg7
  let c48_2641 : Index := 48#32
  let c0_2642 : Index := 0#32
  ![v6172.toNat, 48, 0]
def k0_off83 (k0_t6 : Fin k0_t6_loop.trips) : Fin 3 → Nat :=
  let c0_i32_1062 : BitVec 32 := 0#32
  let c1_i32_1064 : BitVec 32 := 1#32
  let arg7 : BitVec 32 := Scf.iv c0_i32_1062 c1_i32_1064 k0_t6
  let v6180 : Index := Scalar.indexCast arg7
  let c56_2644 : Index := 56#32
  let c0_2645 : Index := 0#32
  ![v6180.toNat, 56, 0]
def k0_off84 (k0_t6 : Fin k0_t6_loop.trips) : Fin 3 → Nat :=
  let c0_i32_1062 : BitVec 32 := 0#32
  let c1_i32_1064 : BitVec 32 := 1#32
  let arg7 : BitVec 32 := Scf.iv c0_i32_1062 c1_i32_1064 k0_t6
  let v6188 : Index := Scalar.indexCast arg7
  let c64_2647 : Index := 64#32
  let c0_2648 : Index := 0#32
  ![v6188.toNat, 64, 0]
def k0_off85 (k0_t6 : Fin k0_t6_loop.trips) : Fin 3 → Nat :=
  let c0_i32_1062 : BitVec 32 := 0#32
  let c1_i32_1064 : BitVec 32 := 1#32
  let arg7 : BitVec 32 := Scf.iv c0_i32_1062 c1_i32_1064 k0_t6
  let v6196 : Index := Scalar.indexCast arg7
  let c72_2650 : Index := 72#32
  let c0_2651 : Index := 0#32
  ![v6196.toNat, 72, 0]
def k0_off86 (k0_t6 : Fin k0_t6_loop.trips) : Fin 3 → Nat :=
  let c0_i32_1062 : BitVec 32 := 0#32
  let c1_i32_1064 : BitVec 32 := 1#32
  let arg7 : BitVec 32 := Scf.iv c0_i32_1062 c1_i32_1064 k0_t6
  let v6204 : Index := Scalar.indexCast arg7
  let c80_2653 : Index := 80#32
  let c0_2654 : Index := 0#32
  ![v6204.toNat, 80, 0]
def k0_off87 (k0_t6 : Fin k0_t6_loop.trips) : Fin 3 → Nat :=
  let c0_i32_1062 : BitVec 32 := 0#32
  let c1_i32_1064 : BitVec 32 := 1#32
  let arg7 : BitVec 32 := Scf.iv c0_i32_1062 c1_i32_1064 k0_t6
  let v6212 : Index := Scalar.indexCast arg7
  let c88_2656 : Index := 88#32
  let c0_2657 : Index := 0#32
  ![v6212.toNat, 88, 0]
def k0_off88 (k0_t6 : Fin k0_t6_loop.trips) : Fin 3 → Nat :=
  let c0_i32_1062 : BitVec 32 := 0#32
  let c1_i32_1064 : BitVec 32 := 1#32
  let arg7 : BitVec 32 := Scf.iv c0_i32_1062 c1_i32_1064 k0_t6
  let v6220 : Index := Scalar.indexCast arg7
  let c96_2659 : Index := 96#32
  let c0_2660 : Index := 0#32
  ![v6220.toNat, 96, 0]
def k0_off89 (k0_t6 : Fin k0_t6_loop.trips) : Fin 3 → Nat :=
  let c0_i32_1062 : BitVec 32 := 0#32
  let c1_i32_1064 : BitVec 32 := 1#32
  let arg7 : BitVec 32 := Scf.iv c0_i32_1062 c1_i32_1064 k0_t6
  let v6228 : Index := Scalar.indexCast arg7
  let c104_2662 : Index := 104#32
  let c0_2663 : Index := 0#32
  ![v6228.toNat, 104, 0]
def k0_off90 (k0_t6 : Fin k0_t6_loop.trips) : Fin 3 → Nat :=
  let c0_i32_1062 : BitVec 32 := 0#32
  let c1_i32_1064 : BitVec 32 := 1#32
  let arg7 : BitVec 32 := Scf.iv c0_i32_1062 c1_i32_1064 k0_t6
  let v6236 : Index := Scalar.indexCast arg7
  let c112_2665 : Index := 112#32
  let c0_2666 : Index := 0#32
  ![v6236.toNat, 112, 0]
def k0_off91 (k0_t6 : Fin k0_t6_loop.trips) : Fin 3 → Nat :=
  let c0_i32_1062 : BitVec 32 := 0#32
  let c1_i32_1064 : BitVec 32 := 1#32
  let arg7 : BitVec 32 := Scf.iv c0_i32_1062 c1_i32_1064 k0_t6
  let v6244 : Index := Scalar.indexCast arg7
  let c120_2668 : Index := 120#32
  let c0_2669 : Index := 0#32
  ![v6244.toNat, 120, 0]
@[reducible] def k0_t7_loop : Scf.Loop 32 :=
  let c0_i32_1073 : BitVec 32 := 0#32
  let c8_i32_1074 : BitVec 32 := 8#32
  let v2471 : BitVec 32 := Scalar.addi c0_i32_1073 c8_i32_1074
  let c1_i32_1075 : BitVec 32 := 1#32
  ⟨c0_i32_1073, v2471, c1_i32_1075⟩
def k0_off92 (k0_t7 : Fin k0_t7_loop.trips) : Fin 3 → Nat :=
  let c0_i32_1073 : BitVec 32 := 0#32
  let c1_i32_1075 : BitVec 32 := 1#32
  let arg7 : BitVec 32 := Scf.iv c0_i32_1073 c1_i32_1075 k0_t7
  let v6124 : Index := Scalar.indexCast arg7
  let c0_2623 : Index := 0#32
  let c0_2624 : Index := 0#32
  ![v6124.toNat, 0, 0]
def k0_off93 (k0_t7 : Fin k0_t7_loop.trips) : Fin 3 → Nat :=
  let c0_i32_1073 : BitVec 32 := 0#32
  let c1_i32_1075 : BitVec 32 := 1#32
  let arg7 : BitVec 32 := Scf.iv c0_i32_1073 c1_i32_1075 k0_t7
  let v6132 : Index := Scalar.indexCast arg7
  let c8_2626 : Index := 8#32
  let c0_2627 : Index := 0#32
  ![v6132.toNat, 8, 0]
def k0_off94 (k0_t7 : Fin k0_t7_loop.trips) : Fin 3 → Nat :=
  let c0_i32_1073 : BitVec 32 := 0#32
  let c1_i32_1075 : BitVec 32 := 1#32
  let arg7 : BitVec 32 := Scf.iv c0_i32_1073 c1_i32_1075 k0_t7
  let v6140 : Index := Scalar.indexCast arg7
  let c16_2629 : Index := 16#32
  let c0_2630 : Index := 0#32
  ![v6140.toNat, 16, 0]
def k0_off95 (k0_t7 : Fin k0_t7_loop.trips) : Fin 3 → Nat :=
  let c0_i32_1073 : BitVec 32 := 0#32
  let c1_i32_1075 : BitVec 32 := 1#32
  let arg7 : BitVec 32 := Scf.iv c0_i32_1073 c1_i32_1075 k0_t7
  let v6148 : Index := Scalar.indexCast arg7
  let c24_2632 : Index := 24#32
  let c0_2633 : Index := 0#32
  ![v6148.toNat, 24, 0]
def k0_off96 (k0_t7 : Fin k0_t7_loop.trips) : Fin 3 → Nat :=
  let c0_i32_1073 : BitVec 32 := 0#32
  let c1_i32_1075 : BitVec 32 := 1#32
  let arg7 : BitVec 32 := Scf.iv c0_i32_1073 c1_i32_1075 k0_t7
  let v6156 : Index := Scalar.indexCast arg7
  let c32_2635 : Index := 32#32
  let c0_2636 : Index := 0#32
  ![v6156.toNat, 32, 0]
def k0_off97 (k0_t7 : Fin k0_t7_loop.trips) : Fin 3 → Nat :=
  let c0_i32_1073 : BitVec 32 := 0#32
  let c1_i32_1075 : BitVec 32 := 1#32
  let arg7 : BitVec 32 := Scf.iv c0_i32_1073 c1_i32_1075 k0_t7
  let v6164 : Index := Scalar.indexCast arg7
  let c40_2638 : Index := 40#32
  let c0_2639 : Index := 0#32
  ![v6164.toNat, 40, 0]
def k0_off98 (k0_t7 : Fin k0_t7_loop.trips) : Fin 3 → Nat :=
  let c0_i32_1073 : BitVec 32 := 0#32
  let c1_i32_1075 : BitVec 32 := 1#32
  let arg7 : BitVec 32 := Scf.iv c0_i32_1073 c1_i32_1075 k0_t7
  let v6172 : Index := Scalar.indexCast arg7
  let c48_2641 : Index := 48#32
  let c0_2642 : Index := 0#32
  ![v6172.toNat, 48, 0]
def k0_off99 (k0_t7 : Fin k0_t7_loop.trips) : Fin 3 → Nat :=
  let c0_i32_1073 : BitVec 32 := 0#32
  let c1_i32_1075 : BitVec 32 := 1#32
  let arg7 : BitVec 32 := Scf.iv c0_i32_1073 c1_i32_1075 k0_t7
  let v6180 : Index := Scalar.indexCast arg7
  let c56_2644 : Index := 56#32
  let c0_2645 : Index := 0#32
  ![v6180.toNat, 56, 0]
def k0_off100 (k0_t7 : Fin k0_t7_loop.trips) : Fin 3 → Nat :=
  let c0_i32_1073 : BitVec 32 := 0#32
  let c1_i32_1075 : BitVec 32 := 1#32
  let arg7 : BitVec 32 := Scf.iv c0_i32_1073 c1_i32_1075 k0_t7
  let v6188 : Index := Scalar.indexCast arg7
  let c64_2647 : Index := 64#32
  let c0_2648 : Index := 0#32
  ![v6188.toNat, 64, 0]
def k0_off101 (k0_t7 : Fin k0_t7_loop.trips) : Fin 3 → Nat :=
  let c0_i32_1073 : BitVec 32 := 0#32
  let c1_i32_1075 : BitVec 32 := 1#32
  let arg7 : BitVec 32 := Scf.iv c0_i32_1073 c1_i32_1075 k0_t7
  let v6196 : Index := Scalar.indexCast arg7
  let c72_2650 : Index := 72#32
  let c0_2651 : Index := 0#32
  ![v6196.toNat, 72, 0]
def k0_off102 (k0_t7 : Fin k0_t7_loop.trips) : Fin 3 → Nat :=
  let c0_i32_1073 : BitVec 32 := 0#32
  let c1_i32_1075 : BitVec 32 := 1#32
  let arg7 : BitVec 32 := Scf.iv c0_i32_1073 c1_i32_1075 k0_t7
  let v6204 : Index := Scalar.indexCast arg7
  let c80_2653 : Index := 80#32
  let c0_2654 : Index := 0#32
  ![v6204.toNat, 80, 0]
def k0_off103 (k0_t7 : Fin k0_t7_loop.trips) : Fin 3 → Nat :=
  let c0_i32_1073 : BitVec 32 := 0#32
  let c1_i32_1075 : BitVec 32 := 1#32
  let arg7 : BitVec 32 := Scf.iv c0_i32_1073 c1_i32_1075 k0_t7
  let v6212 : Index := Scalar.indexCast arg7
  let c88_2656 : Index := 88#32
  let c0_2657 : Index := 0#32
  ![v6212.toNat, 88, 0]
def k0_off104 (k0_t7 : Fin k0_t7_loop.trips) : Fin 3 → Nat :=
  let c0_i32_1073 : BitVec 32 := 0#32
  let c1_i32_1075 : BitVec 32 := 1#32
  let arg7 : BitVec 32 := Scf.iv c0_i32_1073 c1_i32_1075 k0_t7
  let v6220 : Index := Scalar.indexCast arg7
  let c96_2659 : Index := 96#32
  let c0_2660 : Index := 0#32
  ![v6220.toNat, 96, 0]
def k0_off105 (k0_t7 : Fin k0_t7_loop.trips) : Fin 3 → Nat :=
  let c0_i32_1073 : BitVec 32 := 0#32
  let c1_i32_1075 : BitVec 32 := 1#32
  let arg7 : BitVec 32 := Scf.iv c0_i32_1073 c1_i32_1075 k0_t7
  let v6228 : Index := Scalar.indexCast arg7
  let c104_2662 : Index := 104#32
  let c0_2663 : Index := 0#32
  ![v6228.toNat, 104, 0]
def k0_off106 (k0_t7 : Fin k0_t7_loop.trips) : Fin 3 → Nat :=
  let c0_i32_1073 : BitVec 32 := 0#32
  let c1_i32_1075 : BitVec 32 := 1#32
  let arg7 : BitVec 32 := Scf.iv c0_i32_1073 c1_i32_1075 k0_t7
  let v6236 : Index := Scalar.indexCast arg7
  let c112_2665 : Index := 112#32
  let c0_2666 : Index := 0#32
  ![v6236.toNat, 112, 0]
def k0_off107 (k0_t7 : Fin k0_t7_loop.trips) : Fin 3 → Nat :=
  let c0_i32_1073 : BitVec 32 := 0#32
  let c1_i32_1075 : BitVec 32 := 1#32
  let arg7 : BitVec 32 := Scf.iv c0_i32_1073 c1_i32_1075 k0_t7
  let v6244 : Index := Scalar.indexCast arg7
  let c120_2668 : Index := 120#32
  let c0_2669 : Index := 0#32
  ![v6244.toNat, 120, 0]
@[reducible] def k0_t8_loop : Scf.Loop 32 :=
  let c0_i32_1084 : BitVec 32 := 0#32
  let c8_i32_1085 : BitVec 32 := 8#32
  let v2490 : BitVec 32 := Scalar.addi c0_i32_1084 c8_i32_1085
  let c1_i32_1086 : BitVec 32 := 1#32
  ⟨c0_i32_1084, v2490, c1_i32_1086⟩
def k0_off108 (k0_t8 : Fin k0_t8_loop.trips) : Fin 3 → Nat :=
  let c0_i32_1084 : BitVec 32 := 0#32
  let c1_i32_1086 : BitVec 32 := 1#32
  let arg7 : BitVec 32 := Scf.iv c0_i32_1084 c1_i32_1086 k0_t8
  let v6124 : Index := Scalar.indexCast arg7
  let c0_2623 : Index := 0#32
  let c0_2624 : Index := 0#32
  ![v6124.toNat, 0, 0]
def k0_off109 (k0_t8 : Fin k0_t8_loop.trips) : Fin 3 → Nat :=
  let c0_i32_1084 : BitVec 32 := 0#32
  let c1_i32_1086 : BitVec 32 := 1#32
  let arg7 : BitVec 32 := Scf.iv c0_i32_1084 c1_i32_1086 k0_t8
  let v6132 : Index := Scalar.indexCast arg7
  let c8_2626 : Index := 8#32
  let c0_2627 : Index := 0#32
  ![v6132.toNat, 8, 0]
def k0_off110 (k0_t8 : Fin k0_t8_loop.trips) : Fin 3 → Nat :=
  let c0_i32_1084 : BitVec 32 := 0#32
  let c1_i32_1086 : BitVec 32 := 1#32
  let arg7 : BitVec 32 := Scf.iv c0_i32_1084 c1_i32_1086 k0_t8
  let v6140 : Index := Scalar.indexCast arg7
  let c16_2629 : Index := 16#32
  let c0_2630 : Index := 0#32
  ![v6140.toNat, 16, 0]
def k0_off111 (k0_t8 : Fin k0_t8_loop.trips) : Fin 3 → Nat :=
  let c0_i32_1084 : BitVec 32 := 0#32
  let c1_i32_1086 : BitVec 32 := 1#32
  let arg7 : BitVec 32 := Scf.iv c0_i32_1084 c1_i32_1086 k0_t8
  let v6148 : Index := Scalar.indexCast arg7
  let c24_2632 : Index := 24#32
  let c0_2633 : Index := 0#32
  ![v6148.toNat, 24, 0]
def k0_off112 (k0_t8 : Fin k0_t8_loop.trips) : Fin 3 → Nat :=
  let c0_i32_1084 : BitVec 32 := 0#32
  let c1_i32_1086 : BitVec 32 := 1#32
  let arg7 : BitVec 32 := Scf.iv c0_i32_1084 c1_i32_1086 k0_t8
  let v6156 : Index := Scalar.indexCast arg7
  let c32_2635 : Index := 32#32
  let c0_2636 : Index := 0#32
  ![v6156.toNat, 32, 0]
def k0_off113 (k0_t8 : Fin k0_t8_loop.trips) : Fin 3 → Nat :=
  let c0_i32_1084 : BitVec 32 := 0#32
  let c1_i32_1086 : BitVec 32 := 1#32
  let arg7 : BitVec 32 := Scf.iv c0_i32_1084 c1_i32_1086 k0_t8
  let v6164 : Index := Scalar.indexCast arg7
  let c40_2638 : Index := 40#32
  let c0_2639 : Index := 0#32
  ![v6164.toNat, 40, 0]
def k0_off114 (k0_t8 : Fin k0_t8_loop.trips) : Fin 3 → Nat :=
  let c0_i32_1084 : BitVec 32 := 0#32
  let c1_i32_1086 : BitVec 32 := 1#32
  let arg7 : BitVec 32 := Scf.iv c0_i32_1084 c1_i32_1086 k0_t8
  let v6172 : Index := Scalar.indexCast arg7
  let c48_2641 : Index := 48#32
  let c0_2642 : Index := 0#32
  ![v6172.toNat, 48, 0]
def k0_off115 (k0_t8 : Fin k0_t8_loop.trips) : Fin 3 → Nat :=
  let c0_i32_1084 : BitVec 32 := 0#32
  let c1_i32_1086 : BitVec 32 := 1#32
  let arg7 : BitVec 32 := Scf.iv c0_i32_1084 c1_i32_1086 k0_t8
  let v6180 : Index := Scalar.indexCast arg7
  let c56_2644 : Index := 56#32
  let c0_2645 : Index := 0#32
  ![v6180.toNat, 56, 0]
def k0_off116 (k0_t8 : Fin k0_t8_loop.trips) : Fin 3 → Nat :=
  let c0_i32_1084 : BitVec 32 := 0#32
  let c1_i32_1086 : BitVec 32 := 1#32
  let arg7 : BitVec 32 := Scf.iv c0_i32_1084 c1_i32_1086 k0_t8
  let v6188 : Index := Scalar.indexCast arg7
  let c64_2647 : Index := 64#32
  let c0_2648 : Index := 0#32
  ![v6188.toNat, 64, 0]
def k0_off117 (k0_t8 : Fin k0_t8_loop.trips) : Fin 3 → Nat :=
  let c0_i32_1084 : BitVec 32 := 0#32
  let c1_i32_1086 : BitVec 32 := 1#32
  let arg7 : BitVec 32 := Scf.iv c0_i32_1084 c1_i32_1086 k0_t8
  let v6196 : Index := Scalar.indexCast arg7
  let c72_2650 : Index := 72#32
  let c0_2651 : Index := 0#32
  ![v6196.toNat, 72, 0]
def k0_off118 (k0_t8 : Fin k0_t8_loop.trips) : Fin 3 → Nat :=
  let c0_i32_1084 : BitVec 32 := 0#32
  let c1_i32_1086 : BitVec 32 := 1#32
  let arg7 : BitVec 32 := Scf.iv c0_i32_1084 c1_i32_1086 k0_t8
  let v6204 : Index := Scalar.indexCast arg7
  let c80_2653 : Index := 80#32
  let c0_2654 : Index := 0#32
  ![v6204.toNat, 80, 0]
def k0_off119 (k0_t8 : Fin k0_t8_loop.trips) : Fin 3 → Nat :=
  let c0_i32_1084 : BitVec 32 := 0#32
  let c1_i32_1086 : BitVec 32 := 1#32
  let arg7 : BitVec 32 := Scf.iv c0_i32_1084 c1_i32_1086 k0_t8
  let v6212 : Index := Scalar.indexCast arg7
  let c88_2656 : Index := 88#32
  let c0_2657 : Index := 0#32
  ![v6212.toNat, 88, 0]
def k0_off120 (k0_t8 : Fin k0_t8_loop.trips) : Fin 3 → Nat :=
  let c0_i32_1084 : BitVec 32 := 0#32
  let c1_i32_1086 : BitVec 32 := 1#32
  let arg7 : BitVec 32 := Scf.iv c0_i32_1084 c1_i32_1086 k0_t8
  let v6220 : Index := Scalar.indexCast arg7
  let c96_2659 : Index := 96#32
  let c0_2660 : Index := 0#32
  ![v6220.toNat, 96, 0]
def k0_off121 (k0_t8 : Fin k0_t8_loop.trips) : Fin 3 → Nat :=
  let c0_i32_1084 : BitVec 32 := 0#32
  let c1_i32_1086 : BitVec 32 := 1#32
  let arg7 : BitVec 32 := Scf.iv c0_i32_1084 c1_i32_1086 k0_t8
  let v6228 : Index := Scalar.indexCast arg7
  let c104_2662 : Index := 104#32
  let c0_2663 : Index := 0#32
  ![v6228.toNat, 104, 0]
def k0_off122 (k0_t8 : Fin k0_t8_loop.trips) : Fin 3 → Nat :=
  let c0_i32_1084 : BitVec 32 := 0#32
  let c1_i32_1086 : BitVec 32 := 1#32
  let arg7 : BitVec 32 := Scf.iv c0_i32_1084 c1_i32_1086 k0_t8
  let v6236 : Index := Scalar.indexCast arg7
  let c112_2665 : Index := 112#32
  let c0_2666 : Index := 0#32
  ![v6236.toNat, 112, 0]
def k0_off123 (k0_t8 : Fin k0_t8_loop.trips) : Fin 3 → Nat :=
  let c0_i32_1084 : BitVec 32 := 0#32
  let c1_i32_1086 : BitVec 32 := 1#32
  let arg7 : BitVec 32 := Scf.iv c0_i32_1084 c1_i32_1086 k0_t8
  let v6244 : Index := Scalar.indexCast arg7
  let c120_2668 : Index := 120#32
  let c0_2669 : Index := 0#32
  ![v6244.toNat, 120, 0]
def cc0_transform_0 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S2x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x64x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x8x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DistancesBIdeal.lean ====
abbrev S1536x2 : Shape := ⟨2, ![1536, 2]⟩
abbrev S1536x4096x2 : Shape := ⟨3, ![1536, 4096, 2]⟩
abbrev S1536 : Shape := ⟨1, ![1536]⟩
abbrev S512x2 : Shape := ⟨2, ![512, 2]⟩
abbrev S2x512 : Shape := ⟨2, ![2, 512]⟩
abbrev S2x512x1x1 : Shape := ⟨4, ![2, 512, 1, 1]⟩
abbrev S2x512x8x128 : Shape := ⟨4, ![2, 512, 8, 128]⟩
abbrev S512x4096x2 : Shape := ⟨3, ![512, 4096, 2]⟩
abbrev S512x4x2x4x128x2 : Shape := ⟨6, ![512, 4, 2, 4, 128, 2]⟩
abbrev S2x4x512x4x2x128 : Shape := ⟨6, ![2, 4, 512, 4, 2, 128]⟩
abbrev S2x4x512x8x128 : Shape := ⟨5, ![2, 4, 512, 8, 128]⟩
abbrev S512x8x128 : Shape := ⟨3, ![512, 8, 128]⟩
abbrev S2x1x512x8x128 : Shape := ⟨5, ![2, 1, 512, 8, 128]⟩
abbrev S4x512x8x128 : Shape := ⟨4, ![4, 512, 8, 128]⟩
abbrev S1x512x8x128 : Shape := ⟨4, ![1, 512, 8, 128]⟩

abbrev nBuf : Space → Nat
  | .hbm => 12
  | .vmem => 3
  | .smem => 0
  | _ => 0

abbrev bufTy : (tb : Table) → Fin (tcTables nBuf tb) → BufTy
  | .hbm, ⟨0, _⟩ => ⟨S1536x2, .i32⟩
  | .hbm, ⟨1, _⟩ => ⟨S1536x4096x2, .i32⟩
  | .hbm, ⟨2, _⟩ => ⟨S1536, .i32⟩
  | .hbm, ⟨3, _⟩ => ⟨S512x2, .i32⟩
  | .hbm, ⟨4, _⟩ => ⟨S2x512, .i32⟩
  | .hbm, ⟨5, _⟩ => ⟨S2x512x1x1, .i32⟩
  | .hbm, ⟨6, _⟩ => ⟨S2x512x8x128, .i32⟩
  | .hbm, ⟨7, _⟩ => ⟨S512x4096x2, .i32⟩
  | .hbm, ⟨8, _⟩ => ⟨S512x4x2x4x128x2, .i32⟩
  | .hbm, ⟨9, _⟩ => ⟨S2x4x512x4x2x128, .i32⟩
  | .hbm, ⟨10, _⟩ => ⟨S2x4x512x8x128, .i32⟩
  | .hbm, ⟨11, _⟩ => ⟨S512x8x128, .i32⟩
  | .local _ .vmem, ⟨0, _⟩ => ⟨S2x512x8x128, .i32⟩
  | .local _ .vmem, ⟨1, _⟩ => ⟨S2x4x512x8x128, .i32⟩
  | .local _ .vmem, ⟨2, _⟩ => ⟨S512x8x128, .i32⟩
  | _, _ => ⟨S1536x2, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2x512x8x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4x512x8x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x8x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== SelectC.lean ====
abbrev S1536x2 : Shape := ⟨2, ![1536, 2]⟩
abbrev S1536x4096x2 : Shape := ⟨3, ![1536, 4096, 2]⟩
abbrev S1536 : Shape := ⟨1, ![1536]⟩
abbrev S1536x32x128x2 : Shape := ⟨4, ![1536, 32, 128, 2]⟩
abbrev S1536x32x2x128 : Shape := ⟨4, ![1536, 32, 2, 128]⟩
abbrev S1536x64x128 : Shape := ⟨3, ![1536, 64, 128]⟩
abbrev S2x1536 : Shape := ⟨2, ![2, 1536]⟩
abbrev S1x1536 : Shape := ⟨2, ![1, 1536]⟩
abbrev S512x8x128 : Shape := ⟨3, ![512, 8, 128]⟩
abbrev S512x128 : Shape := ⟨2, ![512, 128]⟩
abbrev S2x128 : Shape := ⟨2, ![2, 128]⟩
abbrev S1x128 : Shape := ⟨2, ![1, 128]⟩
abbrev S128x64x128 : Shape := ⟨3, ![128, 64, 128]⟩
abbrev S128x8x128 : Shape := ⟨3, ![128, 8, 128]⟩
abbrev S128x128 : Shape := ⟨2, ![128, 128]⟩
abbrev S8x128x128 : Shape := ⟨3, ![8, 128, 128]⟩
abbrev S8x128 : Shape := ⟨2, ![8, 128]⟩
abbrev S1x1 : Shape := ⟨2, ![1, 1]⟩
abbrev S1x8x128 : Shape := ⟨3, ![1, 8, 128]⟩
abbrev S128x1x128 : Shape := ⟨3, ![128, 1, 128]⟩
abbrev S128 : Shape := ⟨1, ![128]⟩

abbrev nBuf : Space → Nat
  | .hbm => 11
  | .vmem => 9
  | .smem => 2
  | _ => 0

abbrev bufTy : (tb : Table) → Fin (tcTables nBuf tb) → BufTy
  | .hbm, ⟨0, _⟩ => ⟨S1536x2, .i32⟩
  | .hbm, ⟨1, _⟩ => ⟨S1536x4096x2, .i32⟩
  | .hbm, ⟨2, _⟩ => ⟨S1536, .i32⟩
  | .hbm, ⟨3, _⟩ => ⟨S1536x32x128x2, .i32⟩
  | .hbm, ⟨4, _⟩ => ⟨S1536x32x2x128, .i32⟩
  | .hbm, ⟨5, _⟩ => ⟨S1536x64x128, .i32⟩
  | .hbm, ⟨6, _⟩ => ⟨S1536x2, .i32⟩
  | .hbm, ⟨7, _⟩ => ⟨S2x1536, .i32⟩
  | .hbm, ⟨8, _⟩ => ⟨S1x1536, .i32⟩
  | .hbm, ⟨9, _⟩ => ⟨S512x8x128, .i32⟩
  | .hbm, ⟨10, _⟩ => ⟨S512x128, .i32⟩
  | .local _ .vmem, ⟨0, _⟩ => ⟨S1x128, .i32⟩
  | .local _ .vmem, ⟨1, _⟩ => ⟨S1x128, .i32⟩
  | .local _ .vmem, ⟨2, _⟩ => ⟨S128x64x128, .i32⟩
  | .local _ .vmem, ⟨3, _⟩ => ⟨S128x64x128, .i32⟩
  | .local _ .vmem, ⟨4, _⟩ => ⟨S128x8x128, .i32⟩
  | .local _ .vmem, ⟨5, _⟩ => ⟨S128x8x128, .i32⟩
  | .local _ .vmem, ⟨6, _⟩ => ⟨S128x128, .i32⟩
  | .local _ .vmem, ⟨7, _⟩ => ⟨S128x128, .i32⟩
  | .local _ .vmem, ⟨8, _⟩ => ⟨S8x128x128, .i32⟩
  | .local _ .smem, ⟨0, _⟩ => ⟨S2x128, .i32⟩
  | .local _ .smem, ⟨1, _⟩ => ⟨S2x128, .i32⟩
  | _, _ => ⟨S1536x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_4 : BitVec 32 := 0#32
  let c128_i32 : BitVec 32 := 128#32
  let v19 : BitVec 32 := Scalar.addi c0_i32_4 c128_i32
  let c1_i32_5 : BitVec 32 := 1#32
  ⟨c0_i32_4, v19, c1_i32_5⟩
def k0_off1 (k0_t1 : Fin k0_t1_loop.trips) : Fin 2 → Nat :=
  let c0_2623 : Index := 0#32
  let c0_i32_4 : BitVec 32 := 0#32
  let c1_i32_5 : BitVec 32 := 1#32
  let arg7 : BitVec 32 := Scf.iv c0_i32_4 c1_i32_5 k0_t1
  let v6124 : Index := Scalar.indexCast arg7
  ![0, v6124.toNat]
def k0_off2 (k0_t1 : Fin k0_t1_loop.trips) : Fin 2 → Nat :=
  let c1_2624 : Index := 1#32
  let c0_i32_4 : BitVec 32 := 0#32
  let c1_i32_5 : BitVec 32 := 1#32
  let arg7 : BitVec 32 := Scf.iv c0_i32_4 c1_i32_5 k0_t1
  let v6126 : Index := Scalar.indexCast arg7
  ![1, v6126.toNat]
def k0_off3 (k0_t1 : Fin k0_t1_loop.trips) : Fin 3 → Nat :=
  let c0_i32_4 : BitVec 32 := 0#32
  let c1_i32_5 : BitVec 32 := 1#32
  let arg7 : BitVec 32 := Scf.iv c0_i32_4 c1_i32_5 k0_t1
  let v6131 : Index := Scalar.indexCast arg7
  let c0_2625 : Index := 0#32
  let c0_2626 : Index := 0#32
  ![v6131.toNat, 0, 0]
def k0_off4 (k0_t1 : Fin k0_t1_loop.trips) : Fin 3 → Nat :=
  let c0_i32_4 : BitVec 32 := 0#32
  let c1_i32_5 : BitVec 32 := 1#32
  let arg7 : BitVec 32 := Scf.iv c0_i32_4 c1_i32_5 k0_t1
  let v6136 : Index := Scalar.indexCast arg7
  let c16_2627 : Index := 16#32
  let c0_2628 : Index := 0#32
  ![v6136.toNat, 16, 0]
def k0_off5 (k0_t1 : Fin k0_t1_loop.trips) : Fin 3 → Nat :=
  let c0_i32_4 : BitVec 32 := 0#32
  let c1_i32_5 : BitVec 32 := 1#32
  let arg7 : BitVec 32 := Scf.iv c0_i32_4 c1_i32_5 k0_t1
  let v6144 : Index := Scalar.indexCast arg7
  let c32_2630 : Index := 32#32
  let c0_2631 : Index := 0#32
  ![v6144.toNat, 32, 0]
def k0_off6 (k0_t1 : Fin k0_t1_loop.trips) : Fin 3 → Nat :=
  let c0_i32_4 : BitVec 32 := 0#32
  let c1_i32_5 : BitVec 32 := 1#32
  let arg7 : BitVec 32 := Scf.iv c0_i32_4 c1_i32_5 k0_t1
  let v6152 : Index := Scalar.indexCast arg7
  let c48_2633 : Index := 48#32
  let c0_2634 : Index := 0#32
  ![v6152.toNat, 48, 0]
def k0_off7 (k0_t1 : Fin k0_t1_loop.trips) : Fin 3 → Nat :=
  let c0_i32_4 : BitVec 32 := 0#32
  let c1_i32_5 : BitVec 32 := 1#32
  let arg7 : BitVec 32 := Scf.iv c0_i32_4 c1_i32_5 k0_t1
  let v6160 : Index := Scalar.indexCast arg7
  let c8_2636 : Index := 8#32
  let c0_2637 : Index := 0#32
  ![v6160.toNat, 8, 0]
def k0_off8 (k0_t1 : Fin k0_t1_loop.trips) : Fin 3 → Nat :=
  let c0_i32_4 : BitVec 32 := 0#32
  let c1_i32_5 : BitVec 32 := 1#32
  let arg7 : BitVec 32 := Scf.iv c0_i32_4 c1_i32_5 k0_t1
  let v6165 : Index := Scalar.indexCast arg7
  let c24_2638 : Index := 24#32
  let c0_2639 : Index := 0#32
  ![v6165.toNat, 24, 0]
def k0_off9 (k0_t1 : Fin k0_t1_loop.trips) : Fin 3 → Nat :=
  let c0_i32_4 : BitVec 32 := 0#32
  let c1_i32_5 : BitVec 32 := 1#32
  let arg7 : BitVec 32 := Scf.iv c0_i32_4 c1_i32_5 k0_t1
  let v6173 : Index := Scalar.indexCast arg7
  let c40_2641 : Index := 40#32
  let c0_2642 : Index := 0#32
  ![v6173.toNat, 40, 0]
def k0_off10 (k0_t1 : Fin k0_t1_loop.trips) : Fin 3 → Nat :=
  let c0_i32_4 : BitVec 32 := 0#32
  let c1_i32_5 : BitVec 32 := 1#32
  let arg7 : BitVec 32 := Scf.iv c0_i32_4 c1_i32_5 k0_t1
  let v6181 : Index := Scalar.indexCast arg7
  let c56_2644 : Index := 56#32
  let c0_2645 : Index := 0#32
  ![v6181.toNat, 56, 0]
def k0_off11 (k0_t1 : Fin k0_t1_loop.trips) : Fin 3 → Nat :=
  let c0_i32_4 : BitVec 32 := 0#32
  let c1_i32_5 : BitVec 32 := 1#32
  let arg7 : BitVec 32 := Scf.iv c0_i32_4 c1_i32_5 k0_t1
  let v6194 : Index := Scalar.indexCast arg7
  let c0_2649 : Index := 0#32
  let c0_2650 : Index := 0#32
  ![v6194.toNat, 0, 0]
@[reducible] def k0_t2_loop : Scf.Loop 32 :=
  let c0_i32_1019 : BitVec 32 := 0#32
  let c8_i32_1020 : BitVec 32 := 8#32
  let v2376 : BitVec 32 := Scalar.addi c0_i32_1019 c8_i32_1020
  let c1_i32_1021 : BitVec 32 := 1#32
  ⟨c0_i32_1019, v2376, c1_i32_1021⟩
def k0_off12 (k0_t2 : Fin k0_t2_loop.trips) : Fin 3 → Nat :=
  let c0_i32_1019 : BitVec 32 := 0#32
  let c1_i32_1021 : BitVec 32 := 1#32
  let arg7 : BitVec 32 := Scf.iv c0_i32_1019 c1_i32_1021 k0_t2
  let v6124 : Index := Scalar.indexCast arg7
  let c0_2623 : Index := 0#32
  let c0_2624 : Index := 0#32
  ![v6124.toNat, 0, 0]
def k0_off13 (k0_t2 : Fin k0_t2_loop.trips) : Fin 3 → Nat :=
  let c0_i32_1019 : BitVec 32 := 0#32
  let c1_i32_1021 : BitVec 32 := 1#32
  let arg7 : BitVec 32 := Scf.iv c0_i32_1019 c1_i32_1021 k0_t2
  let v6132 : Index := Scalar.indexCast arg7
  let c8_2626 : Index := 8#32
  let c0_2627 : Index := 0#32
  ![v6132.toNat, 8, 0]
def k0_off14 (k0_t2 : Fin k0_t2_loop.trips) : Fin 3 → Nat :=
  let c0_i32_1019 : BitVec 32 := 0#32
  let c1_i32_1021 : BitVec 32 := 1#32
  let arg7 : BitVec 32 := Scf.iv c0_i32_1019 c1_i32_1021 k0_t2
  let v6140 : Index := Scalar.indexCast arg7
  let c16_2629 : Index := 16#32
  let c0_2630 : Index := 0#32
  ![v6140.toNat, 16, 0]
def k0_off15 (k0_t2 : Fin k0_t2_loop.trips) : Fin 3 → Nat :=
  let c0_i32_1019 : BitVec 32 := 0#32
  let c1_i32_1021 : BitVec 32 := 1#32
  let arg7 : BitVec 32 := Scf.iv c0_i32_1019 c1_i32_1021 k0_t2
  let v6148 : Index := Scalar.indexCast arg7
  let c24_2632 : Index := 24#32
  let c0_2633 : Index := 0#32
  ![v6148.toNat, 24, 0]
def k0_off16 (k0_t2 : Fin k0_t2_loop.trips) : Fin 3 → Nat :=
  let c0_i32_1019 : BitVec 32 := 0#32
  let c1_i32_1021 : BitVec 32 := 1#32
  let arg7 : BitVec 32 := Scf.iv c0_i32_1019 c1_i32_1021 k0_t2
  let v6156 : Index := Scalar.indexCast arg7
  let c32_2635 : Index := 32#32
  let c0_2636 : Index := 0#32
  ![v6156.toNat, 32, 0]
def k0_off17 (k0_t2 : Fin k0_t2_loop.trips) : Fin 3 → Nat :=
  let c0_i32_1019 : BitVec 32 := 0#32
  let c1_i32_1021 : BitVec 32 := 1#32
  let arg7 : BitVec 32 := Scf.iv c0_i32_1019 c1_i32_1021 k0_t2
  let v6164 : Index := Scalar.indexCast arg7
  let c40_2638 : Index := 40#32
  let c0_2639 : Index := 0#32
  ![v6164.toNat, 40, 0]
def k0_off18 (k0_t2 : Fin k0_t2_loop.trips) : Fin 3 → Nat :=
  let c0_i32_1019 : BitVec 32 := 0#32
  let c1_i32_1021 : BitVec 32 := 1#32
  let arg7 : BitVec 32 := Scf.iv c0_i32_1019 c1_i32_1021 k0_t2
  let v6172 : Index := Scalar.indexCast arg7
  let c48_2641 : Index := 48#32
  let c0_2642 : Index := 0#32
  ![v6172.toNat, 48, 0]
def k0_off19 (k0_t2 : Fin k0_t2_loop.trips) : Fin 3 → Nat :=
  let c0_i32_1019 : BitVec 32 := 0#32
  let c1_i32_1021 : BitVec 32 := 1#32
  let arg7 : BitVec 32 := Scf.iv c0_i32_1019 c1_i32_1021 k0_t2
  let v6180 : Index := Scalar.indexCast arg7
  let c56_2644 : Index := 56#32
  let c0_2645 : Index := 0#32
  ![v6180.toNat, 56, 0]
def k0_off20 (k0_t2 : Fin k0_t2_loop.trips) : Fin 3 → Nat :=
  let c0_i32_1019 : BitVec 32 := 0#32
  let c1_i32_1021 : BitVec 32 := 1#32
  let arg7 : BitVec 32 := Scf.iv c0_i32_1019 c1_i32_1021 k0_t2
  let v6188 : Index := Scalar.indexCast arg7
  let c64_2647 : Index := 64#32
  let c0_2648 : Index := 0#32
  ![v6188.toNat, 64, 0]
def k0_off21 (k0_t2 : Fin k0_t2_loop.trips) : Fin 3 → Nat :=
  let c0_i32_1019 : BitVec 32 := 0#32
  let c1_i32_1021 : BitVec 32 := 1#32
  let arg7 : BitVec 32 := Scf.iv c0_i32_1019 c1_i32_1021 k0_t2
  let v6196 : Index := Scalar.indexCast arg7
  let c72_2650 : Index := 72#32
  let c0_2651 : Index := 0#32
  ![v6196.toNat, 72, 0]
def k0_off22 (k0_t2 : Fin k0_t2_loop.trips) : Fin 3 → Nat :=
  let c0_i32_1019 : BitVec 32 := 0#32
  let c1_i32_1021 : BitVec 32 := 1#32
  let arg7 : BitVec 32 := Scf.iv c0_i32_1019 c1_i32_1021 k0_t2
  let v6204 : Index := Scalar.indexCast arg7
  let c80_2653 : Index := 80#32
  let c0_2654 : Index := 0#32
  ![v6204.toNat, 80, 0]
def k0_off23 (k0_t2 : Fin k0_t2_loop.trips) : Fin 3 → Nat :=
  let c0_i32_1019 : BitVec 32 := 0#32
  let c1_i32_1021 : BitVec 32 := 1#32
  let arg7 : BitVec 32 := Scf.iv c0_i32_1019 c1_i32_1021 k0_t2
  let v6212 : Index := Scalar.indexCast arg7
  let c88_2656 : Index := 88#32
  let c0_2657 : Index := 0#32
  ![v6212.toNat, 88, 0]
def k0_off24 (k0_t2 : Fin k0_t2_loop.trips) : Fin 3 → Nat :=
  let c0_i32_1019 : BitVec 32 := 0#32
  let c1_i32_1021 : BitVec 32 := 1#32
  let arg7 : BitVec 32 := Scf.iv c0_i32_1019 c1_i32_1021 k0_t2
  let v6220 : Index := Scalar.indexCast arg7
  let c96_2659 : Index := 96#32
  let c0_2660 : Index := 0#32
  ![v6220.toNat, 96, 0]
def k0_off25 (k0_t2 : Fin k0_t2_loop.trips) : Fin 3 → Nat :=
  let c0_i32_1019 : BitVec 32 := 0#32
  let c1_i32_1021 : BitVec 32 := 1#32
  let arg7 : BitVec 32 := Scf.iv c0_i32_1019 c1_i32_1021 k0_t2
  let v6228 : Index := Scalar.indexCast arg7
  let c104_2662 : Index := 104#32
  let c0_2663 : Index := 0#32
  ![v6228.toNat, 104, 0]
def k0_off26 (k0_t2 : Fin k0_t2_loop.trips) : Fin 3 → Nat :=
  let c0_i32_1019 : BitVec 32 := 0#32
  let c1_i32_1021 : BitVec 32 := 1#32
  let arg7 : BitVec 32 := Scf.iv c0_i32_1019 c1_i32_1021 k0_t2
  let v6236 : Index := Scalar.indexCast arg7
  let c112_2665 : Index := 112#32
  let c0_2666 : Index := 0#32
  ![v6236.toNat, 112, 0]
def k0_off27 (k0_t2 : Fin k0_t2_loop.trips) : Fin 3 → Nat :=
  let c0_i32_1019 : BitVec 32 := 0#32
  let c1_i32_1021 : BitVec 32 := 1#32
  let arg7 : BitVec 32 := Scf.iv c0_i32_1019 c1_i32_1021 k0_t2
  let v6244 : Index := Scalar.indexCast arg7
  let c120_2668 : Index := 120#32
  let c0_2669 : Index := 0#32
  ![v6244.toNat, 120, 0]
@[reducible] def k0_t3_loop : Scf.Loop 32 :=
  let c0_i32_1030 : BitVec 32 := 0#32
  let c8_i32_1031 : BitVec 32 := 8#32
  let v2395 : BitVec 32 := Scalar.addi c0_i32_1030 c8_i32_1031
  let c1_i32_1032 : BitVec 32 := 1#32
  ⟨c0_i32_1030, v2395, c1_i32_1032⟩
def k0_off28 (k0_t3 : Fin k0_t3_loop.trips) : Fin 3 → Nat :=
  let c0_i32_1030 : BitVec 32 := 0#32
  let c1_i32_1032 : BitVec 32 := 1#32
  let arg7 : BitVec 32 := Scf.iv c0_i32_1030 c1_i32_1032 k0_t3
  let v6124 : Index := Scalar.indexCast arg7
  let c0_2623 : Index := 0#32
  let c0_2624 : Index := 0#32
  ![v6124.toNat, 0, 0]
def k0_off29 (k0_t3 : Fin k0_t3_loop.trips) : Fin 3 → Nat :=
  let c0_i32_1030 : BitVec 32 := 0#32
  let c1_i32_1032 : BitVec 32 := 1#32
  let arg7 : BitVec 32 := Scf.iv c0_i32_1030 c1_i32_1032 k0_t3
  let v6132 : Index := Scalar.indexCast arg7
  let c8_2626 : Index := 8#32
  let c0_2627 : Index := 0#32
  ![v6132.toNat, 8, 0]
def k0_off30 (k0_t3 : Fin k0_t3_loop.trips) : Fin 3 → Nat :=
  let c0_i32_1030 : BitVec 32 := 0#32
  let c1_i32_1032 : BitVec 32 := 1#32
  let arg7 : BitVec 32 := Scf.iv c0_i32_1030 c1_i32_1032 k0_t3
  let v6140 : Index := Scalar.indexCast arg7
  let c16_2629 : Index := 16#32
  let c0_2630 : Index := 0#32
  ![v6140.toNat, 16, 0]
def k0_off31 (k0_t3 : Fin k0_t3_loop.trips) : Fin 3 → Nat :=
  let c0_i32_1030 : BitVec 32 := 0#32
  let c1_i32_1032 : BitVec 32 := 1#32
  let arg7 : BitVec 32 := Scf.iv c0_i32_1030 c1_i32_1032 k0_t3
  let v6148 : Index := Scalar.indexCast arg7
  let c24_2632 : Index := 24#32
  let c0_2633 : Index := 0#32
  ![v6148.toNat, 24, 0]
def k0_off32 (k0_t3 : Fin k0_t3_loop.trips) : Fin 3 → Nat :=
  let c0_i32_1030 : BitVec 32 := 0#32
  let c1_i32_1032 : BitVec 32 := 1#32
  let arg7 : BitVec 32 := Scf.iv c0_i32_1030 c1_i32_1032 k0_t3
  let v6156 : Index := Scalar.indexCast arg7
  let c32_2635 : Index := 32#32
  let c0_2636 : Index := 0#32
  ![v6156.toNat, 32, 0]
def k0_off33 (k0_t3 : Fin k0_t3_loop.trips) : Fin 3 → Nat :=
  let c0_i32_1030 : BitVec 32 := 0#32
  let c1_i32_1032 : BitVec 32 := 1#32
  let arg7 : BitVec 32 := Scf.iv c0_i32_1030 c1_i32_1032 k0_t3
  let v6164 : Index := Scalar.indexCast arg7
  let c40_2638 : Index := 40#32
  let c0_2639 : Index := 0#32
  ![v6164.toNat, 40, 0]
def k0_off34 (k0_t3 : Fin k0_t3_loop.trips) : Fin 3 → Nat :=
  let c0_i32_1030 : BitVec 32 := 0#32
  let c1_i32_1032 : BitVec 32 := 1#32
  let arg7 : BitVec 32 := Scf.iv c0_i32_1030 c1_i32_1032 k0_t3
  let v6172 : Index := Scalar.indexCast arg7
  let c48_2641 : Index := 48#32
  let c0_2642 : Index := 0#32
  ![v6172.toNat, 48, 0]
def k0_off35 (k0_t3 : Fin k0_t3_loop.trips) : Fin 3 → Nat :=
  let c0_i32_1030 : BitVec 32 := 0#32
  let c1_i32_1032 : BitVec 32 := 1#32
  let arg7 : BitVec 32 := Scf.iv c0_i32_1030 c1_i32_1032 k0_t3
  let v6180 : Index := Scalar.indexCast arg7
  let c56_2644 : Index := 56#32
  let c0_2645 : Index := 0#32
  ![v6180.toNat, 56, 0]
def k0_off36 (k0_t3 : Fin k0_t3_loop.trips) : Fin 3 → Nat :=
  let c0_i32_1030 : BitVec 32 := 0#32
  let c1_i32_1032 : BitVec 32 := 1#32
  let arg7 : BitVec 32 := Scf.iv c0_i32_1030 c1_i32_1032 k0_t3
  let v6188 : Index := Scalar.indexCast arg7
  let c64_2647 : Index := 64#32
  let c0_2648 : Index := 0#32
  ![v6188.toNat, 64, 0]
def k0_off37 (k0_t3 : Fin k0_t3_loop.trips) : Fin 3 → Nat :=
  let c0_i32_1030 : BitVec 32 := 0#32
  let c1_i32_1032 : BitVec 32 := 1#32
  let arg7 : BitVec 32 := Scf.iv c0_i32_1030 c1_i32_1032 k0_t3
  let v6196 : Index := Scalar.indexCast arg7
  let c72_2650 : Index := 72#32
  let c0_2651 : Index := 0#32
  ![v6196.toNat, 72, 0]
def k0_off38 (k0_t3 : Fin k0_t3_loop.trips) : Fin 3 → Nat :=
  let c0_i32_1030 : BitVec 32 := 0#32
  let c1_i32_1032 : BitVec 32 := 1#32
  let arg7 : BitVec 32 := Scf.iv c0_i32_1030 c1_i32_1032 k0_t3
  let v6204 : Index := Scalar.indexCast arg7
  let c80_2653 : Index := 80#32
  let c0_2654 : Index := 0#32
  ![v6204.toNat, 80, 0]
def k0_off39 (k0_t3 : Fin k0_t3_loop.trips) : Fin 3 → Nat :=
  let c0_i32_1030 : BitVec 32 := 0#32
  let c1_i32_1032 : BitVec 32 := 1#32
  let arg7 : BitVec 32 := Scf.iv c0_i32_1030 c1_i32_1032 k0_t3
  let v6212 : Index := Scalar.indexCast arg7
  let c88_2656 : Index := 88#32
  let c0_2657 : Index := 0#32
  ![v6212.toNat, 88, 0]
def k0_off40 (k0_t3 : Fin k0_t3_loop.trips) : Fin 3 → Nat :=
  let c0_i32_1030 : BitVec 32 := 0#32
  let c1_i32_1032 : BitVec 32 := 1#32
  let arg7 : BitVec 32 := Scf.iv c0_i32_1030 c1_i32_1032 k0_t3
  let v6220 : Index := Scalar.indexCast arg7
  let c96_2659 : Index := 96#32
  let c0_2660 : Index := 0#32
  ![v6220.toNat, 96, 0]
def k0_off41 (k0_t3 : Fin k0_t3_loop.trips) : Fin 3 → Nat :=
  let c0_i32_1030 : BitVec 32 := 0#32
  let c1_i32_1032 : BitVec 32 := 1#32
  let arg7 : BitVec 32 := Scf.iv c0_i32_1030 c1_i32_1032 k0_t3
  let v6228 : Index := Scalar.indexCast arg7
  let c104_2662 : Index := 104#32
  let c0_2663 : Index := 0#32
  ![v6228.toNat, 104, 0]
def k0_off42 (k0_t3 : Fin k0_t3_loop.trips) : Fin 3 → Nat :=
  let c0_i32_1030 : BitVec 32 := 0#32
  let c1_i32_1032 : BitVec 32 := 1#32
  let arg7 : BitVec 32 := Scf.iv c0_i32_1030 c1_i32_1032 k0_t3
  let v6236 : Index := Scalar.indexCast arg7
  let c112_2665 : Index := 112#32
  let c0_2666 : Index := 0#32
  ![v6236.toNat, 112, 0]
def k0_off43 (k0_t3 : Fin k0_t3_loop.trips) : Fin 3 → Nat :=
  let c0_i32_1030 : BitVec 32 := 0#32
  let c1_i32_1032 : BitVec 32 := 1#32
  let arg7 : BitVec 32 := Scf.iv c0_i32_1030 c1_i32_1032 k0_t3
  let v6244 : Index := Scalar.indexCast arg7
  let c120_2668 : Index := 120#32
  let c0_2669 : Index := 0#32
  ![v6244.toNat, 120, 0]
@[reducible] def k0_t4_loop : Scf.Loop 32 :=
  let c0_i32_1041 : BitVec 32 := 0#32
  let c8_i32_1042 : BitVec 32 := 8#32
  let v2414 : BitVec 32 := Scalar.addi c0_i32_1041 c8_i32_1042
  let c1_i32_1043 : BitVec 32 := 1#32
  ⟨c0_i32_1041, v2414, c1_i32_1043⟩
def k0_off44 (k0_t4 : Fin k0_t4_loop.trips) : Fin 3 → Nat :=
  let c0_i32_1041 : BitVec 32 := 0#32
  let c1_i32_1043 : BitVec 32 := 1#32
  let arg7 : BitVec 32 := Scf.iv c0_i32_1041 c1_i32_1043 k0_t4
  let v6124 : Index := Scalar.indexCast arg7
  let c0_2623 : Index := 0#32
  let c0_2624 : Index := 0#32
  ![v6124.toNat, 0, 0]
def k0_off45 (k0_t4 : Fin k0_t4_loop.trips) : Fin 3 → Nat :=
  let c0_i32_1041 : BitVec 32 := 0#32
  let c1_i32_1043 : BitVec 32 := 1#32
  let arg7 : BitVec 32 := Scf.iv c0_i32_1041 c1_i32_1043 k0_t4
  let v6132 : Index := Scalar.indexCast arg7
  let c8_2626 : Index := 8#32
  let c0_2627 : Index := 0#32
  ![v6132.toNat, 8, 0]
def k0_off46 (k0_t4 : Fin k0_t4_loop.trips) : Fin 3 → Nat :=
  let c0_i32_1041 : BitVec 32 := 0#32
  let c1_i32_1043 : BitVec 32 := 1#32
  let arg7 : BitVec 32 := Scf.iv c0_i32_1041 c1_i32_1043 k0_t4
  let v6140 : Index := Scalar.indexCast arg7
  let c16_2629 : Index := 16#32
  let c0_2630 : Index := 0#32
  ![v6140.toNat, 16, 0]
def k0_off47 (k0_t4 : Fin k0_t4_loop.trips) : Fin 3 → Nat :=
  let c0_i32_1041 : BitVec 32 := 0#32
  let c1_i32_1043 : BitVec 32 := 1#32
  let arg7 : BitVec 32 := Scf.iv c0_i32_1041 c1_i32_1043 k0_t4
  let v6148 : Index := Scalar.indexCast arg7
  let c24_2632 : Index := 24#32
  let c0_2633 : Index := 0#32
  ![v6148.toNat, 24, 0]
def k0_off48 (k0_t4 : Fin k0_t4_loop.trips) : Fin 3 → Nat :=
  let c0_i32_1041 : BitVec 32 := 0#32
  let c1_i32_1043 : BitVec 32 := 1#32
  let arg7 : BitVec 32 := Scf.iv c0_i32_1041 c1_i32_1043 k0_t4
  let v6156 : Index := Scalar.indexCast arg7
  let c32_2635 : Index := 32#32
  let c0_2636 : Index := 0#32
  ![v6156.toNat, 32, 0]
def k0_off49 (k0_t4 : Fin k0_t4_loop.trips) : Fin 3 → Nat :=
  let c0_i32_1041 : BitVec 32 := 0#32
  let c1_i32_1043 : BitVec 32 := 1#32
  let arg7 : BitVec 32 := Scf.iv c0_i32_1041 c1_i32_1043 k0_t4
  let v6164 : Index := Scalar.indexCast arg7
  let c40_2638 : Index := 40#32
  let c0_2639 : Index := 0#32
  ![v6164.toNat, 40, 0]
def k0_off50 (k0_t4 : Fin k0_t4_loop.trips) : Fin 3 → Nat :=
  let c0_i32_1041 : BitVec 32 := 0#32
  let c1_i32_1043 : BitVec 32 := 1#32
  let arg7 : BitVec 32 := Scf.iv c0_i32_1041 c1_i32_1043 k0_t4
  let v6172 : Index := Scalar.indexCast arg7
  let c48_2641 : Index := 48#32
  let c0_2642 : Index := 0#32
  ![v6172.toNat, 48, 0]
def k0_off51 (k0_t4 : Fin k0_t4_loop.trips) : Fin 3 → Nat :=
  let c0_i32_1041 : BitVec 32 := 0#32
  let c1_i32_1043 : BitVec 32 := 1#32
  let arg7 : BitVec 32 := Scf.iv c0_i32_1041 c1_i32_1043 k0_t4
  let v6180 : Index := Scalar.indexCast arg7
  let c56_2644 : Index := 56#32
  let c0_2645 : Index := 0#32
  ![v6180.toNat, 56, 0]
def k0_off52 (k0_t4 : Fin k0_t4_loop.trips) : Fin 3 → Nat :=
  let c0_i32_1041 : BitVec 32 := 0#32
  let c1_i32_1043 : BitVec 32 := 1#32
  let arg7 : BitVec 32 := Scf.iv c0_i32_1041 c1_i32_1043 k0_t4
  let v6188 : Index := Scalar.indexCast arg7
  let c64_2647 : Index := 64#32
  let c0_2648 : Index := 0#32
  ![v6188.toNat, 64, 0]
def k0_off53 (k0_t4 : Fin k0_t4_loop.trips) : Fin 3 → Nat :=
  let c0_i32_1041 : BitVec 32 := 0#32
  let c1_i32_1043 : BitVec 32 := 1#32
  let arg7 : BitVec 32 := Scf.iv c0_i32_1041 c1_i32_1043 k0_t4
  let v6196 : Index := Scalar.indexCast arg7
  let c72_2650 : Index := 72#32
  let c0_2651 : Index := 0#32
  ![v6196.toNat, 72, 0]
def k0_off54 (k0_t4 : Fin k0_t4_loop.trips) : Fin 3 → Nat :=
  let c0_i32_1041 : BitVec 32 := 0#32
  let c1_i32_1043 : BitVec 32 := 1#32
  let arg7 : BitVec 32 := Scf.iv c0_i32_1041 c1_i32_1043 k0_t4
  let v6204 : Index := Scalar.indexCast arg7
  let c80_2653 : Index := 80#32
  let c0_2654 : Index := 0#32
  ![v6204.toNat, 80, 0]
def k0_off55 (k0_t4 : Fin k0_t4_loop.trips) : Fin 3 → Nat :=
  let c0_i32_1041 : BitVec 32 := 0#32
  let c1_i32_1043 : BitVec 32 := 1#32
  let arg7 : BitVec 32 := Scf.iv c0_i32_1041 c1_i32_1043 k0_t4
  let v6212 : Index := Scalar.indexCast arg7
  let c88_2656 : Index := 88#32
  let c0_2657 : Index := 0#32
  ![v6212.toNat, 88, 0]
def k0_off56 (k0_t4 : Fin k0_t4_loop.trips) : Fin 3 → Nat :=
  let c0_i32_1041 : BitVec 32 := 0#32
  let c1_i32_1043 : BitVec 32 := 1#32
  let arg7 : BitVec 32 := Scf.iv c0_i32_1041 c1_i32_1043 k0_t4
  let v6220 : Index := Scalar.indexCast arg7
  let c96_2659 : Index := 96#32
  let c0_2660 : Index := 0#32
  ![v6220.toNat, 96, 0]
def k0_off57 (k0_t4 : Fin k0_t4_loop.trips) : Fin 3 → Nat :=
  let c0_i32_1041 : BitVec 32 := 0#32
  let c1_i32_1043 : BitVec 32 := 1#32
  let arg7 : BitVec 32 := Scf.iv c0_i32_1041 c1_i32_1043 k0_t4
  let v6228 : Index := Scalar.indexCast arg7
  let c104_2662 : Index := 104#32
  let c0_2663 : Index := 0#32
  ![v6228.toNat, 104, 0]
def k0_off58 (k0_t4 : Fin k0_t4_loop.trips) : Fin 3 → Nat :=
  let c0_i32_1041 : BitVec 32 := 0#32
  let c1_i32_1043 : BitVec 32 := 1#32
  let arg7 : BitVec 32 := Scf.iv c0_i32_1041 c1_i32_1043 k0_t4
  let v6236 : Index := Scalar.indexCast arg7
  let c112_2665 : Index := 112#32
  let c0_2666 : Index := 0#32
  ![v6236.toNat, 112, 0]
def k0_off59 (k0_t4 : Fin k0_t4_loop.trips) : Fin 3 → Nat :=
  let c0_i32_1041 : BitVec 32 := 0#32
  let c1_i32_1043 : BitVec 32 := 1#32
  let arg7 : BitVec 32 := Scf.iv c0_i32_1041 c1_i32_1043 k0_t4
  let v6244 : Index := Scalar.indexCast arg7
  let c120_2668 : Index := 120#32
  let c0_2669 : Index := 0#32
  ![v6244.toNat, 120, 0]
@[reducible] def k0_t5_loop : Scf.Loop 32 :=
  let c0_i32_1052 : BitVec 32 := 0#32
  let c8_i32_1053 : BitVec 32 := 8#32
  let v2433 : BitVec 32 := Scalar.addi c0_i32_1052 c8_i32_1053
  let c1_i32_1054 : BitVec 32 := 1#32
  ⟨c0_i32_1052, v2433, c1_i32_1054⟩
def k0_off60 (k0_t5 : Fin k0_t5_loop.trips) : Fin 3 → Nat :=
  let c0_i32_1052 : BitVec 32 := 0#32
  let c1_i32_1054 : BitVec 32 := 1#32
  let arg7 : BitVec 32 := Scf.iv c0_i32_1052 c1_i32_1054 k0_t5
  let v6124 : Index := Scalar.indexCast arg7
  let c0_2623 : Index := 0#32
  let c0_2624 : Index := 0#32
  ![v6124.toNat, 0, 0]
def k0_off61 (k0_t5 : Fin k0_t5_loop.trips) : Fin 3 → Nat :=
  let c0_i32_1052 : BitVec 32 := 0#32
  let c1_i32_1054 : BitVec 32 := 1#32
  let arg7 : BitVec 32 := Scf.iv c0_i32_1052 c1_i32_1054 k0_t5
  let v6132 : Index := Scalar.indexCast arg7
  let c8_2626 : Index := 8#32
  let c0_2627 : Index := 0#32
  ![v6132.toNat, 8, 0]
def k0_off62 (k0_t5 : Fin k0_t5_loop.trips) : Fin 3 → Nat :=
  let c0_i32_1052 : BitVec 32 := 0#32
  let c1_i32_1054 : BitVec 32 := 1#32
  let arg7 : BitVec 32 := Scf.iv c0_i32_1052 c1_i32_1054 k0_t5
  let v6140 : Index := Scalar.indexCast arg7
  let c16_2629 : Index := 16#32
  let c0_2630 : Index := 0#32
  ![v6140.toNat, 16, 0]
def k0_off63 (k0_t5 : Fin k0_t5_loop.trips) : Fin 3 → Nat :=
  let c0_i32_1052 : BitVec 32 := 0#32
  let c1_i32_1054 : BitVec 32 := 1#32
  let arg7 : BitVec 32 := Scf.iv c0_i32_1052 c1_i32_1054 k0_t5
  let v6148 : Index := Scalar.indexCast arg7
  let c24_2632 : Index := 24#32
  let c0_2633 : Index := 0#32
  ![v6148.toNat, 24, 0]
def k0_off64 (k0_t5 : Fin k0_t5_loop.trips) : Fin 3 → Nat :=
  let c0_i32_1052 : BitVec 32 := 0#32
  let c1_i32_1054 : BitVec 32 := 1#32
  let arg7 : BitVec 32 := Scf.iv c0_i32_1052 c1_i32_1054 k0_t5
  let v6156 : Index := Scalar.indexCast arg7
  let c32_2635 : Index := 32#32
  let c0_2636 : Index := 0#32
  ![v6156.toNat, 32, 0]
def k0_off65 (k0_t5 : Fin k0_t5_loop.trips) : Fin 3 → Nat :=
  let c0_i32_1052 : BitVec 32 := 0#32
  let c1_i32_1054 : BitVec 32 := 1#32
  let arg7 : BitVec 32 := Scf.iv c0_i32_1052 c1_i32_1054 k0_t5
  let v6164 : Index := Scalar.indexCast arg7
  let c40_2638 : Index := 40#32
  let c0_2639 : Index := 0#32
  ![v6164.toNat, 40, 0]
def k0_off66 (k0_t5 : Fin k0_t5_loop.trips) : Fin 3 → Nat :=
  let c0_i32_1052 : BitVec 32 := 0#32
  let c1_i32_1054 : BitVec 32 := 1#32
  let arg7 : BitVec 32 := Scf.iv c0_i32_1052 c1_i32_1054 k0_t5
  let v6172 : Index := Scalar.indexCast arg7
  let c48_2641 : Index := 48#32
  let c0_2642 : Index := 0#32
  ![v6172.toNat, 48, 0]
def k0_off67 (k0_t5 : Fin k0_t5_loop.trips) : Fin 3 → Nat :=
  let c0_i32_1052 : BitVec 32 := 0#32
  let c1_i32_1054 : BitVec 32 := 1#32
  let arg7 : BitVec 32 := Scf.iv c0_i32_1052 c1_i32_1054 k0_t5
  let v6180 : Index := Scalar.indexCast arg7
  let c56_2644 : Index := 56#32
  let c0_2645 : Index := 0#32
  ![v6180.toNat, 56, 0]
def k0_off68 (k0_t5 : Fin k0_t5_loop.trips) : Fin 3 → Nat :=
  let c0_i32_1052 : BitVec 32 := 0#32
  let c1_i32_1054 : BitVec 32 := 1#32
  let arg7 : BitVec 32 := Scf.iv c0_i32_1052 c1_i32_1054 k0_t5
  let v6188 : Index := Scalar.indexCast arg7
  let c64_2647 : Index := 64#32
  let c0_2648 : Index := 0#32
  ![v6188.toNat, 64, 0]
def k0_off69 (k0_t5 : Fin k0_t5_loop.trips) : Fin 3 → Nat :=
  let c0_i32_1052 : BitVec 32 := 0#32
  let c1_i32_1054 : BitVec 32 := 1#32
  let arg7 : BitVec 32 := Scf.iv c0_i32_1052 c1_i32_1054 k0_t5
  let v6196 : Index := Scalar.indexCast arg7
  let c72_2650 : Index := 72#32
  let c0_2651 : Index := 0#32
  ![v6196.toNat, 72, 0]
def k0_off70 (k0_t5 : Fin k0_t5_loop.trips) : Fin 3 → Nat :=
  let c0_i32_1052 : BitVec 32 := 0#32
  let c1_i32_1054 : BitVec 32 := 1#32
  let arg7 : BitVec 32 := Scf.iv c0_i32_1052 c1_i32_1054 k0_t5
  let v6204 : Index := Scalar.indexCast arg7
  let c80_2653 : Index := 80#32
  let c0_2654 : Index := 0#32
  ![v6204.toNat, 80, 0]
def k0_off71 (k0_t5 : Fin k0_t5_loop.trips) : Fin 3 → Nat :=
  let c0_i32_1052 : BitVec 32 := 0#32
  let c1_i32_1054 : BitVec 32 := 1#32
  let arg7 : BitVec 32 := Scf.iv c0_i32_1052 c1_i32_1054 k0_t5
  let v6212 : Index := Scalar.indexCast arg7
  let c88_2656 : Index := 88#32
  let c0_2657 : Index := 0#32
  ![v6212.toNat, 88, 0]
def k0_off72 (k0_t5 : Fin k0_t5_loop.trips) : Fin 3 → Nat :=
  let c0_i32_1052 : BitVec 32 := 0#32
  let c1_i32_1054 : BitVec 32 := 1#32
  let arg7 : BitVec 32 := Scf.iv c0_i32_1052 c1_i32_1054 k0_t5
  let v6220 : Index := Scalar.indexCast arg7
  let c96_2659 : Index := 96#32
  let c0_2660 : Index := 0#32
  ![v6220.toNat, 96, 0]
def k0_off73 (k0_t5 : Fin k0_t5_loop.trips) : Fin 3 → Nat :=
  let c0_i32_1052 : BitVec 32 := 0#32
  let c1_i32_1054 : BitVec 32 := 1#32
  let arg7 : BitVec 32 := Scf.iv c0_i32_1052 c1_i32_1054 k0_t5
  let v6228 : Index := Scalar.indexCast arg7
  let c104_2662 : Index := 104#32
  let c0_2663 : Index := 0#32
  ![v6228.toNat, 104, 0]
def k0_off74 (k0_t5 : Fin k0_t5_loop.trips) : Fin 3 → Nat :=
  let c0_i32_1052 : BitVec 32 := 0#32
  let c1_i32_1054 : BitVec 32 := 1#32
  let arg7 : BitVec 32 := Scf.iv c0_i32_1052 c1_i32_1054 k0_t5
  let v6236 : Index := Scalar.indexCast arg7
  let c112_2665 : Index := 112#32
  let c0_2666 : Index := 0#32
  ![v6236.toNat, 112, 0]
def k0_off75 (k0_t5 : Fin k0_t5_loop.trips) : Fin 3 → Nat :=
  let c0_i32_1052 : BitVec 32 := 0#32
  let c1_i32_1054 : BitVec 32 := 1#32
  let arg7 : BitVec 32 := Scf.iv c0_i32_1052 c1_i32_1054 k0_t5
  let v6244 : Index := Scalar.indexCast arg7
  let c120_2668 : Index := 120#32
  let c0_2669 : Index := 0#32
  ![v6244.toNat, 120, 0]
@[reducible] def k0_t6_loop : Scf.Loop 32 :=
  let c0_i32_1062 : BitVec 32 := 0#32
  let c8_i32_1063 : BitVec 32 := 8#32
  let v2452 : BitVec 32 := Scalar.addi c0_i32_1062 c8_i32_1063
  let c1_i32_1064 : BitVec 32 := 1#32
  ⟨c0_i32_1062, v2452, c1_i32_1064⟩
def k0_off76 (k0_t6 : Fin k0_t6_loop.trips) : Fin 3 → Nat :=
  let c0_i32_1062 : BitVec 32 := 0#32
  let c1_i32_1064 : BitVec 32 := 1#32
  let arg7 : BitVec 32 := Scf.iv c0_i32_1062 c1_i32_1064 k0_t6
  let v6124 : Index := Scalar.indexCast arg7
  let c0_2623 : Index := 0#32
  let c0_2624 : Index := 0#32
  ![v6124.toNat, 0, 0]
def k0_off77 (k0_t6 : Fin k0_t6_loop.trips) : Fin 3 → Nat :=
  let c0_i32_1062 : BitVec 32 := 0#32
  let c1_i32_1064 : BitVec 32 := 1#32
  let arg7 : BitVec 32 := Scf.iv c0_i32_1062 c1_i32_1064 k0_t6
  let v6132 : Index := Scalar.indexCast arg7
  let c8_2626 : Index := 8#32
  let c0_2627 : Index := 0#32
  ![v6132.toNat, 8, 0]
def k0_off78 (k0_t6 : Fin k0_t6_loop.trips) : Fin 3 → Nat :=
  let c0_i32_1062 : BitVec 32 := 0#32
  let c1_i32_1064 : BitVec 32 := 1#32
  let arg7 : BitVec 32 := Scf.iv c0_i32_1062 c1_i32_1064 k0_t6
  let v6140 : Index := Scalar.indexCast arg7
  let c16_2629 : Index := 16#32
  let c0_2630 : Index := 0#32
  ![v6140.toNat, 16, 0]
def k0_off79 (k0_t6 : Fin k0_t6_loop.trips) : Fin 3 → Nat :=
  let c0_i32_1062 : BitVec 32 := 0#32
  let c1_i32_1064 : BitVec 32 := 1#32
  let arg7 : BitVec 32 := Scf.iv c0_i32_1062 c1_i32_1064 k0_t6
  let v6148 : Index := Scalar.indexCast arg7
  let c24_2632 : Index := 24#32
  let c0_2633 : Index := 0#32
  ![v6148.toNat, 24, 0]
def k0_off80 (k0_t6 : Fin k0_t6_loop.trips) : Fin 3 → Nat :=
  let c0_i32_1062 : BitVec 32 := 0#32
  let c1_i32_1064 : BitVec 32 := 1#32
  let arg7 : BitVec 32 := Scf.iv c0_i32_1062 c1_i32_1064 k0_t6
  let v6156 : Index := Scalar.indexCast arg7
  let c32_2635 : Index := 32#32
  let c0_2636 : Index := 0#32
  ![v6156.toNat, 32, 0]
def k0_off81 (k0_t6 : Fin k0_t6_loop.trips) : Fin 3 → Nat :=
  let c0_i32_1062 : BitVec 32 := 0#32
  let c1_i32_1064 : BitVec 32 := 1#32
  let arg7 : BitVec 32 := Scf.iv c0_i32_1062 c1_i32_1064 k0_t6
  let v6164 : Index := Scalar.indexCast arg7
  let c40_2638 : Index := 40#32
  let c0_2639 : Index := 0#32
  ![v6164.toNat, 40, 0]
def k0_off82 (k0_t6 : Fin k0_t6_loop.trips) : Fin 3 → Nat :=
  let c0_i32_1062 : BitVec 32 := 0#32
  let c1_i32_1064 : BitVec 32 := 1#32
  let arg7 : BitVec 32 := Scf.iv c0_i32_1062 c1_i32_1064 k0_t6
  let v6172 : Index := Scalar.indexCast arg7
  let c48_2641 : Index := 48#32
  let c0_2642 : Index := 0#32
  ![v6172.toNat, 48, 0]
def k0_off83 (k0_t6 : Fin k0_t6_loop.trips) : Fin 3 → Nat :=
  let c0_i32_1062 : BitVec 32 := 0#32
  let c1_i32_1064 : BitVec 32 := 1#32
  let arg7 : BitVec 32 := Scf.iv c0_i32_1062 c1_i32_1064 k0_t6
  let v6180 : Index := Scalar.indexCast arg7
  let c56_2644 : Index := 56#32
  let c0_2645 : Index := 0#32
  ![v6180.toNat, 56, 0]
def k0_off84 (k0_t6 : Fin k0_t6_loop.trips) : Fin 3 → Nat :=
  let c0_i32_1062 : BitVec 32 := 0#32
  let c1_i32_1064 : BitVec 32 := 1#32
  let arg7 : BitVec 32 := Scf.iv c0_i32_1062 c1_i32_1064 k0_t6
  let v6188 : Index := Scalar.indexCast arg7
  let c64_2647 : Index := 64#32
  let c0_2648 : Index := 0#32
  ![v6188.toNat, 64, 0]
def k0_off85 (k0_t6 : Fin k0_t6_loop.trips) : Fin 3 → Nat :=
  let c0_i32_1062 : BitVec 32 := 0#32
  let c1_i32_1064 : BitVec 32 := 1#32
  let arg7 : BitVec 32 := Scf.iv c0_i32_1062 c1_i32_1064 k0_t6
  let v6196 : Index := Scalar.indexCast arg7
  let c72_2650 : Index := 72#32
  let c0_2651 : Index := 0#32
  ![v6196.toNat, 72, 0]
def k0_off86 (k0_t6 : Fin k0_t6_loop.trips) : Fin 3 → Nat :=
  let c0_i32_1062 : BitVec 32 := 0#32
  let c1_i32_1064 : BitVec 32 := 1#32
  let arg7 : BitVec 32 := Scf.iv c0_i32_1062 c1_i32_1064 k0_t6
  let v6204 : Index := Scalar.indexCast arg7
  let c80_2653 : Index := 80#32
  let c0_2654 : Index := 0#32
  ![v6204.toNat, 80, 0]
def k0_off87 (k0_t6 : Fin k0_t6_loop.trips) : Fin 3 → Nat :=
  let c0_i32_1062 : BitVec 32 := 0#32
  let c1_i32_1064 : BitVec 32 := 1#32
  let arg7 : BitVec 32 := Scf.iv c0_i32_1062 c1_i32_1064 k0_t6
  let v6212 : Index := Scalar.indexCast arg7
  let c88_2656 : Index := 88#32
  let c0_2657 : Index := 0#32
  ![v6212.toNat, 88, 0]
def k0_off88 (k0_t6 : Fin k0_t6_loop.trips) : Fin 3 → Nat :=
  let c0_i32_1062 : BitVec 32 := 0#32
  let c1_i32_1064 : BitVec 32 := 1#32
  let arg7 : BitVec 32 := Scf.iv c0_i32_1062 c1_i32_1064 k0_t6
  let v6220 : Index := Scalar.indexCast arg7
  let c96_2659 : Index := 96#32
  let c0_2660 : Index := 0#32
  ![v6220.toNat, 96, 0]
def k0_off89 (k0_t6 : Fin k0_t6_loop.trips) : Fin 3 → Nat :=
  let c0_i32_1062 : BitVec 32 := 0#32
  let c1_i32_1064 : BitVec 32 := 1#32
  let arg7 : BitVec 32 := Scf.iv c0_i32_1062 c1_i32_1064 k0_t6
  let v6228 : Index := Scalar.indexCast arg7
  let c104_2662 : Index := 104#32
  let c0_2663 : Index := 0#32
  ![v6228.toNat, 104, 0]
def k0_off90 (k0_t6 : Fin k0_t6_loop.trips) : Fin 3 → Nat :=
  let c0_i32_1062 : BitVec 32 := 0#32
  let c1_i32_1064 : BitVec 32 := 1#32
  let arg7 : BitVec 32 := Scf.iv c0_i32_1062 c1_i32_1064 k0_t6
  let v6236 : Index := Scalar.indexCast arg7
  let c112_2665 : Index := 112#32
  let c0_2666 : Index := 0#32
  ![v6236.toNat, 112, 0]
def k0_off91 (k0_t6 : Fin k0_t6_loop.trips) : Fin 3 → Nat :=
  let c0_i32_1062 : BitVec 32 := 0#32
  let c1_i32_1064 : BitVec 32 := 1#32
  let arg7 : BitVec 32 := Scf.iv c0_i32_1062 c1_i32_1064 k0_t6
  let v6244 : Index := Scalar.indexCast arg7
  let c120_2668 : Index := 120#32
  let c0_2669 : Index := 0#32
  ![v6244.toNat, 120, 0]
@[reducible] def k0_t7_loop : Scf.Loop 32 :=
  let c0_i32_1073 : BitVec 32 := 0#32
  let c8_i32_1074 : BitVec 32 := 8#32
  let v2471 : BitVec 32 := Scalar.addi c0_i32_1073 c8_i32_1074
  let c1_i32_1075 : BitVec 32 := 1#32
  ⟨c0_i32_1073, v2471, c1_i32_1075⟩
def k0_off92 (k0_t7 : Fin k0_t7_loop.trips) : Fin 3 → Nat :=
  let c0_i32_1073 : BitVec 32 := 0#32
  let c1_i32_1075 : BitVec 32 := 1#32
  let arg7 : BitVec 32 := Scf.iv c0_i32_1073 c1_i32_1075 k0_t7
  let v6124 : Index := Scalar.indexCast arg7
  let c0_2623 : Index := 0#32
  let c0_2624 : Index := 0#32
  ![v6124.toNat, 0, 0]
def k0_off93 (k0_t7 : Fin k0_t7_loop.trips) : Fin 3 → Nat :=
  let c0_i32_1073 : BitVec 32 := 0#32
  let c1_i32_1075 : BitVec 32 := 1#32
  let arg7 : BitVec 32 := Scf.iv c0_i32_1073 c1_i32_1075 k0_t7
  let v6132 : Index := Scalar.indexCast arg7
  let c8_2626 : Index := 8#32
  let c0_2627 : Index := 0#32
  ![v6132.toNat, 8, 0]
def k0_off94 (k0_t7 : Fin k0_t7_loop.trips) : Fin 3 → Nat :=
  let c0_i32_1073 : BitVec 32 := 0#32
  let c1_i32_1075 : BitVec 32 := 1#32
  let arg7 : BitVec 32 := Scf.iv c0_i32_1073 c1_i32_1075 k0_t7
  let v6140 : Index := Scalar.indexCast arg7
  let c16_2629 : Index := 16#32
  let c0_2630 : Index := 0#32
  ![v6140.toNat, 16, 0]
def k0_off95 (k0_t7 : Fin k0_t7_loop.trips) : Fin 3 → Nat :=
  let c0_i32_1073 : BitVec 32 := 0#32
  let c1_i32_1075 : BitVec 32 := 1#32
  let arg7 : BitVec 32 := Scf.iv c0_i32_1073 c1_i32_1075 k0_t7
  let v6148 : Index := Scalar.indexCast arg7
  let c24_2632 : Index := 24#32
  let c0_2633 : Index := 0#32
  ![v6148.toNat, 24, 0]
def k0_off96 (k0_t7 : Fin k0_t7_loop.trips) : Fin 3 → Nat :=
  let c0_i32_1073 : BitVec 32 := 0#32
  let c1_i32_1075 : BitVec 32 := 1#32
  let arg7 : BitVec 32 := Scf.iv c0_i32_1073 c1_i32_1075 k0_t7
  let v6156 : Index := Scalar.indexCast arg7
  let c32_2635 : Index := 32#32
  let c0_2636 : Index := 0#32
  ![v6156.toNat, 32, 0]
def k0_off97 (k0_t7 : Fin k0_t7_loop.trips) : Fin 3 → Nat :=
  let c0_i32_1073 : BitVec 32 := 0#32
  let c1_i32_1075 : BitVec 32 := 1#32
  let arg7 : BitVec 32 := Scf.iv c0_i32_1073 c1_i32_1075 k0_t7
  let v6164 : Index := Scalar.indexCast arg7
  let c40_2638 : Index := 40#32
  let c0_2639 : Index := 0#32
  ![v6164.toNat, 40, 0]
def k0_off98 (k0_t7 : Fin k0_t7_loop.trips) : Fin 3 → Nat :=
  let c0_i32_1073 : BitVec 32 := 0#32
  let c1_i32_1075 : BitVec 32 := 1#32
  let arg7 : BitVec 32 := Scf.iv c0_i32_1073 c1_i32_1075 k0_t7
  let v6172 : Index := Scalar.indexCast arg7
  let c48_2641 : Index := 48#32
  let c0_2642 : Index := 0#32
  ![v6172.toNat, 48, 0]
def k0_off99 (k0_t7 : Fin k0_t7_loop.trips) : Fin 3 → Nat :=
  let c0_i32_1073 : BitVec 32 := 0#32
  let c1_i32_1075 : BitVec 32 := 1#32
  let arg7 : BitVec 32 := Scf.iv c0_i32_1073 c1_i32_1075 k0_t7
  let v6180 : Index := Scalar.indexCast arg7
  let c56_2644 : Index := 56#32
  let c0_2645 : Index := 0#32
  ![v6180.toNat, 56, 0]
def k0_off100 (k0_t7 : Fin k0_t7_loop.trips) : Fin 3 → Nat :=
  let c0_i32_1073 : BitVec 32 := 0#32
  let c1_i32_1075 : BitVec 32 := 1#32
  let arg7 : BitVec 32 := Scf.iv c0_i32_1073 c1_i32_1075 k0_t7
  let v6188 : Index := Scalar.indexCast arg7
  let c64_2647 : Index := 64#32
  let c0_2648 : Index := 0#32
  ![v6188.toNat, 64, 0]
def k0_off101 (k0_t7 : Fin k0_t7_loop.trips) : Fin 3 → Nat :=
  let c0_i32_1073 : BitVec 32 := 0#32
  let c1_i32_1075 : BitVec 32 := 1#32
  let arg7 : BitVec 32 := Scf.iv c0_i32_1073 c1_i32_1075 k0_t7
  let v6196 : Index := Scalar.indexCast arg7
  let c72_2650 : Index := 72#32
  let c0_2651 : Index := 0#32
  ![v6196.toNat, 72, 0]
def k0_off102 (k0_t7 : Fin k0_t7_loop.trips) : Fin 3 → Nat :=
  let c0_i32_1073 : BitVec 32 := 0#32
  let c1_i32_1075 : BitVec 32 := 1#32
  let arg7 : BitVec 32 := Scf.iv c0_i32_1073 c1_i32_1075 k0_t7
  let v6204 : Index := Scalar.indexCast arg7
  let c80_2653 : Index := 80#32
  let c0_2654 : Index := 0#32
  ![v6204.toNat, 80, 0]
def k0_off103 (k0_t7 : Fin k0_t7_loop.trips) : Fin 3 → Nat :=
  let c0_i32_1073 : BitVec 32 := 0#32
  let c1_i32_1075 : BitVec 32 := 1#32
  let arg7 : BitVec 32 := Scf.iv c0_i32_1073 c1_i32_1075 k0_t7
  let v6212 : Index := Scalar.indexCast arg7
  let c88_2656 : Index := 88#32
  let c0_2657 : Index := 0#32
  ![v6212.toNat, 88, 0]
def k0_off104 (k0_t7 : Fin k0_t7_loop.trips) : Fin 3 → Nat :=
  let c0_i32_1073 : BitVec 32 := 0#32
  let c1_i32_1075 : BitVec 32 := 1#32
  let arg7 : BitVec 32 := Scf.iv c0_i32_1073 c1_i32_1075 k0_t7
  let v6220 : Index := Scalar.indexCast arg7
  let c96_2659 : Index := 96#32
  let c0_2660 : Index := 0#32
  ![v6220.toNat, 96, 0]
def k0_off105 (k0_t7 : Fin k0_t7_loop.trips) : Fin 3 → Nat :=
  let c0_i32_1073 : BitVec 32 := 0#32
  let c1_i32_1075 : BitVec 32 := 1#32
  let arg7 : BitVec 32 := Scf.iv c0_i32_1073 c1_i32_1075 k0_t7
  let v6228 : Index := Scalar.indexCast arg7
  let c104_2662 : Index := 104#32
  let c0_2663 : Index := 0#32
  ![v6228.toNat, 104, 0]
def k0_off106 (k0_t7 : Fin k0_t7_loop.trips) : Fin 3 → Nat :=
  let c0_i32_1073 : BitVec 32 := 0#32
  let c1_i32_1075 : BitVec 32 := 1#32
  let arg7 : BitVec 32 := Scf.iv c0_i32_1073 c1_i32_1075 k0_t7
  let v6236 : Index := Scalar.indexCast arg7
  let c112_2665 : Index := 112#32
  let c0_2666 : Index := 0#32
  ![v6236.toNat, 112, 0]
def k0_off107 (k0_t7 : Fin k0_t7_loop.trips) : Fin 3 → Nat :=
  let c0_i32_1073 : BitVec 32 := 0#32
  let c1_i32_1075 : BitVec 32 := 1#32
  let arg7 : BitVec 32 := Scf.iv c0_i32_1073 c1_i32_1075 k0_t7
  let v6244 : Index := Scalar.indexCast arg7
  let c120_2668 : Index := 120#32
  let c0_2669 : Index := 0#32
  ![v6244.toNat, 120, 0]
@[reducible] def k0_t8_loop : Scf.Loop 32 :=
  let c0_i32_1084 : BitVec 32 := 0#32
  let c8_i32_1085 : BitVec 32 := 8#32
  let v2490 : BitVec 32 := Scalar.addi c0_i32_1084 c8_i32_1085
  let c1_i32_1086 : BitVec 32 := 1#32
  ⟨c0_i32_1084, v2490, c1_i32_1086⟩
def k0_off108 (k0_t8 : Fin k0_t8_loop.trips) : Fin 3 → Nat :=
  let c0_i32_1084 : BitVec 32 := 0#32
  let c1_i32_1086 : BitVec 32 := 1#32
  let arg7 : BitVec 32 := Scf.iv c0_i32_1084 c1_i32_1086 k0_t8
  let v6124 : Index := Scalar.indexCast arg7
  let c0_2623 : Index := 0#32
  let c0_2624 : Index := 0#32
  ![v6124.toNat, 0, 0]
def k0_off109 (k0_t8 : Fin k0_t8_loop.trips) : Fin 3 → Nat :=
  let c0_i32_1084 : BitVec 32 := 0#32
  let c1_i32_1086 : BitVec 32 := 1#32
  let arg7 : BitVec 32 := Scf.iv c0_i32_1084 c1_i32_1086 k0_t8
  let v6132 : Index := Scalar.indexCast arg7
  let c8_2626 : Index := 8#32
  let c0_2627 : Index := 0#32
  ![v6132.toNat, 8, 0]
def k0_off110 (k0_t8 : Fin k0_t8_loop.trips) : Fin 3 → Nat :=
  let c0_i32_1084 : BitVec 32 := 0#32
  let c1_i32_1086 : BitVec 32 := 1#32
  let arg7 : BitVec 32 := Scf.iv c0_i32_1084 c1_i32_1086 k0_t8
  let v6140 : Index := Scalar.indexCast arg7
  let c16_2629 : Index := 16#32
  let c0_2630 : Index := 0#32
  ![v6140.toNat, 16, 0]
def k0_off111 (k0_t8 : Fin k0_t8_loop.trips) : Fin 3 → Nat :=
  let c0_i32_1084 : BitVec 32 := 0#32
  let c1_i32_1086 : BitVec 32 := 1#32
  let arg7 : BitVec 32 := Scf.iv c0_i32_1084 c1_i32_1086 k0_t8
  let v6148 : Index := Scalar.indexCast arg7
  let c24_2632 : Index := 24#32
  let c0_2633 : Index := 0#32
  ![v6148.toNat, 24, 0]
def k0_off112 (k0_t8 : Fin k0_t8_loop.trips) : Fin 3 → Nat :=
  let c0_i32_1084 : BitVec 32 := 0#32
  let c1_i32_1086 : BitVec 32 := 1#32
  let arg7 : BitVec 32 := Scf.iv c0_i32_1084 c1_i32_1086 k0_t8
  let v6156 : Index := Scalar.indexCast arg7
  let c32_2635 : Index := 32#32
  let c0_2636 : Index := 0#32
  ![v6156.toNat, 32, 0]
def k0_off113 (k0_t8 : Fin k0_t8_loop.trips) : Fin 3 → Nat :=
  let c0_i32_1084 : BitVec 32 := 0#32
  let c1_i32_1086 : BitVec 32 := 1#32
  let arg7 : BitVec 32 := Scf.iv c0_i32_1084 c1_i32_1086 k0_t8
  let v6164 : Index := Scalar.indexCast arg7
  let c40_2638 : Index := 40#32
  let c0_2639 : Index := 0#32
  ![v6164.toNat, 40, 0]
def k0_off114 (k0_t8 : Fin k0_t8_loop.trips) : Fin 3 → Nat :=
  let c0_i32_1084 : BitVec 32 := 0#32
  let c1_i32_1086 : BitVec 32 := 1#32
  let arg7 : BitVec 32 := Scf.iv c0_i32_1084 c1_i32_1086 k0_t8
  let v6172 : Index := Scalar.indexCast arg7
  let c48_2641 : Index := 48#32
  let c0_2642 : Index := 0#32
  ![v6172.toNat, 48, 0]
def k0_off115 (k0_t8 : Fin k0_t8_loop.trips) : Fin 3 → Nat :=
  let c0_i32_1084 : BitVec 32 := 0#32
  let c1_i32_1086 : BitVec 32 := 1#32
  let arg7 : BitVec 32 := Scf.iv c0_i32_1084 c1_i32_1086 k0_t8
  let v6180 : Index := Scalar.indexCast arg7
  let c56_2644 : Index := 56#32
  let c0_2645 : Index := 0#32
  ![v6180.toNat, 56, 0]
def k0_off116 (k0_t8 : Fin k0_t8_loop.trips) : Fin 3 → Nat :=
  let c0_i32_1084 : BitVec 32 := 0#32
  let c1_i32_1086 : BitVec 32 := 1#32
  let arg7 : BitVec 32 := Scf.iv c0_i32_1084 c1_i32_1086 k0_t8
  let v6188 : Index := Scalar.indexCast arg7
  let c64_2647 : Index := 64#32
  let c0_2648 : Index := 0#32
  ![v6188.toNat, 64, 0]
def k0_off117 (k0_t8 : Fin k0_t8_loop.trips) : Fin 3 → Nat :=
  let c0_i32_1084 : BitVec 32 := 0#32
  let c1_i32_1086 : BitVec 32 := 1#32
  let arg7 : BitVec 32 := Scf.iv c0_i32_1084 c1_i32_1086 k0_t8
  let v6196 : Index := Scalar.indexCast arg7
  let c72_2650 : Index := 72#32
  let c0_2651 : Index := 0#32
  ![v6196.toNat, 72, 0]
def k0_off118 (k0_t8 : Fin k0_t8_loop.trips) : Fin 3 → Nat :=
  let c0_i32_1084 : BitVec 32 := 0#32
  let c1_i32_1086 : BitVec 32 := 1#32
  let arg7 : BitVec 32 := Scf.iv c0_i32_1084 c1_i32_1086 k0_t8
  let v6204 : Index := Scalar.indexCast arg7
  let c80_2653 : Index := 80#32
  let c0_2654 : Index := 0#32
  ![v6204.toNat, 80, 0]
def k0_off119 (k0_t8 : Fin k0_t8_loop.trips) : Fin 3 → Nat :=
  let c0_i32_1084 : BitVec 32 := 0#32
  let c1_i32_1086 : BitVec 32 := 1#32
  let arg7 : BitVec 32 := Scf.iv c0_i32_1084 c1_i32_1086 k0_t8
  let v6212 : Index := Scalar.indexCast arg7
  let c88_2656 : Index := 88#32
  let c0_2657 : Index := 0#32
  ![v6212.toNat, 88, 0]
def k0_off120 (k0_t8 : Fin k0_t8_loop.trips) : Fin 3 → Nat :=
  let c0_i32_1084 : BitVec 32 := 0#32
  let c1_i32_1086 : BitVec 32 := 1#32
  let arg7 : BitVec 32 := Scf.iv c0_i32_1084 c1_i32_1086 k0_t8
  let v6220 : Index := Scalar.indexCast arg7
  let c96_2659 : Index := 96#32
  let c0_2660 : Index := 0#32
  ![v6220.toNat, 96, 0]
def k0_off121 (k0_t8 : Fin k0_t8_loop.trips) : Fin 3 → Nat :=
  let c0_i32_1084 : BitVec 32 := 0#32
  let c1_i32_1086 : BitVec 32 := 1#32
  let arg7 : BitVec 32 := Scf.iv c0_i32_1084 c1_i32_1086 k0_t8
  let v6228 : Index := Scalar.indexCast arg7
  let c104_2662 : Index := 104#32
  let c0_2663 : Index := 0#32
  ![v6228.toNat, 104, 0]
def k0_off122 (k0_t8 : Fin k0_t8_loop.trips) : Fin 3 → Nat :=
  let c0_i32_1084 : BitVec 32 := 0#32
  let c1_i32_1086 : BitVec 32 := 1#32
  let arg7 : BitVec 32 := Scf.iv c0_i32_1084 c1_i32_1086 k0_t8
  let v6236 : Index := Scalar.indexCast arg7
  let c112_2665 : Index := 112#32
  let c0_2666 : Index := 0#32
  ![v6236.toNat, 112, 0]
def k0_off123 (k0_t8 : Fin k0_t8_loop.trips) : Fin 3 → Nat :=
  let c0_i32_1084 : BitVec 32 := 0#32
  let c1_i32_1086 : BitVec 32 := 1#32
  let arg7 : BitVec 32 := Scf.iv c0_i32_1084 c1_i32_1086 k0_t8
  let v6244 : Index := Scalar.indexCast arg7
  let c120_2668 : Index := 120#32
  let c0_2669 : Index := 0#32
  ![v6244.toNat, 120, 0]
def cc0_transform_0 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S2x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x64x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x8x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DistancesCIdeal.lean ====
abbrev S1536x2 : Shape := ⟨2, ![1536, 2]⟩
abbrev S1536x4096x2 : Shape := ⟨3, ![1536, 4096, 2]⟩
abbrev S1536 : Shape := ⟨1, ![1536]⟩
abbrev S512x2 : Shape := ⟨2, ![512, 2]⟩
abbrev S2x512 : Shape := ⟨2, ![2, 512]⟩
abbrev S2x512x1x1 : Shape := ⟨4, ![2, 512, 1, 1]⟩
abbrev S2x512x8x128 : Shape := ⟨4, ![2, 512, 8, 128]⟩
abbrev S512x4096x2 : Shape := ⟨3, ![512, 4096, 2]⟩
abbrev S512x4x2x4x128x2 : Shape := ⟨6, ![512, 4, 2, 4, 128, 2]⟩
abbrev S2x4x512x4x2x128 : Shape := ⟨6, ![2, 4, 512, 4, 2, 128]⟩
abbrev S2x4x512x8x128 : Shape := ⟨5, ![2, 4, 512, 8, 128]⟩
abbrev S512x8x128 : Shape := ⟨3, ![512, 8, 128]⟩
abbrev S2x1x512x8x128 : Shape := ⟨5, ![2, 1, 512, 8, 128]⟩
abbrev S4x512x8x128 : Shape := ⟨4, ![4, 512, 8, 128]⟩
abbrev S1x512x8x128 : Shape := ⟨4, ![1, 512, 8, 128]⟩

abbrev nBuf : Space → Nat
  | .hbm => 12
  | .vmem => 3
  | .smem => 0
  | _ => 0

abbrev bufTy : (tb : Table) → Fin (tcTables nBuf tb) → BufTy
  | .hbm, ⟨0, _⟩ => ⟨S1536x2, .i32⟩
  | .hbm, ⟨1, _⟩ => ⟨S1536x4096x2, .i32⟩
  | .hbm, ⟨2, _⟩ => ⟨S1536, .i32⟩
  | .hbm, ⟨3, _⟩ => ⟨S512x2, .i32⟩
  | .hbm, ⟨4, _⟩ => ⟨S2x512, .i32⟩
  | .hbm, ⟨5, _⟩ => ⟨S2x512x1x1, .i32⟩
  | .hbm, ⟨6, _⟩ => ⟨S2x512x8x128, .i32⟩
  | .hbm, ⟨7, _⟩ => ⟨S512x4096x2, .i32⟩
  | .hbm, ⟨8, _⟩ => ⟨S512x4x2x4x128x2, .i32⟩
  | .hbm, ⟨9, _⟩ => ⟨S2x4x512x4x2x128, .i32⟩
  | .hbm, ⟨10, _⟩ => ⟨S2x4x512x8x128, .i32⟩
  | .hbm, ⟨11, _⟩ => ⟨S512x8x128, .i32⟩
  | .local _ .vmem, ⟨0, _⟩ => ⟨S2x512x8x128, .i32⟩
  | .local _ .vmem, ⟨1, _⟩ => ⟨S2x4x512x8x128, .i32⟩
  | .local _ .vmem, ⟨2, _⟩ => ⟨S512x8x128, .i32⟩
  | _, _ => ⟨S1536x2, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2x512x8x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4x512x8x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x8x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelB.lean ====
abbrev S1536x256 : Shape := ⟨2, ![1536, 256]⟩
abbrev S32768 : Shape := ⟨1, ![32768]⟩
abbrev S8192x256 : Shape := ⟨2, ![8192, 256]⟩
abbrev S512x64 : Shape := ⟨2, ![512, 64]⟩
abbrev S256x128 : Shape := ⟨2, ![256, 128]⟩
abbrev S512x256 : Shape := ⟨2, ![512, 256]⟩
abbrev S64x512 : Shape := ⟨2, ![64, 512]⟩
abbrev S128x256 : Shape := ⟨2, ![128, 256]⟩
abbrev S128x64 : Shape := ⟨2, ![128, 64]⟩
abbrev S64x128 : Shape := ⟨2, ![64, 128]⟩
abbrev S2048x256 : Shape := ⟨2, ![2048, 256]⟩
abbrev S128x128 : Shape := ⟨2, ![128, 128]⟩
abbrev S8x128 : Shape := ⟨2, ![8, 128]⟩
abbrev S8x256 : Shape := ⟨2, ![8, 256]⟩
abbrev S8x512 : Shape := ⟨2, ![8, 512]⟩
abbrev S1x128 : Shape := ⟨2, ![1, 128]⟩
abbrev S8 : Shape := ⟨1, ![8]⟩
abbrev S8x1 : Shape := ⟨2, ![8, 1]⟩

abbrev nBuf : Space → Nat
  | .hbm => 9
  | .vmem => 15
  | .smem => 0
  | _ => 0

abbrev bufTy : (tb : Table) → Fin (tcTables nBuf tb) → BufTy
  | .hbm, ⟨0, _⟩ => ⟨S1536x256, .bf16⟩
  | .hbm, ⟨1, _⟩ => ⟨S32768, .i32⟩
  | .hbm, ⟨2, _⟩ => ⟨S32768, .f32⟩
  | .hbm, ⟨3, _⟩ => ⟨S8192x256, .i32⟩
  | .hbm, ⟨4, _⟩ => ⟨S512x64, .i32⟩
  | .hbm, ⟨5, _⟩ => ⟨S256x128, .f32⟩
  | .hbm, ⟨6, _⟩ => ⟨S512x256, .bf16⟩
  | .hbm, ⟨7, _⟩ => ⟨S64x512, .i32⟩
  | .hbm, ⟨8, _⟩ => ⟨S64x512, .f32⟩
  | .local _ .vmem, ⟨0, _⟩ => ⟨S128x256, .bf16⟩
  | .local _ .vmem, ⟨1, _⟩ => ⟨S128x256, .bf16⟩
  | .local _ .vmem, ⟨2, _⟩ => ⟨S128x64, .i32⟩
  | .local _ .vmem, ⟨3, _⟩ => ⟨S128x64, .i32⟩
  | .local _ .vmem, ⟨4, _⟩ => ⟨S64x128, .f32⟩
  | .local _ .vmem, ⟨5, _⟩ => ⟨S64x128, .f32⟩
  | .local _ .vmem, ⟨6, _⟩ => ⟨S2048x256, .i32⟩
  | .local _ .vmem, ⟨7, _⟩ => ⟨S2048x256, .i32⟩
  | .local _ .vmem, ⟨8, _⟩ => ⟨S128x256, .bf16⟩
  | .local _ .vmem, ⟨9, _⟩ => ⟨S128x256, .bf16⟩
  | .local _ .vmem, ⟨10, _⟩ => ⟨S64x128, .i32⟩
  | .local _ .vmem, ⟨11, _⟩ => ⟨S64x128, .i32⟩
  | .local _ .vmem, ⟨12, _⟩ => ⟨S64x128, .f32⟩
  | .local _ .vmem, ⟨13, _⟩ => ⟨S64x128, .f32⟩
  | .local _ .vmem, ⟨14, _⟩ => ⟨S128x128, .f32⟩
  | _, _ => ⟨S1536x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_4 : BitVec 32 := 0#32
  let c16_i32 : BitVec 32 := 16#32
  let v26 : BitVec 32 := Scalar.addi c0_i32_4 c16_i32
  let c1_i32_5 : BitVec 32 := 1#32
  ⟨c0_i32_4, v26, c1_i32_5⟩
def k0_mult1 (k0_t1 : Fin k0_t1_loop.trips) : BitVec 32 :=
  let c0_i32_4 : BitVec 32 := 0#32
  let c1_i32_5 : BitVec 32 := 1#32
  let arg9 : BitVec 32 := Scf.iv c0_i32_4 c1_i32_5 k0_t1
  let c8_i32 : BitVec 32 := 8#32
  let v35 : BitVec 32 := Scalar.muli arg9 c8_i32
  v35
def k0_mult2 (k0_t1 : Fin k0_t1_loop.trips) : BitVec 32 :=
  let c0_i32_4 : BitVec 32 := 0#32
  let c1_i32_5 : BitVec 32 := 1#32
  let arg9 : BitVec 32 := Scf.iv c0_i32_4 c1_i32_5 k0_t1
  let c128_i32 : BitVec 32 := 128#32
  let v37 : BitVec 32 := Scalar.muli arg9 c128_i32
  v37
def k0_off1 (k0_t1 : Fin k0_t1_loop.trips) : Fin 2 → Nat :=
  let c0_i32_4 : BitVec 32 := 0#32
  let c1_i32_5 : BitVec 32 := 1#32
  let arg9 : BitVec 32 := Scf.iv c0_i32_4 c1_i32_5 k0_t1
  let c8_i32 : BitVec 32 := 8#32
  let v35 : BitVec 32 := Scalar.muli arg9 c8_i32
  let v36 : BitVec 32 := v35
  let v39 : Index := Scalar.indexCast v36
  let c0_14 : Index := 0#32
  ![v39.toNat, 0]
def k0_off2 (k0_t1 : Fin k0_t1_loop.trips) : Fin 2 → Nat :=
  let c0_i32_4 : BitVec 32 := 0#32
  let c1_i32_5 : BitVec 32 := 1#32
  let arg9 : BitVec 32 := Scf.iv c0_i32_4 c1_i32_5 k0_t1
  let c128_i32 : BitVec 32 := 128#32
  let v37 : BitVec 32 := Scalar.muli arg9 c128_i32
  let v38 : BitVec 32 := v37
  let v41 : Index := Scalar.indexCast v38
  let c0_15 : Index := 0#32
  ![v41.toNat, 0]
def k0_off3 (k0_t1 : Fin k0_t1_loop.trips) (c0_i32_16 : BitVec 32) : Fin 2 → Nat :=
  let c0_i32_4 : BitVec 32 := 0#32
  let c1_i32_5 : BitVec 32 := 1#32
  let arg9 : BitVec 32 := Scf.iv c0_i32_4 c1_i32_5 k0_t1
  let c4_i32 : BitVec 32 := 4#32
  let v46 : BitVec 32 := Scalar.muli arg9 c4_i32
  let v47 : BitVec 32 := Scalar.addi v46 c0_i32_16
  let v48 : Index := Scalar.indexCast v47
  let c0_17 : Index := 0#32
  ![v48.toNat, 0]
def k0_off4 (k0_t1 : Fin k0_t1_loop.trips) : Fin 2 → Nat :=
  let c0_i32_4 : BitVec 32 := 0#32
  let c1_i32_5 : BitVec 32 := 1#32
  let arg9 : BitVec 32 := Scf.iv c0_i32_4 c1_i32_5 k0_t1
  let c8_i32 : BitVec 32 := 8#32
  let v35 : BitVec 32 := Scalar.muli arg9 c8_i32
  let v36 : BitVec 32 := v35
  let v158 : Index := Scalar.indexCast v36
  let c0_41 : Index := 0#32
  ![v158.toNat, 0]
def cc0_transform_0 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceBIdeal.lean ====
abbrev S1536x256 : Shape := ⟨2, ![1536, 256]⟩
abbrev S32768 : Shape := ⟨1, ![32768]⟩
abbrev S8192x256 : Shape := ⟨2, ![8192, 256]⟩
abbrev S512x256 : Shape := ⟨2, ![512, 256]⟩
abbrev S512x64 : Shape := ⟨2, ![512, 64]⟩
abbrev S64x512 : Shape := ⟨2, ![64, 512]⟩
abbrev S32768x256 : Shape := ⟨2, ![32768, 256]⟩
abbrev S512x64x256 : Shape := ⟨3, ![512, 64, 256]⟩
abbrev S512x1x256 : Shape := ⟨3, ![512, 1, 256]⟩
abbrev S512x1x64 : Shape := ⟨3, ![512, 1, 64]⟩
abbrev S512 : Shape := ⟨1, ![512]⟩
abbrev S512x1 : Shape := ⟨2, ![512, 1]⟩

abbrev nBuf : Space → Nat
  | .hbm => 10
  | .vmem => 7
  | .smem => 0
  | _ => 0

abbrev bufTy : (tb : Table) → Fin (tcTables nBuf tb) → BufTy
  | .hbm, ⟨0, _⟩ => ⟨S1536x256, .bf16⟩
  | .hbm, ⟨1, _⟩ => ⟨S32768, .i32⟩
  | .hbm, ⟨2, _⟩ => ⟨S32768, .f32⟩
  | .hbm, ⟨3, _⟩ => ⟨S8192x256, .i32⟩
  | .hbm, ⟨4, _⟩ => ⟨S512x256, .bf16⟩
  | .hbm, ⟨5, _⟩ => ⟨S512x64, .i32⟩
  | .hbm, ⟨6, _⟩ => ⟨S512x64, .f32⟩
  | .hbm, ⟨7, _⟩ => ⟨S512x256, .bf16⟩
  | .hbm, ⟨8, _⟩ => ⟨S64x512, .i32⟩
  | .hbm, ⟨9, _⟩ => ⟨S64x512, .f32⟩
  | .local _ .vmem, ⟨0, _⟩ => ⟨S512x256, .bf16⟩
  | .local _ .vmem, ⟨1, _⟩ => ⟨S512x64, .i32⟩
  | .local _ .vmem, ⟨2, _⟩ => ⟨S512x64, .f32⟩
  | .local _ .vmem, ⟨3, _⟩ => ⟨S8192x256, .i32⟩
  | .local _ .vmem, ⟨4, _⟩ => ⟨S512x256, .bf16⟩
  | .local _ .vmem, ⟨5, _⟩ => ⟨S64x512, .i32⟩
  | .local _ .vmem, ⟨6, _⟩ => ⟨S64x512, .f32⟩
  | _, _ => ⟨S1536x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x64 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x256 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x512 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== KernelC.lean ====
abbrev S1536x256 : Shape := ⟨2, ![1536, 256]⟩
abbrev S32768 : Shape := ⟨1, ![32768]⟩
abbrev S8192x256 : Shape := ⟨2, ![8192, 256]⟩
abbrev S512x64 : Shape := ⟨2, ![512, 64]⟩
abbrev S256x128 : Shape := ⟨2, ![256, 128]⟩
abbrev S512x256 : Shape := ⟨2, ![512, 256]⟩
abbrev S64x512 : Shape := ⟨2, ![64, 512]⟩
abbrev S128x256 : Shape := ⟨2, ![128, 256]⟩
abbrev S128x64 : Shape := ⟨2, ![128, 64]⟩
abbrev S64x128 : Shape := ⟨2, ![64, 128]⟩
abbrev S2048x256 : Shape := ⟨2, ![2048, 256]⟩
abbrev S128x128 : Shape := ⟨2, ![128, 128]⟩
abbrev S8x128 : Shape := ⟨2, ![8, 128]⟩
abbrev S8x256 : Shape := ⟨2, ![8, 256]⟩
abbrev S8x512 : Shape := ⟨2, ![8, 512]⟩
abbrev S1x128 : Shape := ⟨2, ![1, 128]⟩
abbrev S8 : Shape := ⟨1, ![8]⟩
abbrev S8x1 : Shape := ⟨2, ![8, 1]⟩

abbrev nBuf : Space → Nat
  | .hbm => 9
  | .vmem => 15
  | .smem => 0
  | _ => 0

abbrev bufTy : (tb : Table) → Fin (tcTables nBuf tb) → BufTy
  | .hbm, ⟨0, _⟩ => ⟨S1536x256, .bf16⟩
  | .hbm, ⟨1, _⟩ => ⟨S32768, .i32⟩
  | .hbm, ⟨2, _⟩ => ⟨S32768, .f32⟩
  | .hbm, ⟨3, _⟩ => ⟨S8192x256, .i32⟩
  | .hbm, ⟨4, _⟩ => ⟨S512x64, .i32⟩
  | .hbm, ⟨5, _⟩ => ⟨S256x128, .f32⟩
  | .hbm, ⟨6, _⟩ => ⟨S512x256, .bf16⟩
  | .hbm, ⟨7, _⟩ => ⟨S64x512, .i32⟩
  | .hbm, ⟨8, _⟩ => ⟨S64x512, .f32⟩
  | .local _ .vmem, ⟨0, _⟩ => ⟨S128x256, .bf16⟩
  | .local _ .vmem, ⟨1, _⟩ => ⟨S128x256, .bf16⟩
  | .local _ .vmem, ⟨2, _⟩ => ⟨S128x64, .i32⟩
  | .local _ .vmem, ⟨3, _⟩ => ⟨S128x64, .i32⟩
  | .local _ .vmem, ⟨4, _⟩ => ⟨S64x128, .f32⟩
  | .local _ .vmem, ⟨5, _⟩ => ⟨S64x128, .f32⟩
  | .local _ .vmem, ⟨6, _⟩ => ⟨S2048x256, .i32⟩
  | .local _ .vmem, ⟨7, _⟩ => ⟨S2048x256, .i32⟩
  | .local _ .vmem, ⟨8, _⟩ => ⟨S128x256, .bf16⟩
  | .local _ .vmem, ⟨9, _⟩ => ⟨S128x256, .bf16⟩
  | .local _ .vmem, ⟨10, _⟩ => ⟨S64x128, .i32⟩
  | .local _ .vmem, ⟨11, _⟩ => ⟨S64x128, .i32⟩
  | .local _ .vmem, ⟨12, _⟩ => ⟨S64x128, .f32⟩
  | .local _ .vmem, ⟨13, _⟩ => ⟨S64x128, .f32⟩
  | .local _ .vmem, ⟨14, _⟩ => ⟨S128x128, .f32⟩
  | _, _ => ⟨S1536x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_4 : BitVec 32 := 0#32
  let c16_i32 : BitVec 32 := 16#32
  let v26 : BitVec 32 := Scalar.addi c0_i32_4 c16_i32
  let c1_i32_5 : BitVec 32 := 1#32
  ⟨c0_i32_4, v26, c1_i32_5⟩
def k0_mult1 (k0_t1 : Fin k0_t1_loop.trips) : BitVec 32 :=
  let c0_i32_4 : BitVec 32 := 0#32
  let c1_i32_5 : BitVec 32 := 1#32
  let arg9 : BitVec 32 := Scf.iv c0_i32_4 c1_i32_5 k0_t1
  let c8_i32 : BitVec 32 := 8#32
  let v35 : BitVec 32 := Scalar.muli arg9 c8_i32
  v35
def k0_mult2 (k0_t1 : Fin k0_t1_loop.trips) : BitVec 32 :=
  let c0_i32_4 : BitVec 32 := 0#32
  let c1_i32_5 : BitVec 32 := 1#32
  let arg9 : BitVec 32 := Scf.iv c0_i32_4 c1_i32_5 k0_t1
  let c128_i32 : BitVec 32 := 128#32
  let v37 : BitVec 32 := Scalar.muli arg9 c128_i32
  v37
def k0_off1 (k0_t1 : Fin k0_t1_loop.trips) : Fin 2 → Nat :=
  let c0_i32_4 : BitVec 32 := 0#32
  let c1_i32_5 : BitVec 32 := 1#32
  let arg9 : BitVec 32 := Scf.iv c0_i32_4 c1_i32_5 k0_t1
  let c8_i32 : BitVec 32 := 8#32
  let v35 : BitVec 32 := Scalar.muli arg9 c8_i32
  let v36 : BitVec 32 := v35
  let v39 : Index := Scalar.indexCast v36
  let c0_14 : Index := 0#32
  ![v39.toNat, 0]
def k0_off2 (k0_t1 : Fin k0_t1_loop.trips) : Fin 2 → Nat :=
  let c0_i32_4 : BitVec 32 := 0#32
  let c1_i32_5 : BitVec 32 := 1#32
  let arg9 : BitVec 32 := Scf.iv c0_i32_4 c1_i32_5 k0_t1
  let c128_i32 : BitVec 32 := 128#32
  let v37 : BitVec 32 := Scalar.muli arg9 c128_i32
  let v38 : BitVec 32 := v37
  let v41 : Index := Scalar.indexCast v38
  let c0_15 : Index := 0#32
  ![v41.toNat, 0]
def k0_off3 (k0_t1 : Fin k0_t1_loop.trips) (c0_i32_16 : BitVec 32) : Fin 2 → Nat :=
  let c0_i32_4 : BitVec 32 := 0#32
  let c1_i32_5 : BitVec 32 := 1#32
  let arg9 : BitVec 32 := Scf.iv c0_i32_4 c1_i32_5 k0_t1
  let c4_i32 : BitVec 32 := 4#32
  let v46 : BitVec 32 := Scalar.muli arg9 c4_i32
  let v47 : BitVec 32 := Scalar.addi v46 c0_i32_16
  let v48 : Index := Scalar.indexCast v47
  let c0_17 : Index := 0#32
  ![v48.toNat, 0]
def k0_off4 (k0_t1 : Fin k0_t1_loop.trips) : Fin 2 → Nat :=
  let c0_i32_4 : BitVec 32 := 0#32
  let c1_i32_5 : BitVec 32 := 1#32
  let arg9 : BitVec 32 := Scf.iv c0_i32_4 c1_i32_5 k0_t1
  let c8_i32 : BitVec 32 := 8#32
  let v35 : BitVec 32 := Scalar.muli arg9 c8_i32
  let v36 : BitVec 32 := v35
  let v158 : Index := Scalar.indexCast v36
  let c0_41 : Index := 0#32
  ![v158.toNat, 0]
def cc0_transform_0 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceCIdeal.lean ====
abbrev S1536x256 : Shape := ⟨2, ![1536, 256]⟩
abbrev S32768 : Shape := ⟨1, ![32768]⟩
abbrev S8192x256 : Shape := ⟨2, ![8192, 256]⟩
abbrev S512x256 : Shape := ⟨2, ![512, 256]⟩
abbrev S512x64 : Shape := ⟨2, ![512, 64]⟩
abbrev S64x512 : Shape := ⟨2, ![64, 512]⟩
abbrev S32768x256 : Shape := ⟨2, ![32768, 256]⟩
abbrev S512x64x256 : Shape := ⟨3, ![512, 64, 256]⟩
abbrev S512x1x256 : Shape := ⟨3, ![512, 1, 256]⟩
abbrev S512x1x64 : Shape := ⟨3, ![512, 1, 64]⟩
abbrev S512 : Shape := ⟨1, ![512]⟩
abbrev S512x1 : Shape := ⟨2, ![512, 1]⟩

abbrev nBuf : Space → Nat
  | .hbm => 10
  | .vmem => 7
  | .smem => 0
  | _ => 0

abbrev bufTy : (tb : Table) → Fin (tcTables nBuf tb) → BufTy
  | .hbm, ⟨0, _⟩ => ⟨S1536x256, .bf16⟩
  | .hbm, ⟨1, _⟩ => ⟨S32768, .i32⟩
  | .hbm, ⟨2, _⟩ => ⟨S32768, .f32⟩
  | .hbm, ⟨3, _⟩ => ⟨S8192x256, .i32⟩
  | .hbm, ⟨4, _⟩ => ⟨S512x256, .bf16⟩
  | .hbm, ⟨5, _⟩ => ⟨S512x64, .i32⟩
  | .hbm, ⟨6, _⟩ => ⟨S512x64, .f32⟩
  | .hbm, ⟨7, _⟩ => ⟨S512x256, .bf16⟩
  | .hbm, ⟨8, _⟩ => ⟨S64x512, .i32⟩
  | .hbm, ⟨9, _⟩ => ⟨S64x512, .f32⟩
  | .local _ .vmem, ⟨0, _⟩ => ⟨S512x256, .bf16⟩
  | .local _ .vmem, ⟨1, _⟩ => ⟨S512x64, .i32⟩
  | .local _ .vmem, ⟨2, _⟩ => ⟨S512x64, .f32⟩
  | .local _ .vmem, ⟨3, _⟩ => ⟨S8192x256, .i32⟩
  | .local _ .vmem, ⟨4, _⟩ => ⟨S512x256, .bf16⟩
  | .local _ .vmem, ⟨5, _⟩ => ⟨S64x512, .i32⟩
  | .local _ .vmem, ⟨6, _⟩ => ⟨S64x512, .f32⟩
  | _, _ => ⟨S1536x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x64 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x256 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x512 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Rows.lean ====
/- Stores of eight rows each, one per trip of a loop, read back: after sixteen trips the buffer of 128 rows holds at row
   `y` what trip `y / 8` stored at its row `y % 8`. -/
module

public import Idealize.ShloMosaic.Lib.Pipeline.ValueKit
public import Idealize.ShloMosaic.Lib.Pointwise

@[expose] public section

noncomputable section

namespace Cert.Attend

open Idealize.ShloMosaic

variable {Val : EltTy → Type} {e : EltTy} {N : ℕ}

/-- The list after each trip: before the first nothing, and trip `k` puts its eight rows in front. -/
def Trips (L : ℕ → List (View.Piece Val (⟨2, ![128, N]⟩ : Shape) e)) (pay : Fin 16 → (⟨2, ![8, N]⟩ : Shape).Idx → Val e) : Prop :=
  L 0 = [] ∧ ∀ k : Fin 16, ∃ (off : Fin 2 → ℕ) (inb : ∀ a, off a + (![8, N] : Fin 2 → ℕ) a ≤ (⟨2, ![128, N]⟩ : Shape).size a),
    off = ![8 * k.val, 0] ∧ L (k.val + 1) = ⟨Rect.unit (s := (⟨2, ![128, N]⟩ : Shape)) off (![8, N] : Fin 2 → ℕ) inb, pay k⟩ :: L k.val

/-- The buffer after the sixteen trips. -/
def gather (pay : Fin 16 → (⟨2, ![8, N]⟩ : Shape).Idx → Val e) : (⟨2, ![128, N]⟩ : Shape).Idx → Val e := fun y =>
  pay ⟨(y 0).val / 8, by have : (y 0).val < 128 := (y 0).isLt; omega⟩ (ix2 ⟨(y 0).val % 8, Nat.mod_lt _ (by decide)⟩ (y 1))

variable {L : ℕ → List (View.Piece Val (⟨2, ![128, N]⟩ : Shape) e)} {pay : Fin 16 → (⟨2, ![8, N]⟩ : Shape).Idx → Val e}

theorem Trips.allAt (h : Trips L pay) (n : ℕ) (hn : n ≤ 16) (y : (⟨2, ![128, N]⟩ : Shape).Idx) :
    View.AllAt (L n) y (gather pay y) := by
  induction n with
  | zero => rw [h.1]; exact View.allAt_nil _ _
  | succ n ih =>
    obtain ⟨off, inb, rfl, hL⟩ := h.2 ⟨n, hn⟩
    rw [hL]
    refine View.allAt_cons_unit _ _ _ _ _ (fun x hx => ?_) (ih (by omega))
    have h0 : (y 0).val = 8 * n + (x 0).val := hx 0
    have h1 : (y 1).val = 0 + (x 1).val := hx 1
    have x0 : (x 0).val < 8 := (x 0).isLt
    unfold gather
    have e0 : (⟨(y 0).val / 8, by have : (y 0).val < 128 := (y 0).isLt; omega⟩ : Fin 16) = ⟨n, hn⟩ := Fin.ext (by show _ / 8 = n; omega)
    rw [e0]
    refine congrArg (pay ⟨n, hn⟩) ?_
    refine (eq_ix2 (n0 := 8) (n1 := N) x).trans ?_
    exact congrArg₂ ix2 (Fin.ext (by show (x 0).val = (y 0).val % 8; omega)) (Fin.ext (by show (x 1).val = (y 1).val; omega))

theorem Trips.cover (h : Trips L pay) (n : ℕ) (hn : n ≤ 16) (y : (⟨2, ![128, N]⟩ : Shape).Idx) (hy : (y 0).val < 8 * n) :
    ∃ p ∈ L n, y ∈ p.1.set := by
  induction n with
  | zero => omega
  | succ n ih =>
    obtain ⟨off, inb, rfl, hL⟩ := h.2 ⟨n, hn⟩
    rw [hL]
    by_cases hlt : (y 0).val < 8 * n
    · obtain ⟨p, hp, hm⟩ := ih (by omega) hlt
      exact ⟨p, List.mem_cons_of_mem _ hp, hm⟩
    · refine ⟨_, List.mem_cons_self, ?_⟩
      rw [Rect.mem_set_unit]
      intro a
      match a with
      | ⟨0, _⟩ => exact ⟨by show 8 * n ≤ (y 0).val; omega, by show (y 0).val < 8 * n + 8; omega⟩
      | ⟨1, _⟩ => exact ⟨Nat.zero_le _, by show (y 1).val < 0 + N; have : (y 1).val < N := (y 1).isLt; omega⟩

/-- Read back after the sixteen trips. -/
theorem Trips.canon [∀ e, Nonempty (Val e)] (h : Trips L pay) : View.canon (L 16) = gather pay := by
  funext y
  exact View.canon_eq_of_allAt _ y _ (h.cover 16 (le_refl _) y (by have : (y 0).val < 128 := (y 0).isLt; omega))
    (h.allAt 16 (le_refl _) y)

/-- The `r` rows of a buffer from row `a`. -/
def rowsFrom {R : ℕ} (a r : ℕ) (h : a + r ≤ R) (X : (⟨2, ![R, N]⟩ : Shape).Idx → Val e) : (⟨2, ![r, N]⟩ : Shape).Idx → Val e :=
  fun j => X (ix2 ⟨a + (j 0).val, by have : (j 0).val < r := (j 0).isLt; omega⟩ (j 1))

/-- A load of `r` whole rows from row `a`. -/
theorem ld_rows {R r : ℕ} (a : ℕ) (h : a + r ≤ R) (X : (⟨2, ![R, N]⟩ : Shape).Idx → Val e) (off : Fin 2 → ℕ)
    (inb : ∀ b, off b + (![r, N] : Fin 2 → ℕ) b ≤ (⟨2, ![R, N]⟩ : Shape).size b) (ho : off = ![a, 0]) :
    View.ld X (Rect.unit (s := (⟨2, ![R, N]⟩ : Shape)) off (![r, N] : Fin 2 → ℕ) inb) = rowsFrom a r h X := by
  subst ho
  funext j
  refine View.ld_unit_apply_of X _ _ _ j _ fun b => ?_
  match b with
  | ⟨0, _⟩ => rfl
  | ⟨1, _⟩ => exact (Nat.zero_add _).symm

end Cert.Attend

end
-- ==== Proof.Row.lean ====
/- One row of attention over the extended reals: what the kernel computes of eight rows at once, with the scores of
   the other rows' keys masked by `⊥`, is the attention of the row over its own sixty-four keys. -/
module

public import Idealize.ShloMosaic.Lib.Pointwise

@[expose] public section

noncomputable section

namespace Cert.Attend

open Idealize.ShloMosaic

/-- The row's greatest score. -/
def rowMax (s : Fin 64 → EReal) : EReal := Finset.univ.fold max ⊥ s

/-- The row's sum of exponentials. -/
def rowTot (s : Fin 64 → EReal) : EReal := ∑ k, Ideal.exp (s k - rowMax s)

/-- The row's attention weights: the softmax of its scores. -/
def rowAttn (s : Fin 64 → EReal) (k : Fin 64) : EReal := Ideal.div (Ideal.exp (s k - rowMax s)) (rowTot s)

/-- A score: the product of the query and the key's codes, times the key's scale and the constant. -/
def rowScore (c : EReal) (X : Fin 256 → EReal) (C : Fin 64 → Fin 256 → EReal) (S : Fin 64 → EReal) (k : Fin 64) : EReal :=
  (∑ d, X d * C k d) * (S k * c)

/-- The pooled row: the codes weighted by attention and scale. -/
def rowPool (s : Fin 64 → EReal) (C : Fin 64 → Fin 256 → EReal) (S : Fin 64 → EReal) (d : Fin 256) : EReal :=
  ∑ k, rowAttn s k * S k * C k d

/-! ## Sums and folds of which one stretch of sixty-four counts -/

/-- Of the sum over `A` stretches of sixty-four only stretch `r` counts. -/
theorem sum_stretch (A : ℕ) (r : Fin A) (f : Fin 64 → EReal) :
    (∑ j : Fin (A * 64), if r.val = j.val / 64 then f ⟨j.val % 64, Nat.mod_lt _ (by decide)⟩ else 0) = ∑ k, f k := by
  rw [← Equiv.sum_comp finProdFinEquiv, Fintype.sum_prod_type]
  rw [Finset.sum_eq_single r]
  · refine Finset.sum_congr rfl fun k _ => ?_
    have h1 : ((finProdFinEquiv (r, k) : Fin (A * 64)) : ℕ) = k.val + 64 * r.val := rfl
    rw [if_pos (by rw [h1]; omega)]
    congr 1
    exact Fin.ext (by show _ % 64 = _; rw [h1]; omega)
  · intro a _ ha
    refine Finset.sum_eq_zero fun k _ => ?_
    have h1 : ((finProdFinEquiv (a, k) : Fin (A * 64)) : ℕ) = k.val + 64 * a.val := rfl
    rw [if_neg (by rw [h1]; intro h; exact ha (Fin.ext (by omega)))]
  · intro h; exact absurd (Finset.mem_univ _) h

/-- Joining the four pieces of a row at a lane: the piece that holds the row's own key there, or the neutral value. -/
theorem pick {α : Type} (op : α → α → α) (b : α) (hl : ∀ a, op b a = a) (hr : ∀ a, op a b = a) (r : Fin 8) (l : Fin 128)
    (z : α) (v : Fin 4 → α) (hv : ∀ q, v q = if r.val = 2 * q.val + l.val / 64 then z else b) :
    op (op (op (v 0) (v 1)) (v 2)) (v 3) = if r.val % 2 = l.val / 64 then z else b := by
  have hl2 : l.val / 64 < 2 := by omega
  rw [hv 0, hv 1, hv 2, hv 3]
  show op (op (op (if r.val = 2 * 0 + l.val / 64 then z else b) (if r.val = 2 * 1 + l.val / 64 then z else b))
    (if r.val = 2 * 2 + l.val / 64 then z else b)) (if r.val = 2 * 3 + l.val / 64 then z else b) = _
  generalize l.val / 64 = h at *
  have hr8 := r.isLt
  generalize r.val = r' at *
  interval_cases h <;> interval_cases r' <;> simp [hl, hr]

/-! ## The masked row -/

section
variable (r : Fin 8) (s : Fin 64 → EReal) (v : Fin 4 → Fin 128 → EReal)

/-- The kernel's scores of a row: at a lane of a piece the row's own score, or `⊥` where the key is another row's. -/
def Masked : Prop :=
  ∀ q l, v q l = if r.val = 2 * q.val + l.val / 64 then s ⟨l.val % 64, Nat.mod_lt _ (by decide)⟩ else ⊥

variable {r s v}

/-- The masked row has the row's maximum. -/
theorem Masked.max (h : Masked r s v) :
    (Finset.univ : Finset (Fin 128)).fold Max.max ⊥ (fun l => Max.max (Max.max (Max.max (v 0 l) (v 1 l)) (v 2 l)) (v 3 l)) = rowMax s := by
  have hp : ∀ l : Fin 128, Max.max (Max.max (Max.max (v 0 l) (v 1 l)) (v 2 l)) (v 3 l)
      = if r.val % 2 = l.val / 64 then s ⟨l.val % 64, Nat.mod_lt _ (by decide)⟩ else ⊥ := fun l =>
    pick Max.max ⊥ (fun a => max_eq_right bot_le) (fun a => max_eq_left bot_le) r l _ (fun q => v q l) (fun q => h q l)
  simp only [hp]
  unfold rowMax
  apply le_antisymm
  · rw [Finset.fold_max_le]
    refine ⟨bot_le, fun l _ => ?_⟩
    split
    · rw [Finset.le_fold_max]; exact Or.inr ⟨_, Finset.mem_univ _, le_refl _⟩
    · exact bot_le
  · rw [Finset.fold_max_le]
    refine ⟨bot_le, fun k _ => ?_⟩
    rw [Finset.le_fold_max]
    refine Or.inr ⟨⟨64 * (r.val % 2) + k.val, by omega⟩, Finset.mem_univ _, ?_⟩
    rw [if_pos (show r.val % 2 = (64 * (r.val % 2) + k.val) / 64 by omega)]
    exact le_of_eq (congrArg s (Fin.ext (show k.val = (64 * (r.val % 2) + k.val) % 64 by omega)))

/-- The exponentials of the masked row: those of other rows' keys are zero. -/
theorem Masked.exp (h : Masked r s v) (q : Fin 4) (l : Fin 128) :
    Ideal.exp (v q l - rowMax s) = if r.val = 2 * q.val + l.val / 64 then
      Ideal.exp (s ⟨l.val % 64, Nat.mod_lt _ (by decide)⟩ - rowMax s) else 0 := by
  rw [h q l]
  split
  · rfl
  · rw [EReal.bot_sub]; rfl

/-- Their sum over the lanes is the row's sum of exponentials. -/
theorem Masked.tot (h : Masked r s v) :
    (∑ l : Fin 128, (Ideal.exp (v 0 l - rowMax s) + Ideal.exp (v 1 l - rowMax s) + Ideal.exp (v 2 l - rowMax s)
      + Ideal.exp (v 3 l - rowMax s))) = rowTot s := by
  rw [rowTot, ← sum_stretch 2 ⟨r.val % 2, Nat.mod_lt _ (by decide)⟩]
  refine Finset.sum_congr rfl fun l _ => ?_
  exact pick (· + ·) 0 zero_add add_zero r l (Ideal.exp (s ⟨l.val % 64, Nat.mod_lt _ (by decide)⟩ - rowMax s))
    (fun q => Ideal.exp (v q l - rowMax s)) (fun q => h.exp q l)

theorem div_zero_left {t : EReal} (ht : t ≠ 0) : Ideal.div 0 t = 0 := by
  unfold Ideal.div; rw [if_neg ht, zero_mul]

/-- The masked row's weights: those of other rows' keys are zero. -/
theorem Masked.wt (h : Masked r s v) (ht : rowTot s ≠ 0) (q : Fin 4) (l : Fin 128) :
    Ideal.div (Ideal.exp (v q l - rowMax s)) (rowTot s) = if r.val = 2 * q.val + l.val / 64 then
      rowAttn s ⟨l.val % 64, Nat.mod_lt _ (by decide)⟩ else 0 := by
  rw [h.exp q l]
  split
  · rfl
  · exact div_zero_left ht

/-- The four pieces' weights joined, at a lane. -/
theorem Masked.join (h : Masked r s v) (ht : rowTot s ≠ 0) (l : Fin 128) :
    Ideal.div (Ideal.exp (v 0 l - rowMax s)) (rowTot s) + Ideal.div (Ideal.exp (v 1 l - rowMax s)) (rowTot s)
      + Ideal.div (Ideal.exp (v 2 l - rowMax s)) (rowTot s) + Ideal.div (Ideal.exp (v 3 l - rowMax s)) (rowTot s)
      = if r.val % 2 = l.val / 64 then rowAttn s ⟨l.val % 64, Nat.mod_lt _ (by decide)⟩ else 0 :=
  pick (· + ·) 0 zero_add add_zero r l (rowAttn s ⟨l.val % 64, Nat.mod_lt _ (by decide)⟩)
    (fun q => Ideal.div (Ideal.exp (v q l - rowMax s)) (rowTot s)) (fun q => h.wt ht q l)

/-- Lane `k` and the lane half a row further hold the row's weight of key `k` once. -/
theorem Masked.attn (h : Masked r s v) (ht : rowTot s ≠ 0) (J : Fin 128 → EReal)
    (hJ : ∀ l, J l = Ideal.div (Ideal.exp (v 0 l - rowMax s)) (rowTot s) + Ideal.div (Ideal.exp (v 1 l - rowMax s)) (rowTot s)
      + Ideal.div (Ideal.exp (v 2 l - rowMax s)) (rowTot s) + Ideal.div (Ideal.exp (v 3 l - rowMax s)) (rowTot s))
    (k : Fin 64) (a b : Fin 128) (ha : a.val = k.val) (hb : b.val = k.val + 64) :
    J a + J b = rowAttn s k := by
  rw [hJ a, hJ b, h.join ht a, h.join ht b]
  have e1 : (⟨a.val % 64, Nat.mod_lt _ (by decide)⟩ : Fin 64) = k := Fin.ext (by show a.val % 64 = _; omega)
  have e2 : (⟨b.val % 64, Nat.mod_lt _ (by decide)⟩ : Fin 64) = k := Fin.ext (by show b.val % 64 = _; omega)
  rw [e1, e2]
  rcases Nat.mod_two_eq_zero_or_one r.val with h0 | h0
  · rw [if_pos (by omega), if_neg (by omega), add_zero]
  · rw [if_neg (by omega), if_pos (by omega), zero_add]

/-- The pooled row: of the 512 codes of the eight rows only the row's own sixty-four count. -/
theorem Masked.pool (h : Masked r s v) (ht : rowTot s ≠ 0) (C : Fin 64 → Fin 256 → EReal) (S : Fin 64 → EReal)
    (T D : Fin 512 → EReal) (d : Fin 256)
    (hT : ∀ j : Fin 512, r.val = j.val / 64 → T j = S ⟨j.val % 64, Nat.mod_lt _ (by decide)⟩)
    (hD : ∀ j : Fin 512, r.val = j.val / 64 → D j = C ⟨j.val % 64, Nat.mod_lt _ (by decide)⟩ d) :
    (∑ j : Fin 512, Ideal.div (Ideal.exp (v ⟨j.val / 128, by omega⟩ ⟨j.val % 128, Nat.mod_lt _ (by decide)⟩ - rowMax s)) (rowTot s)
      * T j * D j) = rowPool s C S d := by
  rw [rowPool, ← sum_stretch 8 r]
  refine Finset.sum_congr rfl fun j _ => ?_
  rw [h.wt ht]
  have hc : (r.val = 2 * (j.val / 128) + j.val % 128 / 64) ↔ r.val = j.val / 64 := by
    constructor <;> intro h <;> omega
  have hm : j.val % 128 % 64 = j.val % 64 := by omega
  by_cases hj : r.val = j.val / 64
  · rw [if_pos hj, if_pos (hc.mpr hj), hT j hj, hD j hj]
    simp only [hm]
  · rw [if_neg hj, if_neg (fun h => hj (hc.mp h)), zero_mul, zero_mul]

end

/-! ## Where the sum of exponentials is not zero -/

/-- The value is a real number. -/
def IsReal (x : EReal) : Prop := ∃ y : ℝ, x = (y : EReal)

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.sum {ι : Type} (t : Finset ι) (f : ι → EReal) (h : ∀ i, IsReal (f i)) : IsReal (∑ i ∈ t, f i) :=
  Finset.sum_induction f IsReal (fun _ _ => IsReal.add) ⟨0, rfl⟩ (fun i _ => h i)

theorem exp_nonneg (x : EReal) : 0 ≤ Ideal.exp x := by
  induction x with
  | bot => exact le_refl _
  | top => exact le_top
  | coe r => exact EReal.coe_nonneg.mpr (Real.exp_pos r).le

/-- Where the scores are real, the greatest contributes a one to the sum of exponentials. -/
theorem rowTot_ne_zero (s : Fin 64 → EReal) (h : ∀ k, IsReal (s k)) : rowTot s ≠ 0 := by
  have hex : ∃ k, rowMax s = s k := by
    have hle : ∀ k, s k ≤ rowMax s := fun k => by
      unfold rowMax; rw [Finset.le_fold_max]; exact Or.inr ⟨k, Finset.mem_univ _, le_refl _⟩
    have h1 : rowMax s ≤ Finset.univ.fold max ⊥ s := le_refl _
    rw [Finset.le_fold_max] at h1
    rcases h1 with h1 | ⟨k, _, hk⟩
    · obtain ⟨y, hy⟩ := h 0
      have := (hle 0).trans h1
      rw [hy] at this
      exact absurd this (not_le.mpr (EReal.bot_lt_coe y))
    · exact ⟨k, le_antisymm hk (hle k)⟩
  obtain ⟨k, hk⟩ := hex
  obtain ⟨y, hy⟩ := h k
  have h1 : Ideal.exp (s k - rowMax s) = 1 := by
    rw [hk, hy, ← EReal.coe_sub, sub_self]
    show ((Real.exp 0 : ℝ) : EReal) = 1
    rw [Real.exp_zero]; rfl
  have h2 : (1 : EReal) ≤ rowTot s := by
    rw [← h1]
    exact Finset.single_le_sum (f := fun k => Ideal.exp (s k - rowMax s)) (fun i _ => exp_nonneg _) (Finset.mem_univ k)
  intro h0
  rw [h0] at h2
  exact absurd h2 (not_le.mpr zero_lt_one)

/-- Scores of real queries, codes and scales are real. -/
theorem rowScore_real {c : EReal} {X : Fin 256 → EReal} {C : Fin 64 → Fin 256 → EReal} {S : Fin 64 → EReal} (hc : IsReal c)
    (hX : ∀ d, IsReal (X d)) (hC : ∀ k d, IsReal (C k d)) (hS : ∀ k, IsReal (S k)) (k : Fin 64) : IsReal (rowScore c X C S k) :=
  (IsReal.sum _ _ fun d => (hX d).mul (hC k d)).mul ((hS k).mul hc)

end Cert.Attend

end
-- ==== Proof.Codes.lean ====
/- The packed codes: row `i` of the float8_e4m3fn rows unpacked from rows of words is byte `i % 4` of word row `i / 4`,
   and a byte that is no NaN denotes a real number. -/
module

public import Idealize.ShloMosaic.Lib.BitcastPair
public import proofs.«01_k».proof.Proof.Row

@[expose] public section

noncomputable section

namespace Cert.Attend

open Idealize.ShloMosaic

/-- Words read at eight bits, at a row and a lane. -/
theorem bitcast_32_8_ix2 {R r n : ℕ} (x : (⟨2, ![R, n]⟩ : Shape).Idx → BitVec 32)
    (h : (⟨2, ![R, n]⟩ : Shape).Bitcasts 32 ⟨2, ![r, n]⟩ 8) (i : Fin r) (l : Fin n) (p : Fin R) (hp : p.val = i.val / 4) :
    bitcast ⟨2, ![r, n]⟩ 8 x h (ix2 i l) = (x (ix2 p l)).extractLsb' (8 * (i.val % 4)) 8 := by
  apply BitVec.eq_of_getLsbD_eq
  intro q hq
  rw [bitcast_getLsbD x h _ q hq (by decide), BitVec.getLsbD_extractLsb']
  have hrow : (⟨2, ![r, n]⟩ : Shape).row (ix2 i l) = i.val := rfl
  rw [decide_eq_true hq, Bool.true_and]
  congr 2
  · funext c
    match c with
    | ⟨0, _⟩ =>
      refine Fin.ext ((h.srcIdx_row _ _ _ ⟨0, Nat.zero_lt_two⟩ rfl).trans ?_)
      rw [hrow]
      show (i.val * 8 + q) / 32 = p.val
      omega
    | ⟨1, _⟩ => exact Fin.ext (h.srcIdx_other _ _ _ ⟨1, Nat.one_lt_two⟩ (by show ¬ 1 + 2 = 2; omega))
  · rw [hrow]; omega

/-- What byte `k` of a word denotes. -/
def byteVal (w : BitVec 32) (k : ℕ) : EReal := Ideal.e4m3fn (w.extractLsb' (8 * k) 8)

theorem e4m3fn_real (b : BitVec 8) (h : ¬ ((b.extractLsb' 3 4).toNat = 15 ∧ (b.extractLsb' 0 3).toNat = 7)) : IsReal (Ideal.e4m3fn b) := by
  unfold Ideal.e4m3fn
  dsimp only
  rw [if_neg h]
  split
  · exact ⟨_, rfl⟩
  · exact ⟨_, rfl⟩

theorem nan_bits : ∀ n : Fin 256, ((BitVec.ofFin (w := 8) n).extractLsb' 3 4).toNat = 15 → ((BitVec.ofFin (w := 8) n).extractLsb' 0 3).toNat = 7 →
    ∀ i : Fin 7, (BitVec.ofFin (w := 8) n).getLsbD i.val = true := by decide +kernel

/-- A word whose byte `k` is no NaN. -/
theorem byteVal_real (w : BitVec 32) (k : Fin 4) (h : IntOp.andi w (127#32 <<< (8 * k.val)) ≠ 127#32 <<< (8 * k.val)) : IsReal (byteVal w k.val) := by
  apply e4m3fn_real
  rintro ⟨h1, h2⟩
  apply h
  have hb := nan_bits (w.extractLsb' (8 * k.val) 8).toFin h1 h2
  apply BitVec.eq_of_getLsbD_eq
  intro i hi
  show (w &&& _).getLsbD i = _
  rw [BitVec.getLsbD_and]
  by_cases hm : (127#32 <<< (8 * k.val)).getLsbD i = true
  · rw [hm, Bool.and_true]
    have hr : 8 * k.val ≤ i ∧ i < 8 * k.val + 7 := by
      revert hm
      have : ∀ k : Fin 4, ∀ i : Fin 32, (127#32 <<< (8 * k.val)).getLsbD i.val = true → 8 * k.val ≤ i.val ∧ i.val < 8 * k.val + 7 := by decide +kernel
      exact this k ⟨i, hi⟩
    have hx := hb ⟨i - 8 * k.val, by omega⟩
    change (w.extractLsb' (8 * k.val) 8).getLsbD (i - 8 * k.val) = true at hx
    rw [BitVec.getLsbD_extractLsb'] at hx
    have e : 8 * k.val + (i - 8 * k.val) = i := by omega
    rw [e] at hx
    exact (Bool.and_eq_true_iff.mp hx).2
  · rw [Bool.not_eq_true] at hm
    rw [hm, Bool.and_false]

end Cert.Attend

end
-- ==== Proof.Tile.lean ====
/- One trip of the kernel's loop: eight rows of queries against their 512 keys. What the trip stores is, row by row, the
   attention of the row over its own sixty-four keys (`Row.lean`). -/
module

public import proofs.«01_k».proof.Proof.Gen.KernelIdeal.Skeleton
public import proofs.«01_k».proof.Proof.Codes
public import Idealize.ShloMosaic.Lib.Pointwise

@[expose] public section

set_option maxRecDepth 16384

noncomputable section

namespace Cert.Attend

open Idealize.ShloMosaic Cert.KernelIdeal Cert.KernelIdeal.Gen

/-- The row numbers of the eight-row tile. -/
def rowIota : IVec S8x128 32 := iota .tc S8x128 32 [0] iota_S8x128_d0_w32

/-- The four pieces of masked scores of the trip. -/
def pieces (x : Vec Ideal S8x256 .bf16) (w : Vec Ideal S128x256 .i32) (s : Fin 4 → Vec Ideal S1x128 .f32) : Fin 4 → FVec Ideal S8x128 .f32 :=
  ![k0_pay14 rowIota k0_pay1 x w (s 0), k0_pay16 rowIota k0_pay1 x w (s 1), k0_pay18 rowIota k0_pay1 (k0_pay12 x w) (s 2),
    k0_pay20 rowIota k0_pay1 (k0_pay12 x w) (s 3)]

/-- The constant the scores are scaled by. -/
def scoreScale : EReal := Scalar.ofBits (F := Ideal) .f32 0x3D800000#32

/-- The codes of row `r` of the tile. -/
def tileCodes (w : Vec Ideal S128x256 .i32) (r : Fin 8) (k : Fin 64) (d : Fin 256) : EReal :=
  byteVal (w (ix2 ⟨16 * r.val + k.val / 4, by omega⟩ d)) (k.val % 4)

/-- The scales of row `r` of the tile: piece `r / 2` holds those of two rows. -/
def tileScales (s : Fin 4 → Vec Ideal S1x128 .f32) (r : Fin 8) (k : Fin 64) : EReal :=
  s ⟨r.val / 2, by omega⟩ (ix2 0 ⟨64 * (r.val % 2) + k.val, by omega⟩)

/-- The scores of row `r` of the tile. -/
def tileScore (x : Vec Ideal S8x256 .bf16) (w : Vec Ideal S128x256 .i32) (s : Fin 4 → Vec Ideal S1x128 .f32) (r : Fin 8) : Fin 64 → EReal :=
  rowScore scoreScale (fun d => x (ix2 r d)) (tileCodes w r) (tileScales s r)

theorem codes_apply (w : Vec Ideal S128x256 .i32) (j : Fin 512) (d : Fin 256) :
    k0_pay11 w (ix2 j d) = byteVal (w (ix2 ⟨j.val / 4, by omega⟩ d)) (j.val % 4) :=
  congrArg Ideal.e4m3fn (bitcast_32_8_ix2 w bitcasts_S128x256_w32_S512x256_w8 j d ⟨j.val / 4, by omega⟩ rfl)

theorem mask_bit : ∀ (r : Fin 8) (l : Fin 128) (q : Fin 4),
    IntOp.cmpi .eq (rowIota (ix2 r l)) (IntOp.addi (BitVec.ofNat 32 (2 * q.val)) (k0_pay1 (ix2 r l)))
      = if r.val = 2 * q.val + l.val / 64 then 1#1 else 0#1 := by decide +kernel

theorem ofBits_neg_inf : (Scalar.ofBits (F := Ideal) .f32 0xFF800000#32 : EReal) = ⊥ := by
  show Ideal.ieee 8 23 (0xFF800000#32 : BitVec 32) = ⊥
  unfold Ideal.ieee
  dsimp only
  rw [if_pos (by decide), if_pos (by decide), if_pos (by decide)]

theorem scoreScale_real : IsReal scoreScale := by
  show IsReal (Ideal.ieee 8 23 (0x3D800000#32 : BitVec 32))
  unfold Ideal.ieee
  dsimp only
  rw [if_neg (by decide), if_neg (by decide)]
  exact ⟨_, rfl⟩

theorem scores_apply (x : Vec Ideal S8x256 .bf16) (w : Vec Ideal S128x256 .i32) (r : Fin 8) (j : Fin 512) :
    k0_pay12 x w (ix2 r j) = ∑ d : Fin 256, x (ix2 r d) * k0_pay11 w (ix2 j d) := by
  pointwise [k0_pay12]

/-- A lane of the four pieces of masked scores, before the pieces' products are named. -/
theorem pieces_raw (x : Vec Ideal S8x256 .bf16) (w : Vec Ideal S128x256 .i32) (s : Fin 4 → Vec Ideal S1x128 .f32) (r : Fin 8)
    (q : Fin 4) (l : Fin 128) :
    pieces x w s q (ix2 r l) = if r.val = 2 * q.val + l.val / 64 then
      k0_pay12 x w (ix2 r ⟨128 * q.val + l.val, by omega⟩) * (s q (ix2 0 l) * scoreScale) else ⊥ := by
  have hm := mask_bit r l q
  have key : pieces x w s q (ix2 r l) = if IntOp.cmpi .eq (rowIota (ix2 r l)) (IntOp.addi (BitVec.ofNat 32 (2 * q.val)) (k0_pay1 (ix2 r l))) = 1#1
      then k0_pay12 x w (ix2 r ⟨128 * q.val + l.val, by omega⟩) * (s q (ix2 0 l) * scoreScale) else ⊥ := by
    clear hm
    rw [← ofBits_neg_inf]
    match q with
    | ⟨0, _⟩ =>
      show k0_pay14 rowIota k0_pay1 x w (s 0) (ix2 r l) = _
      pointwise [k0_pay14, k0_pay13]
      rfl
    | ⟨1, _⟩ =>
      show k0_pay16 rowIota k0_pay1 x w (s 1) (ix2 r l) = _
      pointwise [k0_pay16, k0_pay15]
      rfl
    | ⟨2, _⟩ =>
      show k0_pay18 rowIota k0_pay1 (k0_pay12 x w) (s 2) (ix2 r l) = _
      pointwise [k0_pay18, k0_pay17]
      rfl
    | ⟨3, _⟩ =>
      show k0_pay20 rowIota k0_pay1 (k0_pay12 x w) (s 3) (ix2 r l) = _
      pointwise [k0_pay20, k0_pay19]
      rfl
  rw [key, hm]
  by_cases h : r.val = 2 * q.val + l.val / 64
  · rw [if_pos h, if_pos rfl, if_pos h]
  · rw [if_neg h, if_neg (by decide), if_neg h]

/-- The four pieces are the row's scores, masked. -/
theorem masked (x : Vec Ideal S8x256 .bf16) (w : Vec Ideal S128x256 .i32) (s : Fin 4 → Vec Ideal S1x128 .f32) (r : Fin 8) :
    Masked r (tileScore x w s r) (fun q l => pieces x w s q (ix2 r l)) := by
  intro q l
  show pieces x w s q (ix2 r l) = _
  rw [pieces_raw]
  by_cases h : r.val = 2 * q.val + l.val / 64
  · rw [if_pos h, if_pos h, scores_apply]
    have hq : q = ⟨r.val / 2, by omega⟩ := Fin.ext (by show q.val = r.val / 2; omega)
    unfold tileScore rowScore tileScales tileCodes
    simp only [codes_apply]
    congr 1
    · refine Finset.sum_congr rfl fun d _ => ?_
      congr 1
      have e1 : (128 * q.val + l.val) / 4 = 16 * r.val + l.val % 64 / 4 := by omega
      have e2 : (128 * q.val + l.val) % 4 = l.val % 64 % 4 := by omega
      simp only [e1, e2]
    · have e3 : l = ⟨64 * (r.val % 2) + l.val % 64, by omega⟩ := Fin.ext (by show l.val = 64 * (r.val % 2) + l.val % 64; omega)
      rw [← hq, ← e3]
  · rw [if_neg h, if_neg h]

/-- The four pieces' exponentials. -/
def exps (x : Vec Ideal S8x256 .bf16) (w : Vec Ideal S128x256 .i32) (s : Fin 4 → Vec Ideal S1x128 .f32) : Fin 4 → FVec Ideal S8x128 .f32 :=
  ![k0_pay22 rowIota k0_pay1 (k0_pay12 x w) (pieces x w s 0) (pieces x w s 1) (s 2) (s 3),
    k0_pay23 rowIota k0_pay1 (k0_pay12 x w) (pieces x w s 0) (pieces x w s 1) (s 2) (s 3),
    k0_pay24 rowIota k0_pay1 (k0_pay12 x w) (pieces x w s 0) (pieces x w s 1) (s 2) (s 3),
    k0_pay25 rowIota k0_pay1 (k0_pay12 x w) (pieces x w s 0) (pieces x w s 1) (s 2) (s 3)]

theorem max_apply (x : Vec Ideal S8x256 .bf16) (w : Vec Ideal S128x256 .i32) (s : Fin 4 → Vec Ideal S1x128 .f32) (r : Fin 8) :
    k0_pay21 rowIota k0_pay1 (k0_pay12 x w) (pieces x w s 0) (pieces x w s 1) (s 2) (s 3) (ix2 r 0) = rowMax (tileScore x w s r) := by
  rw [← (masked x w s r).max]
  have h2 : k0_pay18 rowIota k0_pay1 (k0_pay12 x w) (s 2) = pieces x w s 2 := rfl
  have h3 : k0_pay20 rowIota k0_pay1 (k0_pay12 x w) (s 3) = pieces x w s 3 := rfl
  pointwise [k0_pay21]
  rw [h2, h3]
  exact congrArg (fun b => Finset.fold max b _ _) ofBits_neg_inf

theorem exps_apply (x : Vec Ideal S8x256 .bf16) (w : Vec Ideal S128x256 .i32) (s : Fin 4 → Vec Ideal S1x128 .f32) (r : Fin 8)
    (q : Fin 4) (l : Fin 128) :
    exps x w s q (ix2 r l) = Ideal.exp (pieces x w s q (ix2 r l) - rowMax (tileScore x w s r)) := by
  rw [← max_apply]
  match q with
  | ⟨0, _⟩ =>
    show k0_pay22 rowIota k0_pay1 (k0_pay12 x w) (pieces x w s 0) (pieces x w s 1) (s 2) (s 3) (ix2 r l) = _
    pointwise [k0_pay22]
  | ⟨1, _⟩ =>
    show k0_pay23 rowIota k0_pay1 (k0_pay12 x w) (pieces x w s 0) (pieces x w s 1) (s 2) (s 3) (ix2 r l) = _
    pointwise [k0_pay23]
  | ⟨2, _⟩ =>
    show k0_pay24 rowIota k0_pay1 (k0_pay12 x w) (pieces x w s 0) (pieces x w s 1) (s 2) (s 3) (ix2 r l) = _
    pointwise [k0_pay24]
    rfl
  | ⟨3, _⟩ =>
    show k0_pay25 rowIota k0_pay1 (k0_pay12 x w) (pieces x w s 0) (pieces x w s 1) (s 2) (s 3) (ix2 r l) = _
    pointwise [k0_pay25]
    rfl

/-- The four pieces' weights. -/
def wts (e : Fin 4 → FVec Ideal S8x128 .f32) : Fin 4 → FVec Ideal S8x128 .f32 :=
  ![k0_pay3 (e 0) (e 2) (e 3) (addf (e 0) (e 1)), k0_pay4 (e 1) (e 2) (e 3) (addf (e 0) (e 1)),
    k0_pay5 (e 2) (e 3) (addf (e 0) (e 1)), k0_pay6 (e 2) (e 3) (addf (e 0) (e 1))]

theorem tot_apply (e : Fin 4 → FVec Ideal S8x128 .f32) (r : Fin 8) :
    k0_pay2 (e 2) (e 3) (addf (e 0) (e 1)) (ix2 r 0) = ∑ l : Fin 128, (e 0 (ix2 r l) + e 1 (ix2 r l) + e 2 (ix2 r l) + e 3 (ix2 r l)) := by
  pointwise [k0_pay2]

theorem wts_raw (e : Fin 4 → FVec Ideal S8x128 .f32) (r : Fin 8) (q : Fin 4) (l : Fin 128) :
    wts e q (ix2 r l) = Ideal.div (e q (ix2 r l)) (∑ l : Fin 128, (e 0 (ix2 r l) + e 1 (ix2 r l) + e 2 (ix2 r l) + e 3 (ix2 r l))) := by
  rw [← tot_apply]
  match q with
  | ⟨0, _⟩ => show k0_pay3 (e 0) (e 2) (e 3) (addf (e 0) (e 1)) (ix2 r l) = _; pointwise [k0_pay3]
  | ⟨1, _⟩ => show k0_pay4 (e 1) (e 2) (e 3) (addf (e 0) (e 1)) (ix2 r l) = _; pointwise [k0_pay4]
  | ⟨2, _⟩ => show k0_pay5 (e 2) (e 3) (addf (e 0) (e 1)) (ix2 r l) = _; pointwise [k0_pay5]
  | ⟨3, _⟩ => show k0_pay6 (e 2) (e 3) (addf (e 0) (e 1)) (ix2 r l) = _; pointwise [k0_pay6]

theorem wts_apply (x : Vec Ideal S8x256 .bf16) (w : Vec Ideal S128x256 .i32) (s : Fin 4 → Vec Ideal S1x128 .f32) (r : Fin 8)
    (q : Fin 4) (l : Fin 128) :
    wts (exps x w s) q (ix2 r l)
      = Ideal.div (Ideal.exp (pieces x w s q (ix2 r l) - rowMax (tileScore x w s r))) (rowTot (tileScore x w s r)) := by
  rw [wts_raw, ← (masked x w s r).tot]
  simp only [exps_apply]

/-- What the trip stores of attention weights. -/
def attnTile (x : Vec Ideal S8x256 .bf16) (w : Vec Ideal S128x256 .i32) (s : Fin 4 → Vec Ideal S1x128 .f32) : FVec Ideal S8x128 .f32 :=
  k0_pay8 (exps x w s 0) (exps x w s 1) (exps x w s 2) (exps x w s 3) (addf (exps x w s 0) (exps x w s 1))

/-- What the trip stores of pooled rows. -/
def poolTile (x : Vec Ideal S8x256 .bf16) (w : Vec Ideal S128x256 .i32) (s : Fin 4 → Vec Ideal S1x128 .f32) : FVec Ideal S8x256 .bf16 :=
  k0_pay7 (k0_pay11 w) (k0_pay13 (s 0)) (k0_pay15 (s 1)) (k0_pay17 (s 2)) (k0_pay19 (s 3))
    (exps x w s 0) (exps x w s 1) (exps x w s 2) (exps x w s 3) (addf (exps x w s 0) (exps x w s 1))

theorem attnTile_apply (x : Vec Ideal S8x256 .bf16) (w : Vec Ideal S128x256 .i32) (s : Fin 4 → Vec Ideal S1x128 .f32) (r : Fin 8)
    (ht : rowTot (tileScore x w s r) ≠ 0) (k : Fin 64) :
    attnTile x w s (ix2 r ⟨k.val, by omega⟩) = rowAttn (tileScore x w s r) k := by
  rw [← (masked x w s r).attn ht (fun l => wts (exps x w s) 0 (ix2 r l) + wts (exps x w s) 1 (ix2 r l) + wts (exps x w s) 2 (ix2 r l)
      + wts (exps x w s) 3 (ix2 r l)) (fun l => by simp only [wts_apply]) k ⟨k.val, by omega⟩ ⟨k.val + 64, by omega⟩ rfl rfl]
  unfold attnTile
  generalize exps x w s = e
  pointwise [k0_pay8]
  have e1 : (k.val + 128 - 64) % 128 = k.val + 64 := by omega
  simp only [e1]
  rfl

theorem poolTile_apply (x : Vec Ideal S8x256 .bf16) (w : Vec Ideal S128x256 .i32) (s : Fin 4 → Vec Ideal S1x128 .f32) (r : Fin 8)
    (ht : rowTot (tileScore x w s r) ≠ 0) (d : Fin 256) :
    poolTile x w s (ix2 r d) = rowPool (tileScore x w s r) (tileCodes w r) (tileScales s r) d := by
  rw [← (masked x w s r).pool ht (tileCodes w r) (tileScales s r)
    (fun j => s ⟨j.val / 128, by omega⟩ (ix2 0 ⟨j.val % 128, Nat.mod_lt _ (by decide)⟩)) (fun j => k0_pay11 w (ix2 j d)) d
    (fun j hj => by
      unfold tileScales
      have e1 : j.val / 128 = r.val / 2 := by omega
      have e2 : j.val % 128 = 64 * (r.val % 2) + j.val % 64 := by omega
      simp only [e1, e2])
    (fun j hj => by
      unfold tileCodes
      rw [codes_apply]
      have e1 : j.val / 4 = 16 * r.val + j.val % 64 / 4 := by omega
      have e2 : j.val % 4 = j.val % 64 % 4 := by omega
      simp only [e1, e2])]
  simp only [← wts_apply]
  unfold poolTile
  generalize exps x w s = e
  generalize k0_pay11 w = D
  pointwise [k0_pay7, k0_pay13, k0_pay15, k0_pay17, k0_pay19]
  refine Finset.sum_congr rfl fun j _ => congrArg (· * D (ix2 j d)) ?_
  have at_piece (q : Fin 4) (l : Fin 128) (hj : j.val = 128 * q.val + l.val) :
      wts e q (ix2 r l) * s q (ix2 0 l) = wts e ⟨j.val / 128, by omega⟩ (ix2 r ⟨j.val % 128, Nat.mod_lt _ (by decide)⟩)
        * s ⟨j.val / 128, by omega⟩ (ix2 0 ⟨j.val % 128, Nat.mod_lt _ (by decide)⟩) := by
    have e1 : q = ⟨j.val / 128, by omega⟩ := Fin.ext (by show q.val = j.val / 128; omega)
    have e2 : l = ⟨j.val % 128, Nat.mod_lt _ (by decide)⟩ := Fin.ext (by show l.val = j.val % 128; omega)
    rw [← e1, ← e2]
  split
  · exact at_piece 0 _ (by show j.val = 128 * 0 + j.val; omega)
  · split
    · exact at_piece 1 _ (by show j.val = 128 * 1 + (j.val - 128); omega)
    · split
      · exact at_piece 2 _ (by show j.val = 128 * 2 + (j.val - 128 - 128); omega)
      · exact at_piece 3 _ (by show j.val = 128 * 3 + (j.val - 128 - 128 - 128); omega)

end Cert.Attend

end
-- ==== Proof.Block.lean ====
/- One grid point of the kernel: 128 rows, in sixteen trips of eight. What the point leaves in its three output blocks. -/
module

public import proofs.«01_k».proof.Proof.Gen.KernelIdeal.Value
public import proofs.«01_k».proof.Proof.Rows
public import proofs.«01_k».proof.Proof.Tile

@[expose] public section

set_option maxRecDepth 16384

noncomputable section

namespace Cert.Attend

open Idealize.ShloMosaic Cert.KernelIdeal

/-- The queries of trip `k`. -/
def tripX (X : Vec Ideal S128x256 .bf16) (k : Fin 16) : Vec Ideal S8x256 .bf16 := rowsFrom (8 * k.val) 8 (by omega) X

/-- The words of trip `k`. -/
def tripW (X : Vec Ideal S2048x256 .i32) (k : Fin 16) : Vec Ideal S128x256 .i32 := rowsFrom (128 * k.val) 128 (by omega) X

/-- The four scale rows of trip `k`. -/
def tripS (X : Vec Ideal S64x128 .f32) (k : Fin 16) (q : Fin 4) : Vec Ideal S1x128 .f32 := rowsFrom (4 * k.val + q.val) 1 (by omega) X

end Cert.Attend

namespace Cert.KernelIdeal.Hand

open Idealize.ShloMosaic Idealize.ShloMosaic.TcCoe Idealize.ShloMosaic.Tactic Cert.KernelIdeal Cert.KernelIdeal.Gen Idealize.SL.Sem Cert.Attend

theorem trips_eq : k0_t1_loop.trips = 16 := by decide +kernel

theorem off1_eq : ∀ k : Fin k0_t1_loop.trips, k0_off1 k = ![8 * k.val, 0] := by decide +kernel

theorem off2_eq : ∀ k : Fin k0_t1_loop.trips, k0_off2 k = ![128 * k.val, 0] := by decide +kernel

theorem off3_eq : ∀ (k : Fin k0_t1_loop.trips) (q : Fin 4), k0_off3 k (BitVec.ofNat 32 q.val) = ![4 * k.val + q.val, 0] := by decide +kernel

theorem off4_eq : ∀ k : Fin k0_t1_loop.trips, k0_off4 k = ![8 * k.val, 0] := by decide +kernel

variable (𝒱 : Variants) (c : Dev nD) (bd : Option 𝒱.V) (i : grid0.Coords)
  (arg1 : Memref sig .tc .vmem S128x256 .bf16) (harg1 : arg1.IsWhole) (arg2 : Memref sig .tc .vmem S128x64 .i32) (harg2 : arg2.IsWhole)
  (arg3 : Memref sig .tc .vmem S64x128 .f32) (harg3 : arg3.IsWhole) (arg4 : Memref sig .tc .vmem S2048x256 .i32) (harg4 : arg4.IsWhole)
  (arg5 : Memref sig .tc .vmem S128x256 .bf16) (harg5 : arg5.IsWhole) (arg6 : Memref sig .tc .vmem S64x128 .i32) (harg6 : arg6.IsWhole)
  (arg7 : Memref sig .tc .vmem S64x128 .f32) (harg7 : arg7.IsWhole) (arg8 : Memref sig .tc .vmem S128x128 .f32) (harg8 : arg8.IsWhole)
  (X1 : Vec Ideal S128x256 .bf16) (X2 : Vec Ideal S128x64 .i32) (X3 : Vec Ideal S64x128 .f32) (X4 : Vec Ideal S2048x256 .i32)

/-- The pieces one trip stores: eight pooled rows, and eight rows of weights in the scratch. -/
theorem trip_pieces (k : Fin k0_t1_loop.trips) (hk : k.val < 16) :
    tripL_k0_t1 (F := Ideal) 𝒱 c bd i arg1 harg1 arg2 harg2 arg3 harg3 arg4 harg4 arg5 harg5 arg6 harg6 arg7 harg7 arg8 harg8 rowIota (harg1.unread X1) (harg3.unread X3) (harg4.unread X4) k
      = ([⟨Rect.unit (k0_off1 k) S8x256.size (k0_off1_inb k), poolTile (tripX X1 ⟨k.val, hk⟩) (tripW X4 ⟨k.val, hk⟩) (tripS X3 ⟨k.val, hk⟩)⟩],
         [⟨Rect.unit (k0_off4 k) S8x128.size (k0_off4_inb k), attnTile (tripX X1 ⟨k.val, hk⟩) (tripW X4 ⟨k.val, hk⟩) (tripS X3 ⟨k.val, hk⟩)⟩]) := by
  have hx : View.ld X1 (Rect.unit (k0_off1 k) S8x256.size (k0_off1_inb k)) = tripX X1 ⟨k.val, hk⟩ := ld_rows _ _ X1 _ _ (off1_eq k)
  have hw : View.ld X4 (Rect.unit (k0_off2 k) S128x256.size (k0_off2_inb k)) = tripW X4 ⟨k.val, hk⟩ := ld_rows _ _ X4 _ _ (off2_eq k)
  have hs (q : Fin 4) : View.ld X3 (Rect.unit (s := S64x128) (k0_off3 k (BitVec.ofNat 32 q.val)) S1x128.size (k0_off3_inb k q)) = tripS X3 ⟨k.val, hk⟩ q :=
    ld_rows (Val := Elt Ideal) (e := .f32) (N := 128) (R := 64) (r := 1) (4 * k.val + q.val) (by omega) X3 (k0_off3 k (BitVec.ofNat 32 q.val)) (k0_off3_inb k q) (off3_eq k q)
  have hs' : tripS X3 ⟨k.val, hk⟩ = fun q : Fin 4 => View.ld X3 (Rect.unit (s := S64x128) (k0_off3 k (BitVec.ofNat 32 q.val)) S1x128.size (k0_off3_inb k q)) :=
    funext fun q => (hs q).symm
  rw [← hx, ← hw, hs']
  unfold tripL_k0_t1 trip_k0_t1
  dsimp only
  sl_unfold_words
  simp only [View.readAt_eq_ld, harg1.read_unread, harg3.read_unread, harg4.read_unread]
  rfl

theorem trips_pool : Trips (fun n => (pb_k0_t1 (F := Ideal) 𝒱 c bd i arg1 harg1 arg2 harg2 arg3 harg3 arg4 harg4 arg5 harg5 arg6 harg6 arg7 harg7 arg8 harg8 rowIota (harg1.unread X1) (harg3.unread X3) (harg4.unread X4) n).1)
    (fun k => poolTile (tripX X1 k) (tripW X4 k) (tripS X3 k)) :=
  ⟨rfl, fun k => by
    have hk : k.val < k0_t1_loop.trips := by rw [trips_eq]; exact k.isLt
    refine ⟨_, k0_off1_inb ⟨k.val, hk⟩, off1_eq ⟨k.val, hk⟩, ?_⟩
    have h := congrArg Prod.fst (pb_k0_t1_succ (F := Ideal) 𝒱 c bd i arg1 harg1 arg2 harg2 arg3 harg3 arg4 harg4 arg5 harg5 arg6 harg6 arg7 harg7 arg8 harg8 rowIota (harg1.unread X1) (harg3.unread X3) (harg4.unread X4) ⟨k.val, hk⟩)
    rw [trip_pieces (k := ⟨k.val, hk⟩) (hk := k.isLt)] at h
    exact h⟩

theorem trips_attn : Trips (fun n => (pb_k0_t1 (F := Ideal) 𝒱 c bd i arg1 harg1 arg2 harg2 arg3 harg3 arg4 harg4 arg5 harg5 arg6 harg6 arg7 harg7 arg8 harg8 rowIota (harg1.unread X1) (harg3.unread X3) (harg4.unread X4) n).2)
    (fun k => attnTile (tripX X1 k) (tripW X4 k) (tripS X3 k)) :=
  ⟨rfl, fun k => by
    have hk : k.val < k0_t1_loop.trips := by rw [trips_eq]; exact k.isLt
    refine ⟨_, k0_off4_inb ⟨k.val, hk⟩, off4_eq ⟨k.val, hk⟩, ?_⟩
    have h := congrArg Prod.snd (pb_k0_t1_succ (F := Ideal) 𝒱 c bd i arg1 harg1 arg2 harg2 arg3 harg3 arg4 harg4 arg5 harg5 arg6 harg6 arg7 harg7 arg8 harg8 rowIota (harg1.unread X1) (harg3.unread X3) (harg4.unread X4) ⟨k.val, hk⟩)
    rw [trip_pieces (k := ⟨k.val, hk⟩) (hk := k.isLt)] at h
    exact h⟩

/-- The pooled block. -/
theorem out4_eq : out0_A_4 (F := Ideal) c i arg1 harg1 arg2 harg2 arg3 harg3 arg4 harg4 arg5 harg5 arg6 harg6 arg7 harg7 arg8 harg8 X1 X2 X3 X4
    = gather (N := 256) (fun k => poolTile (tripX X1 k) (tripW X4 k) (tripS X3 k)) := by
  unfold out0_A_4
  rw [View.read_writes_eq_canon _ _ _ (cover0_A_4 c i arg1 harg1 arg2 harg2 arg3 harg3 arg4 harg4 arg5 harg5 arg6 harg6 arg7 harg7 arg8 harg8 X1 X2 X3 X4)]
  exact (trips_pool Variants.none c none i arg1 harg1 arg2 harg2 arg3 harg3 arg4 harg4 arg5 harg5 arg6 harg6 arg7 harg7 arg8 harg8 X1 X3 X4).canon

/-- The weights block: the scratch transposed, its first sixty-four rows. -/
theorem out6_eq : out0_A_6 (F := Ideal) c i arg1 harg1 arg2 harg2 arg3 harg3 arg4 harg4 arg5 harg5 arg6 harg6 arg7 harg7 arg8 harg8 X1 X2 X3 X4
    = k0_pay9 (F := Ideal) (gather (Val := Elt Ideal) (e := .f32) (N := 128) (fun k => attnTile (tripX X1 k) (tripW X4 k) (tripS X3 k))) := by
  unfold out0_A_6
  rw [View.read_writes_eq_canon _ _ _ (cover0_A_6 c i arg1 harg1 arg2 harg2 arg3 harg3 arg4 harg4 arg5 harg5 arg6 harg6 arg7 harg7 arg8 harg8 X1 X2 X3 X4)]
  unfold kernelRun0_A
  dsimp only
  rw [View.canon_unit_zero (S := S64x128) (by decide), View.readCov_eq_canon']
  have h := (trips_attn Variants.none c none i arg1 harg1 arg2 harg2 arg3 harg3 arg4 harg4 arg5 harg5 arg6 harg6 arg7 harg7 arg8 harg8 X1 X3 X4).canon
  refine congrArg (k0_pay9 (F := Ideal)) (Eq.trans ?_ h)
  exact View.ld_unit_zero (S := S128x128) (by decide) inb_S128x128_S128x128_0_0 _

/-- The positions block: the positions transposed. -/
theorem out5_eq : out0_A_5 (F := Ideal) c i arg1 harg1 arg2 harg2 arg3 harg3 arg4 harg4 arg5 harg5 arg6 harg6 arg7 harg7 arg8 harg8 X1 X2 X3 X4 = k0_pay10 X2 := by
  unfold out0_A_5
  rw [View.read_writes_eq_canon _ _ _ (cover0_A_5 c i arg1 harg1 arg2 harg2 arg3 harg3 arg4 harg4 arg5 harg5 arg6 harg6 arg7 harg7 arg8 harg8 X1 X2 X3 X4)]
  unfold kernelRun0_A
  dsimp only
  rw [View.canon_unit_zero (S := S64x128) (by decide), View.readAt_eq_ld, harg2.read_unread]
  exact congrArg (k0_pay10 (F := Ideal)) (View.ld_unit_zero (S := S128x64) (by decide) inb_S128x64_S128x64_0_0 _)

end Cert.KernelIdeal.Hand

end
-- ==== Proof.Spec.lean ====
/- Row by row, what the attention is of the arguments of the calls: part `p` of the batch holds the 512 rows from row
   `512 * p`. The gathered words hold four codes each, the four of one column in one word; the scales lie flat, sixty-four
   to a row. -/
module

public import proofs.«01_k».proof.Proof.Block

@[expose] public section

set_option maxRecDepth 16384

noncomputable section

namespace Cert.Attend

open Idealize.ShloMosaic Cert.KernelIdeal

variable (p : Fin 3) (x : Vec Ideal S1536x256 .bf16) (scl : Vec Ideal S32768 .f32) (rows : Vec Ideal S8192x256 .i32)

/-- The query of row `b` of the part. -/
def specX (b : Fin 512) (d : Fin 256) : EReal := x (ix2 ⟨512 * p.val + b.val, by omega⟩ d)

/-- The codes of the keys of row `b`. -/
def specCodes (b : Fin 512) (k : Fin 64) (d : Fin 256) : EReal :=
  byteVal (rows (ix2 ⟨16 * b.val + k.val / 4, by omega⟩ d)) (k.val % 4)

/-- The scales of the keys of row `b`. -/
def specScales (b : Fin 512) (k : Fin 64) : EReal := scl (ix1 ⟨64 * b.val + k.val, by omega⟩)

/-- The scores of row `b`. -/
def specScore (b : Fin 512) : Fin 64 → EReal := rowScore scoreScale (specX p x b) (specCodes rows b) (specScales scl b)

/-- The pooled rows. -/
def specPool (b : Fin 512) (d : Fin 256) : EReal := rowPool (specScore p x scl rows b) (specCodes rows b) (specScales scl b) d

/-- The weights. -/
def specAttn (b : Fin 512) (k : Fin 64) : EReal := rowAttn (specScore p x scl rows b) k

/-- The pooled rows as an array. -/
def poolArr : Vec Ideal S512x256 .bf16 := fun i => specPool p x scl rows (i 0) (i 1)

/-- The weights as an array, one column to a row of the batch. -/
def attnArr : Vec Ideal S64x512 .f32 := fun i => specAttn p x scl rows (i 1) (i 0)

/-- The positions as an array, one column to a row of the batch. -/
def posArr (pos : Vec Ideal S32768 .i32) : Vec Ideal S64x512 .i32 := fun i =>
  pos (ix1 ⟨64 * (i 1).val + (i 0).val, by
    have h0 : (i 0).val < 64 := (i 0).isLt
    have h1 : (i 1).val < 512 := (i 1).isLt
    omega⟩)

/-- Grid point `t` reads the blocks of its 128 rows. -/
structure Reads (t : Fin 4) (X1 : Vec Ideal S128x256 .bf16) (X3 : Vec Ideal S64x128 .f32) (X4 : Vec Ideal S2048x256 .i32) : Prop where
  hx : ∀ (y : Fin 128) (d : Fin 256), X1 (ix2 y d) = x (ix2 ⟨512 * p.val + (128 * t.val + y.val), by omega⟩ d)
  hs : ∀ (i : Fin 64) (l : Fin 128), X3 (ix2 i l) = scl (ix1 ⟨8192 * t.val + 128 * i.val + l.val, by omega⟩)
  hw : ∀ (j : Fin 2048) (d : Fin 256), X4 (ix2 j d) = rows (ix2 ⟨2048 * t.val + j.val, by omega⟩ d)

variable {p x scl rows} {t : Fin 4} {X1 : Vec Ideal S128x256 .bf16} {X3 : Vec Ideal S64x128 .f32} {X4 : Vec Ideal S2048x256 .i32}

theorem Reads.codes (h : Reads p x scl rows t X1 X3 X4) (g : Fin 16) (r : Fin 8) (b : Fin 512) (hb : b.val = 128 * t.val + 8 * g.val + r.val) :
    tileCodes (tripW X4 g) r = specCodes rows b := by
  funext k d
  refine congrArg (byteVal · (k.val % 4)) ?_
  refine (h.hw ⟨128 * g.val + (16 * r.val + k.val / 4), by omega⟩ d).trans ?_
  refine congrArg (fun i => rows (ix2 i d)) (Fin.ext ?_)
  show 2048 * t.val + (128 * g.val + (16 * r.val + k.val / 4)) = 16 * b.val + k.val / 4
  omega

theorem Reads.scales (h : Reads p x scl rows t X1 X3 X4) (g : Fin 16) (r : Fin 8) (b : Fin 512) (hb : b.val = 128 * t.val + 8 * g.val + r.val) :
    tileScales (tripS X3 g) r = specScales scl b := by
  funext k
  refine (h.hs ⟨4 * g.val + r.val / 2 + 0, by omega⟩ ⟨64 * (r.val % 2) + k.val, by omega⟩).trans ?_
  refine congrArg (fun i => scl (ix1 i)) (Fin.ext ?_)
  show 8192 * t.val + 128 * (4 * g.val + r.val / 2 + 0) + (64 * (r.val % 2) + k.val) = 64 * b.val + k.val
  omega

theorem Reads.score (h : Reads p x scl rows t X1 X3 X4) (g : Fin 16) (r : Fin 8) (b : Fin 512) (hb : b.val = 128 * t.val + 8 * g.val + r.val) :
    tileScore (tripX X1 g) (tripW X4 g) (tripS X3 g) r = specScore p x scl rows b := by
  unfold tileScore specScore
  rw [h.codes g r b hb, h.scales g r b hb]
  refine congrArg (fun X => rowScore scoreScale X _ _) (funext fun d => ?_)
  refine (h.hx ⟨8 * g.val + r.val, by omega⟩ d).trans ?_
  refine congrArg (fun i => x (ix2 i d)) (Fin.ext ?_)
  show 512 * p.val + (128 * t.val + (8 * g.val + r.val)) = 512 * p.val + b.val
  omega

theorem Reads.pool (h : Reads p x scl rows t X1 X3 X4) (ht : ∀ b, rowTot (specScore p x scl rows b) ≠ 0) (y : Fin 128) (d : Fin 256)
    (b : Fin 512) (hb : b.val = 128 * t.val + y.val) :
    gather (Val := Elt Ideal) (e := .bf16) (N := 256) (fun k => poolTile (tripX X1 k) (tripW X4 k) (tripS X3 k)) (ix2 y d)
      = specPool p x scl rows b d := by
  have hb' : b.val = 128 * t.val + 8 * (y.val / 8) + y.val % 8 := by omega
  have e := h.score ⟨y.val / 8, by omega⟩ ⟨y.val % 8, Nat.mod_lt _ (by decide)⟩ b hb'
  refine (poolTile_apply (tripX X1 ⟨y.val / 8, by omega⟩) (tripW X4 ⟨y.val / 8, by omega⟩) (tripS X3 ⟨y.val / 8, by omega⟩)
    ⟨y.val % 8, Nat.mod_lt _ (by decide)⟩ (by rw [e]; exact ht b) d).trans ?_
  rw [e, h.codes _ _ b hb', h.scales _ _ b hb']
  rfl

theorem Reads.attn (h : Reads p x scl rows t X1 X3 X4) (ht : ∀ b, rowTot (specScore p x scl rows b) ≠ 0) (y : Fin 128) (k : Fin 64)
    (b : Fin 512) (hb : b.val = 128 * t.val + y.val) :
    Cert.KernelIdeal.Gen.k0_pay9 (F := Ideal) (gather (Val := Elt Ideal) (e := .f32) (N := 128) (fun k => attnTile (tripX X1 k) (tripW X4 k) (tripS X3 k))) (ix2 k y)
      = specAttn p x scl rows b k := by
  have hb' : b.val = 128 * t.val + 8 * (y.val / 8) + y.val % 8 := by omega
  have e := h.score ⟨y.val / 8, by omega⟩ ⟨y.val % 8, Nat.mod_lt _ (by decide)⟩ b hb'
  have e2 := attnTile_apply (tripX X1 ⟨y.val / 8, by omega⟩) (tripW X4 ⟨y.val / 8, by omega⟩) (tripS X3 ⟨y.val / 8, by omega⟩)
    ⟨y.val % 8, Nat.mod_lt _ (by decide)⟩ (by rw [e]; exact ht b) k
  rw [e] at e2
  refine Eq.trans ?_ e2
  pointwise [Cert.KernelIdeal.Gen.k0_pay9]
  rfl

end Cert.Attend

end
-- ==== Proof.Arrays.lean ====
/- The three arrays the kernel leaves, of its arguments. -/
module

public import proofs.«01_k».proof.Proof.Spec

@[expose] public section

set_option maxRecDepth 16384

noncomputable section

namespace Cert.KernelIdeal.Hand

open Idealize.ShloMosaic Idealize.ShloMosaic.TcCoe Idealize.ShloMosaic.Tactic Cert.KernelIdeal Cert.KernelIdeal.Gen Idealize.SL.Sem Cert.Attend

variable (m : (ℓ : Loc nD τ sig) → Buf (Elt Ideal) ℓ)

/-- The block index of every window at every grid point. -/
theorem idx : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = 0 ∧ win0_5.index t 1 = t.val)
    ∧ (win0_6.index t 0 = 0 ∧ win0_6.index t 1 = t.val) :=
  (by decide +kernel : ∀ t : Fin grid0.N, _)

theorem reads (c : Dev nD) (t : Fin cfg0.N) : Reads 0 (m ((c : Thread nD τ).loc main_arg0)) (m ((c : Thread nD τ).loc main_arg2))
    (m ((c : Thread nD τ).loc main_arg3)) t (iblk m c 0 t) (iblk m c 2 t) (iblk m c 3 t) where
  hx y d := by blk_ext! [iblk, V, idx t]
  hs i l := by blk_ext! [iblk, V, idx t]
  hw j d := by blk_ext! [iblk, V, idx t]

theorem block4 (c : Dev nD) (ht : ∀ b, rowTot (specScore 0 (m ((c : Thread nD τ).loc main_arg0)) (m ((c : Thread nD τ).loc main_arg2)) (m ((c : Thread nD τ).loc main_arg3)) b) ≠ 0) (t : Fin cfg0.N) (y0 : Fin 128) (y1 : Fin 256) :
    ((dats m 0 c).after 4 t : Vec Ideal S128x256 .bf16) (ix2 y0 y1) = poolArr 0 (m ((c : Thread nD τ).loc main_arg0)) (m ((c : Thread nD τ).loc main_arg2)) (m ((c : Thread nD τ).loc main_arg3)) (ix2 ⟨128 * t.val + y0.val, by have : t.val < 4 := t.isLt; omega⟩ y1) := by
  refine (congrFun ((after0_4 m c t).trans (out4_eq c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) scM0_0 (Memref.isWhole_whole _) (iblk m c 0 t) (iblk m c 1 t) (iblk m c 2 t) (iblk m c 3 t))) (ix2 y0 y1)).trans ?_
  exact (reads m c t).pool ht y0 y1 ⟨128 * t.val + y0.val, by have : t.val < 4 := t.isLt; omega⟩ rfl

theorem block5 (c : Dev nD) (t : Fin cfg0.N) (y0 : Fin 64) (y1 : Fin 128) :
    ((dats m 0 c).after 5 t : Vec Ideal S64x128 .i32) (ix2 y0 y1) = posArr (m ((c : Thread nD τ).loc main_arg1)) (ix2 y0 ⟨128 * t.val + y1.val, by have : t.val < 4 := t.isLt; omega⟩) := by
  refine (congrFun ((after0_5 m c t).trans (out5_eq c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) scM0_0 (Memref.isWhole_whole _) (iblk m c 0 t) (iblk m c 1 t) (iblk m c 2 t) (iblk m c 3 t))) (ix2 y0 y1)).trans ?_
  unfold posArr
  pointwise [k0_pay10]
  blk_point [iblk, V, idx t]

theorem block6 (c : Dev nD) (ht : ∀ b, rowTot (specScore 0 (m ((c : Thread nD τ).loc main_arg0)) (m ((c : Thread nD τ).loc main_arg2)) (m ((c : Thread nD τ).loc main_arg3)) b) ≠ 0) (t : Fin cfg0.N) (y0 : Fin 64) (y1 : Fin 128) :
    ((dats m 0 c).after 6 t : Vec Ideal S64x128 .f32) (ix2 y0 y1) = attnArr 0 (m ((c : Thread nD τ).loc main_arg0)) (m ((c : Thread nD τ).loc main_arg2)) (m ((c : Thread nD τ).loc main_arg3)) (ix2 y0 ⟨128 * t.val + y1.val, by have : t.val < 4 := t.isLt; omega⟩) := by
  refine (congrFun ((after0_6 m c t).trans (out6_eq c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) scM0_0 (Memref.isWhole_whole _) (iblk m c 0 t) (iblk m c 1 t) (iblk m c 2 t) (iblk m c 3 t))) (ix2 y0 y1)).trans ?_
  exact (reads m c t).attn ht y1 y0 ⟨128 * t.val + y1.val, by have : t.val < 4 := t.isLt; omega⟩ rfl

/-- The pooled rows after the run. -/
theorem arr4 (c : Dev nD) (ht : ∀ b, rowTot (specScore 0 (m ((c : Thread nD τ).loc main_arg0)) (m ((c : Thread nD τ).loc main_arg2)) (m ((c : Thread nD τ).loc main_arg3)) b) ≠ 0) : (dats m 0 c).arrAt 4 cfg0.N = poolArr 0 (m ((c : Thread nD τ).loc main_arg0)) (m ((c : Thread nD τ).loc main_arg2)) (m ((c : Thread nD τ).loc main_arg3)) := by
  have key := block4 m c ht
  generalize poolArr 0 (m ((c : Thread nD τ).loc main_arg0)) (m ((c : Thread nD τ).loc main_arg2)) (m ((c : Thread nD τ).loc main_arg3)) = A at key ⊢
  refine (dats m 0 c).arrAt_eq_of_covers 4 _ (by decide +kernel) fun t hf y => ?_
  blk_simp
  obtain ⟨y0, y1, rfl⟩ : ∃ (y0 : Fin 128) (y1 : Fin 256), y = ix2 y0 y1 := ⟨_, _, eq_ix2 y⟩
  refine (key t y0 y1).trans (congrArg A ?_)
  blk_ext [idx t]

/-- The positions after the run. -/
theorem arr5 (c : Dev nD) : (dats m 0 c).arrAt 5 cfg0.N = posArr (m ((c : Thread nD τ).loc main_arg1)) := by
  have key := block5 m c
  generalize posArr (m ((c : Thread nD τ).loc main_arg1)) = A at key ⊢
  refine (dats m 0 c).arrAt_eq_of_covers 5 _ (by decide +kernel) fun t hf y => ?_
  blk_simp
  obtain ⟨y0, y1, rfl⟩ : ∃ (y0 : Fin 64) (y1 : Fin 128), y = ix2 y0 y1 := ⟨_, _, eq_ix2 y⟩
  refine (key t y0 y1).trans (congrArg A ?_)
  blk_ext [idx t]

/-- The weights after the run. -/
theorem arr6 (c : Dev nD) (ht : ∀ b, rowTot (specScore 0 (m ((c : Thread nD τ).loc main_arg0)) (m ((c : Thread nD τ).loc main_arg2)) (m ((c : Thread nD τ).loc main_arg3)) b) ≠ 0) : (dats m 0 c).arrAt 6 cfg0.N = attnArr 0 (m ((c : Thread nD τ).loc main_arg0)) (m ((c : Thread nD τ).loc main_arg2)) (m ((c : Thread nD τ).loc main_arg3)) := by
  have key := block6 m c ht
  generalize attnArr 0 (m ((c : Thread nD τ).loc main_arg0)) (m ((c : Thread nD τ).loc main_arg2)) (m ((c : Thread nD τ).loc main_arg3)) = A at key ⊢
  refine (dats m 0 c).arrAt_eq_of_covers 6 _ (by decide +kernel) fun t hf y => ?_
  blk_simp
  obtain ⟨y0, y1, rfl⟩ : ∃ (y0 : Fin 64) (y1 : Fin 128), y = ix2 y0 y1 := ⟨_, _, eq_ix2 y⟩
  refine (key t y0 y1).trans (congrArg A ?_)
  blk_ext [idx t]

end Cert.KernelIdeal.Hand

end
-- ==== Proof.ArraysB.lean ====
/- The three arrays the second call leaves, of the kernel's arguments. Its body is the first call's; only its queries start 512 rows later. -/
module

public import proofs.«01_k».proof.Proof.Gen.KernelBIdeal.Value
public import proofs.«01_k».proof.Proof.Spec

@[expose] public section

set_option maxRecDepth 16384

noncomputable section

namespace Cert.KernelBIdeal.Hand

open Idealize.ShloMosaic Idealize.ShloMosaic.TcCoe Idealize.ShloMosaic.Tactic Cert.KernelBIdeal Cert.KernelBIdeal.Gen Idealize.SL.Sem Cert.Attend

variable (m : (ℓ : Loc nD τ sig) → Buf (Elt Ideal) ℓ)

/-- The body stores what the first call's body stores. -/
theorem body4 : @out0_A_4 Ideal _ = @Cert.KernelIdeal.Gen.out0_A_4 Ideal _ := by sl_kernel_rfl

theorem body5 : @out0_A_5 Ideal _ = @Cert.KernelIdeal.Gen.out0_A_5 Ideal _ := by sl_kernel_rfl

theorem body6 : @out0_A_6 Ideal _ = @Cert.KernelIdeal.Gen.out0_A_6 Ideal _ := by sl_kernel_rfl

/-- The block index of every window at every grid point. -/
theorem idx : ∀ t : Fin cfg0.N, (win0_0.index t 0 = t.val + 4 ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = 0 ∧ win0_5.index t 1 = t.val)
    ∧ (win0_6.index t 0 = 0 ∧ win0_6.index t 1 = t.val) :=
  (by decide +kernel : ∀ t : Fin grid0.N, _)

theorem reads (c : Dev nD) (t : Fin cfg0.N) : Reads 1 (m ((c : Thread nD τ).loc main_arg0)) (m ((c : Thread nD τ).loc main_arg2))
    (m ((c : Thread nD τ).loc main_arg3)) t (iblk m c 0 t) (iblk m c 2 t) (iblk m c 3 t) where
  hx y d := by blk_ext! [iblk, V, idx t]
  hs i l := by blk_ext! [iblk, V, idx t]
  hw j d := by blk_ext! [iblk, V, idx t]

theorem block4 (c : Dev nD) (ht : ∀ b, rowTot (specScore 1 (m ((c : Thread nD τ).loc main_arg0)) (m ((c : Thread nD τ).loc main_arg2)) (m ((c : Thread nD τ).loc main_arg3)) b) ≠ 0) (t : Fin cfg0.N) (y0 : Fin 128) (y1 : Fin 256) :
    ((dats m 0 c).after 4 t : Vec Ideal S128x256 .bf16) (ix2 y0 y1) = poolArr 1 (m ((c : Thread nD τ).loc main_arg0)) (m ((c : Thread nD τ).loc main_arg2)) (m ((c : Thread nD τ).loc main_arg3)) (ix2 ⟨128 * t.val + y0.val, by have : t.val < 4 := t.isLt; omega⟩ y1) := by
  have e := Cert.KernelIdeal.Hand.out4_eq c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) scM0_0 (Memref.isWhole_whole _) (iblk m c 0 t) (iblk m c 1 t) (iblk m c 2 t) (iblk m c 3 t)
  rw [← body4] at e
  refine (congrFun ((after0_4 m c t).trans e) (ix2 y0 y1)).trans ?_
  exact (reads m c t).pool ht y0 y1 ⟨128 * t.val + y0.val, by have : t.val < 4 := t.isLt; omega⟩ rfl

theorem block5 (c : Dev nD) (t : Fin cfg0.N) (y0 : Fin 64) (y1 : Fin 128) :
    ((dats m 0 c).after 5 t : Vec Ideal S64x128 .i32) (ix2 y0 y1) = posArr (m ((c : Thread nD τ).loc main_arg1)) (ix2 y0 ⟨128 * t.val + y1.val, by have : t.val < 4 := t.isLt; omega⟩) := by
  have e := Cert.KernelIdeal.Hand.out5_eq c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) scM0_0 (Memref.isWhole_whole _) (iblk m c 0 t) (iblk m c 1 t) (iblk m c 2 t) (iblk m c 3 t)
  rw [← body5] at e
  refine (congrFun ((after0_5 m c t).trans e) (ix2 y0 y1)).trans ?_
  unfold posArr
  pointwise [k0_pay10]
  blk_point [iblk, V, idx t]

theorem block6 (c : Dev nD) (ht : ∀ b, rowTot (specScore 1 (m ((c : Thread nD τ).loc main_arg0)) (m ((c : Thread nD τ).loc main_arg2)) (m ((c : Thread nD τ).loc main_arg3)) b) ≠ 0) (t : Fin cfg0.N) (y0 : Fin 64) (y1 : Fin 128) :
    ((dats m 0 c).after 6 t : Vec Ideal S64x128 .f32) (ix2 y0 y1) = attnArr 1 (m ((c : Thread nD τ).loc main_arg0)) (m ((c : Thread nD τ).loc main_arg2)) (m ((c : Thread nD τ).loc main_arg3)) (ix2 y0 ⟨128 * t.val + y1.val, by have : t.val < 4 := t.isLt; omega⟩) := by
  have e := Cert.KernelIdeal.Hand.out6_eq c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) scM0_0 (Memref.isWhole_whole _) (iblk m c 0 t) (iblk m c 1 t) (iblk m c 2 t) (iblk m c 3 t)
  rw [← body6] at e
  refine (congrFun ((after0_6 m c t).trans e) (ix2 y0 y1)).trans ?_
  exact (reads m c t).attn ht y1 y0 ⟨128 * t.val + y1.val, by have : t.val < 4 := t.isLt; omega⟩ rfl

/-- The pooled rows after the run. -/
theorem arr4 (c : Dev nD) (ht : ∀ b, rowTot (specScore 1 (m ((c : Thread nD τ).loc main_arg0)) (m ((c : Thread nD τ).loc main_arg2)) (m ((c : Thread nD τ).loc main_arg3)) b) ≠ 0) : (dats m 0 c).arrAt 4 cfg0.N = poolArr 1 (m ((c : Thread nD τ).loc main_arg0)) (m ((c : Thread nD τ).loc main_arg2)) (m ((c : Thread nD τ).loc main_arg3)) := by
  have key := block4 m c ht
  generalize poolArr 1 (m ((c : Thread nD τ).loc main_arg0)) (m ((c : Thread nD τ).loc main_arg2)) (m ((c : Thread nD τ).loc main_arg3)) = A at key ⊢
  refine (dats m 0 c).arrAt_eq_of_covers 4 _ (by decide +kernel) fun t hf y => ?_
  blk_simp
  obtain ⟨y0, y1, rfl⟩ : ∃ (y0 : Fin 128) (y1 : Fin 256), y = ix2 y0 y1 := ⟨_, _, eq_ix2 y⟩
  refine (key t y0 y1).trans (congrArg A ?_)
  blk_ext [idx t]

/-- The positions after the run. -/
theorem arr5 (c : Dev nD) : (dats m 0 c).arrAt 5 cfg0.N = posArr (m ((c : Thread nD τ).loc main_arg1)) := by
  have key := block5 m c
  generalize posArr (m ((c : Thread nD τ).loc main_arg1)) = A at key ⊢
  refine (dats m 0 c).arrAt_eq_of_covers 5 _ (by decide +kernel) fun t hf y => ?_
  blk_simp
  obtain ⟨y0, y1, rfl⟩ : ∃ (y0 : Fin 64) (y1 : Fin 128), y = ix2 y0 y1 := ⟨_, _, eq_ix2 y⟩
  refine (key t y0 y1).trans (congrArg A ?_)
  blk_ext [idx t]

/-- The weights after the run. -/
theorem arr6 (c : Dev nD) (ht : ∀ b, rowTot (specScore 1 (m ((c : Thread nD τ).loc main_arg0)) (m ((c : Thread nD τ).loc main_arg2)) (m ((c : Thread nD τ).loc main_arg3)) b) ≠ 0) : (dats m 0 c).arrAt 6 cfg0.N = attnArr 1 (m ((c : Thread nD τ).loc main_arg0)) (m ((c : Thread nD τ).loc main_arg2)) (m ((c : Thread nD τ).loc main_arg3)) := by
  have key := block6 m c ht
  generalize attnArr 1 (m ((c : Thread nD τ).loc main_arg0)) (m ((c : Thread nD τ).loc main_arg2)) (m ((c : Thread nD τ).loc main_arg3)) = A at key ⊢
  refine (dats m 0 c).arrAt_eq_of_covers 6 _ (by decide +kernel) fun t hf y => ?_
  blk_simp
  obtain ⟨y0, y1, rfl⟩ : ∃ (y0 : Fin 64) (y1 : Fin 128), y = ix2 y0 y1 := ⟨_, _, eq_ix2 y⟩
  refine (key t y0 y1).trans (congrArg A ?_)
  blk_ext [idx t]

end Cert.KernelBIdeal.Hand

end
-- ==== Proof.ArraysC.lean ====
/- The three arrays the third call leaves, of the kernel's arguments. Its body is the first call's; only its queries start 1024 rows later. -/
module

public import proofs.«01_k».proof.Proof.Gen.KernelCIdeal.Value
public import proofs.«01_k».proof.Proof.Spec

@[expose] public section

set_option maxRecDepth 16384

noncomputable section

namespace Cert.KernelCIdeal.Hand

open Idealize.ShloMosaic Idealize.ShloMosaic.TcCoe Idealize.ShloMosaic.Tactic Cert.KernelCIdeal Cert.KernelCIdeal.Gen Idealize.SL.Sem Cert.Attend

variable (m : (ℓ : Loc nD τ sig) → Buf (Elt Ideal) ℓ)

/-- The body stores what the first call's body stores. -/
theorem body4 : @out0_A_4 Ideal _ = @Cert.KernelIdeal.Gen.out0_A_4 Ideal _ := by sl_kernel_rfl

theorem body5 : @out0_A_5 Ideal _ = @Cert.KernelIdeal.Gen.out0_A_5 Ideal _ := by sl_kernel_rfl

theorem body6 : @out0_A_6 Ideal _ = @Cert.KernelIdeal.Gen.out0_A_6 Ideal _ := by sl_kernel_rfl

/-- The block index of every window at every grid point. -/
theorem idx : ∀ t : Fin cfg0.N, (win0_0.index t 0 = t.val + 8 ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = 0 ∧ win0_5.index t 1 = t.val)
    ∧ (win0_6.index t 0 = 0 ∧ win0_6.index t 1 = t.val) :=
  (by decide +kernel : ∀ t : Fin grid0.N, _)

theorem reads (c : Dev nD) (t : Fin cfg0.N) : Reads 2 (m ((c : Thread nD τ).loc main_arg0)) (m ((c : Thread nD τ).loc main_arg2))
    (m ((c : Thread nD τ).loc main_arg3)) t (iblk m c 0 t) (iblk m c 2 t) (iblk m c 3 t) where
  hx y d := by blk_ext! [iblk, V, idx t]
  hs i l := by blk_ext! [iblk, V, idx t]
  hw j d := by blk_ext! [iblk, V, idx t]

theorem block4 (c : Dev nD) (ht : ∀ b, rowTot (specScore 2 (m ((c : Thread nD τ).loc main_arg0)) (m ((c : Thread nD τ).loc main_arg2)) (m ((c : Thread nD τ).loc main_arg3)) b) ≠ 0) (t : Fin cfg0.N) (y0 : Fin 128) (y1 : Fin 256) :
    ((dats m 0 c).after 4 t : Vec Ideal S128x256 .bf16) (ix2 y0 y1) = poolArr 2 (m ((c : Thread nD τ).loc main_arg0)) (m ((c : Thread nD τ).loc main_arg2)) (m ((c : Thread nD τ).loc main_arg3)) (ix2 ⟨128 * t.val + y0.val, by have : t.val < 4 := t.isLt; omega⟩ y1) := by
  have e := Cert.KernelIdeal.Hand.out4_eq c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) scM0_0 (Memref.isWhole_whole _) (iblk m c 0 t) (iblk m c 1 t) (iblk m c 2 t) (iblk m c 3 t)
  rw [← body4] at e
  refine (congrFun ((after0_4 m c t).trans e) (ix2 y0 y1)).trans ?_
  exact (reads m c t).pool ht y0 y1 ⟨128 * t.val + y0.val, by have : t.val < 4 := t.isLt; omega⟩ rfl

theorem block5 (c : Dev nD) (t : Fin cfg0.N) (y0 : Fin 64) (y1 : Fin 128) :
    ((dats m 0 c).after 5 t : Vec Ideal S64x128 .i32) (ix2 y0 y1) = posArr (m ((c : Thread nD τ).loc main_arg1)) (ix2 y0 ⟨128 * t.val + y1.val, by have : t.val < 4 := t.isLt; omega⟩) := by
  have e := Cert.KernelIdeal.Hand.out5_eq c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) scM0_0 (Memref.isWhole_whole _) (iblk m c 0 t) (iblk m c 1 t) (iblk m c 2 t) (iblk m c 3 t)
  rw [← body5] at e
  refine (congrFun ((after0_5 m c t).trans e) (ix2 y0 y1)).trans ?_
  unfold posArr
  pointwise [k0_pay10]
  blk_point [iblk, V, idx t]

theorem block6 (c : Dev nD) (ht : ∀ b, rowTot (specScore 2 (m ((c : Thread nD τ).loc main_arg0)) (m ((c : Thread nD τ).loc main_arg2)) (m ((c : Thread nD τ).loc main_arg3)) b) ≠ 0) (t : Fin cfg0.N) (y0 : Fin 64) (y1 : Fin 128) :
    ((dats m 0 c).after 6 t : Vec Ideal S64x128 .f32) (ix2 y0 y1) = attnArr 2 (m ((c : Thread nD τ).loc main_arg0)) (m ((c : Thread nD τ).loc main_arg2)) (m ((c : Thread nD τ).loc main_arg3)) (ix2 y0 ⟨128 * t.val + y1.val, by have : t.val < 4 := t.isLt; omega⟩) := by
  have e := Cert.KernelIdeal.Hand.out6_eq c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) scM0_0 (Memref.isWhole_whole _) (iblk m c 0 t) (iblk m c 1 t) (iblk m c 2 t) (iblk m c 3 t)
  rw [← body6] at e
  refine (congrFun ((after0_6 m c t).trans e) (ix2 y0 y1)).trans ?_
  exact (reads m c t).attn ht y1 y0 ⟨128 * t.val + y1.val, by have : t.val < 4 := t.isLt; omega⟩ rfl

/-- The pooled rows after the run. -/
theorem arr4 (c : Dev nD) (ht : ∀ b, rowTot (specScore 2 (m ((c : Thread nD τ).loc main_arg0)) (m ((c : Thread nD τ).loc main_arg2)) (m ((c : Thread nD τ).loc main_arg3)) b) ≠ 0) : (dats m 0 c).arrAt 4 cfg0.N = poolArr 2 (m ((c : Thread nD τ).loc main_arg0)) (m ((c : Thread nD τ).loc main_arg2)) (m ((c : Thread nD τ).loc main_arg3)) := by
  have key := block4 m c ht
  generalize poolArr 2 (m ((c : Thread nD τ).loc main_arg0)) (m ((c : Thread nD τ).loc main_arg2)) (m ((c : Thread nD τ).loc main_arg3)) = A at key ⊢
  refine (dats m 0 c).arrAt_eq_of_covers 4 _ (by decide +kernel) fun t hf y => ?_
  blk_simp
  obtain ⟨y0, y1, rfl⟩ : ∃ (y0 : Fin 128) (y1 : Fin 256), y = ix2 y0 y1 := ⟨_, _, eq_ix2 y⟩
  refine (key t y0 y1).trans (congrArg A ?_)
  blk_ext [idx t]

/-- The positions after the run. -/
theorem arr5 (c : Dev nD) : (dats m 0 c).arrAt 5 cfg0.N = posArr (m ((c : Thread nD τ).loc main_arg1)) := by
  have key := block5 m c
  generalize posArr (m ((c : Thread nD τ).loc main_arg1)) = A at key ⊢
  refine (dats m 0 c).arrAt_eq_of_covers 5 _ (by decide +kernel) fun t hf y => ?_
  blk_simp
  obtain ⟨y0, y1, rfl⟩ : ∃ (y0 : Fin 64) (y1 : Fin 128), y = ix2 y0 y1 := ⟨_, _, eq_ix2 y⟩
  refine (key t y0 y1).trans (congrArg A ?_)
  blk_ext [idx t]

/-- The weights after the run. -/
theorem arr6 (c : Dev nD) (ht : ∀ b, rowTot (specScore 2 (m ((c : Thread nD τ).loc main_arg0)) (m ((c : Thread nD τ).loc main_arg2)) (m ((c : Thread nD τ).loc main_arg3)) b) ≠ 0) : (dats m 0 c).arrAt 6 cfg0.N = attnArr 2 (m ((c : Thread nD τ).loc main_arg0)) (m ((c : Thread nD τ).loc main_arg2)) (m ((c : Thread nD τ).loc main_arg3)) := by
  have key := block6 m c ht
  generalize attnArr 2 (m ((c : Thread nD τ).loc main_arg0)) (m ((c : Thread nD τ).loc main_arg2)) (m ((c : Thread nD τ).loc main_arg3)) = A at key ⊢
  refine (dats m 0 c).arrAt_eq_of_covers 6 _ (by decide +kernel) fun t hf y => ?_
  blk_simp
  obtain ⟨y0, y1, rfl⟩ : ∃ (y0 : Fin 64) (y1 : Fin 128), y = ix2 y0 y1 := ⟨_, _, eq_ix2 y⟩
  refine (key t y0 y1).trans (congrArg A ?_)
  blk_ext [idx t]

end Cert.KernelCIdeal.Hand

end
-- ==== Proof.RefArrays.lean ====
/- The three arrays the reference leaves, of its arguments. -/
module

public import proofs.«01_k».proof.Proof.Gen.ReferenceIdeal.Value
public import proofs.«01_k».proof.Proof.Spec

@[expose] public section

set_option maxRecDepth 16384

noncomputable section

namespace Cert.ReferenceIdeal.Hand

open Idealize.ShloMosaic Idealize.ShloMosaic.TcCoe Idealize.ShloMosaic.Tactic Cert.ReferenceIdeal Cert.ReferenceIdeal.Gen Idealize.SL.Sem Cert.Attend

/-- The codes, sixty-four keys to a row. -/
theorem codes_apply (w : Vec Ideal S8192x256 .i32) (b : Fin 512) (k : Fin 64) (d : Fin 256) :
    k0_pay2 (F := Ideal) w (ix3 b k d) = specCodes w b k d := by
  pointwise [k0_pay2]
  rw [bitcast_32_8_ix2 w bitcasts_S8192x256_w32_S32768x256_w8 ⟨b.val * 64 + k.val, by omega⟩ d ⟨16 * b.val + k.val / 4, by omega⟩
    (by show 16 * b.val + k.val / 4 = (b.val * 64 + k.val) / 4; omega)]
  have e : (b.val * 64 + k.val) % 4 = k.val % 4 := by omega
  simp only [e]
  rfl

theorem attn_apply (x : Vec Ideal S512x256 .bf16) (s : Vec Ideal S512x64 .f32) (w : Vec Ideal S8192x256 .i32) (b : Fin 512) (k : Fin 64) :
    k0_pay3 (F := Ideal) x s w (ix2 b k)
      = rowAttn (rowScore scoreScale (fun d => x (ix2 b d)) (specCodes w b) (fun k => s (ix2 b k))) k := by
  have hb : Ideal.ofBits .f32 4286578688#32 = (⊥ : EReal) := ofBits_neg_inf
  pointwise [k0_pay3, k0_pay1]
  simp only [codes_apply, hb, bot_sup_eq, max_bot_left]
  rfl

theorem pool_apply (x : Vec Ideal S512x256 .bf16) (s : Vec Ideal S512x64 .f32) (w : Vec Ideal S8192x256 .i32) (b : Fin 512) (d : Fin 256) :
    k0_pay4 (F := Ideal) x s w (ix2 b d)
      = rowPool (rowScore scoreScale (fun d => x (ix2 b d)) (specCodes w b) (fun k => s (ix2 b k))) (specCodes w b) (fun k => s (ix2 b k)) d := by
  pointwise [k0_pay4, k0_pay1]
  simp only [codes_apply, attn_apply]
  rfl

variable (m : (ℓ : Loc nD τ sig) → Buf (Elt Ideal) ℓ)

/-- The block index of every window. -/
theorem idx : ∀ t : Fin cfg0.N, (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) :=
  (by decide +kernel : ∀ t : Fin grid0.N, _)

theorem read_x (c : Dev nD) (t : Fin cfg0.N) (b : Fin 512) (d : Fin 256) : iblk m c 0 t (ix2 b d) = specX 0 (m ((c : Thread nD τ).loc main_arg0)) b d := by
  unfold specX
  blk_ext! [iblk, V, idx t]

theorem read_s (c : Dev nD) (t : Fin cfg0.N) (b : Fin 512) (k : Fin 64) : iblk m c 2 t (ix2 b k) = specScales (m ((c : Thread nD τ).loc main_arg2)) b k := by
  unfold specScales
  blk_ext! [iblk, V, idx t]

theorem read_w (c : Dev nD) (t : Fin cfg0.N) : iblk m c 3 t = m ((c : Thread nD τ).loc main_arg3) := by
  blk_ext! [iblk, V, idx t]

theorem block4 (c : Dev nD) (t : Fin cfg0.N) (y0 : Fin 512) (y1 : Fin 256) :
    ((dats m 0 c).after 4 t : Vec Ideal S512x256 .bf16) (ix2 y0 y1) = poolArr 0 (m ((c : Thread nD τ).loc main_arg0)) (m ((c : Thread nD τ).loc main_arg2)) (m ((c : Thread nD τ).loc main_arg3)) (ix2 y0 y1) := by
  have e := congrFun (after0_4 m c t) (ix2 y0 y1)
  refine e.trans ?_
  frame_out
  refine (pool_apply (iblk m c 0 t) (iblk m c 2 t) (iblk m c 3 t) y0 y1).trans ?_
  rw [read_w, funext (read_x m c t y0), funext (read_s m c t y0)]
  rfl

theorem block5 (c : Dev nD) (t : Fin cfg0.N) (y0 : Fin 64) (y1 : Fin 512) :
    ((dats m 0 c).after 5 t : Vec Ideal S64x512 .i32) (ix2 y0 y1) = posArr (m ((c : Thread nD τ).loc main_arg1)) (ix2 y0 y1) := by
  have e := congrFun (after0_5 m c t) (ix2 y0 y1)
  refine e.trans ?_
  frame_out
  unfold posArr
  pointwise [k0_pay5]
  blk_point [iblk, V, idx t]

theorem block6 (c : Dev nD) (t : Fin cfg0.N) (y0 : Fin 64) (y1 : Fin 512) :
    ((dats m 0 c).after 6 t : Vec Ideal S64x512 .f32) (ix2 y0 y1) = attnArr 0 (m ((c : Thread nD τ).loc main_arg0)) (m ((c : Thread nD τ).loc main_arg2)) (m ((c : Thread nD τ).loc main_arg3)) (ix2 y0 y1) := by
  have e := congrFun (after0_6 m c t) (ix2 y0 y1)
  refine e.trans ?_
  frame_out
  have e : k0_pay6 (F := Ideal) (iblk m c 0 t) (iblk m c 2 t) (iblk m c 3 t) (ix2 y0 y1)
      = k0_pay3 (F := Ideal) (iblk m c 0 t) (iblk m c 2 t) (iblk m c 3 t) (ix2 y1 y0) := by
    pointwise [k0_pay6]
  refine e.trans ((attn_apply (iblk m c 0 t) (iblk m c 2 t) (iblk m c 3 t) y1 y0).trans ?_)
  rw [read_w, funext (read_x m c t y1), funext (read_s m c t y1)]
  rfl

/-- The pooled rows after the run. -/
theorem arr4 (c : Dev nD) : (dats m 0 c).arrAt 4 cfg0.N = poolArr 0 (m ((c : Thread nD τ).loc main_arg0)) (m ((c : Thread nD τ).loc main_arg2)) (m ((c : Thread nD τ).loc main_arg3)) := by
  have key := block4 m c
  generalize poolArr 0 (m ((c : Thread nD τ).loc main_arg0)) (m ((c : Thread nD τ).loc main_arg2)) (m ((c : Thread nD τ).loc main_arg3)) = A at key ⊢
  refine (dats m 0 c).arrAt_eq_of_covers 4 _ (by decide +kernel) fun t hf y => ?_
  blk_simp
  obtain ⟨y0, y1, rfl⟩ : ∃ (y0 : Fin 512) (y1 : Fin 256), y = ix2 y0 y1 := ⟨_, _, eq_ix2 y⟩
  refine (key t y0 y1).trans (congrArg A ?_)
  blk_ext [idx t]

/-- The positions after the run. -/
theorem arr5 (c : Dev nD) : (dats m 0 c).arrAt 5 cfg0.N = posArr (m ((c : Thread nD τ).loc main_arg1)) := by
  have key := block5 m c
  generalize posArr (m ((c : Thread nD τ).loc main_arg1)) = A at key ⊢
  refine (dats m 0 c).arrAt_eq_of_covers 5 _ (by decide +kernel) fun t hf y => ?_
  blk_simp
  obtain ⟨y0, y1, rfl⟩ : ∃ (y0 : Fin 64) (y1 : Fin 512), y = ix2 y0 y1 := ⟨_, _, eq_ix2 y⟩
  refine (key t y0 y1).trans (congrArg A ?_)
  blk_ext [idx t]

/-- The weights after the run. -/
theorem arr6 (c : Dev nD) : (dats m 0 c).arrAt 6 cfg0.N = attnArr 0 (m ((c : Thread nD τ).loc main_arg0)) (m ((c : Thread nD τ).loc main_arg2)) (m ((c : Thread nD τ).loc main_arg3)) := by
  have key := block6 m c
  generalize attnArr 0 (m ((c : Thread nD τ).loc main_arg0)) (m ((c : Thread nD τ).loc main_arg2)) (m ((c : Thread nD τ).loc main_arg3)) = A at key ⊢
  refine (dats m 0 c).arrAt_eq_of_covers 6 _ (by decide +kernel) fun t hf y => ?_
  blk_simp
  obtain ⟨y0, y1, rfl⟩ : ∃ (y0 : Fin 64) (y1 : Fin 512), y = ix2 y0 y1 := ⟨_, _, eq_ix2 y⟩
  refine (key t y0 y1).trans (congrArg A ?_)
  blk_ext [idx t]

end Cert.ReferenceIdeal.Hand

end
-- ==== Proof.RefArraysB.lean ====
/- The three arrays the reference of the second call leaves, of its arguments. Its body is the first reference's; only its queries start 512 rows later. -/
module

public import proofs.«01_k».proof.Proof.Gen.ReferenceBIdeal.Value
public import proofs.«01_k».proof.Proof.RefArrays

@[expose] public section

set_option maxRecDepth 16384

noncomputable section

namespace Cert.ReferenceBIdeal.Hand

open Idealize.ShloMosaic Idealize.ShloMosaic.TcCoe Idealize.ShloMosaic.Tactic Cert.ReferenceBIdeal Cert.ReferenceBIdeal.Gen Idealize.SL.Sem Cert.Attend

variable (m : (ℓ : Loc nD τ sig) → Buf (Elt Ideal) ℓ)

/-- The block index of every window. -/
theorem idx : ∀ t : Fin cfg0.N, (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) :=
  (by decide +kernel : ∀ t : Fin grid0.N, _)

theorem read_x (c : Dev nD) (t : Fin cfg0.N) (b : Fin 512) (d : Fin 256) : iblk m c 0 t (ix2 b d) = specX 1 (m ((c : Thread nD τ).loc main_arg0)) b d := by
  unfold specX
  blk_ext! [iblk, V, idx t]

theorem read_s (c : Dev nD) (t : Fin cfg0.N) (b : Fin 512) (k : Fin 64) : iblk m c 2 t (ix2 b k) = specScales (m ((c : Thread nD τ).loc main_arg2)) b k := by
  unfold specScales
  blk_ext! [iblk, V, idx t]

theorem read_w (c : Dev nD) (t : Fin cfg0.N) : iblk m c 3 t = m ((c : Thread nD τ).loc main_arg3) := by
  blk_ext! [iblk, V, idx t]

theorem block4 (c : Dev nD) (t : Fin cfg0.N) (y0 : Fin 512) (y1 : Fin 256) :
    ((dats m 0 c).after 4 t : Vec Ideal S512x256 .bf16) (ix2 y0 y1) = poolArr 1 (m ((c : Thread nD τ).loc main_arg0)) (m ((c : Thread nD τ).loc main_arg2)) (m ((c : Thread nD τ).loc main_arg3)) (ix2 y0 y1) := by
  have e := congrFun (after0_4 m c t) (ix2 y0 y1)
  refine e.trans ?_
  frame_out
  refine (Cert.ReferenceIdeal.Hand.pool_apply (iblk m c 0 t) (iblk m c 2 t) (iblk m c 3 t) y0 y1).trans ?_
  rw [read_w, funext (read_x m c t y0), funext (read_s m c t y0)]
  rfl

theorem block5 (c : Dev nD) (t : Fin cfg0.N) (y0 : Fin 64) (y1 : Fin 512) :
    ((dats m 0 c).after 5 t : Vec Ideal S64x512 .i32) (ix2 y0 y1) = posArr (m ((c : Thread nD τ).loc main_arg1)) (ix2 y0 y1) := by
  have e := congrFun (after0_5 m c t) (ix2 y0 y1)
  refine e.trans ?_
  frame_out
  unfold posArr
  pointwise [k0_pay5]
  blk_point [iblk, V, idx t]

theorem block6 (c : Dev nD) (t : Fin cfg0.N) (y0 : Fin 64) (y1 : Fin 512) :
    ((dats m 0 c).after 6 t : Vec Ideal S64x512 .f32) (ix2 y0 y1) = attnArr 1 (m ((c : Thread nD τ).loc main_arg0)) (m ((c : Thread nD τ).loc main_arg2)) (m ((c : Thread nD τ).loc main_arg3)) (ix2 y0 y1) := by
  have e := congrFun (after0_6 m c t) (ix2 y0 y1)
  refine e.trans ?_
  frame_out
  have e : k0_pay6 (F := Ideal) (iblk m c 0 t) (iblk m c 2 t) (iblk m c 3 t) (ix2 y0 y1)
      = k0_pay3 (F := Ideal) (iblk m c 0 t) (iblk m c 2 t) (iblk m c 3 t) (ix2 y1 y0) := by
    pointwise [k0_pay6]
  refine e.trans ((Cert.ReferenceIdeal.Hand.attn_apply (iblk m c 0 t) (iblk m c 2 t) (iblk m c 3 t) y1 y0).trans ?_)
  rw [read_w, funext (read_x m c t y1), funext (read_s m c t y1)]
  rfl

/-- The pooled rows after the run. -/
theorem arr4 (c : Dev nD) : (dats m 0 c).arrAt 4 cfg0.N = poolArr 1 (m ((c : Thread nD τ).loc main_arg0)) (m ((c : Thread nD τ).loc main_arg2)) (m ((c : Thread nD τ).loc main_arg3)) := by
  have key := block4 m c
  generalize poolArr 1 (m ((c : Thread nD τ).loc main_arg0)) (m ((c : Thread nD τ).loc main_arg2)) (m ((c : Thread nD τ).loc main_arg3)) = A at key ⊢
  refine (dats m 0 c).arrAt_eq_of_covers 4 _ (by decide +kernel) fun t hf y => ?_
  blk_simp
  obtain ⟨y0, y1, rfl⟩ : ∃ (y0 : Fin 512) (y1 : Fin 256), y = ix2 y0 y1 := ⟨_, _, eq_ix2 y⟩
  refine (key t y0 y1).trans (congrArg A ?_)
  blk_ext [idx t]

/-- The positions after the run. -/
theorem arr5 (c : Dev nD) : (dats m 0 c).arrAt 5 cfg0.N = posArr (m ((c : Thread nD τ).loc main_arg1)) := by
  have key := block5 m c
  generalize posArr (m ((c : Thread nD τ).loc main_arg1)) = A at key ⊢
  refine (dats m 0 c).arrAt_eq_of_covers 5 _ (by decide +kernel) fun t hf y => ?_
  blk_simp
  obtain ⟨y0, y1, rfl⟩ : ∃ (y0 : Fin 64) (y1 : Fin 512), y = ix2 y0 y1 := ⟨_, _, eq_ix2 y⟩
  refine (key t y0 y1).trans (congrArg A ?_)
  blk_ext [idx t]

/-- The weights after the run. -/
theorem arr6 (c : Dev nD) : (dats m 0 c).arrAt 6 cfg0.N = attnArr 1 (m ((c : Thread nD τ).loc main_arg0)) (m ((c : Thread nD τ).loc main_arg2)) (m ((c : Thread nD τ).loc main_arg3)) := by
  have key := block6 m c
  generalize attnArr 1 (m ((c : Thread nD τ).loc main_arg0)) (m ((c : Thread nD τ).loc main_arg2)) (m ((c : Thread nD τ).loc main_arg3)) = A at key ⊢
  refine (dats m 0 c).arrAt_eq_of_covers 6 _ (by decide +kernel) fun t hf y => ?_
  blk_simp
  obtain ⟨y0, y1, rfl⟩ : ∃ (y0 : Fin 64) (y1 : Fin 512), y = ix2 y0 y1 := ⟨_, _, eq_ix2 y⟩
  refine (key t y0 y1).trans (congrArg A ?_)
  blk_ext [idx t]

end Cert.ReferenceBIdeal.Hand

end
-- ==== Proof.RefArraysC.lean ====
/- The three arrays the reference of the third call leaves, of its arguments. Its body is the first reference's; only its queries start 1024 rows later. -/
module

public import proofs.«01_k».proof.Proof.Gen.ReferenceCIdeal.Value
public import proofs.«01_k».proof.Proof.RefArrays

@[expose] public section

set_option maxRecDepth 16384

noncomputable section

namespace Cert.ReferenceCIdeal.Hand

open Idealize.ShloMosaic Idealize.ShloMosaic.TcCoe Idealize.ShloMosaic.Tactic Cert.ReferenceCIdeal Cert.ReferenceCIdeal.Gen Idealize.SL.Sem Cert.Attend

variable (m : (ℓ : Loc nD τ sig) → Buf (Elt Ideal) ℓ)

/-- The block index of every window. -/
theorem idx : ∀ t : Fin cfg0.N, (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) :=
  (by decide +kernel : ∀ t : Fin grid0.N, _)

theorem read_x (c : Dev nD) (t : Fin cfg0.N) (b : Fin 512) (d : Fin 256) : iblk m c 0 t (ix2 b d) = specX 2 (m ((c : Thread nD τ).loc main_arg0)) b d := by
  unfold specX
  blk_ext! [iblk, V, idx t]

theorem read_s (c : Dev nD) (t : Fin cfg0.N) (b : Fin 512) (k : Fin 64) : iblk m c 2 t (ix2 b k) = specScales (m ((c : Thread nD τ).loc main_arg2)) b k := by
  unfold specScales
  blk_ext! [iblk, V, idx t]

theorem read_w (c : Dev nD) (t : Fin cfg0.N) : iblk m c 3 t = m ((c : Thread nD τ).loc main_arg3) := by
  blk_ext! [iblk, V, idx t]

theorem block4 (c : Dev nD) (t : Fin cfg0.N) (y0 : Fin 512) (y1 : Fin 256) :
    ((dats m 0 c).after 4 t : Vec Ideal S512x256 .bf16) (ix2 y0 y1) = poolArr 2 (m ((c : Thread nD τ).loc main_arg0)) (m ((c : Thread nD τ).loc main_arg2)) (m ((c : Thread nD τ).loc main_arg3)) (ix2 y0 y1) := by
  have e := congrFun (after0_4 m c t) (ix2 y0 y1)
  refine e.trans ?_
  frame_out
  refine (Cert.ReferenceIdeal.Hand.pool_apply (iblk m c 0 t) (iblk m c 2 t) (iblk m c 3 t) y0 y1).trans ?_
  rw [read_w, funext (read_x m c t y0), funext (read_s m c t y0)]
  rfl

theorem block5 (c : Dev nD) (t : Fin cfg0.N) (y0 : Fin 64) (y1 : Fin 512) :
    ((dats m 0 c).after 5 t : Vec Ideal S64x512 .i32) (ix2 y0 y1) = posArr (m ((c : Thread nD τ).loc main_arg1)) (ix2 y0 y1) := by
  have e := congrFun (after0_5 m c t) (ix2 y0 y1)
  refine e.trans ?_
  frame_out
  unfold posArr
  pointwise [k0_pay5]
  blk_point [iblk, V, idx t]

theorem block6 (c : Dev nD) (t : Fin cfg0.N) (y0 : Fin 64) (y1 : Fin 512) :
    ((dats m 0 c).after 6 t : Vec Ideal S64x512 .f32) (ix2 y0 y1) = attnArr 2 (m ((c : Thread nD τ).loc main_arg0)) (m ((c : Thread nD τ).loc main_arg2)) (m ((c : Thread nD τ).loc main_arg3)) (ix2 y0 y1) := by
  have e := congrFun (after0_6 m c t) (ix2 y0 y1)
  refine e.trans ?_
  frame_out
  have e : k0_pay6 (F := Ideal) (iblk m c 0 t) (iblk m c 2 t) (iblk m c 3 t) (ix2 y0 y1)
      = k0_pay3 (F := Ideal) (iblk m c 0 t) (iblk m c 2 t) (iblk m c 3 t) (ix2 y1 y0) := by
    pointwise [k0_pay6]
  refine e.trans ((Cert.ReferenceIdeal.Hand.attn_apply (iblk m c 0 t) (iblk m c 2 t) (iblk m c 3 t) y1 y0).trans ?_)
  rw [read_w, funext (read_x m c t y1), funext (read_s m c t y1)]
  rfl

/-- The pooled rows after the run. -/
theorem arr4 (c : Dev nD) : (dats m 0 c).arrAt 4 cfg0.N = poolArr 2 (m ((c : Thread nD τ).loc main_arg0)) (m ((c : Thread nD τ).loc main_arg2)) (m ((c : Thread nD τ).loc main_arg3)) := by
  have key := block4 m c
  generalize poolArr 2 (m ((c : Thread nD τ).loc main_arg0)) (m ((c : Thread nD τ).loc main_arg2)) (m ((c : Thread nD τ).loc main_arg3)) = A at key ⊢
  refine (dats m 0 c).arrAt_eq_of_covers 4 _ (by decide +kernel) fun t hf y => ?_
  blk_simp
  obtain ⟨y0, y1, rfl⟩ : ∃ (y0 : Fin 512) (y1 : Fin 256), y = ix2 y0 y1 := ⟨_, _, eq_ix2 y⟩
  refine (key t y0 y1).trans (congrArg A ?_)
  blk_ext [idx t]

/-- The positions after the run. -/
theorem arr5 (c : Dev nD) : (dats m 0 c).arrAt 5 cfg0.N = posArr (m ((c : Thread nD τ).loc main_arg1)) := by
  have key := block5 m c
  generalize posArr (m ((c : Thread nD τ).loc main_arg1)) = A at key ⊢
  refine (dats m 0 c).arrAt_eq_of_covers 5 _ (by decide +kernel) fun t hf y => ?_
  blk_simp
  obtain ⟨y0, y1, rfl⟩ : ∃ (y0 : Fin 64) (y1 : Fin 512), y = ix2 y0 y1 := ⟨_, _, eq_ix2 y⟩
  refine (key t y0 y1).trans (congrArg A ?_)
  blk_ext [idx t]

/-- The weights after the run. -/
theorem arr6 (c : Dev nD) : (dats m 0 c).arrAt 6 cfg0.N = attnArr 2 (m ((c : Thread nD τ).loc main_arg0)) (m ((c : Thread nD τ).loc main_arg2)) (m ((c : Thread nD τ).loc main_arg3)) := by
  have key := block6 m c
  generalize attnArr 2 (m ((c : Thread nD τ).loc main_arg0)) (m ((c : Thread nD τ).loc main_arg2)) (m ((c : Thread nD τ).loc main_arg3)) = A at key ⊢
  refine (dats m 0 c).arrAt_eq_of_covers 6 _ (by decide +kernel) fun t hf y => ?_
  blk_simp
  obtain ⟨y0, y1, rfl⟩ : ∃ (y0 : Fin 64) (y1 : Fin 512), y = ix2 y0 y1 := ⟨_, _, eq_ix2 y⟩
  refine (key t y0 y1).trans (congrArg A ?_)
  blk_ext [idx t]

end Cert.ReferenceCIdeal.Hand

end
-- ==== Proof.SelectRun.lean ====
/-
   The select call's body run once from its first operation to its last: what its stores leave in the
   two output buffers.  Each printed part is a theorem of its own.
-/
module

public import proofs.«01_k».proof.Proof.Gen.SelectIdeal.Frame.Runs

@[expose] public section

set_option maxRecDepth 65536

noncomputable section

namespace Cert.SelectIdeal

/-! The parts that hold the body's counted loops are their skeletons whatever the floats are.  (The generated
    equations ask for the floats' operations, which none of these parts has.) -/

theorem k0_part16_eq_skeleton {F : Idealize.ShloMosaic.FTy → Type} :
    k0_part16 (F := F) = Gen.k0_part16_skel (F := F) := rfl

theorem k0_part75_eq_skeleton {F : Idealize.ShloMosaic.FTy → Type} :
    k0_part75 (F := F) = Gen.k0_part75_skel (F := F) := rfl

theorem k0_part76_eq_skeleton {F : Idealize.ShloMosaic.FTy → Type} :
    k0_part76 (F := F) = Gen.k0_part76_skel (F := F) := rfl

theorem k0_part77_eq_skeleton {F : Idealize.ShloMosaic.FTy → Type} :
    k0_part77 (F := F) = Gen.k0_part77_skel (F := F) := rfl

theorem k0_part78_eq_skeleton {F : Idealize.ShloMosaic.FTy → Type} :
    k0_part78 (F := F) = Gen.k0_part78_skel (F := F) := rfl

end Cert.SelectIdeal

namespace Cert.SelectIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- the term is large
set_option backward.proofsInPublic true in
set_option maxHeartbeats 4144000 in
/-- What the body leaves in each output's buffer, as the list of its stores (last first), together with the
    proof that it runs: from the inputs at their contents and the outputs and the scratch at anything, to the
    inputs as they were and each output's buffer with those stores made. -/
noncomputable def kernelRun0_A (c : Dev nD) (i : grid0.Coords) (arg1 : Memref sig .tc .smem S2x128 .i32) (harg1 : arg1.IsWhole) (arg2 : Memref sig .tc .vmem S1x128 .i32) (harg2 : arg2.IsWhole) (arg3 : Memref sig .tc .vmem S128x64x128 .i32) (harg3 : arg3.IsWhole) (arg4 : Memref sig .tc .vmem S128x8x128 .i32) (harg4 : arg4.IsWhole) (arg5 : Memref sig .tc .vmem S128x128 .i32) (harg5 : arg5.IsWhole) (arg6 : Memref sig .tc .vmem S8x128x128 .i32) (harg6 : arg6.IsWhole)
    (x0 : Vec F S2x128 .i32) (x1 : Vec F S1x128 .i32) (x2 : Vec F S128x64x128 .i32) :
    Σ' (L3 : List (View.Piece (Elt F) S128x8x128 .i32)), { L4 : List (View.Piece (Elt F) S128x128 .i32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ d, owns (c : Thread nD τ) arg6 fullShare d)) -∗ K ⟨⟩))
          ⊢ wp frame (wpE (defs₀ (F := F)) Variants.none c none) E (cc0_select0 i arg1 harg1 arg2 harg2 arg3 harg3 arg4 harg4 arg5 harg5 arg6 harg6) K } := by
  refine ⟨?_, ?_, fun E K => ?run⟩
  case run =>
    simp only [cc0_select0_eq_skeleton]; unfold cc0_select0_skel
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
    obtain rfl := harg1.eq_unread hf0; obtain rfl := harg2.eq_unread hf1; obtain rfl := harg3.eq_unread hf2
    have hrd0 : ∀ (𝒱 : Variants) (c : Dev nD) (bd : Option 𝒱.V) (i : grid0.Coords) (arg1 : Memref sig .tc .smem S2x128 .i32) (harg1 : arg1.IsWhole) (arg2 : Memref sig .tc .vmem S1x128 .i32) (harg2 : arg2.IsWhole) (arg3 : Memref sig .tc .vmem S128x64x128 .i32) (harg3 : arg3.IsWhole) (arg4 : Memref sig .tc .vmem S128x8x128 .i32) (harg4 : arg4.IsWhole) (arg5 : Memref sig .tc .vmem S128x128 .i32) (harg5 : arg5.IsWhole) (arg6 : Memref sig .tc .vmem S8x128x128 .i32) (harg6 : arg6.IsWhole) (X_arg1 : BufTy.Contents (Elt F) arg1.view.ty) (X_arg3 : BufTy.Contents (Elt F) arg3.view.ty) (hrdF : BufTy.Contents (Elt F) arg4.view.ty) (hrdB : LoadRect S128x8x128), arg4.view.readAt (Elt F) hrdB (arg4.view.writes (Elt F) hrdF (pb_k0_t1 (F := F) 𝒱 c bd i arg1 harg1 arg2 harg2 arg3 harg3 arg4 harg4 arg5 harg5 arg6 harg6 X_arg1 X_arg3 (Scf.trips k0_t1_loop.lb k0_t1_loop.ub k0_t1_loop.st))) = arg4.view.readCov (pb_k0_t1 (F := F) 𝒱 c bd i arg1 harg1 arg2 harg2 arg3 harg3 arg4 harg4 arg5 harg5 arg6 harg6 X_arg1 X_arg3 (Scf.trips k0_t1_loop.lb k0_t1_loop.ub k0_t1_loop.st)) hrdB := fun 𝒱 c bd i arg1 harg1 arg2 harg2 arg3 harg3 arg4 harg4 arg5 harg5 arg6 harg6 X_arg1 X_arg3 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 X_arg1 X_arg3 (Scf.trips k0_t1_loop.lb k0_t1_loop.ub k0_t1_loop.st)) S1x8x128.size (by sl_kernel_rfl) (hrdB.idx hrdJ))
    sl_exec_parts
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _, _; isplitr; swap; · iexact HS0
    ipureintro; rfl

end Cert.SelectIdeal.Gen

end
-- ==== Proof.SelectFrame.lean ====
/-
   The run of the select call's whole grid, from the run of its body (`SelectRun`): it ends at every
   weakly fair schedule, leaves the arguments as they were, and each output at the blocks the grid
   points wrote.
-/
module

public import proofs.«01_k».proof.Proof.SelectRun
public import Idealize.ShloMosaic.Lib.Pipeline.Value
public import Idealize.ShloMosaic.Lib.Claim

@[expose] public section

set_option maxRecDepth 16384

noncomputable section

namespace Cert.SelectIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- The run's pieces for output 3 tile its block, so they cover it. -/
theorem cover0_A_3 (c : Dev nD) (i : grid0.Coords) (arg1 : Memref sig .tc .smem S2x128 .i32) (harg1 : arg1.IsWhole) (arg2 : Memref sig .tc .vmem S1x128 .i32) (harg2 : arg2.IsWhole) (arg3 : Memref sig .tc .vmem S128x64x128 .i32) (harg3 : arg3.IsWhole) (arg4 : Memref sig .tc .vmem S128x8x128 .i32) (harg4 : arg4.IsWhole) (arg5 : Memref sig .tc .vmem S128x128 .i32) (harg5 : arg5.IsWhole) (arg6 : Memref sig .tc .vmem S8x128x128 .i32) (harg6 : arg6.IsWhole)
    (x0 : Vec F S2x128 .i32) (x1 : Vec F S1x128 .i32) (x2 : Vec F S128x64x128 .i32) (y : S128x8x128.Idx) :
    ∃ pc ∈ (kernelRun0_A c i arg1 harg1 arg2 harg2 arg3 harg3 arg4 harg4 arg5 harg5 arg6 harg6 x0 x1 x2).1, y ∈ pc.1.set :=
  View.cover_of_tiledL (kernelRun0_A c i arg1 harg1 arg2 harg2 arg3 harg3 arg4 harg4 arg5 harg5 arg6 harg6 x0 x1 x2).1 S1x8x128.size (by sl_kernel_rfl) y

/-- What the run leaves in output 3's staging buffer: its pieces read back over junk. -/
def out0_A_3 (c : Dev nD) (i : grid0.Coords) (arg1 : Memref sig .tc .smem S2x128 .i32) (harg1 : arg1.IsWhole) (arg2 : Memref sig .tc .vmem S1x128 .i32) (harg2 : arg2.IsWhole) (arg3 : Memref sig .tc .vmem S128x64x128 .i32) (harg3 : arg3.IsWhole) (arg4 : Memref sig .tc .vmem S128x8x128 .i32) (harg4 : arg4.IsWhole) (arg5 : Memref sig .tc .vmem S128x128 .i32) (harg5 : arg5.IsWhole) (arg6 : Memref sig .tc .vmem S8x128x128 .i32) (harg6 : arg6.IsWhole)
    (x0 : Vec F S2x128 .i32) (x1 : Vec F S1x128 .i32) (x2 : Vec F S128x64x128 .i32) : Vec F S128x8x128 .i32 :=
  VO0_3.read (Elt F) (VO0_3.writes (Elt F) VO0_3.junk (kernelRun0_A c i arg1 harg1 arg2 harg2 arg3 harg3 arg4 harg4 arg5 harg5 arg6 harg6 x0 x1 x2).1)

/-- The run's pieces for output 4 tile its block, so they cover it. -/
theorem cover0_A_4 (c : Dev nD) (i : grid0.Coords) (arg1 : Memref sig .tc .smem S2x128 .i32) (harg1 : arg1.IsWhole) (arg2 : Memref sig .tc .vmem S1x128 .i32) (harg2 : arg2.IsWhole) (arg3 : Memref sig .tc .vmem S128x64x128 .i32) (harg3 : arg3.IsWhole) (arg4 : Memref sig .tc .vmem S128x8x128 .i32) (harg4 : arg4.IsWhole) (arg5 : Memref sig .tc .vmem S128x128 .i32) (harg5 : arg5.IsWhole) (arg6 : Memref sig .tc .vmem S8x128x128 .i32) (harg6 : arg6.IsWhole)
    (x0 : Vec F S2x128 .i32) (x1 : Vec F S1x128 .i32) (x2 : Vec F S128x64x128 .i32) (y : S128x128.Idx) :
    ∃ pc ∈ (kernelRun0_A c i arg1 harg1 arg2 harg2 arg3 harg3 arg4 harg4 arg5 harg5 arg6 harg6 x0 x1 x2).2.1, y ∈ pc.1.set :=
  View.cover_of_tiledL (kernelRun0_A c i arg1 harg1 arg2 harg2 arg3 harg3 arg4 harg4 arg5 harg5 arg6 harg6 x0 x1 x2).2.1 S8x128.size (by sl_kernel_rfl) y

/-- What the run leaves in output 4's staging buffer: its pieces read back over junk. -/
def out0_A_4 (c : Dev nD) (i : grid0.Coords) (arg1 : Memref sig .tc .smem S2x128 .i32) (harg1 : arg1.IsWhole) (arg2 : Memref sig .tc .vmem S1x128 .i32) (harg2 : arg2.IsWhole) (arg3 : Memref sig .tc .vmem S128x64x128 .i32) (harg3 : arg3.IsWhole) (arg4 : Memref sig .tc .vmem S128x8x128 .i32) (harg4 : arg4.IsWhole) (arg5 : Memref sig .tc .vmem S128x128 .i32) (harg5 : arg5.IsWhole) (arg6 : Memref sig .tc .vmem S8x128x128 .i32) (harg6 : arg6.IsWhole)
    (x0 : Vec F S2x128 .i32) (x1 : Vec F S1x128 .i32) (x2 : Vec F S128x64x128 .i32) : Vec F S128x128 .i32 :=
  VO0_4.read (Elt F) (VO0_4.writes (Elt F) VO0_4.junk (kernelRun0_A c i arg1 harg1 arg2 harg2 arg3 harg3 arg4 harg4 arg5 harg5 arg6 harg6 x0 x1 x2).2.1)

/-! ## What the outputs hold after each point -/

/-- What the outputs' staging buffers hold after the body at point `t` (as a tuple, in window order): the run's contents at
    the point's memrefs and input blocks. -/
def outsAt0 (c : Dev nD) (t : Fin cfg0.N) : Vec F S128x8x128 .i32 × Vec F S128x128 .i32 :=
  (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t).1
    | ⟨4, _⟩ => (outsAt0 m c t).2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t).1 := by dsimp only [dats]
theorem after0_4 (c : Dev nD) (t : Fin cfg0.N) : (dats m 0 c).after 4 t = (outsAt0 m c t).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  unfold outsAt0
  unfold out0_A_3 out0_A_4; (try dsimp only)
  iintro ⟨⟨HS0, Hg⟩, Ho, ⟨%d0, H0⟩, ⟨%d1, H1⟩, ⟨%d2, H2⟩, ⟨%d3, H3⟩, ⟨%d4, H4⟩⟩
  iapply ((kernelRun0_A c (grid0.coords t) _ _ _ _ _ _ _ _ _ _ _ _ (iblk m c 0 t) (iblk m c 1 t) (iblk m c 2 t)).2.2 Set.univ _)
  isplitl [H0]; · iexact H0
  isplitl [H1]; · iexact H1
  isplitl [H2]; · iexact H2
  isplitl [H3]; · iexists _; iexact H3
  isplitl [H4]; · iexists _; iexact H4
  isplitl [HS0]; · iexact HS0
  iintro ⟨H0, H1, H2, ⟨%e3, H3⟩, ⟨%e4, H4⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_A_3 c _ _ _ _ _ _ _ _ _ _ _ _ _ _ _ _)
  unfold owns; iexists _; isplitr
  swap; · iexact H4
  ipureintro; exact View.read_writes_of_cover _ _ _ _ _ (cover0_A_4 c _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- The launch: every weakly fair run ends with every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every weakly fair run ends, each array of the pipeline at what the proof data give. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- Every weakly fair run ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v6_0) = (dats m 0 c).arrAt 3 cfg0.N :=
  (h c).1 3

/-- After the frame run, argument `main_arg0` is as launched: no window stages it. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- Every weakly fair run ends with the first result at the array of output window 3, the arguments unchanged. -/
theorem run_first : θ_run defs (onTc (τ := τ) (main (F := F))) ⟨m, fun _ => 0, ρ⟩ fun r => ∀ c : Dev nD,
      r.2.mem ((c : Thread nD τ).loc main_v6_0) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post3 m r h c, kept_main_arg0 m r h c, kept_main_arg1 m r h c,
      kept_main_arg2 m r h c⟩) (run_main m ρ)

end Cert.SelectIdeal.Gen

end
-- ==== Proof.Distance.lean ====
/- The packed Hamming distances of the selection: one word holds, in base 256, the distances of four history items. -/
module

public import Idealize.ShloMosaic.Lib.Pipeline.ValueKit
public import Idealize.ShloMosaic.Lib.Pointwise

@[expose] public section

noncomputable section

namespace Cert.Distance

open Idealize.ShloMosaic

/-- The number of bits in which two words differ. -/
def bits (h q : BitVec 32) : BitVec 32 := IntOp.ctpop (IntOp.xori h q)

/-- Four numbers as one word, in base 256. -/
def packed (f : Fin 4 → BitVec 32) : BitVec 32 :=
  IntOp.addi (IntOp.addi (IntOp.addi (f 0) (IntOp.shli .vector (f 1) 8#32)) (IntOp.shli .vector (f 2) 16#32)) (IntOp.shli .vector (f 3) 24#32)

theorem shl_add (x y n : BitVec 32) (h : n.toNat < 32) :
    IntOp.addi (IntOp.shli .vector x n) (IntOp.shli .vector y n) = IntOp.shli .vector (IntOp.addi x y) n := by
  unfold IntOp.shli IntOp.addi
  rw [if_pos h, if_pos h, if_pos h, BitVec.shiftLeft_eq', BitVec.shiftLeft_eq', BitVec.shiftLeft_eq', BitVec.shiftLeft_eq_mul_twoPow,
    BitVec.shiftLeft_eq_mul_twoPow, BitVec.shiftLeft_eq_mul_twoPow, BitVec.add_mul]

theorem four_add (a0 a1 a2 a3 b0 b1 b2 b3 : BitVec 32) :
    IntOp.addi (IntOp.addi (IntOp.addi (IntOp.addi a0 a1) a2) a3) (IntOp.addi (IntOp.addi (IntOp.addi b0 b1) b2) b3)
      = IntOp.addi (IntOp.addi (IntOp.addi (IntOp.addi a0 b0) (IntOp.addi a1 b1)) (IntOp.addi a2 b2)) (IntOp.addi a3 b3) := by
  show a0 + a1 + a2 + a3 + (b0 + b1 + b2 + b3) = a0 + b0 + (a1 + b1) + (a2 + b2) + (a3 + b3)
  ac_rfl

/-- Packing is additive. -/
theorem packed_add (f g : Fin 4 → BitVec 32) : IntOp.addi (packed f) (packed g) = packed fun k => IntOp.addi (f k) (g k) := by
  unfold packed
  rw [← shl_add (f 1) (g 1) 8#32 (by decide), ← shl_add (f 2) (g 2) 16#32 (by decide), ← shl_add (f 3) (g 3) 24#32 (by decide)]
  beta_reduce
  generalize IntOp.shli .vector (f 1) 8#32 = a1
  generalize IntOp.shli .vector (f 2) 16#32 = a2
  generalize IntOp.shli .vector (f 3) 24#32 = a3
  generalize IntOp.shli .vector (g 1) 8#32 = b1
  generalize IntOp.shli .vector (g 2) 16#32 = b2
  generalize IntOp.shli .vector (g 3) 24#32 = b3
  generalize f 0 = a0
  generalize g 0 = b0
  exact four_add a0 a1 a2 a3 b0 b1 b2 b3

theorem addi_comm (x y : BitVec 32) : IntOp.addi x y = IntOp.addi y x := BitVec.add_comm x y

/-- A sum of two words. -/
theorem fold_two (f : Fin 2 → BitVec 32) : Finset.fold IntOp.addi 0#32 f Finset.univ = IntOp.addi (f 0) (f 1) := by
  rw [show (Finset.univ : Finset (Fin 2)) = {0, 1} from rfl, Finset.fold_insert (by decide), Finset.fold_singleton]
  exact congrArg (IntOp.addi (f 0)) (BitVec.add_zero _)

/-- The item of a history word: byte `k` of sub-row `s`, lane `l`. -/
def item (k : Fin 4) (s : Fin 8) (l : Fin 128) : Fin 4096 := ⟨128 * (8 * k.val + 4 * (s.val % 2) + s.val / 2) + l.val, by omega⟩

/-- The packed distances of 512 rows: the query's two words against each item's two words. -/
def distArr (q : Fin 512 → Fin 2 → BitVec 32) (h : Fin 512 → Fin 4096 → Fin 2 → BitVec 32) :
    (⟨3, ![512, 8, 128]⟩ : Shape).Idx → BitVec 32 := fun j =>
  packed fun k => IntOp.addi (bits (h (j 0) (item k (j 1) (j 2)) 0) (q (j 0) 0)) (bits (h (j 0) (item k (j 1) (j 2)) 1) (q (j 0) 1))

end Cert.Distance

end
-- ==== Proof.SelectTile.lean ====
/- One trip of the selection's distance loop: one row of the batch against its 4096 items. -/
module

public import proofs.«01_k».proof.Proof.Gen.SelectIdeal.Skeleton
public import proofs.«01_k».proof.Proof.Distance

@[expose] public section

set_option maxRecDepth 16384

noncomputable section

namespace Cert.Distance

open Idealize.ShloMosaic Cert.SelectIdeal Cert.SelectIdeal.Gen

/-- What a trip stores: of the query's two words and the eight slabs of eight word rows it loads. -/
def tile (q : Fin 2 → BitVec 32) (L : Fin 2 → Fin 4 → Vec Ideal S1x8x128 .i32) : Vec Ideal S1x8x128 .i32 :=
  k0_pay27 (F := Ideal) (k0_pay2 (F := Ideal) k0_pay26 (q 0) (q 1)) (k0_pay3 (F := Ideal) k0_pay26 (q 0) (q 1) (L 0 0) (L 0 1) (L 0 2) (L 0 3))
    (k0_pay4 (F := Ideal) k0_pay26 (q 0) (q 1) (L 1 0)) (L 1 1) (L 1 2) (L 1 3)

theorem mask_bit : ∀ (r : Fin 8) (l : Fin 128), k0_pay26 (ix2 r l) = if r.val % 2 = 0 then 1#1 else 0#1 := by decide +kernel

/-- The query's word of a row: the first on even rows. -/
def qAt (q : Fin 2 → BitVec 32) (r : Fin 8) : BitVec 32 := if r.val % 2 = 0 then q 0 else q 1

/-- Four slabs' packed counts. -/
def slabs (q : Fin 2 → BitVec 32) (L : Fin 4 → Vec Ideal S1x8x128 .i32) (r : Fin 8) (l : Fin 128) : BitVec 32 :=
  packed fun k => bits (L k (ix3 0 r l)) (qAt q r)

theorem query_apply (q : Fin 2 → BitVec 32) (r : Fin 8) (l : Fin 128) : k0_pay2 (F := Ideal) k0_pay26 (q 0) (q 1) (ix2 r l) = qAt q r := by
  have hm := mask_bit r l
  have e : k0_pay2 (F := Ideal) k0_pay26 (q 0) (q 1) (ix2 r l) = if k0_pay26 (ix2 r l) = 1#1 then q 0 else q 1 := by
    clear hm
    generalize k0_pay26 = M
    pointwise [k0_pay2]
    rfl
  rw [e, hm]
  unfold qAt
  by_cases h : r.val % 2 = 0
  · rw [if_pos h, if_pos rfl, if_pos h]
  · rw [if_neg h, if_neg (by decide), if_neg h]

theorem even_apply (q : Fin 2 → BitVec 32) (L : Fin 4 → Vec Ideal S1x8x128 .i32) (r : Fin 8) (l : Fin 128) :
    k0_pay3 (F := Ideal) k0_pay26 (q 0) (q 1) (L 0) (L 1) (L 2) (L 3) (ix2 r l) = slabs q L r l := by
  have h := query_apply q r l
  unfold k0_pay3 slabs
  generalize k0_pay2 (F := Ideal) k0_pay26 (q 0) (q 1) = Q at h ⊢
  rw [← h]
  pointwise
  rfl

/-- The odd rows' packed counts, as the trip computes them. -/
def oddPack (Q : IVec S8x128 32) (b : IVec S8x128 32) (L : Fin 4 → Vec Ideal S1x8x128 .i32) : IVec S8x128 32 := fun j =>
  IntOp.addi (IntOp.addi (IntOp.addi (b j) (IntOp.shli .vector (bits (L 1 (ix3 0 (j 0) (j 1))) (Q j)) 8#32))
    (IntOp.shli .vector (bits (L 2 (ix3 0 (j 0) (j 1))) (Q j)) 16#32)) (IntOp.shli .vector (bits (L 3 (ix3 0 (j 0) (j 1))) (Q j)) 24#32)

theorem odd_apply (q : Fin 2 → BitVec 32) (L : Fin 4 → Vec Ideal S1x8x128 .i32) (r : Fin 8) (l : Fin 128) :
    oddPack (k0_pay2 (F := Ideal) k0_pay26 (q 0) (q 1)) (k0_pay4 (F := Ideal) k0_pay26 (q 0) (q 1) (L 0)) L (ix2 r l) = slabs q L r l := by
  have h := query_apply q r l
  unfold k0_pay4 slabs oddPack
  generalize k0_pay2 (F := Ideal) k0_pay26 (q 0) (q 1) = Q at h ⊢
  rw [← h]
  pointwise
  rfl

/-- The last step of a trip, of the two packed counts. -/
theorem merge_apply (Q A b : IVec S8x128 32) (L : Fin 4 → Vec Ideal S1x8x128 .i32) (r : Fin 8) (l : Fin 128) :
    k0_pay27 (F := Ideal) Q A b (L 1) (L 2) (L 3) (ix3 0 r l)
      = IntOp.addi (if k0_pay26 (ix2 r l) = 1#1 then A (ix2 r l) else oddPack Q b L (ix2 r l))
          (if k0_pay26 (ix2 r l) = 1#1 then A (ix2 ⟨(r.val + 8 - 7) % 8, by omega⟩ l) else oddPack Q b L (ix2 ⟨(r.val + 8 - 1) % 8, by omega⟩ l)) := by
  unfold k0_pay27 oddPack
  generalize k0_pay26 = M
  pointwise
  rfl

/-- The word row of a slab that holds half `h` of the items of sub-row `s`. -/
def halfRow (s : Fin 8) (h : Fin 2) : Fin 8 := ⟨2 * (s.val / 2) + h.val, by omega⟩

/-- A word the trip stores: the packed distances. -/
theorem tile_apply (q : Fin 2 → BitVec 32) (L : Fin 2 → Fin 4 → Vec Ideal S1x8x128 .i32) (s : Fin 8) (l : Fin 128) :
    tile q L (ix3 0 s l) = packed fun k =>
      IntOp.addi (bits (L ⟨s.val % 2, by omega⟩ k (ix3 0 (halfRow s 0) l)) (q 0)) (bits (L ⟨s.val % 2, by omega⟩ k (ix3 0 (halfRow s 1) l)) (q 1)) := by
  rw [← packed_add]
  unfold tile
  rw [merge_apply _ _ _ (L 1), mask_bit, even_apply q (L 0), even_apply q (L 0), odd_apply q (L 1), odd_apply q (L 1)]
  by_cases h : s.val % 2 = 0
  · have e0 : halfRow s 0 = s := Fin.ext (by show 2 * (s.val / 2) + 0 = s.val; omega)
    have e1 : halfRow s 1 = ⟨(s.val + 8 - 7) % 8, by omega⟩ := Fin.ext (by show 2 * (s.val / 2) + 1 = (s.val + 8 - 7) % 8; omega)
    have ej : (⟨s.val % 2, by omega⟩ : Fin 2) = 0 := Fin.ext h
    have h1 : ¬ ((s.val + 8 - 7) % 8) % 2 = 0 := by omega
    rw [if_pos h, if_pos rfl, if_pos rfl, ej, e0, e1]
    unfold slabs qAt
    rw [if_pos h, if_neg h1]
  · have e1 : halfRow s 1 = s := Fin.ext (by show 2 * (s.val / 2) + 1 = s.val; omega)
    have e0 : halfRow s 0 = ⟨(s.val + 8 - 1) % 8, by omega⟩ := Fin.ext (by show 2 * (s.val / 2) + 0 = (s.val + 8 - 1) % 8; omega)
    have ej : (⟨s.val % 2, by omega⟩ : Fin 2) = 1 := Fin.ext (by show s.val % 2 = 1; omega)
    have h1 : ((s.val + 8 - 1) % 8) % 2 = 0 := by omega
    rw [if_neg h, if_neg (by decide), if_neg (by decide), ej, e0, e1, addi_comm]
    unfold slabs qAt
    rw [if_neg h, if_pos h1]

end Cert.Distance

end
-- ==== Proof.SelectTrips.lean ====
/- The selection's distance loop: 128 trips, each storing one row of packed distances. -/
module

public import proofs.«01_k».proof.Proof.Gen.SelectIdeal.Loops
public import proofs.«01_k».proof.Proof.SelectTile

@[expose] public section

set_option maxRecDepth 16384

noncomputable section

namespace Cert.Distance

open Idealize.ShloMosaic

variable {Val : EltTy → Type} {e : EltTy}

/-- The list after each trip: before the first nothing, and trip `k` puts its slab in front. -/
def Slabs (L : ℕ → List (View.Piece Val (⟨3, ![128, 8, 128]⟩ : Shape) e)) (pay : Fin 128 → (⟨3, ![1, 8, 128]⟩ : Shape).Idx → Val e) : Prop :=
  L 0 = [] ∧ ∀ k : Fin 128, ∃ (off : Fin 3 → ℕ) (inb : ∀ a, off a + (![1, 8, 128] : Fin 3 → ℕ) a ≤ (⟨3, ![128, 8, 128]⟩ : Shape).size a),
    off = ![k.val, 0, 0] ∧ L (k.val + 1) = ⟨Rect.unit (s := (⟨3, ![128, 8, 128]⟩ : Shape)) off (![1, 8, 128] : Fin 3 → ℕ) inb, pay k⟩ :: L k.val

/-- The buffer after the 128 trips. -/
def stack (pay : Fin 128 → (⟨3, ![1, 8, 128]⟩ : Shape).Idx → Val e) : (⟨3, ![128, 8, 128]⟩ : Shape).Idx → Val e := fun y =>
  pay (y 0) (ix3 0 (y 1) (y 2))

variable {L : ℕ → List (View.Piece Val (⟨3, ![128, 8, 128]⟩ : Shape) e)} {pay : Fin 128 → (⟨3, ![1, 8, 128]⟩ : Shape).Idx → Val e}

theorem Slabs.allAt (h : Slabs L pay) (n : ℕ) (hn : n ≤ 128) (y : (⟨3, ![128, 8, 128]⟩ : Shape).Idx) :
    View.AllAt (L n) y (stack pay y) := by
  induction n with
  | zero => rw [h.1]; exact View.allAt_nil _ _
  | succ n ih =>
    obtain ⟨off, inb, rfl, hL⟩ := h.2 ⟨n, hn⟩
    rw [hL]
    refine View.allAt_cons_unit _ _ _ _ _ (fun x hx => ?_) (ih (by omega))
    have h0 : (y 0).val = n + (x 0).val := hx 0
    have h1 : (y 1).val = 0 + (x 1).val := hx 1
    have h2 : (y 2).val = 0 + (x 2).val := hx 2
    have x0 : (x 0).val < 1 := (x 0).isLt
    unfold stack
    have e0 : y 0 = ⟨n, hn⟩ := Fin.ext (by show (y 0).val = n; omega)
    rw [e0]
    refine congrArg (pay ⟨n, hn⟩) ?_
    refine (eq_ix3 (n0 := 1) (n1 := 8) (n2 := 128) x).trans ?_
    have a0 : x 0 = (0 : Fin 1) := Fin.ext (by show (x 0).val = 0; omega)
    have a1 : x 1 = y 1 := Fin.ext (by omega)
    have a2 : x 2 = y 2 := Fin.ext (by omega)
    rw [a0, a1, a2]

theorem Slabs.cover (h : Slabs L pay) (n : ℕ) (hn : n ≤ 128) (y : (⟨3, ![128, 8, 128]⟩ : Shape).Idx) (hy : (y 0).val < n) :
    ∃ p ∈ L n, y ∈ p.1.set := by
  induction n with
  | zero => omega
  | succ n ih =>
    obtain ⟨off, inb, rfl, hL⟩ := h.2 ⟨n, hn⟩
    rw [hL]
    by_cases hlt : (y 0).val < n
    · obtain ⟨p, hp, hm⟩ := ih (by omega) hlt
      exact ⟨p, List.mem_cons_of_mem _ hp, hm⟩
    · refine ⟨_, List.mem_cons_self, ?_⟩
      rw [Rect.mem_set_unit]
      intro a
      match a with
      | ⟨0, _⟩ => exact ⟨by show n ≤ (y 0).val; omega, by show (y 0).val < n + 1; omega⟩
      | ⟨1, _⟩ => exact ⟨Nat.zero_le _, by show (y 1).val < 0 + 8; have : (y 1).val < 8 := (y 1).isLt; omega⟩
      | ⟨2, _⟩ => exact ⟨Nat.zero_le _, by show (y 2).val < 0 + 128; have : (y 2).val < 128 := (y 2).isLt; omega⟩

/-- Read back after the 128 trips. -/
theorem Slabs.canon [∀ e, Nonempty (Val e)] (h : Slabs L pay) : View.canon (L 128) = stack pay := by
  funext y
  exact View.canon_eq_of_allAt _ y _ (h.cover 128 (le_refl _) y (y 0).isLt) (h.allAt 128 (le_refl _) y)

/-- The eight word rows of batch row `k` from row `a`. -/
def slabFrom (a : ℕ) (h : a + 8 ≤ 64) (X : (⟨3, ![128, 64, 128]⟩ : Shape).Idx → Val e) (k : Fin 128) : (⟨3, ![1, 8, 128]⟩ : Shape).Idx → Val e :=
  fun j => X (ix3 k ⟨a + (j 1).val, by have : (j 1).val < 8 := (j 1).isLt; omega⟩ (j 2))

/-- A load of eight word rows. -/
theorem ld_slab (a : ℕ) (h : a + 8 ≤ 64) (X : (⟨3, ![128, 64, 128]⟩ : Shape).Idx → Val e) (k : Fin 128) (off : Fin 3 → ℕ)
    (inb : ∀ b, off b + (![1, 8, 128] : Fin 3 → ℕ) b ≤ (⟨3, ![128, 64, 128]⟩ : Shape).size b) (ho : off = ![k.val, a, 0]) :
    View.ld X (Rect.unit (s := (⟨3, ![128, 64, 128]⟩ : Shape)) off (![1, 8, 128] : Fin 3 → ℕ) inb) = slabFrom a h X k := by
  subst ho
  funext j
  refine View.ld_unit_apply_of X _ _ _ j _ fun b => ?_
  match b with
  | ⟨0, _⟩ => have : (j 0).val < 1 := (j 0).isLt; show k.val = k.val + (j 0).val; omega
  | ⟨1, _⟩ => rfl
  | ⟨2, _⟩ => exact (Nat.zero_add _).symm

end Cert.Distance

namespace Cert.SelectIdeal.Hand

open Idealize.ShloMosaic Idealize.ShloMosaic.TcCoe Idealize.ShloMosaic.Tactic Cert.SelectIdeal Cert.SelectIdeal.Gen Idealize.SL.Sem Cert.Distance

theorem trips_eq : k0_t1_loop.trips = 128 := by decide +kernel

/-- The query words of batch row `k` of the block. -/
def rowQ (X1 : Vec Ideal S2x128 .i32) (k : Fin 128) (h : Fin 2) : BitVec 32 := X1 (ix2 h k)

/-- The eight slabs of batch row `k` of the block. -/
def rowSlabs (X3 : Vec Ideal S128x64x128 .i32) (k : Fin 128) (j : Fin 2) (b : Fin 4) : Vec Ideal S1x8x128 .i32 :=
  slabFrom (Val := Elt Ideal) (e := .i32) (16 * b.val + 8 * j.val) (by omega) X3 k

variable (𝒱 : Variants) (c : Dev nD) (bd : Option 𝒱.V) (i : grid0.Coords)
  (arg1 : Memref sig .tc .smem S2x128 .i32) (harg1 : arg1.IsWhole) (arg2 : Memref sig .tc .vmem S1x128 .i32) (harg2 : arg2.IsWhole)
  (arg3 : Memref sig .tc .vmem S128x64x128 .i32) (harg3 : arg3.IsWhole) (arg4 : Memref sig .tc .vmem S128x8x128 .i32) (harg4 : arg4.IsWhole)
  (arg5 : Memref sig .tc .vmem S128x128 .i32) (harg5 : arg5.IsWhole) (arg6 : Memref sig .tc .vmem S8x128x128 .i32) (harg6 : arg6.IsWhole)
  (X1 : Vec Ideal S2x128 .i32) (X3 : Vec Ideal S128x64x128 .i32)

/-- A load of one query word. -/
theorem ld_query (k : Fin 128) (h : Fin 2) (off : Fin 2 → ℕ) (inb : ∀ b, off b + (![1, 1] : Fin 2 → ℕ) b ≤ S2x128.size b) (ho : off = ![h.val, k.val])
    (j : (⟨2, ![1, 1]⟩ : Shape).Idx) : View.ld X1 (Rect.unit (s := S2x128) off (![1, 1] : Fin 2 → ℕ) inb) j = rowQ X1 k h := by
  subst ho
  refine View.ld_unit_apply_of X1 _ _ _ j _ fun b => ?_
  match b with
  | ⟨0, _⟩ => have : (j 0).val < 1 := (j 0).isLt; show h.val = h.val + (j 0).val; omega
  | ⟨1, _⟩ => have : (j 1).val < 1 := (j 1).isLt; show k.val = k.val + (j 1).val; omega

/-- The piece one trip stores. -/
theorem trip_pieces (k : Fin k0_t1_loop.trips) (hk : k.val < 128) :
    tripL_k0_t1 (F := Ideal) 𝒱 c bd i arg1 harg1 arg2 harg2 arg3 harg3 arg4 harg4 arg5 harg5 arg6 harg6 (harg1.unread X1) (harg3.unread X3) k
      = [⟨Rect.unit (k0_off11 k) S1x8x128.size (k0_off11_inb k), tile (rowQ X1 ⟨k.val, hk⟩) (rowSlabs X3 ⟨k.val, hk⟩)⟩] := by
  have h00 : View.ld X3 (Rect.unit (k0_off3 k) S1x8x128.size (k0_off3_inb k)) = rowSlabs X3 ⟨k.val, hk⟩ 0 0 := ld_slab _ _ X3 ⟨k.val, hk⟩ _ _ (k0_off3_eq k)
  have h01 : View.ld X3 (Rect.unit (k0_off4 k) S1x8x128.size (k0_off4_inb k)) = rowSlabs X3 ⟨k.val, hk⟩ 0 1 := ld_slab _ _ X3 ⟨k.val, hk⟩ _ _ (k0_off4_eq k)
  have h02 : View.ld X3 (Rect.unit (k0_off5 k) S1x8x128.size (k0_off5_inb k)) = rowSlabs X3 ⟨k.val, hk⟩ 0 2 := ld_slab _ _ X3 ⟨k.val, hk⟩ _ _ (k0_off5_eq k)
  have h03 : View.ld X3 (Rect.unit (k0_off6 k) S1x8x128.size (k0_off6_inb k)) = rowSlabs X3 ⟨k.val, hk⟩ 0 3 := ld_slab _ _ X3 ⟨k.val, hk⟩ _ _ (k0_off6_eq k)
  have h10 : View.ld X3 (Rect.unit (k0_off7 k) S1x8x128.size (k0_off7_inb k)) = rowSlabs X3 ⟨k.val, hk⟩ 1 0 := ld_slab _ _ X3 ⟨k.val, hk⟩ _ _ (k0_off7_eq k)
  have h11 : View.ld X3 (Rect.unit (k0_off8 k) S1x8x128.size (k0_off8_inb k)) = rowSlabs X3 ⟨k.val, hk⟩ 1 1 := ld_slab _ _ X3 ⟨k.val, hk⟩ _ _ (k0_off8_eq k)
  have h12 : View.ld X3 (Rect.unit (k0_off9 k) S1x8x128.size (k0_off9_inb k)) = rowSlabs X3 ⟨k.val, hk⟩ 1 2 := ld_slab _ _ X3 ⟨k.val, hk⟩ _ _ (k0_off9_eq k)
  have h13 : View.ld X3 (Rect.unit (k0_off10 k) S1x8x128.size (k0_off10_inb k)) = rowSlabs X3 ⟨k.val, hk⟩ 1 3 := ld_slab _ _ X3 ⟨k.val, hk⟩ _ _ (k0_off10_eq k)
  have hq0 : View.ld X1 (Rect.unit (k0_off1 k) S1x1.size (k0_off1_inb k)) (Shape.Idx.first (s := S1x1) (by decide)) = rowQ X1 ⟨k.val, hk⟩ 0 :=
    ld_query X1 ⟨k.val, hk⟩ 0 _ (k0_off1_inb k) (k0_off1_eq k) _
  have hq1 : View.ld X1 (Rect.unit (k0_off2 k) S1x1.size (k0_off2_inb k)) (Shape.Idx.first (s := S1x1) (by decide)) = rowQ X1 ⟨k.val, hk⟩ 1 :=
    ld_query X1 ⟨k.val, hk⟩ 1 _ (k0_off2_inb k) (k0_off2_eq k) _
  unfold tile
  rw [← hq0, ← hq1, ← h00, ← h01, ← h02, ← h03, ← h10, ← h11, ← h12, ← h13]
  unfold tripL_k0_t1 trip_k0_t1
  dsimp only
  sl_unfold_words
  simp only [View.readAt_eq_ld, harg1.read_unread, harg3.read_unread]
  rfl

theorem trips : Slabs (fun n => pb_k0_t1 (F := Ideal) 𝒱 c bd i arg1 harg1 arg2 harg2 arg3 harg3 arg4 harg4 arg5 harg5 arg6 harg6 (harg1.unread X1) (harg3.unread X3) n)
    (fun k => tile (rowQ X1 k) (rowSlabs X3 k)) :=
  ⟨rfl, fun k => by
    have hk : k.val < k0_t1_loop.trips := by rw [trips_eq]; exact k.isLt
    refine ⟨_, k0_off11_inb ⟨k.val, hk⟩, k0_off11_eq ⟨k.val, hk⟩, ?_⟩
    have h := pb_k0_t1_succ (F := Ideal) 𝒱 c bd i arg1 harg1 arg2 harg2 arg3 harg3 arg4 harg4 arg5 harg5 arg6 harg6 (harg1.unread X1) (harg3.unread X3) ⟨k.val, hk⟩
    rw [trip_pieces (k := ⟨k.val, hk⟩) (hk := k.isLt)] at h
    exact h⟩

/-- The words the loop leaves in a block. -/
theorem stack_apply (k : Fin 128) (s : Fin 8) (l : Fin 128) :
    stack (Val := Elt Ideal) (e := .i32) (fun k => tile (rowQ X1 k) (rowSlabs X3 k)) (ix3 k s l) = packed fun b =>
      IntOp.addi (bits (X3 (ix3 k ⟨2 * (8 * b.val + 4 * (s.val % 2) + s.val / 2), by omega⟩ l)) (X1 (ix2 0 k)))
        (bits (X3 (ix3 k ⟨2 * (8 * b.val + 4 * (s.val % 2) + s.val / 2) + 1, by omega⟩ l)) (X1 (ix2 1 k))) := by
  refine (tile_apply (rowQ X1 k) (rowSlabs X3 k) s l).trans (congrArg packed (funext fun b => ?_))
  have e (h : Fin 2) : rowSlabs X3 k ⟨s.val % 2, by omega⟩ b (ix3 0 (halfRow s h) l)
      = X3 (ix3 k ⟨2 * (8 * b.val + 4 * (s.val % 2) + s.val / 2) + h.val, by omega⟩ l) := by
    refine congrArg X3 (congrArg (fun r => ix3 k r l) (Fin.ext ?_))
    show 16 * b.val + 8 * (s.val % 2) + (2 * (s.val / 2) + h.val) = 2 * (8 * b.val + 4 * (s.val % 2) + s.val / 2) + h.val
    omega
  rw [e 0, e 1]
  rfl

end Cert.SelectIdeal.Hand

end
-- ==== Proof.SelectReads.lean ====
/- What the selection's windows read, of its arguments. -/
module

public import proofs.«01_k».proof.Proof.Gen.SelectIdeal.Frame.Runs
public import proofs.«01_k».proof.Proof.SelectTrips

@[expose] public section

set_option maxRecDepth 16384

noncomputable section

namespace Cert.SelectIdeal.Hand

open Idealize.ShloMosaic Idealize.ShloMosaic.TcCoe Idealize.ShloMosaic.Tactic Cert.SelectIdeal Cert.SelectIdeal.Gen Idealize.SL.Sem Cert.Distance

variable (m : (ℓ : Loc nD τ sig) → Buf (Elt Ideal) ℓ)

/-- The block index of every window at every grid point. -/
theorem idx : ∀ t : Fin cfg0.N, (win0_0.index t 0 = 0 ∧ win0_0.index t 1 = t.val) ∧ (win0_1.index t 0 = 0 ∧ win0_1.index t 1 = t.val)
    ∧ (win0_2.index t 0 = t.val ∧ win0_2.index t 1 = 0 ∧ win0_2.index t 2 = 0)
    ∧ (win0_3.index t 0 = t.val ∧ win0_3.index t 1 = 0 ∧ win0_3.index t 2 = 0) :=
  (by decide +kernel : ∀ t : Fin grid0.N, _)

theorem read_q (c : Dev nD) (t : Fin cfg0.N) (h : Fin 2) (k : Fin 128) :
    iblk m c 0 t (ix2 h k) = m ((c : Thread nD τ).loc main_arg0) (ix2 (⟨0 + (128 * t.val + k.val), by have : t.val < 4 := t.isLt; omega⟩ : Fin 1536) h) := by
  blk_ext! [iblk, V, idx t]

theorem read_sig (c : Dev nD) (t : Fin cfg0.N) (k : Fin 128) (r : Fin 64) (l : Fin 128) :
    iblk m c 2 t (ix3 k r l) = m ((c : Thread nD τ).loc main_arg1)
      (ix3 (⟨0 + (128 * t.val + k.val), by have : t.val < 4 := t.isLt; omega⟩ : Fin 1536) (⟨128 * (r.val / 2) + l.val, by omega⟩ : Fin 4096) (⟨r.val % 2, by omega⟩ : Fin 2)) := by
  blk_ext! [iblk, V, idx t]

end Cert.SelectIdeal.Hand

end
-- ==== Proof.SelectArrays.lean ====
/- The packed distances the selection leaves, of its arguments. -/
module

public import proofs.«01_k».proof.Proof.SelectFrame
public import proofs.«01_k».proof.Proof.SelectReads

@[expose] public section

set_option maxRecDepth 16384

noncomputable section

namespace Cert.SelectIdeal.Hand

open Idealize.ShloMosaic Idealize.ShloMosaic.TcCoe Idealize.ShloMosaic.Tactic Cert.SelectIdeal Cert.SelectIdeal.Gen Idealize.SL.Sem Cert.Distance

section
variable (c : Dev nD) (i : grid0.Coords)
  (arg1 : Memref sig .tc .smem S2x128 .i32) (harg1 : arg1.IsWhole) (arg2 : Memref sig .tc .vmem S1x128 .i32) (harg2 : arg2.IsWhole)
  (arg3 : Memref sig .tc .vmem S128x64x128 .i32) (harg3 : arg3.IsWhole) (arg4 : Memref sig .tc .vmem S128x8x128 .i32) (harg4 : arg4.IsWhole)
  (arg5 : Memref sig .tc .vmem S128x128 .i32) (harg5 : arg5.IsWhole) (arg6 : Memref sig .tc .vmem S8x128x128 .i32) (harg6 : arg6.IsWhole)
  (X1 : Vec Ideal S2x128 .i32) (X2 : Vec Ideal S1x128 .i32) (X3 : Vec Ideal S128x64x128 .i32)

/-- The block of packed distances. -/
theorem out3_eq : out0_A_3 (F := Ideal) c i arg1 harg1 arg2 harg2 arg3 harg3 arg4 harg4 arg5 harg5 arg6 harg6 X1 X2 X3
    = stack (Val := Elt Ideal) (e := .i32) (fun k => tile (rowQ X1 k) (rowSlabs X3 k)) := by
  unfold out0_A_3
  rw [View.read_writes_eq_canon _ _ _ (cover0_A_3 c i arg1 harg1 arg2 harg2 arg3 harg3 arg4 harg4 arg5 harg5 arg6 harg6 X1 X2 X3)]
  exact (trips Variants.none c none i arg1 harg1 arg2 harg2 arg3 harg3 arg4 harg4 arg5 harg5 arg6 harg6 X1 X3).canon

end

variable (m : (ℓ : Loc nD τ sig) → Buf (Elt Ideal) ℓ)

/-- The packed distances, of the two arguments. -/
abbrev dist (c : Dev nD) : (⟨3, ![512, 8, 128]⟩ : Shape).Idx → BitVec 32 :=
  distArr (fun b k => m ((c : Thread nD τ).loc main_arg0) (ix2 (⟨0 + b.val, by omega⟩ : Fin 1536) k))
    (fun b n k => m ((c : Thread nD τ).loc main_arg1) (ix3 (⟨0 + b.val, by omega⟩ : Fin 1536) n k))

/-- An item's signature words, where the block holds them. -/
theorem read_item (c : Dev nD) (t : Fin cfg0.N) (k : Fin 128) (b : Fin 4) (s : Fin 8) (l : Fin 128) (h : Fin 2)
    (hr : 2 * (8 * b.val + 4 * (s.val % 2) + s.val / 2) + h.val < 64) :
    iblk m c 2 t (ix3 k (⟨2 * (8 * b.val + 4 * (s.val % 2) + s.val / 2) + h.val, hr⟩ : Fin 64) l) = m ((c : Thread nD τ).loc main_arg1)
      (ix3 (⟨0 + (128 * t.val + k.val), by have : t.val < 4 := t.isLt; omega⟩ : Fin 1536) (item b s l) h) := by
  refine (read_sig m c t k _ l).trans (congrArg (m ((c : Thread nD τ).loc main_arg1)) ?_)
  refine congrArg₂ (ix3 (n0 := 1536) (n1 := 4096) (n2 := 2) _) (Fin.ext ?_) (Fin.ext ?_)
  · show 128 * ((2 * (8 * b.val + 4 * (s.val % 2) + s.val / 2) + h.val) / 2) + l.val = 128 * (8 * b.val + 4 * (s.val % 2) + s.val / 2) + l.val
    omega
  · show (2 * (8 * b.val + 4 * (s.val % 2) + s.val / 2) + h.val) % 2 = h.val
    omega

theorem block3 (c : Dev nD) (t : Fin cfg0.N) (k : Fin 128) (s : Fin 8) (l : Fin 128) :
    ((dats m 0 c).after 3 t : Vec Ideal S128x8x128 .i32) (ix3 k s l)
      = dist m c (ix3 (⟨128 * t.val + k.val, by have : t.val < 4 := t.isLt; omega⟩ : Fin 512) s l) := by
  have e := congrFun (after0_3 m c t) (ix3 k s l)
  refine e.trans ?_
  unfold outsAt0
  refine (congrFun (out3_eq c (grid0.coords t) (ms0_0 t) (hs0_0 t) (ms0_1 t) (hs0_1 t) (ms0_2 t) (hs0_2 t) (ms0_3 t) (hs0_3 t)
    (ms0_4 t) (hs0_4 t) scM0_0 (Memref.isWhole_whole _) (iblk m c 0 t) (iblk m c 1 t) (iblk m c 2 t)) (ix3 k s l)).trans ?_
  refine (stack_apply (iblk m c 0 t) (iblk m c 2 t) k s l).trans ?_
  refine congrArg packed (funext fun b => ?_)
  exact congrArg₂ IntOp.addi (congrArg₂ bits (read_item m c t k b s l 0 _) (read_q m c t 0 k))
    (congrArg₂ bits (read_item m c t k b s l 1 _) (read_q m c t 1 k))

/-- The packed distances after the run. -/
theorem arr3 (c : Dev nD) : (dats m 0 c).arrAt 3 cfg0.N = dist m c := by
  have key := block3 m c
  generalize dist m c = A at key ⊢
  refine (dats m 0 c).arrAt_eq_of_covers 3 _ (by decide +kernel) fun t hf y => ?_
  blk_simp
  obtain ⟨k, s, l, rfl⟩ : ∃ (k : Fin 128) (s : Fin 8) (l : Fin 128), y = ix3 k s l := ⟨_, _, _, eq_ix3 y⟩
  refine (key t k s l).trans (congrArg A ?_)
  blk_ext [idx t]

end Cert.SelectIdeal.Hand

end
-- ==== Proof.SelectSame.lean ====
/-
   The select program as the kernel runs it and the program at the ideal instance are one text, of which
   no step rounds: a run of the one is a run of the other, at any values.
-/
module

public import proofs.«01_k».proof.Proof.Gen.Select
public import proofs.«01_k».proof.Proof.SelectFrame
public import Idealize.ShloMosaic.Lib.Tactic

@[expose] public section

set_option maxRecDepth 16384

noncomputable section

namespace Cert.Select.Hand

open Idealize Idealize.ShloMosaic Idealize.ShloMosaic.TcCoe Idealize.ShloMosaic.Tactic Idealize.SL.Sem

/-- Every weakly fair run of the program ends, its arguments unchanged and every counter at zero. -/
def frames (F : FTy → Type) [FloatOps F] : Prop :=
  ∀ (m : (ℓ : Loc Cert.Select.nD Cert.Select.τ Cert.Select.sig) → Buf (Elt F) ℓ) (g : Dev Cert.Select.nD → PrngReg),
    θ_run (Cert.Select.defs (F := F)) (onTc (τ := Cert.Select.τ) (Cert.Select.main (F := F))) ⟨m, fun _ => 0, g⟩ (fun r => (∀ c : Dev Cert.Select.nD,
      r.2.mem ((c.tc : Thread Cert.Select.nD Cert.Select.τ).loc Cert.Select.main_arg0) = m ((c.tc : Thread Cert.Select.nD Cert.Select.τ).loc Cert.Select.main_arg0)
      ∧ r.2.mem ((c.tc : Thread Cert.Select.nD Cert.Select.τ).loc Cert.Select.main_arg1) = m ((c.tc : Thread Cert.Select.nD Cert.Select.τ).loc Cert.Select.main_arg1)
      ∧ r.2.mem ((c.tc : Thread Cert.Select.nD Cert.Select.τ).loc Cert.Select.main_arg2) = m ((c.tc : Thread Cert.Select.nD Cert.Select.τ).loc Cert.Select.main_arg2))
      ∧ r.2.sem = fun _ => 0)

/-- The same of the program the algebraic claim is about. -/
def framesIdeal (F : FTy → Type) [FloatOps F] : Prop :=
  ∀ (m : (ℓ : Loc Cert.SelectIdeal.nD Cert.SelectIdeal.τ Cert.SelectIdeal.sig) → Buf (Elt F) ℓ) (g : Dev Cert.SelectIdeal.nD → PrngReg),
    θ_run (Cert.SelectIdeal.defs (F := F)) (onTc (τ := Cert.SelectIdeal.τ) (Cert.SelectIdeal.main (F := F))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
      ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1)
      ∧ r.2.mem ((c.tc : Thread Cert.SelectIdeal.nD Cert.SelectIdeal.τ).loc Cert.SelectIdeal.main_arg2) = m ((c.tc : Thread Cert.SelectIdeal.nD Cert.SelectIdeal.τ).loc Cert.SelectIdeal.main_arg2))
      ∧ r.2.sem = fun _ => 0)

/-- The two statements are one. -/
theorem frames_eq (F : FTy → Type) [FloatOps F] : framesIdeal F = frames F := by sl_kernel_rfl

/-- The program's frame. -/
theorem frame (F : FTy → Type) [FloatOps F] : frames F := cast (frames_eq F) fun m g => Cert.SelectIdeal.Gen.frame m g

end Cert.Select.Hand

end
-- ==== Proof.RefDistances.lean ====
/- The packed distances the reference leaves, of its arguments. -/
module

public import proofs.«01_k».proof.Proof.Gen.DistancesIdeal.Value
public import proofs.«01_k».proof.Proof.Distance

@[expose] public section

set_option maxRecDepth 16384

noncomputable section

namespace Cert.DistancesIdeal.Hand

open Idealize.ShloMosaic Idealize.ShloMosaic.TcCoe Idealize.ShloMosaic.Tactic Cert.DistancesIdeal Cert.DistancesIdeal.Gen Idealize.SL.Sem Cert.Distance

/-- A packed word of the body. -/
theorem body_apply (h : Vec Ideal S2x4x512x8x128 .i32) (q : Vec Ideal S2x512x8x128 .i32) (b : Fin 512) (s : Fin 8) (l : Fin 128) :
    k0_pay1 (F := Ideal) h q (ix3 b s l)
      = packed fun k => IntOp.addi (bits (h (ix5 0 k b s l)) (q (ix4 0 b s l))) (bits (h (ix5 1 k b s l)) (q (ix4 1 b s l))) := by
  pointwise [k0_pay1]
  simp only [fold_two]
  rfl

variable (m : (ℓ : Loc nD τ sig) → Buf (Elt Ideal) ℓ)

/-- The block index of every window. -/
theorem idx : ∀ t : Fin cfg0.N, (win0_0.index t 0 = 0 ∧ win0_0.index t 1 = 0 ∧ win0_0.index t 2 = 0 ∧ win0_0.index t 3 = 0)
    ∧ (win0_1.index t 0 = 0 ∧ win0_1.index t 1 = 0 ∧ win0_1.index t 2 = 0 ∧ win0_1.index t 3 = 0 ∧ win0_1.index t 4 = 0)
    ∧ (win0_2.index t 0 = 0 ∧ win0_2.index t 1 = 0 ∧ win0_2.index t 2 = 0) :=
  (by decide +kernel : ∀ t : Fin grid0.N, _)

theorem read_q (c : Dev nD) (t : Fin cfg0.N) (k : Fin 2) (b : Fin 512) (s : Fin 8) (l : Fin 128) :
    iblk m c 0 t (ix4 k b s l) = m ((c : Thread nD τ).loc main_arg0) (ix2 (⟨0 + b.val, by omega⟩ : Fin 1536) k) := by
  blk_ext! [iblk, V, idx t]

theorem read_h (c : Dev nD) (t : Fin cfg0.N) (h : Fin 2) (k : Fin 4) (b : Fin 512) (s : Fin 8) (l : Fin 128) :
    iblk m c 1 t (ix5 h k b s l) = m ((c : Thread nD τ).loc main_arg1) (ix3 (⟨0 + b.val, by omega⟩ : Fin 1536) (item k s l) h) := by
  unfold item
  blk_ext! [iblk, V, idx t]

/-- The packed distances, of the two arguments. -/
abbrev dist (c : Dev nD) : (⟨3, ![512, 8, 128]⟩ : Shape).Idx → BitVec 32 :=
  distArr (fun b k => m ((c : Thread nD τ).loc main_arg0) (ix2 (⟨0 + b.val, by omega⟩ : Fin 1536) k))
    (fun b n k => m ((c : Thread nD τ).loc main_arg1) (ix3 (⟨0 + b.val, by omega⟩ : Fin 1536) n k))

theorem block2 (c : Dev nD) (t : Fin cfg0.N) (b : Fin 512) (s : Fin 8) (l : Fin 128) :
    ((dats m 0 c).after 2 t : Vec Ideal S512x8x128 .i32) (ix3 b s l) = dist m c (ix3 b s l) := by
  have e := congrFun (after0_2 m c t) (ix3 b s l)
  refine e.trans ?_
  frame_out
  refine (body_apply (iblk m c 1 t) (iblk m c 0 t) b s l).trans ?_
  simp only [read_q, read_h]
  rfl

/-- The packed distances after the run. -/
theorem arr2 (c : Dev nD) : (dats m 0 c).arrAt 2 cfg0.N = dist m c := by
  have key := block2 m c
  generalize dist m c = A at key ⊢
  refine (dats m 0 c).arrAt_eq_of_covers 2 _ (by decide +kernel) fun t hf y => ?_
  blk_simp
  obtain ⟨b, s, l, rfl⟩ : ∃ (b : Fin 512) (s : Fin 8) (l : Fin 128), y = ix3 b s l := ⟨_, _, _, eq_ix3 y⟩
  refine (key t b s l).trans (congrArg A ?_)
  blk_ext [idx t]

end Cert.DistancesIdeal.Hand

end
-- ==== Proof.SelectRunB.lean ====
/-
   The second select call's body run once from its first operation to its last: what its stores leave in the
   two output buffers.  Each printed part is a theorem of its own.
-/
module

public import proofs.«01_k».proof.Proof.Gen.SelectBIdeal.Frame.Runs

@[expose] public section

set_option maxRecDepth 65536

noncomputable section

namespace Cert.SelectBIdeal

/-! The parts that hold the body's counted loops are their skeletons whatever the floats are.  (The generated
    equations ask for the floats' operations, which none of these parts has.) -/

theorem k0_part16_eq_skeleton {F : Idealize.ShloMosaic.FTy → Type} :
    k0_part16 (F := F) = Gen.k0_part16_skel (F := F) := rfl

theorem k0_part75_eq_skeleton {F : Idealize.ShloMosaic.FTy → Type} :
    k0_part75 (F := F) = Gen.k0_part75_skel (F := F) := rfl

theorem k0_part76_eq_skeleton {F : Idealize.ShloMosaic.FTy → Type} :
    k0_part76 (F := F) = Gen.k0_part76_skel (F := F) := rfl

theorem k0_part77_eq_skeleton {F : Idealize.ShloMosaic.FTy → Type} :
    k0_part77 (F := F) = Gen.k0_part77_skel (F := F) := rfl

theorem k0_part78_eq_skeleton {F : Idealize.ShloMosaic.FTy → Type} :
    k0_part78 (F := F) = Gen.k0_part78_skel (F := F) := rfl

end Cert.SelectBIdeal

namespace Cert.SelectBIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- the term is large
set_option backward.proofsInPublic true in
set_option maxHeartbeats 4144000 in
/-- What the body leaves in each output's buffer, as the list of its stores (last first), together with the
    proof that it runs: from the inputs at their contents and the outputs and the scratch at anything, to the
    inputs as they were and each output's buffer with those stores made. -/
noncomputable def kernelRun0_A (c : Dev nD) (i : grid0.Coords) (arg1 : Memref sig .tc .smem S2x128 .i32) (harg1 : arg1.IsWhole) (arg2 : Memref sig .tc .vmem S1x128 .i32) (harg2 : arg2.IsWhole) (arg3 : Memref sig .tc .vmem S128x64x128 .i32) (harg3 : arg3.IsWhole) (arg4 : Memref sig .tc .vmem S128x8x128 .i32) (harg4 : arg4.IsWhole) (arg5 : Memref sig .tc .vmem S128x128 .i32) (harg5 : arg5.IsWhole) (arg6 : Memref sig .tc .vmem S8x128x128 .i32) (harg6 : arg6.IsWhole)
    (x0 : Vec F S2x128 .i32) (x1 : Vec F S1x128 .i32) (x2 : Vec F S128x64x128 .i32) :
    Σ' (L3 : List (View.Piece (Elt F) S128x8x128 .i32)), { L4 : List (View.Piece (Elt F) S128x128 .i32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ d, owns (c : Thread nD τ) arg6 fullShare d)) -∗ K ⟨⟩))
          ⊢ wp frame (wpE (defs₀ (F := F)) Variants.none c none) E (cc0_select1 i arg1 harg1 arg2 harg2 arg3 harg3 arg4 harg4 arg5 harg5 arg6 harg6) K } := by
  refine ⟨?_, ?_, fun E K => ?run⟩
  case run =>
    simp only [cc0_select1_eq_skeleton]; unfold cc0_select1_skel
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
    obtain rfl := harg1.eq_unread hf0; obtain rfl := harg2.eq_unread hf1; obtain rfl := harg3.eq_unread hf2
    have hrd0 : ∀ (𝒱 : Variants) (c : Dev nD) (bd : Option 𝒱.V) (i : grid0.Coords) (arg1 : Memref sig .tc .smem S2x128 .i32) (harg1 : arg1.IsWhole) (arg2 : Memref sig .tc .vmem S1x128 .i32) (harg2 : arg2.IsWhole) (arg3 : Memref sig .tc .vmem S128x64x128 .i32) (harg3 : arg3.IsWhole) (arg4 : Memref sig .tc .vmem S128x8x128 .i32) (harg4 : arg4.IsWhole) (arg5 : Memref sig .tc .vmem S128x128 .i32) (harg5 : arg5.IsWhole) (arg6 : Memref sig .tc .vmem S8x128x128 .i32) (harg6 : arg6.IsWhole) (X_arg1 : BufTy.Contents (Elt F) arg1.view.ty) (X_arg3 : BufTy.Contents (Elt F) arg3.view.ty) (hrdF : BufTy.Contents (Elt F) arg4.view.ty) (hrdB : LoadRect S128x8x128), arg4.view.readAt (Elt F) hrdB (arg4.view.writes (Elt F) hrdF (pb_k0_t1 (F := F) 𝒱 c bd i arg1 harg1 arg2 harg2 arg3 harg3 arg4 harg4 arg5 harg5 arg6 harg6 X_arg1 X_arg3 (Scf.trips k0_t1_loop.lb k0_t1_loop.ub k0_t1_loop.st))) = arg4.view.readCov (pb_k0_t1 (F := F) 𝒱 c bd i arg1 harg1 arg2 harg2 arg3 harg3 arg4 harg4 arg5 harg5 arg6 harg6 X_arg1 X_arg3 (Scf.trips k0_t1_loop.lb k0_t1_loop.ub k0_t1_loop.st)) hrdB := fun 𝒱 c bd i arg1 harg1 arg2 harg2 arg3 harg3 arg4 harg4 arg5 harg5 arg6 harg6 X_arg1 X_arg3 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 X_arg1 X_arg3 (Scf.trips k0_t1_loop.lb k0_t1_loop.ub k0_t1_loop.st)) S1x8x128.size (by sl_kernel_rfl) (hrdB.idx hrdJ))
    sl_exec_parts
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _, _; isplitr; swap; · iexact HS0
    ipureintro; rfl

end Cert.SelectBIdeal.Gen

end
-- ==== Proof.SelectFrameB.lean ====
/-
   The run of the second select call's whole grid, from the run of its body (`SelectRunB`): it ends at every
   weakly fair schedule, leaves the arguments as they were, and each output at the blocks the grid
   points wrote.
-/
module

public import proofs.«01_k».proof.Proof.SelectRunB
public import Idealize.ShloMosaic.Lib.Pipeline.Value
public import Idealize.ShloMosaic.Lib.Claim

@[expose] public section

set_option maxRecDepth 16384

noncomputable section

namespace Cert.SelectBIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- The run's pieces for output 3 tile its block, so they cover it. -/
theorem cover0_A_3 (c : Dev nD) (i : grid0.Coords) (arg1 : Memref sig .tc .smem S2x128 .i32) (harg1 : arg1.IsWhole) (arg2 : Memref sig .tc .vmem S1x128 .i32) (harg2 : arg2.IsWhole) (arg3 : Memref sig .tc .vmem S128x64x128 .i32) (harg3 : arg3.IsWhole) (arg4 : Memref sig .tc .vmem S128x8x128 .i32) (harg4 : arg4.IsWhole) (arg5 : Memref sig .tc .vmem S128x128 .i32) (harg5 : arg5.IsWhole) (arg6 : Memref sig .tc .vmem S8x128x128 .i32) (harg6 : arg6.IsWhole)
    (x0 : Vec F S2x128 .i32) (x1 : Vec F S1x128 .i32) (x2 : Vec F S128x64x128 .i32) (y : S128x8x128.Idx) :
    ∃ pc ∈ (kernelRun0_A c i arg1 harg1 arg2 harg2 arg3 harg3 arg4 harg4 arg5 harg5 arg6 harg6 x0 x1 x2).1, y ∈ pc.1.set :=
  View.cover_of_tiledL (kernelRun0_A c i arg1 harg1 arg2 harg2 arg3 harg3 arg4 harg4 arg5 harg5 arg6 harg6 x0 x1 x2).1 S1x8x128.size (by sl_kernel_rfl) y

/-- What the run leaves in output 3's staging buffer: its pieces read back over junk. -/
def out0_A_3 (c : Dev nD) (i : grid0.Coords) (arg1 : Memref sig .tc .smem S2x128 .i32) (harg1 : arg1.IsWhole) (arg2 : Memref sig .tc .vmem S1x128 .i32) (harg2 : arg2.IsWhole) (arg3 : Memref sig .tc .vmem S128x64x128 .i32) (harg3 : arg3.IsWhole) (arg4 : Memref sig .tc .vmem S128x8x128 .i32) (harg4 : arg4.IsWhole) (arg5 : Memref sig .tc .vmem S128x128 .i32) (harg5 : arg5.IsWhole) (arg6 : Memref sig .tc .vmem S8x128x128 .i32) (harg6 : arg6.IsWhole)
    (x0 : Vec F S2x128 .i32) (x1 : Vec F S1x128 .i32) (x2 : Vec F S128x64x128 .i32) : Vec F S128x8x128 .i32 :=
  VO0_3.read (Elt F) (VO0_3.writes (Elt F) VO0_3.junk (kernelRun0_A c i arg1 harg1 arg2 harg2 arg3 harg3 arg4 harg4 arg5 harg5 arg6 harg6 x0 x1 x2).1)

/-- The run's pieces for output 4 tile its block, so they cover it. -/
theorem cover0_A_4 (c : Dev nD) (i : grid0.Coords) (arg1 : Memref sig .tc .smem S2x128 .i32) (harg1 : arg1.IsWhole) (arg2 : Memref sig .tc .vmem S1x128 .i32) (harg2 : arg2.IsWhole) (arg3 : Memref sig .tc .vmem S128x64x128 .i32) (harg3 : arg3.IsWhole) (arg4 : Memref sig .tc .vmem S128x8x128 .i32) (harg4 : arg4.IsWhole) (arg5 : Memref sig .tc .vmem S128x128 .i32) (harg5 : arg5.IsWhole) (arg6 : Memref sig .tc .vmem S8x128x128 .i32) (harg6 : arg6.IsWhole)
    (x0 : Vec F S2x128 .i32) (x1 : Vec F S1x128 .i32) (x2 : Vec F S128x64x128 .i32) (y : S128x128.Idx) :
    ∃ pc ∈ (kernelRun0_A c i arg1 harg1 arg2 harg2 arg3 harg3 arg4 harg4 arg5 harg5 arg6 harg6 x0 x1 x2).2.1, y ∈ pc.1.set :=
  View.cover_of_tiledL (kernelRun0_A c i arg1 harg1 arg2 harg2 arg3 harg3 arg4 harg4 arg5 harg5 arg6 harg6 x0 x1 x2).2.1 S8x128.size (by sl_kernel_rfl) y

/-- What the run leaves in output 4's staging buffer: its pieces read back over junk. -/
def out0_A_4 (c : Dev nD) (i : grid0.Coords) (arg1 : Memref sig .tc .smem S2x128 .i32) (harg1 : arg1.IsWhole) (arg2 : Memref sig .tc .vmem S1x128 .i32) (harg2 : arg2.IsWhole) (arg3 : Memref sig .tc .vmem S128x64x128 .i32) (harg3 : arg3.IsWhole) (arg4 : Memref sig .tc .vmem S128x8x128 .i32) (harg4 : arg4.IsWhole) (arg5 : Memref sig .tc .vmem S128x128 .i32) (harg5 : arg5.IsWhole) (arg6 : Memref sig .tc .vmem S8x128x128 .i32) (harg6 : arg6.IsWhole)
    (x0 : Vec F S2x128 .i32) (x1 : Vec F S1x128 .i32) (x2 : Vec F S128x64x128 .i32) : Vec F S128x128 .i32 :=
  VO0_4.read (Elt F) (VO0_4.writes (Elt F) VO0_4.junk (kernelRun0_A c i arg1 harg1 arg2 harg2 arg3 harg3 arg4 harg4 arg5 harg5 arg6 harg6 x0 x1 x2).2.1)

/-! ## What the outputs hold after each point -/

/-- What the outputs' staging buffers hold after the body at point `t` (as a tuple, in window order): the run's contents at
    the point's memrefs and input blocks. -/
def outsAt0 (c : Dev nD) (t : Fin cfg0.N) : Vec F S128x8x128 .i32 × Vec F S128x128 .i32 :=
  (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t).1
    | ⟨4, _⟩ => (outsAt0 m c t).2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t).1 := by dsimp only [dats]
theorem after0_4 (c : Dev nD) (t : Fin cfg0.N) : (dats m 0 c).after 4 t = (outsAt0 m c t).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  unfold outsAt0
  unfold out0_A_3 out0_A_4; (try dsimp only)
  iintro ⟨⟨HS0, Hg⟩, Ho, ⟨%d0, H0⟩, ⟨%d1, H1⟩, ⟨%d2, H2⟩, ⟨%d3, H3⟩, ⟨%d4, H4⟩⟩
  iapply ((kernelRun0_A c (grid0.coords t) _ _ _ _ _ _ _ _ _ _ _ _ (iblk m c 0 t) (iblk m c 1 t) (iblk m c 2 t)).2.2 Set.univ _)
  isplitl [H0]; · iexact H0
  isplitl [H1]; · iexact H1
  isplitl [H2]; · iexact H2
  isplitl [H3]; · iexists _; iexact H3
  isplitl [H4]; · iexists _; iexact H4
  isplitl [HS0]; · iexact HS0
  iintro ⟨H0, H1, H2, ⟨%e3, H3⟩, ⟨%e4, H4⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_A_3 c _ _ _ _ _ _ _ _ _ _ _ _ _ _ _ _)
  unfold owns; iexists _; isplitr
  swap; · iexact H4
  ipureintro; exact View.read_writes_of_cover _ _ _ _ _ (cover0_A_4 c _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- The launch: every weakly fair run ends with every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every weakly fair run ends, each array of the pipeline at what the proof data give. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- Every weakly fair run ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v6_0) = (dats m 0 c).arrAt 3 cfg0.N :=
  (h c).1 3

/-- After the frame run, argument `main_arg0` is as launched: no window stages it. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- Every weakly fair run ends with the first result at the array of output window 3, the arguments unchanged. -/
theorem run_first : θ_run defs (onTc (τ := τ) (main (F := F))) ⟨m, fun _ => 0, ρ⟩ fun r => ∀ c : Dev nD,
      r.2.mem ((c : Thread nD τ).loc main_v6_0) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post3 m r h c, kept_main_arg0 m r h c, kept_main_arg1 m r h c,
      kept_main_arg2 m r h c⟩) (run_main m ρ)

end Cert.SelectBIdeal.Gen

end
-- ==== Proof.SelectTripsB.lean ====
/- The second selection's distance loop: its trips store what the first one's do. -/
module

public import proofs.«01_k».proof.Proof.Gen.SelectBIdeal.Loops
public import proofs.«01_k».proof.Proof.SelectTrips

@[expose] public section

set_option maxRecDepth 16384

noncomputable section

namespace Cert.SelectBIdeal.Hand

open Idealize.ShloMosaic Idealize.ShloMosaic.TcCoe Idealize.ShloMosaic.Tactic Cert.SelectBIdeal Cert.SelectBIdeal.Gen Idealize.SL.Sem Cert.Distance
open Cert.SelectIdeal.Hand (rowQ rowSlabs ld_query)

theorem trips_eq : k0_t1_loop.trips = 128 := by decide +kernel

variable (𝒱 : Variants) (c : Dev nD) (bd : Option 𝒱.V) (i : grid0.Coords)
  (arg1 : Memref sig .tc .smem S2x128 .i32) (harg1 : arg1.IsWhole) (arg2 : Memref sig .tc .vmem S1x128 .i32) (harg2 : arg2.IsWhole)
  (arg3 : Memref sig .tc .vmem S128x64x128 .i32) (harg3 : arg3.IsWhole) (arg4 : Memref sig .tc .vmem S128x8x128 .i32) (harg4 : arg4.IsWhole)
  (arg5 : Memref sig .tc .vmem S128x128 .i32) (harg5 : arg5.IsWhole) (arg6 : Memref sig .tc .vmem S8x128x128 .i32) (harg6 : arg6.IsWhole)
  (X1 : Vec Ideal S2x128 .i32) (X3 : Vec Ideal S128x64x128 .i32)

/-- The piece one trip stores. -/
theorem trip_pieces (k : Fin k0_t1_loop.trips) (hk : k.val < 128) :
    tripL_k0_t1 (F := Ideal) 𝒱 c bd i arg1 harg1 arg2 harg2 arg3 harg3 arg4 harg4 arg5 harg5 arg6 harg6 (harg1.unread X1) (harg3.unread X3) k
      = [⟨Rect.unit (k0_off11 k) S1x8x128.size (k0_off11_inb k), tile (rowQ X1 ⟨k.val, hk⟩) (rowSlabs X3 ⟨k.val, hk⟩)⟩] := by
  have h00 : View.ld X3 (Rect.unit (k0_off3 k) S1x8x128.size (k0_off3_inb k)) = rowSlabs X3 ⟨k.val, hk⟩ 0 0 := ld_slab _ _ X3 ⟨k.val, hk⟩ _ _ (k0_off3_eq k)
  have h01 : View.ld X3 (Rect.unit (k0_off4 k) S1x8x128.size (k0_off4_inb k)) = rowSlabs X3 ⟨k.val, hk⟩ 0 1 := ld_slab _ _ X3 ⟨k.val, hk⟩ _ _ (k0_off4_eq k)
  have h02 : View.ld X3 (Rect.unit (k0_off5 k) S1x8x128.size (k0_off5_inb k)) = rowSlabs X3 ⟨k.val, hk⟩ 0 2 := ld_slab _ _ X3 ⟨k.val, hk⟩ _ _ (k0_off5_eq k)
  have h03 : View.ld X3 (Rect.unit (k0_off6 k) S1x8x128.size (k0_off6_inb k)) = rowSlabs X3 ⟨k.val, hk⟩ 0 3 := ld_slab _ _ X3 ⟨k.val, hk⟩ _ _ (k0_off6_eq k)
  have h10 : View.ld X3 (Rect.unit (k0_off7 k) S1x8x128.size (k0_off7_inb k)) = rowSlabs X3 ⟨k.val, hk⟩ 1 0 := ld_slab _ _ X3 ⟨k.val, hk⟩ _ _ (k0_off7_eq k)
  have h11 : View.ld X3 (Rect.unit (k0_off8 k) S1x8x128.size (k0_off8_inb k)) = rowSlabs X3 ⟨k.val, hk⟩ 1 1 := ld_slab _ _ X3 ⟨k.val, hk⟩ _ _ (k0_off8_eq k)
  have h12 : View.ld X3 (Rect.unit (k0_off9 k) S1x8x128.size (k0_off9_inb k)) = rowSlabs X3 ⟨k.val, hk⟩ 1 2 := ld_slab _ _ X3 ⟨k.val, hk⟩ _ _ (k0_off9_eq k)
  have h13 : View.ld X3 (Rect.unit (k0_off10 k) S1x8x128.size (k0_off10_inb k)) = rowSlabs X3 ⟨k.val, hk⟩ 1 3 := ld_slab _ _ X3 ⟨k.val, hk⟩ _ _ (k0_off10_eq k)
  have hq0 : View.ld X1 (Rect.unit (k0_off1 k) S1x1.size (k0_off1_inb k)) (Shape.Idx.first (s := S1x1) (by decide)) = rowQ X1 ⟨k.val, hk⟩ 0 :=
    ld_query X1 ⟨k.val, hk⟩ 0 _ (k0_off1_inb k) (k0_off1_eq k) _
  have hq1 : View.ld X1 (Rect.unit (k0_off2 k) S1x1.size (k0_off2_inb k)) (Shape.Idx.first (s := S1x1) (by decide)) = rowQ X1 ⟨k.val, hk⟩ 1 :=
    ld_query X1 ⟨k.val, hk⟩ 1 _ (k0_off2_inb k) (k0_off2_eq k) _
  unfold tile
  rw [← hq0, ← hq1, ← h00, ← h01, ← h02, ← h03, ← h10, ← h11, ← h12, ← h13]
  unfold tripL_k0_t1 trip_k0_t1
  dsimp only
  sl_unfold_words
  simp only [View.readAt_eq_ld, harg1.read_unread, harg3.read_unread]
  rfl

theorem trips : Slabs (fun n => pb_k0_t1 (F := Ideal) 𝒱 c bd i arg1 harg1 arg2 harg2 arg3 harg3 arg4 harg4 arg5 harg5 arg6 harg6 (harg1.unread X1) (harg3.unread X3) n)
    (fun k => tile (rowQ X1 k) (rowSlabs X3 k)) :=
  ⟨rfl, fun k => by
    have hk : k.val < k0_t1_loop.trips := by rw [trips_eq]; exact k.isLt
    refine ⟨_, k0_off11_inb ⟨k.val, hk⟩, k0_off11_eq ⟨k.val, hk⟩, ?_⟩
    have h := pb_k0_t1_succ (F := Ideal) 𝒱 c bd i arg1 harg1 arg2 harg2 arg3 harg3 arg4 harg4 arg5 harg5 arg6 harg6 (harg1.unread X1) (harg3.unread X3) ⟨k.val, hk⟩
    rw [trip_pieces (k := ⟨k.val, hk⟩) (hk := k.isLt)] at h
    exact h⟩

end Cert.SelectBIdeal.Hand

end
-- ==== Proof.SelectReadsB.lean ====
/- What the second selection's windows read, of its arguments. -/
module

public import proofs.«01_k».proof.Proof.Gen.SelectBIdeal.Frame.Runs
public import proofs.«01_k».proof.Proof.SelectTripsB

@[expose] public section

set_option maxRecDepth 16384

noncomputable section

namespace Cert.SelectBIdeal.Hand

open Idealize.ShloMosaic Idealize.ShloMosaic.TcCoe Idealize.ShloMosaic.Tactic Cert.SelectBIdeal Cert.SelectBIdeal.Gen Idealize.SL.Sem Cert.Distance

variable (m : (ℓ : Loc nD τ sig) → Buf (Elt Ideal) ℓ)

/-- The block index of every window at every grid point. -/
theorem idx : ∀ t : Fin cfg0.N, (win0_0.index t 0 = 0 ∧ win0_0.index t 1 = t.val + 4) ∧ (win0_1.index t 0 = 0 ∧ win0_1.index t 1 = t.val + 4)
    ∧ (win0_2.index t 0 = t.val + 4 ∧ win0_2.index t 1 = 0 ∧ win0_2.index t 2 = 0)
    ∧ (win0_3.index t 0 = t.val ∧ win0_3.index t 1 = 0 ∧ win0_3.index t 2 = 0) :=
  (by decide +kernel : ∀ t : Fin grid0.N, _)

theorem read_q (c : Dev nD) (t : Fin cfg0.N) (h : Fin 2) (k : Fin 128) :
    iblk m c 0 t (ix2 h k) = m ((c : Thread nD τ).loc main_arg0) (ix2 (⟨512 + (128 * t.val + k.val), by have : t.val < 4 := t.isLt; omega⟩ : Fin 1536) h) := by
  blk_ext! [iblk, V, idx t]

theorem read_sig (c : Dev nD) (t : Fin cfg0.N) (k : Fin 128) (r : Fin 64) (l : Fin 128) :
    iblk m c 2 t (ix3 k r l) = m ((c : Thread nD τ).loc main_arg1)
      (ix3 (⟨512 + (128 * t.val + k.val), by have : t.val < 4 := t.isLt; omega⟩ : Fin 1536) (⟨128 * (r.val / 2) + l.val, by omega⟩ : Fin 4096) (⟨r.val % 2, by omega⟩ : Fin 2)) := by
  blk_ext! [iblk, V, idx t]

end Cert.SelectBIdeal.Hand

end
-- ==== Proof.SelectArraysB.lean ====
/- The packed distances the second selection leaves, of its arguments. -/
module

public import proofs.«01_k».proof.Proof.SelectFrameB
public import proofs.«01_k».proof.Proof.SelectReadsB

@[expose] public section

set_option maxRecDepth 16384

noncomputable section

namespace Cert.SelectBIdeal.Hand

open Idealize.ShloMosaic Idealize.ShloMosaic.TcCoe Idealize.ShloMosaic.Tactic Cert.SelectBIdeal Cert.SelectBIdeal.Gen Idealize.SL.Sem Cert.Distance
open Cert.SelectIdeal.Hand (rowQ rowSlabs stack_apply)

section
variable (c : Dev nD) (i : grid0.Coords)
  (arg1 : Memref sig .tc .smem S2x128 .i32) (harg1 : arg1.IsWhole) (arg2 : Memref sig .tc .vmem S1x128 .i32) (harg2 : arg2.IsWhole)
  (arg3 : Memref sig .tc .vmem S128x64x128 .i32) (harg3 : arg3.IsWhole) (arg4 : Memref sig .tc .vmem S128x8x128 .i32) (harg4 : arg4.IsWhole)
  (arg5 : Memref sig .tc .vmem S128x128 .i32) (harg5 : arg5.IsWhole) (arg6 : Memref sig .tc .vmem S8x128x128 .i32) (harg6 : arg6.IsWhole)
  (X1 : Vec Ideal S2x128 .i32) (X2 : Vec Ideal S1x128 .i32) (X3 : Vec Ideal S128x64x128 .i32)

/-- The block of packed distances. -/
theorem out3_eq : out0_A_3 (F := Ideal) c i arg1 harg1 arg2 harg2 arg3 harg3 arg4 harg4 arg5 harg5 arg6 harg6 X1 X2 X3
    = stack (Val := Elt Ideal) (e := .i32) (fun k => tile (rowQ X1 k) (rowSlabs X3 k)) := by
  unfold out0_A_3
  rw [View.read_writes_eq_canon _ _ _ (cover0_A_3 c i arg1 harg1 arg2 harg2 arg3 harg3 arg4 harg4 arg5 harg5 arg6 harg6 X1 X2 X3)]
  exact (trips Variants.none c none i arg1 harg1 arg2 harg2 arg3 harg3 arg4 harg4 arg5 harg5 arg6 harg6 X1 X3).canon

end

variable (m : (ℓ : Loc nD τ sig) → Buf (Elt Ideal) ℓ)

/-- The packed distances, of the two arguments. -/
abbrev dist (c : Dev nD) : (⟨3, ![512, 8, 128]⟩ : Shape).Idx → BitVec 32 :=
  distArr (fun b k => m ((c : Thread nD τ).loc main_arg0) (ix2 (⟨512 + b.val, by omega⟩ : Fin 1536) k))
    (fun b n k => m ((c : Thread nD τ).loc main_arg1) (ix3 (⟨512 + b.val, by omega⟩ : Fin 1536) n k))

/-- An item's signature words, where the block holds them. -/
theorem read_item (c : Dev nD) (t : Fin cfg0.N) (k : Fin 128) (b : Fin 4) (s : Fin 8) (l : Fin 128) (h : Fin 2)
    (hr : 2 * (8 * b.val + 4 * (s.val % 2) + s.val / 2) + h.val < 64) :
    iblk m c 2 t (ix3 k (⟨2 * (8 * b.val + 4 * (s.val % 2) + s.val / 2) + h.val, hr⟩ : Fin 64) l) = m ((c : Thread nD τ).loc main_arg1)
      (ix3 (⟨512 + (128 * t.val + k.val), by have : t.val < 4 := t.isLt; omega⟩ : Fin 1536) (item b s l) h) := by
  refine (read_sig m c t k _ l).trans (congrArg (m ((c : Thread nD τ).loc main_arg1)) ?_)
  refine congrArg₂ (ix3 (n0 := 1536) (n1 := 4096) (n2 := 2) _) (Fin.ext ?_) (Fin.ext ?_)
  · show 128 * ((2 * (8 * b.val + 4 * (s.val % 2) + s.val / 2) + h.val) / 2) + l.val = 128 * (8 * b.val + 4 * (s.val % 2) + s.val / 2) + l.val
    omega
  · show (2 * (8 * b.val + 4 * (s.val % 2) + s.val / 2) + h.val) % 2 = h.val
    omega

theorem block3 (c : Dev nD) (t : Fin cfg0.N) (k : Fin 128) (s : Fin 8) (l : Fin 128) :
    ((dats m 0 c).after 3 t : Vec Ideal S128x8x128 .i32) (ix3 k s l)
      = dist m c (ix3 (⟨128 * t.val + k.val, by have : t.val < 4 := t.isLt; omega⟩ : Fin 512) s l) := by
  have e := congrFun (after0_3 m c t) (ix3 k s l)
  refine e.trans ?_
  unfold outsAt0
  refine (congrFun (out3_eq c (grid0.coords t) (ms0_0 t) (hs0_0 t) (ms0_1 t) (hs0_1 t) (ms0_2 t) (hs0_2 t) (ms0_3 t) (hs0_3 t)
    (ms0_4 t) (hs0_4 t) scM0_0 (Memref.isWhole_whole _) (iblk m c 0 t) (iblk m c 1 t) (iblk m c 2 t)) (ix3 k s l)).trans ?_
  refine (stack_apply (iblk m c 0 t) (iblk m c 2 t) k s l).trans ?_
  refine congrArg packed (funext fun b => ?_)
  exact congrArg₂ IntOp.addi (congrArg₂ bits (read_item m c t k b s l 0 _) (read_q m c t 0 k))
    (congrArg₂ bits (read_item m c t k b s l 1 _) (read_q m c t 1 k))

/-- The packed distances after the run. -/
theorem arr3 (c : Dev nD) : (dats m 0 c).arrAt 3 cfg0.N = dist m c := by
  have key := block3 m c
  generalize dist m c = A at key ⊢
  refine (dats m 0 c).arrAt_eq_of_covers 3 _ (by decide +kernel) fun t hf y => ?_
  blk_simp
  obtain ⟨k, s, l, rfl⟩ : ∃ (k : Fin 128) (s : Fin 8) (l : Fin 128), y = ix3 k s l := ⟨_, _, _, eq_ix3 y⟩
  refine (key t k s l).trans (congrArg A ?_)
  blk_ext [idx t]

end Cert.SelectBIdeal.Hand

end
-- ==== Proof.SelectSameB.lean ====
/-
   The select program as the kernel runs it and the program at the ideal instance are one text, of which
   no step rounds: a run of the one is a run of the other, at any values.
-/
module

public import proofs.«01_k».proof.Proof.Gen.SelectB
public import proofs.«01_k».proof.Proof.SelectFrameB
public import Idealize.ShloMosaic.Lib.Tactic

@[expose] public section

set_option maxRecDepth 16384

noncomputable section

namespace Cert.SelectB.Hand

open Idealize Idealize.ShloMosaic Idealize.ShloMosaic.TcCoe Idealize.ShloMosaic.Tactic Idealize.SL.Sem

/-- Every weakly fair run of the program ends, its arguments unchanged and every counter at zero. -/
def frames (F : FTy → Type) [FloatOps F] : Prop :=
  ∀ (m : (ℓ : Loc Cert.SelectB.nD Cert.SelectB.τ Cert.SelectB.sig) → Buf (Elt F) ℓ) (g : Dev Cert.SelectB.nD → PrngReg),
    θ_run (Cert.SelectB.defs (F := F)) (onTc (τ := Cert.SelectB.τ) (Cert.SelectB.main (F := F))) ⟨m, fun _ => 0, g⟩ (fun r => (∀ c : Dev Cert.SelectB.nD,
      r.2.mem ((c.tc : Thread Cert.SelectB.nD Cert.SelectB.τ).loc Cert.SelectB.main_arg0) = m ((c.tc : Thread Cert.SelectB.nD Cert.SelectB.τ).loc Cert.SelectB.main_arg0)
      ∧ r.2.mem ((c.tc : Thread Cert.SelectB.nD Cert.SelectB.τ).loc Cert.SelectB.main_arg1) = m ((c.tc : Thread Cert.SelectB.nD Cert.SelectB.τ).loc Cert.SelectB.main_arg1)
      ∧ r.2.mem ((c.tc : Thread Cert.SelectB.nD Cert.SelectB.τ).loc Cert.SelectB.main_arg2) = m ((c.tc : Thread Cert.SelectB.nD Cert.SelectB.τ).loc Cert.SelectB.main_arg2))
      ∧ r.2.sem = fun _ => 0)

/-- The same of the program the algebraic claim is about. -/
def framesIdeal (F : FTy → Type) [FloatOps F] : Prop :=
  ∀ (m : (ℓ : Loc Cert.SelectBIdeal.nD Cert.SelectBIdeal.τ Cert.SelectBIdeal.sig) → Buf (Elt F) ℓ) (g : Dev Cert.SelectBIdeal.nD → PrngReg),
    θ_run (Cert.SelectBIdeal.defs (F := F)) (onTc (τ := Cert.SelectBIdeal.τ) (Cert.SelectBIdeal.main (F := F))) ⟨m, fun _ => 0, g⟩ (fun r => (∀ c : Dev Cert.SelectBIdeal.nD,
      r.2.mem ((c.tc : Thread Cert.SelectBIdeal.nD Cert.SelectBIdeal.τ).loc Cert.SelectBIdeal.main_arg0) = m ((c.tc : Thread Cert.SelectBIdeal.nD Cert.SelectBIdeal.τ).loc Cert.SelectBIdeal.main_arg0)
      ∧ r.2.mem ((c.tc : Thread Cert.SelectBIdeal.nD Cert.SelectBIdeal.τ).loc Cert.SelectBIdeal.main_arg1) = m ((c.tc : Thread Cert.SelectBIdeal.nD Cert.SelectBIdeal.τ).loc Cert.SelectBIdeal.main_arg1)
      ∧ r.2.mem ((c.tc : Thread Cert.SelectBIdeal.nD Cert.SelectBIdeal.τ).loc Cert.SelectBIdeal.main_arg2) = m ((c.tc : Thread Cert.SelectBIdeal.nD Cert.SelectBIdeal.τ).loc Cert.SelectBIdeal.main_arg2))
      ∧ r.2.sem = fun _ => 0)

/-- The two statements are one. -/
theorem frames_eq (F : FTy → Type) [FloatOps F] : framesIdeal F = frames F := by sl_kernel_rfl

/-- The program's frame. -/
theorem frame (F : FTy → Type) [FloatOps F] : frames F := cast (frames_eq F) fun m g => Cert.SelectBIdeal.Gen.frame m g

end Cert.SelectB.Hand

end
-- ==== Proof.SelectRunC.lean ====
/-
   The third select call's body run once from its first operation to its last: what its stores leave in the
   two output buffers.  Each printed part is a theorem of its own.
-/
module

public import proofs.«01_k».proof.Proof.Gen.SelectCIdeal.Frame.Runs

@[expose] public section

set_option maxRecDepth 65536

noncomputable section

namespace Cert.SelectCIdeal

/-! The parts that hold the body's counted loops are their skeletons whatever the floats are.  (The generated
    equations ask for the floats' operations, which none of these parts has.) -/

theorem k0_part16_eq_skeleton {F : Idealize.ShloMosaic.FTy → Type} :
    k0_part16 (F := F) = Gen.k0_part16_skel (F := F) := rfl

theorem k0_part75_eq_skeleton {F : Idealize.ShloMosaic.FTy → Type} :
    k0_part75 (F := F) = Gen.k0_part75_skel (F := F) := rfl

theorem k0_part76_eq_skeleton {F : Idealize.ShloMosaic.FTy → Type} :
    k0_part76 (F := F) = Gen.k0_part76_skel (F := F) := rfl

theorem k0_part77_eq_skeleton {F : Idealize.ShloMosaic.FTy → Type} :
    k0_part77 (F := F) = Gen.k0_part77_skel (F := F) := rfl

theorem k0_part78_eq_skeleton {F : Idealize.ShloMosaic.FTy → Type} :
    k0_part78 (F := F) = Gen.k0_part78_skel (F := F) := rfl

end Cert.SelectCIdeal

namespace Cert.SelectCIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- the term is large
set_option backward.proofsInPublic true in
set_option maxHeartbeats 4144000 in
/-- What the body leaves in each output's buffer, as the list of its stores (last first), together with the
    proof that it runs: from the inputs at their contents and the outputs and the scratch at anything, to the
    inputs as they were and each output's buffer with those stores made. -/
noncomputable def kernelRun0_A (c : Dev nD) (i : grid0.Coords) (arg1 : Memref sig .tc .smem S2x128 .i32) (harg1 : arg1.IsWhole) (arg2 : Memref sig .tc .vmem S1x128 .i32) (harg2 : arg2.IsWhole) (arg3 : Memref sig .tc .vmem S128x64x128 .i32) (harg3 : arg3.IsWhole) (arg4 : Memref sig .tc .vmem S128x8x128 .i32) (harg4 : arg4.IsWhole) (arg5 : Memref sig .tc .vmem S128x128 .i32) (harg5 : arg5.IsWhole) (arg6 : Memref sig .tc .vmem S8x128x128 .i32) (harg6 : arg6.IsWhole)
    (x0 : Vec F S2x128 .i32) (x1 : Vec F S1x128 .i32) (x2 : Vec F S128x64x128 .i32) :
    Σ' (L3 : List (View.Piece (Elt F) S128x8x128 .i32)), { L4 : List (View.Piece (Elt F) S128x128 .i32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ d, owns (c : Thread nD τ) arg6 fullShare d)) -∗ K ⟨⟩))
          ⊢ wp frame (wpE (defs₀ (F := F)) Variants.none c none) E (cc0_select2 i arg1 harg1 arg2 harg2 arg3 harg3 arg4 harg4 arg5 harg5 arg6 harg6) K } := by
  refine ⟨?_, ?_, fun E K => ?run⟩
  case run =>
    simp only [cc0_select2_eq_skeleton]; unfold cc0_select2_skel
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
    obtain rfl := harg1.eq_unread hf0; obtain rfl := harg2.eq_unread hf1; obtain rfl := harg3.eq_unread hf2
    have hrd0 : ∀ (𝒱 : Variants) (c : Dev nD) (bd : Option 𝒱.V) (i : grid0.Coords) (arg1 : Memref sig .tc .smem S2x128 .i32) (harg1 : arg1.IsWhole) (arg2 : Memref sig .tc .vmem S1x128 .i32) (harg2 : arg2.IsWhole) (arg3 : Memref sig .tc .vmem S128x64x128 .i32) (harg3 : arg3.IsWhole) (arg4 : Memref sig .tc .vmem S128x8x128 .i32) (harg4 : arg4.IsWhole) (arg5 : Memref sig .tc .vmem S128x128 .i32) (harg5 : arg5.IsWhole) (arg6 : Memref sig .tc .vmem S8x128x128 .i32) (harg6 : arg6.IsWhole) (X_arg1 : BufTy.Contents (Elt F) arg1.view.ty) (X_arg3 : BufTy.Contents (Elt F) arg3.view.ty) (hrdF : BufTy.Contents (Elt F) arg4.view.ty) (hrdB : LoadRect S128x8x128), arg4.view.readAt (Elt F) hrdB (arg4.view.writes (Elt F) hrdF (pb_k0_t1 (F := F) 𝒱 c bd i arg1 harg1 arg2 harg2 arg3 harg3 arg4 harg4 arg5 harg5 arg6 harg6 X_arg1 X_arg3 (Scf.trips k0_t1_loop.lb k0_t1_loop.ub k0_t1_loop.st))) = arg4.view.readCov (pb_k0_t1 (F := F) 𝒱 c bd i arg1 harg1 arg2 harg2 arg3 harg3 arg4 harg4 arg5 harg5 arg6 harg6 X_arg1 X_arg3 (Scf.trips k0_t1_loop.lb k0_t1_loop.ub k0_t1_loop.st)) hrdB := fun 𝒱 c bd i arg1 harg1 arg2 harg2 arg3 harg3 arg4 harg4 arg5 harg5 arg6 harg6 X_arg1 X_arg3 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 X_arg1 X_arg3 (Scf.trips k0_t1_loop.lb k0_t1_loop.ub k0_t1_loop.st)) S1x8x128.size (by sl_kernel_rfl) (hrdB.idx hrdJ))
    sl_exec_parts
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _, _; isplitr; swap; · iexact HS0
    ipureintro; rfl

end Cert.SelectCIdeal.Gen

end
-- ==== Proof.SelectFrameC.lean ====
/-
   The run of the third select call's whole grid, from the run of its body (`SelectRunC`): it ends at every
   weakly fair schedule, leaves the arguments as they were, and each output at the blocks the grid
   points wrote.
-/
module

public import proofs.«01_k».proof.Proof.SelectRunC
public import Idealize.ShloMosaic.Lib.Pipeline.Value
public import Idealize.ShloMosaic.Lib.Claim

@[expose] public section

set_option maxRecDepth 16384

noncomputable section

namespace Cert.SelectCIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- The run's pieces for output 3 tile its block, so they cover it. -/
theorem cover0_A_3 (c : Dev nD) (i : grid0.Coords) (arg1 : Memref sig .tc .smem S2x128 .i32) (harg1 : arg1.IsWhole) (arg2 : Memref sig .tc .vmem S1x128 .i32) (harg2 : arg2.IsWhole) (arg3 : Memref sig .tc .vmem S128x64x128 .i32) (harg3 : arg3.IsWhole) (arg4 : Memref sig .tc .vmem S128x8x128 .i32) (harg4 : arg4.IsWhole) (arg5 : Memref sig .tc .vmem S128x128 .i32) (harg5 : arg5.IsWhole) (arg6 : Memref sig .tc .vmem S8x128x128 .i32) (harg6 : arg6.IsWhole)
    (x0 : Vec F S2x128 .i32) (x1 : Vec F S1x128 .i32) (x2 : Vec F S128x64x128 .i32) (y : S128x8x128.Idx) :
    ∃ pc ∈ (kernelRun0_A c i arg1 harg1 arg2 harg2 arg3 harg3 arg4 harg4 arg5 harg5 arg6 harg6 x0 x1 x2).1, y ∈ pc.1.set :=
  View.cover_of_tiledL (kernelRun0_A c i arg1 harg1 arg2 harg2 arg3 harg3 arg4 harg4 arg5 harg5 arg6 harg6 x0 x1 x2).1 S1x8x128.size (by sl_kernel_rfl) y

/-- What the run leaves in output 3's staging buffer: its pieces read back over junk. -/
def out0_A_3 (c : Dev nD) (i : grid0.Coords) (arg1 : Memref sig .tc .smem S2x128 .i32) (harg1 : arg1.IsWhole) (arg2 : Memref sig .tc .vmem S1x128 .i32) (harg2 : arg2.IsWhole) (arg3 : Memref sig .tc .vmem S128x64x128 .i32) (harg3 : arg3.IsWhole) (arg4 : Memref sig .tc .vmem S128x8x128 .i32) (harg4 : arg4.IsWhole) (arg5 : Memref sig .tc .vmem S128x128 .i32) (harg5 : arg5.IsWhole) (arg6 : Memref sig .tc .vmem S8x128x128 .i32) (harg6 : arg6.IsWhole)
    (x0 : Vec F S2x128 .i32) (x1 : Vec F S1x128 .i32) (x2 : Vec F S128x64x128 .i32) : Vec F S128x8x128 .i32 :=
  VO0_3.read (Elt F) (VO0_3.writes (Elt F) VO0_3.junk (kernelRun0_A c i arg1 harg1 arg2 harg2 arg3 harg3 arg4 harg4 arg5 harg5 arg6 harg6 x0 x1 x2).1)

/-- The run's pieces for output 4 tile its block, so they cover it. -/
theorem cover0_A_4 (c : Dev nD) (i : grid0.Coords) (arg1 : Memref sig .tc .smem S2x128 .i32) (harg1 : arg1.IsWhole) (arg2 : Memref sig .tc .vmem S1x128 .i32) (harg2 : arg2.IsWhole) (arg3 : Memref sig .tc .vmem S128x64x128 .i32) (harg3 : arg3.IsWhole) (arg4 : Memref sig .tc .vmem S128x8x128 .i32) (harg4 : arg4.IsWhole) (arg5 : Memref sig .tc .vmem S128x128 .i32) (harg5 : arg5.IsWhole) (arg6 : Memref sig .tc .vmem S8x128x128 .i32) (harg6 : arg6.IsWhole)
    (x0 : Vec F S2x128 .i32) (x1 : Vec F S1x128 .i32) (x2 : Vec F S128x64x128 .i32) (y : S128x128.Idx) :
    ∃ pc ∈ (kernelRun0_A c i arg1 harg1 arg2 harg2 arg3 harg3 arg4 harg4 arg5 harg5 arg6 harg6 x0 x1 x2).2.1, y ∈ pc.1.set :=
  View.cover_of_tiledL (kernelRun0_A c i arg1 harg1 arg2 harg2 arg3 harg3 arg4 harg4 arg5 harg5 arg6 harg6 x0 x1 x2).2.1 S8x128.size (by sl_kernel_rfl) y

/-- What the run leaves in output 4's staging buffer: its pieces read back over junk. -/
def out0_A_4 (c : Dev nD) (i : grid0.Coords) (arg1 : Memref sig .tc .smem S2x128 .i32) (harg1 : arg1.IsWhole) (arg2 : Memref sig .tc .vmem S1x128 .i32) (harg2 : arg2.IsWhole) (arg3 : Memref sig .tc .vmem S128x64x128 .i32) (harg3 : arg3.IsWhole) (arg4 : Memref sig .tc .vmem S128x8x128 .i32) (harg4 : arg4.IsWhole) (arg5 : Memref sig .tc .vmem S128x128 .i32) (harg5 : arg5.IsWhole) (arg6 : Memref sig .tc .vmem S8x128x128 .i32) (harg6 : arg6.IsWhole)
    (x0 : Vec F S2x128 .i32) (x1 : Vec F S1x128 .i32) (x2 : Vec F S128x64x128 .i32) : Vec F S128x128 .i32 :=
  VO0_4.read (Elt F) (VO0_4.writes (Elt F) VO0_4.junk (kernelRun0_A c i arg1 harg1 arg2 harg2 arg3 harg3 arg4 harg4 arg5 harg5 arg6 harg6 x0 x1 x2).2.1)

/-! ## What the outputs hold after each point -/

/-- What the outputs' staging buffers hold after the body at point `t` (as a tuple, in window order): the run's contents at
    the point's memrefs and input blocks. -/
def outsAt0 (c : Dev nD) (t : Fin cfg0.N) : Vec F S128x8x128 .i32 × Vec F S128x128 .i32 :=
  (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t).1
    | ⟨4, _⟩ => (outsAt0 m c t).2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t).1 := by dsimp only [dats]
theorem after0_4 (c : Dev nD) (t : Fin cfg0.N) : (dats m 0 c).after 4 t = (outsAt0 m c t).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  unfold outsAt0
  unfold out0_A_3 out0_A_4; (try dsimp only)
  iintro ⟨⟨HS0, Hg⟩, Ho, ⟨%d0, H0⟩, ⟨%d1, H1⟩, ⟨%d2, H2⟩, ⟨%d3, H3⟩, ⟨%d4, H4⟩⟩
  iapply ((kernelRun0_A c (grid0.coords t) _ _ _ _ _ _ _ _ _ _ _ _ (iblk m c 0 t) (iblk m c 1 t) (iblk m c 2 t)).2.2 Set.univ _)
  isplitl [H0]; · iexact H0
  isplitl [H1]; · iexact H1
  isplitl [H2]; · iexact H2
  isplitl [H3]; · iexists _; iexact H3
  isplitl [H4]; · iexists _; iexact H4
  isplitl [HS0]; · iexact HS0
  iintro ⟨H0, H1, H2, ⟨%e3, H3⟩, ⟨%e4, H4⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_A_3 c _ _ _ _ _ _ _ _ _ _ _ _ _ _ _ _)
  unfold owns; iexists _; isplitr
  swap; · iexact H4
  ipureintro; exact View.read_writes_of_cover _ _ _ _ _ (cover0_A_4 c _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- The launch: every weakly fair run ends with every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every weakly fair run ends, each array of the pipeline at what the proof data give. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- Every weakly fair run ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v6_0) = (dats m 0 c).arrAt 3 cfg0.N :=
  (h c).1 3

/-- After the frame run, argument `main_arg0` is as launched: no window stages it. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- Every weakly fair run ends with the first result at the array of output window 3, the arguments unchanged. -/
theorem run_first : θ_run defs (onTc (τ := τ) (main (F := F))) ⟨m, fun _ => 0, ρ⟩ fun r => ∀ c : Dev nD,
      r.2.mem ((c : Thread nD τ).loc main_v6_0) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post3 m r h c, kept_main_arg0 m r h c, kept_main_arg1 m r h c,
      kept_main_arg2 m r h c⟩) (run_main m ρ)

end Cert.SelectCIdeal.Gen

end
-- ==== Proof.SelectTripsC.lean ====
/- The third selection's distance loop: its trips store what the first one's do. -/
module

public import proofs.«01_k».proof.Proof.Gen.SelectCIdeal.Loops
public import proofs.«01_k».proof.Proof.SelectTrips

@[expose] public section

set_option maxRecDepth 16384

noncomputable section

namespace Cert.SelectCIdeal.Hand

open Idealize.ShloMosaic Idealize.ShloMosaic.TcCoe Idealize.ShloMosaic.Tactic Cert.SelectCIdeal Cert.SelectCIdeal.Gen Idealize.SL.Sem Cert.Distance
open Cert.SelectIdeal.Hand (rowQ rowSlabs ld_query)

theorem trips_eq : k0_t1_loop.trips = 128 := by decide +kernel

variable (𝒱 : Variants) (c : Dev nD) (bd : Option 𝒱.V) (i : grid0.Coords)
  (arg1 : Memref sig .tc .smem S2x128 .i32) (harg1 : arg1.IsWhole) (arg2 : Memref sig .tc .vmem S1x128 .i32) (harg2 : arg2.IsWhole)
  (arg3 : Memref sig .tc .vmem S128x64x128 .i32) (harg3 : arg3.IsWhole) (arg4 : Memref sig .tc .vmem S128x8x128 .i32) (harg4 : arg4.IsWhole)
  (arg5 : Memref sig .tc .vmem S128x128 .i32) (harg5 : arg5.IsWhole) (arg6 : Memref sig .tc .vmem S8x128x128 .i32) (harg6 : arg6.IsWhole)
  (X1 : Vec Ideal S2x128 .i32) (X3 : Vec Ideal S128x64x128 .i32)

/-- The piece one trip stores. -/
theorem trip_pieces (k : Fin k0_t1_loop.trips) (hk : k.val < 128) :
    tripL_k0_t1 (F := Ideal) 𝒱 c bd i arg1 harg1 arg2 harg2 arg3 harg3 arg4 harg4 arg5 harg5 arg6 harg6 (harg1.unread X1) (harg3.unread X3) k
      = [⟨Rect.unit (k0_off11 k) S1x8x128.size (k0_off11_inb k), tile (rowQ X1 ⟨k.val, hk⟩) (rowSlabs X3 ⟨k.val, hk⟩)⟩] := by
  have h00 : View.ld X3 (Rect.unit (k0_off3 k) S1x8x128.size (k0_off3_inb k)) = rowSlabs X3 ⟨k.val, hk⟩ 0 0 := ld_slab _ _ X3 ⟨k.val, hk⟩ _ _ (k0_off3_eq k)
  have h01 : View.ld X3 (Rect.unit (k0_off4 k) S1x8x128.size (k0_off4_inb k)) = rowSlabs X3 ⟨k.val, hk⟩ 0 1 := ld_slab _ _ X3 ⟨k.val, hk⟩ _ _ (k0_off4_eq k)
  have h02 : View.ld X3 (Rect.unit (k0_off5 k) S1x8x128.size (k0_off5_inb k)) = rowSlabs X3 ⟨k.val, hk⟩ 0 2 := ld_slab _ _ X3 ⟨k.val, hk⟩ _ _ (k0_off5_eq k)
  have h03 : View.ld X3 (Rect.unit (k0_off6 k) S1x8x128.size (k0_off6_inb k)) = rowSlabs X3 ⟨k.val, hk⟩ 0 3 := ld_slab _ _ X3 ⟨k.val, hk⟩ _ _ (k0_off6_eq k)
  have h10 : View.ld X3 (Rect.unit (k0_off7 k) S1x8x128.size (k0_off7_inb k)) = rowSlabs X3 ⟨k.val, hk⟩ 1 0 := ld_slab _ _ X3 ⟨k.val, hk⟩ _ _ (k0_off7_eq k)
  have h11 : View.ld X3 (Rect.unit (k0_off8 k) S1x8x128.size (k0_off8_inb k)) = rowSlabs X3 ⟨k.val, hk⟩ 1 1 := ld_slab _ _ X3 ⟨k.val, hk⟩ _ _ (k0_off8_eq k)
  have h12 : View.ld X3 (Rect.unit (k0_off9 k) S1x8x128.size (k0_off9_inb k)) = rowSlabs X3 ⟨k.val, hk⟩ 1 2 := ld_slab _ _ X3 ⟨k.val, hk⟩ _ _ (k0_off9_eq k)
  have h13 : View.ld X3 (Rect.unit (k0_off10 k) S1x8x128.size (k0_off10_inb k)) = rowSlabs X3 ⟨k.val, hk⟩ 1 3 := ld_slab _ _ X3 ⟨k.val, hk⟩ _ _ (k0_off10_eq k)
  have hq0 : View.ld X1 (Rect.unit (k0_off1 k) S1x1.size (k0_off1_inb k)) (Shape.Idx.first (s := S1x1) (by decide)) = rowQ X1 ⟨k.val, hk⟩ 0 :=
    ld_query X1 ⟨k.val, hk⟩ 0 _ (k0_off1_inb k) (k0_off1_eq k) _
  have hq1 : View.ld X1 (Rect.unit (k0_off2 k) S1x1.size (k0_off2_inb k)) (Shape.Idx.first (s := S1x1) (by decide)) = rowQ X1 ⟨k.val, hk⟩ 1 :=
    ld_query X1 ⟨k.val, hk⟩ 1 _ (k0_off2_inb k) (k0_off2_eq k) _
  unfold tile
  rw [← hq0, ← hq1, ← h00, ← h01, ← h02, ← h03, ← h10, ← h11, ← h12, ← h13]
  unfold tripL_k0_t1 trip_k0_t1
  dsimp only
  sl_unfold_words
  simp only [View.readAt_eq_ld, harg1.read_unread, harg3.read_unread]
  rfl

theorem trips : Slabs (fun n => pb_k0_t1 (F := Ideal) 𝒱 c bd i arg1 harg1 arg2 harg2 arg3 harg3 arg4 harg4 arg5 harg5 arg6 harg6 (harg1.unread X1) (harg3.unread X3) n)
    (fun k => tile (rowQ X1 k) (rowSlabs X3 k)) :=
  ⟨rfl, fun k => by
    have hk : k.val < k0_t1_loop.trips := by rw [trips_eq]; exact k.isLt
    refine ⟨_, k0_off11_inb ⟨k.val, hk⟩, k0_off11_eq ⟨k.val, hk⟩, ?_⟩
    have h := pb_k0_t1_succ (F := Ideal) 𝒱 c bd i arg1 harg1 arg2 harg2 arg3 harg3 arg4 harg4 arg5 harg5 arg6 harg6 (harg1.unread X1) (harg3.unread X3) ⟨k.val, hk⟩
    rw [trip_pieces (k := ⟨k.val, hk⟩) (hk := k.isLt)] at h
    exact h⟩

end Cert.SelectCIdeal.Hand

end
-- ==== Proof.SelectReadsC.lean ====
/- What the third selection's windows read, of its arguments. -/
module

public import proofs.«01_k».proof.Proof.Gen.SelectCIdeal.Frame.Runs
public import proofs.«01_k».proof.Proof.SelectTripsC

@[expose] public section

set_option maxRecDepth 16384

noncomputable section

namespace Cert.SelectCIdeal.Hand

open Idealize.ShloMosaic Idealize.ShloMosaic.TcCoe Idealize.ShloMosaic.Tactic Cert.SelectCIdeal Cert.SelectCIdeal.Gen Idealize.SL.Sem Cert.Distance

variable (m : (ℓ : Loc nD τ sig) → Buf (Elt Ideal) ℓ)

/-- The block index of every window at every grid point. -/
theorem idx : ∀ t : Fin cfg0.N, (win0_0.index t 0 = 0 ∧ win0_0.index t 1 = t.val + 8) ∧ (win0_1.index t 0 = 0 ∧ win0_1.index t 1 = t.val + 8)
    ∧ (win0_2.index t 0 = t.val + 8 ∧ win0_2.index t 1 = 0 ∧ win0_2.index t 2 = 0)
    ∧ (win0_3.index t 0 = t.val ∧ win0_3.index t 1 = 0 ∧ win0_3.index t 2 = 0) :=
  (by decide +kernel : ∀ t : Fin grid0.N, _)

theorem read_q (c : Dev nD) (t : Fin cfg0.N) (h : Fin 2) (k : Fin 128) :
    iblk m c 0 t (ix2 h k) = m ((c : Thread nD τ).loc main_arg0) (ix2 (⟨1024 + (128 * t.val + k.val), by have : t.val < 4 := t.isLt; omega⟩ : Fin 1536) h) := by
  blk_ext! [iblk, V, idx t]

theorem read_sig (c : Dev nD) (t : Fin cfg0.N) (k : Fin 128) (r : Fin 64) (l : Fin 128) :
    iblk m c 2 t (ix3 k r l) = m ((c : Thread nD τ).loc main_arg1)
      (ix3 (⟨1024 + (128 * t.val + k.val), by have : t.val < 4 := t.isLt; omega⟩ : Fin 1536) (⟨128 * (r.val / 2) + l.val, by omega⟩ : Fin 4096) (⟨r.val % 2, by omega⟩ : Fin 2)) := by
  blk_ext! [iblk, V, idx t]

end Cert.SelectCIdeal.Hand

end
-- ==== Proof.SelectArraysC.lean ====
/- The packed distances the third selection leaves, of its arguments. -/
module

public import proofs.«01_k».proof.Proof.SelectFrameC
public import proofs.«01_k».proof.Proof.SelectReadsC

@[expose] public section

set_option maxRecDepth 16384

noncomputable section

namespace Cert.SelectCIdeal.Hand

open Idealize.ShloMosaic Idealize.ShloMosaic.TcCoe Idealize.ShloMosaic.Tactic Cert.SelectCIdeal Cert.SelectCIdeal.Gen Idealize.SL.Sem Cert.Distance
open Cert.SelectIdeal.Hand (rowQ rowSlabs stack_apply)

section
variable (c : Dev nD) (i : grid0.Coords)
  (arg1 : Memref sig .tc .smem S2x128 .i32) (harg1 : arg1.IsWhole) (arg2 : Memref sig .tc .vmem S1x128 .i32) (harg2 : arg2.IsWhole)
  (arg3 : Memref sig .tc .vmem S128x64x128 .i32) (harg3 : arg3.IsWhole) (arg4 : Memref sig .tc .vmem S128x8x128 .i32) (harg4 : arg4.IsWhole)
  (arg5 : Memref sig .tc .vmem S128x128 .i32) (harg5 : arg5.IsWhole) (arg6 : Memref sig .tc .vmem S8x128x128 .i32) (harg6 : arg6.IsWhole)
  (X1 : Vec Ideal S2x128 .i32) (X2 : Vec Ideal S1x128 .i32) (X3 : Vec Ideal S128x64x128 .i32)

/-- The block of packed distances. -/
theorem out3_eq : out0_A_3 (F := Ideal) c i arg1 harg1 arg2 harg2 arg3 harg3 arg4 harg4 arg5 harg5 arg6 harg6 X1 X2 X3
    = stack (Val := Elt Ideal) (e := .i32) (fun k => tile (rowQ X1 k) (rowSlabs X3 k)) := by
  unfold out0_A_3
  rw [View.read_writes_eq_canon _ _ _ (cover0_A_3 c i arg1 harg1 arg2 harg2 arg3 harg3 arg4 harg4 arg5 harg5 arg6 harg6 X1 X2 X3)]
  exact (trips Variants.none c none i arg1 harg1 arg2 harg2 arg3 harg3 arg4 harg4 arg5 harg5 arg6 harg6 X1 X3).canon

end

variable (m : (ℓ : Loc nD τ sig) → Buf (Elt Ideal) ℓ)

/-- The packed distances, of the two arguments. -/
abbrev dist (c : Dev nD) : (⟨3, ![512, 8, 128]⟩ : Shape).Idx → BitVec 32 :=
  distArr (fun b k => m ((c : Thread nD τ).loc main_arg0) (ix2 (⟨1024 + b.val, by omega⟩ : Fin 1536) k))
    (fun b n k => m ((c : Thread nD τ).loc main_arg1) (ix3 (⟨1024 + b.val, by omega⟩ : Fin 1536) n k))

/-- An item's signature words, where the block holds them. -/
theorem read_item (c : Dev nD) (t : Fin cfg0.N) (k : Fin 128) (b : Fin 4) (s : Fin 8) (l : Fin 128) (h : Fin 2)
    (hr : 2 * (8 * b.val + 4 * (s.val % 2) + s.val / 2) + h.val < 64) :
    iblk m c 2 t (ix3 k (⟨2 * (8 * b.val + 4 * (s.val % 2) + s.val / 2) + h.val, hr⟩ : Fin 64) l) = m ((c : Thread nD τ).loc main_arg1)
      (ix3 (⟨1024 + (128 * t.val + k.val), by have : t.val < 4 := t.isLt; omega⟩ : Fin 1536) (item b s l) h) := by
  refine (read_sig m c t k _ l).trans (congrArg (m ((c : Thread nD τ).loc main_arg1)) ?_)
  refine congrArg₂ (ix3 (n0 := 1536) (n1 := 4096) (n2 := 2) _) (Fin.ext ?_) (Fin.ext ?_)
  · show 128 * ((2 * (8 * b.val + 4 * (s.val % 2) + s.val / 2) + h.val) / 2) + l.val = 128 * (8 * b.val + 4 * (s.val % 2) + s.val / 2) + l.val
    omega
  · show (2 * (8 * b.val + 4 * (s.val % 2) + s.val / 2) + h.val) % 2 = h.val
    omega

theorem block3 (c : Dev nD) (t : Fin cfg0.N) (k : Fin 128) (s : Fin 8) (l : Fin 128) :
    ((dats m 0 c).after 3 t : Vec Ideal S128x8x128 .i32) (ix3 k s l)
      = dist m c (ix3 (⟨128 * t.val + k.val, by have : t.val < 4 := t.isLt; omega⟩ : Fin 512) s l) := by
  have e := congrFun (after0_3 m c t) (ix3 k s l)
  refine e.trans ?_
  unfold outsAt0
  refine (congrFun (out3_eq c (grid0.coords t) (ms0_0 t) (hs0_0 t) (ms0_1 t) (hs0_1 t) (ms0_2 t) (hs0_2 t) (ms0_3 t) (hs0_3 t)
    (ms0_4 t) (hs0_4 t) scM0_0 (Memref.isWhole_whole _) (iblk m c 0 t) (iblk m c 1 t) (iblk m c 2 t)) (ix3 k s l)).trans ?_
  refine (stack_apply (iblk m c 0 t) (iblk m c 2 t) k s l).trans ?_
  refine congrArg packed (funext fun b => ?_)
  exact congrArg₂ IntOp.addi (congrArg₂ bits (read_item m c t k b s l 0 _) (read_q m c t 0 k))
    (congrArg₂ bits (read_item m c t k b s l 1 _) (read_q m c t 1 k))

/-- The packed distances after the run. -/
theorem arr3 (c : Dev nD) : (dats m 0 c).arrAt 3 cfg0.N = dist m c := by
  have key := block3 m c
  generalize dist m c = A at key ⊢
  refine (dats m 0 c).arrAt_eq_of_covers 3 _ (by decide +kernel) fun t hf y => ?_
  blk_simp
  obtain ⟨k, s, l, rfl⟩ : ∃ (k : Fin 128) (s : Fin 8) (l : Fin 128), y = ix3 k s l := ⟨_, _, _, eq_ix3 y⟩
  refine (key t k s l).trans (congrArg A ?_)
  blk_ext [idx t]

end Cert.SelectCIdeal.Hand

end
-- ==== Proof.SelectSameC.lean ====
/-
   The select program as the kernel runs it and the program at the ideal instance are one text, of which
   no step rounds: a run of the one is a run of the other, at any values.
-/
module

public import proofs.«01_k».proof.Proof.Gen.SelectC
public import proofs.«01_k».proof.Proof.SelectFrameC
public import Idealize.ShloMosaic.Lib.Tactic

@[expose] public section

set_option maxRecDepth 16384

noncomputable section

namespace Cert.SelectC.Hand

open Idealize Idealize.ShloMosaic Idealize.ShloMosaic.TcCoe Idealize.ShloMosaic.Tactic Idealize.SL.Sem

/-- Every weakly fair run of the program ends, its arguments unchanged and every counter at zero. -/
def frames (F : FTy → Type) [FloatOps F] : Prop :=
  ∀ (m : (ℓ : Loc Cert.SelectC.nD Cert.SelectC.τ Cert.SelectC.sig) → Buf (Elt F) ℓ) (g : Dev Cert.SelectC.nD → PrngReg),
    θ_run (Cert.SelectC.defs (F := F)) (onTc (τ := Cert.SelectC.τ) (Cert.SelectC.main (F := F))) ⟨m, fun _ => 0, g⟩ (fun r => (∀ c : Dev Cert.SelectC.nD,
      r.2.mem ((c.tc : Thread Cert.SelectC.nD Cert.SelectC.τ).loc Cert.SelectC.main_arg0) = m ((c.tc : Thread Cert.SelectC.nD Cert.SelectC.τ).loc Cert.SelectC.main_arg0)
      ∧ r.2.mem ((c.tc : Thread Cert.SelectC.nD Cert.SelectC.τ).loc Cert.SelectC.main_arg1) = m ((c.tc : Thread Cert.SelectC.nD Cert.SelectC.τ).loc Cert.SelectC.main_arg1)
      ∧ r.2.mem ((c.tc : Thread Cert.SelectC.nD Cert.SelectC.τ).loc Cert.SelectC.main_arg2) = m ((c.tc : Thread Cert.SelectC.nD Cert.SelectC.τ).loc Cert.SelectC.main_arg2))
      ∧ r.2.sem = fun _ => 0)

/-- The same of the program the algebraic claim is about. -/
def framesIdeal (F : FTy → Type) [FloatOps F] : Prop :=
  ∀ (m : (ℓ : Loc Cert.SelectCIdeal.nD Cert.SelectCIdeal.τ Cert.SelectCIdeal.sig) → Buf (Elt F) ℓ) (g : Dev Cert.SelectCIdeal.nD → PrngReg),
    θ_run (Cert.SelectCIdeal.defs (F := F)) (onTc (τ := Cert.SelectCIdeal.τ) (Cert.SelectCIdeal.main (F := F))) ⟨m, fun _ => 0, g⟩ (fun r => (∀ c : Dev Cert.SelectCIdeal.nD,
      r.2.mem ((c.tc : Thread Cert.SelectCIdeal.nD Cert.SelectCIdeal.τ).loc Cert.SelectCIdeal.main_arg0) = m ((c.tc : Thread Cert.SelectCIdeal.nD Cert.SelectCIdeal.τ).loc Cert.SelectCIdeal.main_arg0)
      ∧ r.2.mem ((c.tc : Thread Cert.SelectCIdeal.nD Cert.SelectCIdeal.τ).loc Cert.SelectCIdeal.main_arg1) = m ((c.tc : Thread Cert.SelectCIdeal.nD Cert.SelectCIdeal.τ).loc Cert.SelectCIdeal.main_arg1)
      ∧ r.2.mem ((c.tc : Thread Cert.SelectCIdeal.nD Cert.SelectCIdeal.τ).loc Cert.SelectCIdeal.main_arg2) = m ((c.tc : Thread Cert.SelectCIdeal.nD Cert.SelectCIdeal.τ).loc Cert.SelectCIdeal.main_arg2))
      ∧ r.2.sem = fun _ => 0)

/-- The two statements are one. -/
theorem frames_eq (F : FTy → Type) [FloatOps F] : framesIdeal F = frames F := by sl_kernel_rfl

/-- The program's frame. -/
theorem frame (F : FTy → Type) [FloatOps F] : frames F := cast (frames_eq F) fun m g => Cert.SelectCIdeal.Gen.frame m g

end Cert.SelectC.Hand

end
-- ==== Proof.RefDistancesB.lean ====
/- The packed distances the reference leaves, of its arguments. -/
module

public import proofs.«01_k».proof.Proof.Gen.DistancesBIdeal.Value
public import proofs.«01_k».proof.Proof.Distance

@[expose] public section

set_option maxRecDepth 16384

noncomputable section

namespace Cert.DistancesBIdeal.Hand

open Idealize.ShloMosaic Idealize.ShloMosaic.TcCoe Idealize.ShloMosaic.Tactic Cert.DistancesBIdeal Cert.DistancesBIdeal.Gen Idealize.SL.Sem Cert.Distance

/-- A packed word of the body. -/
theorem body_apply (h : Vec Ideal S2x4x512x8x128 .i32) (q : Vec Ideal S2x512x8x128 .i32) (b : Fin 512) (s : Fin 8) (l : Fin 128) :
    k0_pay1 (F := Ideal) h q (ix3 b s l)
      = packed fun k => IntOp.addi (bits (h (ix5 0 k b s l)) (q (ix4 0 b s l))) (bits (h (ix5 1 k b s l)) (q (ix4 1 b s l))) := by
  pointwise [k0_pay1]
  simp only [fold_two]
  rfl

variable (m : (ℓ : Loc nD τ sig) → Buf (Elt Ideal) ℓ)

/-- The block index of every window. -/
theorem idx : ∀ t : Fin cfg0.N, (win0_0.index t 0 = 0 ∧ win0_0.index t 1 = 0 ∧ win0_0.index t 2 = 0 ∧ win0_0.index t 3 = 0)
    ∧ (win0_1.index t 0 = 0 ∧ win0_1.index t 1 = 0 ∧ win0_1.index t 2 = 0 ∧ win0_1.index t 3 = 0 ∧ win0_1.index t 4 = 0)
    ∧ (win0_2.index t 0 = 0 ∧ win0_2.index t 1 = 0 ∧ win0_2.index t 2 = 0) :=
  (by decide +kernel : ∀ t : Fin grid0.N, _)

theorem read_q (c : Dev nD) (t : Fin cfg0.N) (k : Fin 2) (b : Fin 512) (s : Fin 8) (l : Fin 128) :
    iblk m c 0 t (ix4 k b s l) = m ((c : Thread nD τ).loc main_arg0) (ix2 (⟨512 + b.val, by omega⟩ : Fin 1536) k) := by
  blk_ext! [iblk, V, idx t]

theorem read_h (c : Dev nD) (t : Fin cfg0.N) (h : Fin 2) (k : Fin 4) (b : Fin 512) (s : Fin 8) (l : Fin 128) :
    iblk m c 1 t (ix5 h k b s l) = m ((c : Thread nD τ).loc main_arg1) (ix3 (⟨512 + b.val, by omega⟩ : Fin 1536) (item k s l) h) := by
  unfold item
  blk_ext! [iblk, V, idx t]

/-- The packed distances, of the two arguments. -/
abbrev dist (c : Dev nD) : (⟨3, ![512, 8, 128]⟩ : Shape).Idx → BitVec 32 :=
  distArr (fun b k => m ((c : Thread nD τ).loc main_arg0) (ix2 (⟨512 + b.val, by omega⟩ : Fin 1536) k))
    (fun b n k => m ((c : Thread nD τ).loc main_arg1) (ix3 (⟨512 + b.val, by omega⟩ : Fin 1536) n k))

theorem block2 (c : Dev nD) (t : Fin cfg0.N) (b : Fin 512) (s : Fin 8) (l : Fin 128) :
    ((dats m 0 c).after 2 t : Vec Ideal S512x8x128 .i32) (ix3 b s l) = dist m c (ix3 b s l) := by
  have e := congrFun (after0_2 m c t) (ix3 b s l)
  refine e.trans ?_
  frame_out
  refine (body_apply (iblk m c 1 t) (iblk m c 0 t) b s l).trans ?_
  simp only [read_q, read_h]
  rfl

/-- The packed distances after the run. -/
theorem arr2 (c : Dev nD) : (dats m 0 c).arrAt 2 cfg0.N = dist m c := by
  have key := block2 m c
  generalize dist m c = A at key ⊢
  refine (dats m 0 c).arrAt_eq_of_covers 2 _ (by decide +kernel) fun t hf y => ?_
  blk_simp
  obtain ⟨b, s, l, rfl⟩ : ∃ (b : Fin 512) (s : Fin 8) (l : Fin 128), y = ix3 b s l := ⟨_, _, _, eq_ix3 y⟩
  refine (key t b s l).trans (congrArg A ?_)
  blk_ext [idx t]

end Cert.DistancesBIdeal.Hand

end
-- ==== Proof.RefDistancesC.lean ====
/- The packed distances the reference leaves, of its arguments. -/
module

public import proofs.«01_k».proof.Proof.Gen.DistancesCIdeal.Value
public import proofs.«01_k».proof.Proof.Distance

@[expose] public section

set_option maxRecDepth 16384

noncomputable section

namespace Cert.DistancesCIdeal.Hand

open Idealize.ShloMosaic Idealize.ShloMosaic.TcCoe Idealize.ShloMosaic.Tactic Cert.DistancesCIdeal Cert.DistancesCIdeal.Gen Idealize.SL.Sem Cert.Distance

/-- A packed word of the body. -/
theorem body_apply (h : Vec Ideal S2x4x512x8x128 .i32) (q : Vec Ideal S2x512x8x128 .i32) (b : Fin 512) (s : Fin 8) (l : Fin 128) :
    k0_pay1 (F := Ideal) h q (ix3 b s l)
      = packed fun k => IntOp.addi (bits (h (ix5 0 k b s l)) (q (ix4 0 b s l))) (bits (h (ix5 1 k b s l)) (q (ix4 1 b s l))) := by
  pointwise [k0_pay1]
  simp only [fold_two]
  rfl

variable (m : (ℓ : Loc nD τ sig) → Buf (Elt Ideal) ℓ)

/-- The block index of every window. -/
theorem idx : ∀ t : Fin cfg0.N, (win0_0.index t 0 = 0 ∧ win0_0.index t 1 = 0 ∧ win0_0.index t 2 = 0 ∧ win0_0.index t 3 = 0)
    ∧ (win0_1.index t 0 = 0 ∧ win0_1.index t 1 = 0 ∧ win0_1.index t 2 = 0 ∧ win0_1.index t 3 = 0 ∧ win0_1.index t 4 = 0)
    ∧ (win0_2.index t 0 = 0 ∧ win0_2.index t 1 = 0 ∧ win0_2.index t 2 = 0) :=
  (by decide +kernel : ∀ t : Fin grid0.N, _)

theorem read_q (c : Dev nD) (t : Fin cfg0.N) (k : Fin 2) (b : Fin 512) (s : Fin 8) (l : Fin 128) :
    iblk m c 0 t (ix4 k b s l) = m ((c : Thread nD τ).loc main_arg0) (ix2 (⟨1024 + b.val, by omega⟩ : Fin 1536) k) := by
  blk_ext! [iblk, V, idx t]

theorem read_h (c : Dev nD) (t : Fin cfg0.N) (h : Fin 2) (k : Fin 4) (b : Fin 512) (s : Fin 8) (l : Fin 128) :
    iblk m c 1 t (ix5 h k b s l) = m ((c : Thread nD τ).loc main_arg1) (ix3 (⟨1024 + b.val, by omega⟩ : Fin 1536) (item k s l) h) := by
  unfold item
  blk_ext! [iblk, V, idx t]

/-- The packed distances, of the two arguments. -/
abbrev dist (c : Dev nD) : (⟨3, ![512, 8, 128]⟩ : Shape).Idx → BitVec 32 :=
  distArr (fun b k => m ((c : Thread nD τ).loc main_arg0) (ix2 (⟨1024 + b.val, by omega⟩ : Fin 1536) k))
    (fun b n k => m ((c : Thread nD τ).loc main_arg1) (ix3 (⟨1024 + b.val, by omega⟩ : Fin 1536) n k))

theorem block2 (c : Dev nD) (t : Fin cfg0.N) (b : Fin 512) (s : Fin 8) (l : Fin 128) :
    ((dats m 0 c).after 2 t : Vec Ideal S512x8x128 .i32) (ix3 b s l) = dist m c (ix3 b s l) := by
  have e := congrFun (after0_2 m c t) (ix3 b s l)
  refine e.trans ?_
  frame_out
  refine (body_apply (iblk m c 1 t) (iblk m c 0 t) b s l).trans ?_
  simp only [read_q, read_h]
  rfl

/-- The packed distances after the run. -/
theorem arr2 (c : Dev nD) : (dats m 0 c).arrAt 2 cfg0.N = dist m c := by
  have key := block2 m c
  generalize dist m c = A at key ⊢
  refine (dats m 0 c).arrAt_eq_of_covers 2 _ (by decide +kernel) fun t hf y => ?_
  blk_simp
  obtain ⟨b, s, l, rfl⟩ : ∃ (b : Fin 512) (s : Fin 8) (l : Fin 128), y = ix3 b s l := ⟨_, _, _, eq_ix3 y⟩
  refine (key t b s l).trans (congrArg A ?_)
  blk_ext [idx t]

end Cert.DistancesCIdeal.Hand

end
-- ==== Proof.Tame.lean ====
/- What the precondition says: the queries and scales are finite, and no code is a NaN. So every score is a real number,
   and no row's sum of exponentials is zero. -/
module

public import proofs.«01_k».proof.Pre_tame
public import proofs.«01_k».proof.Proof.Spec
public import Idealize.ShloMosaic.Lib.ReduceAll

@[expose] public section

set_option maxRecDepth 16384

noncomputable section

namespace Cert.Pre_tame.Hand

open Idealize.ShloMosaic Cert.Attend

/-- The predicate's side conditions. -/
instance facts : Cert.Pre_tame.Facts where
  bcast_S_S1536x256 := by decide
  reducesTo_S1536x256_S_d0_1 := by decide
  h_S_ := by decide
  bcast_S_S32768 := by decide
  reducesTo_S32768_S_d0 := by decide
  bcast_S_S8192x256 := by decide
  reducesTo_S8192x256_S_d0_1 := by decide

instance : Subsingleton S_.Idx := ⟨fun a b => funext fun i => i.elim0⟩

theorem inf_bf16 : (Scalar.ofBits (F := Ideal) .bf16 0x7F80#16 : EReal) = ⊤ := by
  show Ideal.ieee 8 7 (0x7F80#16 : BitVec 16) = ⊤
  unfold Ideal.ieee
  dsimp only
  rw [if_pos (by decide), if_pos (by decide), if_neg (by decide)]

theorem inf_f32 : (Scalar.ofBits (F := Ideal) .f32 0x7F800000#32 : EReal) = ⊤ := by
  show Ideal.ieee 8 23 (0x7F800000#32 : BitVec 32) = ⊤
  unfold Ideal.ieee
  dsimp only
  rw [if_pos (by decide), if_pos (by decide), if_neg (by decide)]

theorem real_of_abs_lt (x b : EReal) (hb : b = ⊤) (h : Ideal.cmp .olt (max x (-x)) b = 1#1) : IsReal x := by
  subst hb
  have h' : max x (-x) < ⊤ := by
    by_contra hn
    have h2 : BitVec.ofBool (decide (max x (-x) < ⊤)) = 1#1 := h
    rw [decide_eq_false hn] at h2
    exact absurd h2 (by decide)
  induction x with
  | bot => exact absurd h' (by simp)
  | top => exact absurd h' (by simp)
  | coe a => exact ⟨a, rfl⟩

theorem ne_of_cmpi {a b : BitVec 32} (h : IntOp.cmpi .ne a b = 1#1) : a ≠ b := by
  rintro rfl
  unfold IntOp.cmpi at h
  simp at h

variable {x : Vec Ideal S1536x256 .bf16} {pos : Vec Ideal S32768 .i32} {scl : Vec Ideal S32768 .f32} {rows : Vec Ideal S8192x256 .i32}

/-- What the predicate says of every entry. -/
theorem entries (h : fn (F := Ideal) x pos scl rows = fun _ => 1#1) :
    (∀ i, IsReal (x i)) ∧ (∀ i, IsReal (scl i)) ∧ ∀ i (k : Fin 4), IsReal (byteVal (rows i) k.val) := by
  have h0 := congrFun h (fun a => a.elim0)
  simp only [fn, fn_part1, fn_part2, andi, IntOp.andi_eq_one] at h0
  obtain ⟨⟨⟨⟨⟨hx, hs⟩, h1⟩, h2⟩, h3⟩, h4⟩ := h0
  refine ⟨fun i => ?_, fun i => ?_, fun i k => ?_⟩
  · exact real_of_abs_lt _ _ inf_bf16 (Host.reduce_andi_all _ _ _ _ _ hx i)
  · exact real_of_abs_lt _ _ inf_f32 (Host.reduce_andi_all _ _ _ _ _ hs i)
  · refine byteVal_real (rows i) k ?_
    match k with
    | ⟨0, _⟩ => exact ne_of_cmpi (Host.reduce_andi_all _ _ _ _ _ h1 i)
    | ⟨1, _⟩ => exact ne_of_cmpi (Host.reduce_andi_all _ _ _ _ _ h2 i)
    | ⟨2, _⟩ => exact ne_of_cmpi (Host.reduce_andi_all _ _ _ _ _ h3 i)
    | ⟨3, _⟩ => exact ne_of_cmpi (Host.reduce_andi_all _ _ _ _ _ h4 i)

/-- So no row's sum of exponentials is zero. -/
theorem tot_ne_zero (h : fn (F := Ideal) x pos scl rows = fun _ => 1#1) (p : Fin 3) (b : Fin 512) :
    rowTot (specScore p x scl rows b) ≠ 0 := by
  obtain ⟨hx, hs, hw⟩ := entries h
  exact rowTot_ne_zero _ fun k => rowScore_real scoreScale_real (fun d => hx _) (fun k d => hw _ ⟨k.val % 4, Nat.mod_lt _ (by decide)⟩)
    (fun k => hs _) k

end Cert.Pre_tame.Hand

end
-- ==== Proof.lean ====
/- The claims: every program runs and keeps its arguments; each of the kernel's three attend calls at the ideal instance
   and its reference leave the same pooled rows, positions and weights, and each of its three select calls and its reference the
   same packed distances. -/
module

public import proofs.«01_k».proof.Defs
public import proofs.«01_k».proof.Proof.Gen.Kernel.Frame
public import proofs.«01_k».proof.Proof.Gen.KernelB.Frame
public import proofs.«01_k».proof.Proof.Gen.KernelC.Frame
public import proofs.«01_k».proof.Proof.Arrays
public import proofs.«01_k».proof.Proof.ArraysB
public import proofs.«01_k».proof.Proof.ArraysC
public import proofs.«01_k».proof.Proof.RefArrays
public import proofs.«01_k».proof.Proof.RefArraysB
public import proofs.«01_k».proof.Proof.RefArraysC
public import proofs.«01_k».proof.Proof.SelectArrays
public import proofs.«01_k».proof.Proof.SelectSame
public import proofs.«01_k».proof.Proof.RefDistances
public import proofs.«01_k».proof.Proof.SelectArraysB
public import proofs.«01_k».proof.Proof.SelectSameB
public import proofs.«01_k».proof.Proof.SelectArraysC
public import proofs.«01_k».proof.Proof.SelectSameC
public import proofs.«01_k».proof.Proof.RefDistancesB
public import proofs.«01_k».proof.Proof.RefDistancesC
public import proofs.«01_k».proof.Proof.Tame
public import Idealize.ShloMosaic.Adequacy
public import Idealize.ShloMosaic.Init

@[expose] public section

noncomputable section

namespace Cert.Proof

open Idealize.ShloMosaic Idealize.SL.Sem Cert.Attend

/-- The first call and its reference leave the same three arrays. -/
theorem algebraic : Cert.algebraic_KernelIdeal_ReferenceIdeal_pre_tame := by
  intro m g m' g' hpre hargs
  refine ⟨fun c => poolArr 0 (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => posArr (m ((c.tc : Thread Cert.KernelIdeal.nD Cert.KernelIdeal.τ).loc Cert.KernelIdeal.main_arg1)),
    fun c => attnArr 0 (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.Value.run_blocks m g)
    obtain ⟨h4, h5, h6, hk⟩ := h c
    have ht := Cert.Pre_tame.Hand.tot_ne_zero (hpre c) 0
    exact ⟨h4.trans (Cert.KernelIdeal.Hand.arr4 m c ht), h5.trans (Cert.KernelIdeal.Hand.arr5 m c), h6.trans (Cert.KernelIdeal.Hand.arr6 m c ht), hk⟩
  · refine (θ_run Cert.ReferenceIdeal.defs _ _).mono (fun r h c => ?_) (Cert.ReferenceIdeal.Value.run_blocks m' g')
    obtain ⟨h4, h5, h6, hk⟩ := h c
    obtain ⟨a0, a1, a2, a3⟩ := hargs c
    refine ⟨h4.trans ((Cert.ReferenceIdeal.Hand.arr4 m' c).trans ?_), h5.trans ((Cert.ReferenceIdeal.Hand.arr5 m' c).trans ?_),
      h6.trans ((Cert.ReferenceIdeal.Hand.arr6 m' c).trans ?_), hk⟩
    · rw [a0, a2, a3]
    · rw [a1]
    · rw [a0, a2, a3]

/-- The first select call and its reference leave the same packed distances. -/
theorem algebraicSelect : Cert.algebraic_SelectIdeal_DistancesIdeal := by
  intro m g m' g' _ hargs
  refine ⟨fun c => Cert.SelectIdeal.Hand.dist m c, ?_, ?_⟩
  · refine (θ_run Cert.SelectIdeal.defs _ _).mono (fun r h c => ?_) (Cert.SelectIdeal.Gen.run_first m g)
    obtain ⟨h3, hk⟩ := h c
    exact ⟨h3.trans (Cert.SelectIdeal.Hand.arr3 m c), hk⟩
  · refine (θ_run Cert.DistancesIdeal.defs _ _).mono (fun r h c => ?_) (Cert.DistancesIdeal.Value.run_blocks m' g')
    obtain ⟨h2, hk⟩ := h c
    obtain ⟨a0, a1, a2⟩ := hargs c
    refine ⟨h2.trans ((Cert.DistancesIdeal.Hand.arr2 m' c).trans ?_), hk⟩
    unfold Cert.DistancesIdeal.Hand.dist Cert.SelectIdeal.Hand.dist
    rw [a0, a1]

/-- The second select call and its reference leave the same packed distances. -/
theorem algebraicSelectB : Cert.algebraic_SelectBIdeal_DistancesBIdeal := by
  intro m g m' g' _ hargs
  refine ⟨fun c => Cert.SelectBIdeal.Hand.dist m c, ?_, ?_⟩
  · refine (θ_run Cert.SelectBIdeal.defs _ _).mono (fun r h c => ?_) (Cert.SelectBIdeal.Gen.run_first m g)
    obtain ⟨h3, hk⟩ := h c
    exact ⟨h3.trans (Cert.SelectBIdeal.Hand.arr3 m c), hk⟩
  · refine (θ_run Cert.DistancesBIdeal.defs _ _).mono (fun r h c => ?_) (Cert.DistancesBIdeal.Value.run_blocks m' g')
    obtain ⟨h2, hk⟩ := h c
    obtain ⟨a0, a1, a2⟩ := hargs c
    refine ⟨h2.trans ((Cert.DistancesBIdeal.Hand.arr2 m' c).trans ?_), hk⟩
    unfold Cert.DistancesBIdeal.Hand.dist Cert.SelectBIdeal.Hand.dist
    rw [a0, a1]

/-- The third select call and its reference leave the same packed distances. -/
theorem algebraicSelectC : Cert.algebraic_SelectCIdeal_DistancesCIdeal := by
  intro m g m' g' _ hargs
  refine ⟨fun c => Cert.SelectCIdeal.Hand.dist m c, ?_, ?_⟩
  · refine (θ_run Cert.SelectCIdeal.defs _ _).mono (fun r h c => ?_) (Cert.SelectCIdeal.Gen.run_first m g)
    obtain ⟨h3, hk⟩ := h c
    exact ⟨h3.trans (Cert.SelectCIdeal.Hand.arr3 m c), hk⟩
  · refine (θ_run Cert.DistancesCIdeal.defs _ _).mono (fun r h c => ?_) (Cert.DistancesCIdeal.Value.run_blocks m' g')
    obtain ⟨h2, hk⟩ := h c
    obtain ⟨a0, a1, a2⟩ := hargs c
    refine ⟨h2.trans ((Cert.DistancesCIdeal.Hand.arr2 m' c).trans ?_), hk⟩
    unfold Cert.DistancesCIdeal.Hand.dist Cert.SelectCIdeal.Hand.dist
    rw [a0, a1]

/-- The second call and its reference leave the same three arrays. -/
theorem algebraicB : Cert.algebraic_KernelBIdeal_ReferenceBIdeal_pre_tame := by
  intro m g m' g' hpre hargs
  refine ⟨fun c => poolArr 1 (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg2)) (m ((c.tc : Thread Cert.KernelBIdeal.nD Cert.KernelBIdeal.τ).loc Cert.KernelBIdeal.main_arg3)),
    fun c => posArr (m ((c.tc : Thread Cert.KernelBIdeal.nD Cert.KernelBIdeal.τ).loc Cert.KernelBIdeal.main_arg1)),
    fun c => attnArr 1 (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg2)) (m ((c.tc : Thread Cert.KernelBIdeal.nD Cert.KernelBIdeal.τ).loc Cert.KernelBIdeal.main_arg3)), ?_, ?_⟩
  · refine (θ_run Cert.KernelBIdeal.defs _ _).mono (fun r h c => ?_) (Cert.KernelBIdeal.Value.run_blocks m g)
    obtain ⟨h4, h5, h6, hk⟩ := h c
    have ht := Cert.Pre_tame.Hand.tot_ne_zero (hpre c) 1
    exact ⟨h4.trans (Cert.KernelBIdeal.Hand.arr4 m c ht), h5.trans (Cert.KernelBIdeal.Hand.arr5 m c), h6.trans (Cert.KernelBIdeal.Hand.arr6 m c ht), hk⟩
  · refine (θ_run Cert.ReferenceBIdeal.defs _ _).mono (fun r h c => ?_) (Cert.ReferenceBIdeal.Value.run_blocks m' g')
    obtain ⟨h4, h5, h6, hk⟩ := h c
    obtain ⟨a0, a1, a2, a3⟩ := hargs c
    refine ⟨h4.trans ((Cert.ReferenceBIdeal.Hand.arr4 m' c).trans ?_), h5.trans ((Cert.ReferenceBIdeal.Hand.arr5 m' c).trans ?_),
      h6.trans ((Cert.ReferenceBIdeal.Hand.arr6 m' c).trans ?_), hk⟩
    · rw [a0, a2, a3]
    · rw [a1]
    · rw [a0, a2, a3]

/-- The third call and its reference leave the same three arrays. -/
theorem algebraicC : Cert.algebraic_KernelCIdeal_ReferenceCIdeal_pre_tame := by
  intro m g m' g' hpre hargs
  refine ⟨fun c => poolArr 2 (m ((c.tc : Thread Cert.KernelCIdeal.nD Cert.KernelCIdeal.τ).loc Cert.KernelCIdeal.main_arg0)) (m ((c.tc : Thread Cert.KernelCIdeal.nD Cert.KernelCIdeal.τ).loc Cert.KernelCIdeal.main_arg2)) (m ((c.tc : Thread Cert.KernelCIdeal.nD Cert.KernelCIdeal.τ).loc Cert.KernelCIdeal.main_arg3)),
    fun c => posArr (m ((c.tc : Thread Cert.KernelCIdeal.nD Cert.KernelCIdeal.τ).loc Cert.KernelCIdeal.main_arg1)),
    fun c => attnArr 2 (m ((c.tc : Thread Cert.KernelCIdeal.nD Cert.KernelCIdeal.τ).loc Cert.KernelCIdeal.main_arg0)) (m ((c.tc : Thread Cert.KernelCIdeal.nD Cert.KernelCIdeal.τ).loc Cert.KernelCIdeal.main_arg2)) (m ((c.tc : Thread Cert.KernelCIdeal.nD Cert.KernelCIdeal.τ).loc Cert.KernelCIdeal.main_arg3)), ?_, ?_⟩
  · refine (θ_run Cert.KernelCIdeal.defs _ _).mono (fun r h c => ?_) (Cert.KernelCIdeal.Value.run_blocks m g)
    obtain ⟨h4, h5, h6, hk⟩ := h c
    have ht := Cert.Pre_tame.Hand.tot_ne_zero (hpre c) 2
    exact ⟨h4.trans (Cert.KernelCIdeal.Hand.arr4 m c ht), h5.trans (Cert.KernelCIdeal.Hand.arr5 m c), h6.trans (Cert.KernelCIdeal.Hand.arr6 m c ht), hk⟩
  · refine (θ_run Cert.ReferenceCIdeal.defs _ _).mono (fun r h c => ?_) (Cert.ReferenceCIdeal.Value.run_blocks m' g')
    obtain ⟨h4, h5, h6, hk⟩ := h c
    obtain ⟨a0, a1, a2, a3⟩ := hargs c
    refine ⟨h4.trans ((Cert.ReferenceCIdeal.Hand.arr4 m' c).trans ?_), h5.trans ((Cert.ReferenceCIdeal.Hand.arr5 m' c).trans ?_),
      h6.trans ((Cert.ReferenceCIdeal.Hand.arr6 m' c).trans ?_), hk⟩
    · rw [a0, a2, a3]
    · rw [a1]
    · rw [a0, a2, a3]

theorem claim : Cert.Claim :=
  ⟨Cert.Kernel.Gen.facts, Cert.KernelIdeal.Gen.facts, Cert.ReferenceIdeal.Gen.facts,
    Cert.Select.Gen.facts, Cert.SelectIdeal.Gen.facts, Cert.DistancesIdeal.Gen.facts,
    Cert.SelectB.Gen.facts, Cert.SelectBIdeal.Gen.facts, Cert.DistancesBIdeal.Gen.facts,
    Cert.SelectC.Gen.facts, Cert.SelectCIdeal.Gen.facts, Cert.DistancesCIdeal.Gen.facts,
    Cert.KernelB.Gen.facts, Cert.KernelBIdeal.Gen.facts, Cert.ReferenceBIdeal.Gen.facts,
    Cert.KernelC.Gen.facts, Cert.KernelCIdeal.Gen.facts, Cert.ReferenceCIdeal.Gen.facts,
    Cert.Pre_tame.Hand.facts,
    fun m g _ => Cert.Kernel.Gen.frame m g, fun m g _ => Cert.KernelIdeal.Gen.frame m g, fun m g _ => Cert.KernelIdeal.Gen.frame m g,
    fun m g _ => Cert.ReferenceIdeal.Gen.frame m g, fun m g _ => Cert.ReferenceIdeal.Gen.frame m g,
    fun m g _ => Cert.Select.Hand.frame Bits m g, fun m g _ => Cert.SelectIdeal.Gen.frame m g, fun m g _ => Cert.DistancesIdeal.Gen.frame m g,
    fun m g _ => Cert.SelectB.Hand.frame Bits m g, fun m g _ => Cert.SelectBIdeal.Gen.frame m g, fun m g _ => Cert.DistancesBIdeal.Gen.frame m g,
    fun m g _ => Cert.SelectC.Hand.frame Bits m g, fun m g _ => Cert.SelectCIdeal.Gen.frame m g, fun m g _ => Cert.DistancesCIdeal.Gen.frame m g,
    fun m g _ => Cert.KernelB.Gen.frame m g, fun m g _ => Cert.KernelBIdeal.Gen.frame m g, fun m g _ => Cert.KernelBIdeal.Gen.frame m g,
    fun m g _ => Cert.ReferenceBIdeal.Gen.frame m g, fun m g _ => Cert.ReferenceBIdeal.Gen.frame m g,
    fun m g _ => Cert.KernelC.Gen.frame m g, fun m g _ => Cert.KernelCIdeal.Gen.frame m g, fun m g _ => Cert.KernelCIdeal.Gen.frame m g,
    fun m g _ => Cert.ReferenceCIdeal.Gen.frame m g, fun m g _ => Cert.ReferenceCIdeal.Gen.frame m g,
    trivial, algebraic, trivial, algebraicSelect, trivial, algebraicSelectB, trivial, algebraicSelectC, trivial, algebraicB, trivial, algebraicC⟩

end Cert.Proof

end
